-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_data [hPre_finite_data : Cert.Pre_finite_data.Facts] (m : (ℓ : Loc Cert.KernelIdeal.nD Cert.KernelIdeal.τ Cert.KernelIdeal.sig) → Buf (Elt Ideal) ℓ) : Prop :=
  ∀ c : Dev Cert.KernelIdeal.nD,
    (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_data [hPre_finite_data : Cert.Pre_finite_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_data [hKernelIdeal : Cert.KernelIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_data [hReferenceIdeal : Cert.ReferenceIdeal.Facts] [hPre_finite_data : Cert.Pre_finite_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_data [hKernelIdeal : Cert.KernelIdeal.Facts] [hReferenceIdeal : Cert.ReferenceIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v117_0)) (v1 : (c : Dev Cert.KernelIdeal.nD) → Buf (Elt Ideal) ((c.tc : Thread Cert.KernelIdeal.nD Cert.KernelIdeal.τ).loc Cert.KernelIdeal.main_v133)) (v2 : (c : Dev Cert.KernelIdeal.nD) → Buf (Elt Ideal) ((c.tc : Thread Cert.KernelIdeal.nD Cert.KernelIdeal.τ).loc Cert.KernelIdeal.main_v117_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117_0) = v0 c
          ∧ r.2.mem ((c.tc : Thread Cert.KernelIdeal.nD Cert.KernelIdeal.τ).loc Cert.KernelIdeal.main_v133) = v1 c
          ∧ r.2.mem ((c.tc : Thread Cert.KernelIdeal.nD Cert.KernelIdeal.τ).loc Cert.KernelIdeal.main_v117_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v521) = v0 c
          ∧ r.2.mem ((c.tc : Thread Cert.ReferenceIdeal.nD Cert.ReferenceIdeal.τ).loc Cert.ReferenceIdeal.main_v536) = v1 c
          ∧ r.2.mem ((c.tc : Thread Cert.ReferenceIdeal.nD Cert.ReferenceIdeal.τ).loc Cert.ReferenceIdeal.main_v528) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_data : Cert.Pre_finite_data.Facts),
    quiescent_Kernel (hKernel := hKernel)
    ∧ quiescent_KernelIdeal (hKernelIdeal := hKernelIdeal)
    ∧ quiescent_KernelIdeal_pre_finite_data (hKernelIdeal := hKernelIdeal) (hPre_finite_data := hPre_finite_data)
    ∧ quiescent_ReferenceIdeal (hReferenceIdeal := hReferenceIdeal)
    ∧ quiescent_ReferenceIdeal_pre_finite_data (hReferenceIdeal := hReferenceIdeal) (hPre_finite_data := hPre_finite_data)
    ∧ preserves_Kernel_KernelIdeal
    ∧ algebraic_KernelIdeal_ReferenceIdeal_pre_finite_data (hKernelIdeal := hKernelIdeal) (hReferenceIdeal := hReferenceIdeal) (hPre_finite_data := hPre_finite_data)
-- ==== Pre_finite_data.lean ====
abbrev S4x32x256x288 : Shape := ⟨4, ![4, 32, 256, 288]⟩
abbrev S256x16 : Shape := ⟨2, ![256, 16]⟩
abbrev S32x416x1x12 : Shape := ⟨4, ![32, 416, 1, 12]⟩
abbrev S32 : Shape := ⟨1, ![32]⟩
abbrev S32x32x1x1 : Shape := ⟨4, ![32, 32, 1, 1]⟩
abbrev S384x32x1x5 : Shape := ⟨4, ![384, 32, 1, 5]⟩
abbrev S384 : Shape := ⟨1, ![384]⟩
abbrev S_ : Shape := ⟨0, ![]⟩

class Facts : Prop where
  bcast_S_S4x32x256x288 : S_.BroadcastsInDim S4x32x256x288 (![] : Fin 0 → Fin S4x32x256x288.rank)
  reducesTo_S4x32x256x288_S_d0_1_2_3 : S4x32x256x288.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S4x32x256x288 .f32) (main_arg1 : FVec F S256x16 .f32) (main_arg2 : FVec F S32x416x1x12 .f32) (main_arg3 : FVec F S32 .f32) (main_arg4 : FVec F S32x416x1x12 .f32) (main_arg5 : FVec F S32 .f32) (main_arg6 : FVec F S32x32x1x1 .f32) (main_arg7 : FVec F S32 .f32) (main_arg8 : FVec F S32x32x1x1 .f32) (main_arg9 : FVec F S32 .f32) (main_arg10 : FVec F S384x32x1x5 .f32) (main_arg11 : FVec F S384 .f32) (main_arg12 : FVec F S384x32x1x5 .f32) (main_arg13 : FVec F S384 .f32) (main_arg14 : FVec F S384x32x1x5 .f32) (main_arg15 : FVec F S384 .f32) (main_arg16 : FVec F S384x32x1x5 .f32) (main_arg17 : FVec F S384 .f32) : IVec S_ 1 :=
  let main_v0 : FVec F S4x32x256x288 .f32 := Host.absf main_arg0
  let main_cst : FVec F S_ .f32 := constant S_ .f32 0x7F800000#32
  let main_v1 : FVec F S4x32x256x288 .f32 := broadcastInDim S4x32x256x288 ![] bcast_S_S4x32x256x288 main_cst
  let main_v2 : IVec S4x32x256x288 1 := cmpf .olt main_v0 main_v1
  let main_c : IVec S_ 1 := constantI S_ 1 1#1
  let main_v3 : IVec S_ 1 := (fun x v => Host.reduce IntOp.andi x v reducesTo_S4x32x256x288_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Kernel.lean ====
abbrev S4x32x256x288 : Shape := ⟨4, ![4, 32, 256, 288]⟩
abbrev S256x16 : Shape := ⟨2, ![256, 16]⟩
abbrev S32x416x1x12 : Shape := ⟨4, ![32, 416, 1, 12]⟩
abbrev S32 : Shape := ⟨1, ![32]⟩
abbrev S32x32x1x1 : Shape := ⟨4, ![32, 32, 1, 1]⟩
abbrev S384x32x1x5 : Shape := ⟨4, ![384, 32, 1, 5]⟩
abbrev S384 : Shape := ⟨1, ![384]⟩
abbrev S256 : Shape := ⟨1, ![256]⟩
abbrev S256x256 : Shape := ⟨2, ![256, 256]⟩
abbrev S256x1 : Shape := ⟨2, ![256, 1]⟩
abbrev S128x256x288 : Shape := ⟨3, ![128, 256, 288]⟩
abbrev S288 : Shape := ⟨1, ![288]⟩
abbrev S288x1 : Shape := ⟨2, ![288, 1]⟩
abbrev S1x288 : Shape := ⟨2, ![1, 288]⟩
abbrev S_ : Shape := ⟨0, ![]⟩
abbrev S288x288 : Shape := ⟨2, ![288, 288]⟩
abbrev S128x256x300 : Shape := ⟨3, ![128, 256, 300]⟩
abbrev S128x23x256 : Shape := ⟨3, ![128, 23, 256]⟩
abbrev S1x256x288 : Shape := ⟨3, ![1, 256, 288]⟩
abbrev S1x256x300 : Shape := ⟨3, ![1, 256, 300]⟩
abbrev S1x23x256 : Shape := ⟨3, ![1, 23, 256]⟩
abbrev S256x288 : Shape := ⟨2, ![256, 288]⟩
abbrev S256x12 : Shape := ⟨2, ![256, 12]⟩
abbrev S256x300 : Shape := ⟨2, ![256, 300]⟩
abbrev S256x23 : Shape := ⟨2, ![256, 23]⟩
abbrev S23x256 : Shape := ⟨2, ![23, 256]⟩
abbrev S1x128x256x288 : Shape := ⟨4, ![1, 128, 256, 288]⟩
abbrev S4x128x256x288 : Shape := ⟨4, ![4, 128, 256, 288]⟩
abbrev S4x4x32x256x288 : Shape := ⟨5, ![4, 4, 32, 256, 288]⟩
abbrev S4x4x32x256x5 : Shape := ⟨5, ![4, 4, 32, 256, 5]⟩
abbrev S4x4x256x32x5 : Shape := ⟨5, ![4, 4, 256, 32, 5]⟩
abbrev S4x4x256x160 : Shape := ⟨4, ![4, 4, 256, 160]⟩
abbrev S1x384x32x1x5 : Shape := ⟨5, ![1, 384, 32, 1, 5]⟩
abbrev S4x384x32x1x5 : Shape := ⟨5, ![4, 384, 32, 1, 5]⟩
abbrev S4x384x32x5 : Shape := ⟨4, ![4, 384, 32, 5]⟩
abbrev S4x32x5x384 : Shape := ⟨4, ![4, 32, 5, 384]⟩
abbrev S4x160x384 : Shape := ⟨3, ![4, 160, 384]⟩
abbrev S1x384 : Shape := ⟨2, ![1, 384]⟩
abbrev S4x384 : Shape := ⟨2, ![4, 384]⟩
abbrev S4x1x384 : Shape := ⟨3, ![4, 1, 384]⟩
abbrev S4x4x256x384 : Shape := ⟨4, ![4, 4, 256, 384]⟩
abbrev S1x1x256x160 : Shape := ⟨4, ![1, 1, 256, 160]⟩
abbrev S1x160x384 : Shape := ⟨3, ![1, 160, 384]⟩
abbrev S1x1x384 : Shape := ⟨3, ![1, 1, 384]⟩
abbrev S1x1x256x384 : Shape := ⟨4, ![1, 1, 256, 384]⟩
abbrev S256x160 : Shape := ⟨2, ![256, 160]⟩
abbrev S160x384 : Shape := ⟨2, ![160, 384]⟩
abbrev S256x384 : Shape := ⟨2, ![256, 384]⟩
abbrev S4x4x256x12x32 : Shape := ⟨5, ![4, 4, 256, 12, 32]⟩
abbrev S4x4x32x256x12 : Shape := ⟨5, ![4, 4, 32, 256, 12]⟩
abbrev S1x4x32x256x12 : Shape := ⟨5, ![1, 4, 32, 256, 12]⟩
abbrev S4x32x256x12 : Shape := ⟨4, ![4, 32, 256, 12]⟩
abbrev S32x416x12 : Shape := ⟨3, ![32, 416, 12]⟩
abbrev S64x416x12 : Shape := ⟨3, ![64, 416, 12]⟩
abbrev S12x64x416 : Shape := ⟨3, ![12, 64, 416]⟩
abbrev S768x416 : Shape := ⟨2, ![768, 416]⟩
abbrev S64 : Shape := ⟨1, ![64]⟩
abbrev S1x1x64 : Shape := ⟨3, ![1, 1, 64]⟩
abbrev S32x32 : Shape := ⟨2, ![32, 32]⟩
abbrev S1x1x32 : Shape := ⟨3, ![1, 1, 32]⟩
abbrev S4x32x256x300 : Shape := ⟨4, ![4, 32, 256, 300]⟩
abbrev S4x32x256x278 : Shape := ⟨4, ![4, 32, 256, 278]⟩
abbrev S1x32x16x288 : Shape := ⟨4, ![1, 32, 16, 288]⟩
abbrev S1x32x16x300 : Shape := ⟨4, ![1, 32, 16, 300]⟩
abbrev S1x32x16x12 : Shape := ⟨4, ![1, 32, 16, 12]⟩
abbrev S1x32x16x278 : Shape := ⟨4, ![1, 32, 16, 278]⟩
abbrev S32x16x288 : Shape := ⟨3, ![32, 16, 288]⟩
abbrev S32x16x1 : Shape := ⟨3, ![32, 16, 1]⟩
abbrev S32x16x12 : Shape := ⟨3, ![32, 16, 12]⟩
abbrev S32x16x300 : Shape := ⟨3, ![32, 16, 300]⟩
abbrev S416x16x300 : Shape := ⟨3, ![416, 16, 300]⟩
abbrev S416x16x1 : Shape := ⟨3, ![416, 16, 1]⟩
abbrev S416x16x301 : Shape := ⟨3, ![416, 16, 301]⟩
abbrev S768x16x301 : Shape := ⟨3, ![768, 16, 301]⟩
abbrev S64x16x290 : Shape := ⟨3, ![64, 16, 290]⟩
abbrev S64x1x1 : Shape := ⟨3, ![64, 1, 1]⟩
abbrev S32x16x290 : Shape := ⟨3, ![32, 16, 290]⟩
abbrev S32x16x278 : Shape := ⟨3, ![32, 16, 278]⟩
abbrev S32x1x1 : Shape := ⟨3, ![32, 1, 1]⟩
abbrev S64x256x12 : Shape := ⟨3, ![64, 256, 12]⟩
abbrev S12x64x256 : Shape := ⟨3, ![12, 64, 256]⟩
abbrev S768x256 : Shape := ⟨2, ![768, 256]⟩
abbrev S4x32x23x256 : Shape := ⟨4, ![4, 32, 23, 256]⟩
abbrev S1x32x23x256 : Shape := ⟨4, ![1, 32, 23, 256]⟩
abbrev S1x32x256x12 : Shape := ⟨4, ![1, 32, 256, 12]⟩
abbrev S32x23x256 : Shape := ⟨3, ![32, 23, 256]⟩
abbrev S256x23x256 : Shape := ⟨3, ![256, 23, 256]⟩
abbrev S768x23x256 : Shape := ⟨3, ![768, 23, 256]⟩
abbrev S64x12x256 : Shape := ⟨3, ![64, 12, 256]⟩
abbrev S32x12x256 : Shape := ⟨3, ![32, 12, 256]⟩
abbrev S32x256x12 : Shape := ⟨3, ![32, 256, 12]⟩

abbrev nBuf : Space → Nat
  | .hbm => 226
  | .vmem => 122
  | .smem => 0
  | _ => 0

abbrev hbmTy0_0 (i : Nat) : BufTy := match i % 128 with
  | 0 => ⟨S4x32x256x288, .f32⟩
  | 1 => ⟨S256x16, .f32⟩
  | 2 => ⟨S32x416x1x12, .f32⟩
  | 3 => ⟨S32, .f32⟩
  | 4 => ⟨S32x416x1x12, .f32⟩
  | 5 => ⟨S32, .f32⟩
  | 6 => ⟨S32x32x1x1, .f32⟩
  | 7 => ⟨S32, .f32⟩
  | 8 => ⟨S32x32x1x1, .f32⟩
  | 9 => ⟨S32, .f32⟩
  | 10 => ⟨S384x32x1x5, .f32⟩
  | 11 => ⟨S384, .f32⟩
  | 12 => ⟨S384x32x1x5, .f32⟩
  | 13 => ⟨S384, .f32⟩
  | 14 => ⟨S384x32x1x5, .f32⟩
  | 15 => ⟨S384, .f32⟩
  | 16 => ⟨S384x32x1x5, .f32⟩
  | 17 => ⟨S384, .f32⟩
  | 18 => ⟨S256, .i32⟩
  | 19 => ⟨S256, .i1⟩
  | 20 => ⟨S256x256, .bf16⟩
  | 21 => ⟨S128x256x288, .f32⟩
  | 22 => ⟨S288, .i32⟩
  | 23 => ⟨S288x1, .i32⟩
  | 24 => ⟨S288, .i32⟩
  | 25 => ⟨S1x288, .i32⟩
  | 26 => ⟨S_, .i32⟩
  | 27 => ⟨S1x288, .i32⟩
  | 28 => ⟨S1x288, .i32⟩
  | 29 => ⟨S288x288, .i32⟩
  | 30 => ⟨S288x288, .i32⟩
  | 31 => ⟨S288x288, .i1⟩
  | 32 => ⟨S_, .i32⟩
  | 33 => ⟨S1x288, .i32⟩
  | 34 => ⟨S1x288, .i32⟩
  | 35 => ⟨S_, .i32⟩
  | 36 => ⟨S1x288, .i32⟩
  | 37 => ⟨S1x288, .i32⟩
  | 38 => ⟨S288x288, .i32⟩
  | 39 => ⟨S288x288, .i32⟩
  | 40 => ⟨S288x288, .i1⟩
  | 41 => ⟨S288x288, .i1⟩
  | 42 => ⟨S288x288, .f32⟩
  | 43 => ⟨S_, .f32⟩
  | 44 => ⟨S288x288, .f32⟩
  | 45 => ⟨S288x288, .f32⟩
  | 46 => ⟨S288x288, .bf16⟩
  | 47 => ⟨S288, .i32⟩
  | 48 => ⟨S288x1, .i32⟩
  | 49 => ⟨S288, .i32⟩
  | 50 => ⟨S1x288, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S288x1, .i32⟩
  | 58 => ⟨S288x1, .i32⟩
  | 59 => ⟨S_, .i32⟩
  | 60 => ⟨S288x1, .i32⟩
  | 61 => ⟨S288x1, .i1⟩
  | 62 => ⟨S_, .i32⟩
  | 63 => ⟨S288x1, .i32⟩
  | 64 => ⟨S288x1, .i1⟩
  | 65 => ⟨S_, .i32⟩
  | 66 => ⟨S_, .i1⟩
  | 67 => ⟨S288x1, .i1⟩
  | 68 => ⟨S288x1, .i1⟩
  | 69 => ⟨S288x1, .i1⟩
  | 70 => ⟨S288x1, .i32⟩
  | 71 => ⟨S288x1, .i32⟩
  | 72 => ⟨S288x1, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1x288, .i32⟩
  | 80 => ⟨S1x288, .i32⟩
  | 81 => ⟨S_, .i32⟩
  | 82 => ⟨S1x288, .i32⟩
  | 83 => ⟨S1x288, .i1⟩
  | 84 => ⟨S_, .i32⟩
  | 85 => ⟨S1x288, .i32⟩
  | 86 => ⟨S1x288, .i1⟩
  | 87 => ⟨S_, .i32⟩
  | 88 => ⟨S_, .i1⟩
  | 89 => ⟨S1x288, .i1⟩
  | 90 => ⟨S1x288, .i1⟩
  | 91 => ⟨S1x288, .i1⟩
  | 92 => ⟨S1x288, .i32⟩
  | 93 => ⟨S1x288, .i32⟩
  | 94 => ⟨S1x288, .i32⟩
  | 95 => ⟨S288x288, .i32⟩
  | 96 => ⟨S288x288, .i32⟩
  | 97 => ⟨S288x288, .i1⟩
  | 98 => ⟨S288x288, .f32⟩
  | 99 => ⟨S_, .f32⟩
  | 100 => ⟨S288x288, .f32⟩
  | 101 => ⟨S288x288, .f32⟩
  | 102 => ⟨S288x288, .bf16⟩
  | 103 => ⟨S288, .i32⟩
  | 104 => ⟨S288x1, .i32⟩
  | 105 => ⟨S288, .i32⟩
  | 106 => ⟨S1x288, .i32⟩
  | 107 => ⟨S_, .i32⟩
  | 108 => ⟨S1x288, .i32⟩
  | 109 => ⟨S1x288, .i32⟩
  | 110 => ⟨S288x288, .i32⟩
  | 111 => ⟨S288x288, .i32⟩
  | 112 => ⟨S288x288, .i1⟩
  | 113 => ⟨S_, .i32⟩
  | 114 => ⟨S1x288, .i32⟩
  | 115 => ⟨S1x288, .i32⟩
  | 116 => ⟨S_, .i32⟩
  | 117 => ⟨S1x288, .i32⟩
  | 118 => ⟨S1x288, .i32⟩
  | 119 => ⟨S288x288, .i32⟩
  | 120 => ⟨S288x288, .i32⟩
  | 121 => ⟨S288x288, .i1⟩
  | 122 => ⟨S288x288, .i1⟩
  | 123 => ⟨S288x288, .f32⟩
  | 124 => ⟨S_, .f32⟩
  | 125 => ⟨S288x288, .f32⟩
  | 126 => ⟨S288x288, .f32⟩
  | 127 => ⟨S288x288, .bf16⟩
  | _ => ⟨S4x32x256x288, .f32⟩

abbrev hbmTy0_1 (i : Nat) : BufTy := match i % 128 with
  | 0 => ⟨S128x256x288, .bf16⟩
  | 1 => ⟨S128x256x300, .bf16⟩
  | 2 => ⟨S128x256x300, .bf16⟩
  | 3 => ⟨S128x256x288, .bf16⟩
  | 4 => ⟨S128x256x300, .bf16⟩
  | 5 => ⟨S128x256x300, .bf16⟩
  | 6 => ⟨S128x256x288, .bf16⟩
  | 7 => ⟨S128x256x300, .bf16⟩
  | 8 => ⟨S128x256x300, .bf16⟩
  | 9 => ⟨S128x256x288, .bf16⟩
  | 10 => ⟨S128x256x300, .bf16⟩
  | 11 => ⟨S128x256x300, .bf16⟩
  | 12 => ⟨S128x23x256, .f32⟩
  | 13 => ⟨S128x23x256, .f32⟩
  | 14 => ⟨S128x23x256, .f32⟩
  | 15 => ⟨S128x23x256, .f32⟩
  | 16 => ⟨S128x23x256, .f32⟩
  | 17 => ⟨S128x23x256, .f32⟩
  | 18 => ⟨S128x23x256, .f32⟩
  | 19 => ⟨S128x23x256, .f32⟩
  | 20 => ⟨S1x128x256x288, .bf16⟩
  | 21 => ⟨S1x128x256x288, .bf16⟩
  | 22 => ⟨S1x128x256x288, .bf16⟩
  | 23 => ⟨S1x128x256x288, .bf16⟩
  | 24 => ⟨S4x128x256x288, .bf16⟩
  | 25 => ⟨S4x4x32x256x288, .bf16⟩
  | 26 => ⟨S4x4x32x256x5, .bf16⟩
  | 27 => ⟨S4x4x256x32x5, .bf16⟩
  | 28 => ⟨S4x4x256x160, .bf16⟩
  | 29 => ⟨S1x384x32x1x5, .f32⟩
  | 30 => ⟨S1x384x32x1x5, .f32⟩
  | 31 => ⟨S1x384x32x1x5, .f32⟩
  | 32 => ⟨S1x384x32x1x5, .f32⟩
  | 33 => ⟨S4x384x32x1x5, .f32⟩
  | 34 => ⟨S4x384x32x5, .f32⟩
  | 35 => ⟨S4x32x5x384, .f32⟩
  | 36 => ⟨S4x160x384, .f32⟩
  | 37 => ⟨S4x160x384, .bf16⟩
  | 38 => ⟨S1x384, .f32⟩
  | 39 => ⟨S1x384, .f32⟩
  | 40 => ⟨S1x384, .f32⟩
  | 41 => ⟨S1x384, .f32⟩
  | 42 => ⟨S4x384, .f32⟩
  | 43 => ⟨S4x1x384, .f32⟩
  | 44 => ⟨S4x4x256x384, .bf16⟩
  | 45 => ⟨S4x4x256x12x32, .bf16⟩
  | 46 => ⟨S4x4x32x256x12, .bf16⟩
  | 47 => ⟨S1x4x32x256x12, .bf16⟩
  | 48 => ⟨S4x32x256x12, .bf16⟩
  | 49 => ⟨S1x4x32x256x12, .bf16⟩
  | 50 => ⟨S4x32x256x12, .bf16⟩
  | 51 => ⟨S1x4x32x256x12, .bf16⟩
  | 52 => ⟨S4x32x256x12, .bf16⟩
  | 53 => ⟨S1x4x32x256x12, .bf16⟩
  | 54 => ⟨S4x32x256x12, .bf16⟩
  | 55 => ⟨S32x416x12, .f32⟩
  | 56 => ⟨S32x416x12, .f32⟩
  | 57 => ⟨S64x416x12, .f32⟩
  | 58 => ⟨S12x64x416, .f32⟩
  | 59 => ⟨S768x416, .f32⟩
  | 60 => ⟨S768x416, .bf16⟩
  | 61 => ⟨S64, .f32⟩
  | 62 => ⟨S1x1x64, .f32⟩
  | 63 => ⟨S32x32, .f32⟩
  | 64 => ⟨S1x1x32, .f32⟩
  | 65 => ⟨S32x32, .f32⟩
  | 66 => ⟨S1x1x32, .f32⟩
  | 67 => ⟨S4x32x256x288, .bf16⟩
  | 68 => ⟨S4x32x256x300, .bf16⟩
  | 69 => ⟨S4x32x256x300, .bf16⟩
  | 70 => ⟨S4x32x256x288, .bf16⟩
  | 71 => ⟨S4x32x256x300, .bf16⟩
  | 72 => ⟨S4x32x256x300, .bf16⟩
  | 73 => ⟨S4x32x256x288, .bf16⟩
  | 74 => ⟨S4x32x256x300, .bf16⟩
  | 75 => ⟨S4x32x256x300, .bf16⟩
  | 76 => ⟨S4x32x256x288, .bf16⟩
  | 77 => ⟨S4x32x256x300, .bf16⟩
  | 78 => ⟨S4x32x256x300, .bf16⟩
  | 79 => ⟨S4x32x256x278, .f32⟩
  | 80 => ⟨S4x32x256x12, .f32⟩
  | 81 => ⟨S_, .i32⟩
  | 82 => ⟨S256, .i32⟩
  | 83 => ⟨S256, .i32⟩
  | 84 => ⟨S256, .i32⟩
  | 85 => ⟨S256x1, .i32⟩
  | 86 => ⟨S64x256x12, .f32⟩
  | 87 => ⟨S12x64x256, .f32⟩
  | 88 => ⟨S768x256, .f32⟩
  | 89 => ⟨S4x32x23x256, .f32⟩
  | 90 => ⟨S4x32x23x256, .f32⟩
  | 91 => ⟨S4x32x23x256, .f32⟩
  | 92 => ⟨S4x32x23x256, .f32⟩
  | 93 => ⟨S4x32x23x256, .f32⟩
  | 94 => ⟨S4x32x23x256, .f32⟩
  | 95 => ⟨S4x32x23x256, .f32⟩
  | 96 => ⟨S4x32x23x256, .f32⟩
  | 97 => ⟨S4x32x256x12, .f32⟩
  | _ => ⟨S4x32x256x288, .f32⟩

abbrev hbmTy (i : Nat) : BufTy := match i / 128 with
  | 0 => hbmTy0_0 i
  | 1 => hbmTy0_1 i
  | _ => ⟨S4x32x256x288, .f32⟩

abbrev bufTy : (tb : Table) → Fin (tcTables nBuf tb) → BufTy
  | .hbm, ⟨i, _⟩ => hbmTy i
  | .local _ .vmem, ⟨0, _⟩ => ⟨S256x16, .f32⟩
  | .local _ .vmem, ⟨1, _⟩ => ⟨S256x256, .bf16⟩
  | .local _ .vmem, ⟨2, _⟩ => ⟨S1x256x288, .f32⟩
  | .local _ .vmem, ⟨3, _⟩ => ⟨S1x256x288, .f32⟩
  | .local _ .vmem, ⟨4, _⟩ => ⟨S288x288, .bf16⟩
  | .local _ .vmem, ⟨5, _⟩ => ⟨S288x288, .bf16⟩
  | .local _ .vmem, ⟨6, _⟩ => ⟨S288x288, .bf16⟩
  | .local _ .vmem, ⟨7, _⟩ => ⟨S256x256, .bf16⟩
  | .local _ .vmem, ⟨8, _⟩ => ⟨S1x256x288, .bf16⟩
  | .local _ .vmem, ⟨9, _⟩ => ⟨S1x256x288, .bf16⟩
  | .local _ .vmem, ⟨10, _⟩ => ⟨S1x256x300, .bf16⟩
  | .local _ .vmem, ⟨11, _⟩ => ⟨S1x256x300, .bf16⟩
  | .local _ .vmem, ⟨12, _⟩ => ⟨S1x256x300, .bf16⟩
  | .local _ .vmem, ⟨13, _⟩ => ⟨S1x256x300, .bf16⟩
  | .local _ .vmem, ⟨14, _⟩ => ⟨S1x256x288, .bf16⟩
  | .local _ .vmem, ⟨15, _⟩ => ⟨S1x256x288, .bf16⟩
  | .local _ .vmem, ⟨16, _⟩ => ⟨S1x256x300, .bf16⟩
  | .local _ .vmem, ⟨17, _⟩ => ⟨S1x256x300, .bf16⟩
  | .local _ .vmem, ⟨18, _⟩ => ⟨S1x256x300, .bf16⟩
  | .local _ .vmem, ⟨19, _⟩ => ⟨S1x256x300, .bf16⟩
  | .local _ .vmem, ⟨20, _⟩ => ⟨S1x256x288, .bf16⟩
  | .local _ .vmem, ⟨21, _⟩ => ⟨S1x256x288, .bf16⟩
  | .local _ .vmem, ⟨22, _⟩ => ⟨S1x256x300, .bf16⟩
  | .local _ .vmem, ⟨23, _⟩ => ⟨S1x256x300, .bf16⟩
  | .local _ .vmem, ⟨24, _⟩ => ⟨S1x256x300, .bf16⟩
  | .local _ .vmem, ⟨25, _⟩ => ⟨S1x256x300, .bf16⟩
  | .local _ .vmem, ⟨26, _⟩ => ⟨S1x256x288, .bf16⟩
  | .local _ .vmem, ⟨27, _⟩ => ⟨S1x256x288, .bf16⟩
  | .local _ .vmem, ⟨28, _⟩ => ⟨S1x256x300, .bf16⟩
  | .local _ .vmem, ⟨29, _⟩ => ⟨S1x256x300, .bf16⟩
  | .local _ .vmem, ⟨30, _⟩ => ⟨S1x256x300, .bf16⟩
  | .local _ .vmem, ⟨31, _⟩ => ⟨S1x256x300, .bf16⟩
  | .local _ .vmem, ⟨32, _⟩ => ⟨S1x23x256, .f32⟩
  | .local _ .vmem, ⟨33, _⟩ => ⟨S1x23x256, .f32⟩
  | .local _ .vmem, ⟨34, _⟩ => ⟨S1x23x256, .f32⟩
  | .local _ .vmem, ⟨35, _⟩ => ⟨S1x23x256, .f32⟩
  | .local _ .vmem, ⟨36, _⟩ => ⟨S1x23x256, .f32⟩
  | .local _ .vmem, ⟨37, _⟩ => ⟨S1x23x256, .f32⟩
  | .local _ .vmem, ⟨38, _⟩ => ⟨S1x23x256, .f32⟩
  | .local _ .vmem, ⟨39, _⟩ => ⟨S1x23x256, .f32⟩
  | .local _ .vmem, ⟨40, _⟩ => ⟨S1x23x256, .f32⟩
  | .local _ .vmem, ⟨41, _⟩ => ⟨S1x23x256, .f32⟩
  | .local _ .vmem, ⟨42, _⟩ => ⟨S1x23x256, .f32⟩
  | .local _ .vmem, ⟨43, _⟩ => ⟨S1x23x256, .f32⟩
  | .local _ .vmem, ⟨44, _⟩ => ⟨S1x23x256, .f32⟩
  | .local _ .vmem, ⟨45, _⟩ => ⟨S1x23x256, .f32⟩
  | .local _ .vmem, ⟨46, _⟩ => ⟨S1x23x256, .f32⟩
  | .local _ .vmem, ⟨47, _⟩ => ⟨S1x23x256, .f32⟩
  | .local _ .vmem, ⟨48, _⟩ => ⟨S1x1x256x160, .bf16⟩
  | .local _ .vmem, ⟨49, _⟩ => ⟨S1x1x256x160, .bf16⟩
  | .local _ .vmem, ⟨50, _⟩ => ⟨S1x160x384, .bf16⟩
  | .local _ .vmem, ⟨51, _⟩ => ⟨S1x160x384, .bf16⟩
  | .local _ .vmem, ⟨52, _⟩ => ⟨S1x1x384, .f32⟩
  | .local _ .vmem, ⟨53, _⟩ => ⟨S1x1x384, .f32⟩
  | .local _ .vmem, ⟨54, _⟩ => ⟨S1x1x256x384, .bf16⟩
  | .local _ .vmem, ⟨55, _⟩ => ⟨S1x1x256x384, .bf16⟩
  | .local _ .vmem, ⟨56, _⟩ => ⟨S1x32x16x288, .f32⟩
  | .local _ .vmem, ⟨57, _⟩ => ⟨S1x32x16x288, .f32⟩
  | .local _ .vmem, ⟨58, _⟩ => ⟨S1x32x16x288, .bf16⟩
  | .local _ .vmem, ⟨59, _⟩ => ⟨S1x32x16x288, .bf16⟩
  | .local _ .vmem, ⟨60, _⟩ => ⟨S1x32x16x300, .bf16⟩
  | .local _ .vmem, ⟨61, _⟩ => ⟨S1x32x16x300, .bf16⟩
  | .local _ .vmem, ⟨62, _⟩ => ⟨S1x32x16x300, .bf16⟩
  | .local _ .vmem, ⟨63, _⟩ => ⟨S1x32x16x300, .bf16⟩
  | .local _ .vmem, ⟨64, _⟩ => ⟨S1x32x16x288, .bf16⟩
  | .local _ .vmem, ⟨65, _⟩ => ⟨S1x32x16x288, .bf16⟩
  | .local _ .vmem, ⟨66, _⟩ => ⟨S1x32x16x300, .bf16⟩
  | .local _ .vmem, ⟨67, _⟩ => ⟨S1x32x16x300, .bf16⟩
  | .local _ .vmem, ⟨68, _⟩ => ⟨S1x32x16x300, .bf16⟩
  | .local _ .vmem, ⟨69, _⟩ => ⟨S1x32x16x300, .bf16⟩
  | .local _ .vmem, ⟨70, _⟩ => ⟨S1x32x16x288, .bf16⟩
  | .local _ .vmem, ⟨71, _⟩ => ⟨S1x32x16x288, .bf16⟩
  | .local _ .vmem, ⟨72, _⟩ => ⟨S1x32x16x300, .bf16⟩
  | .local _ .vmem, ⟨73, _⟩ => ⟨S1x32x16x300, .bf16⟩
  | .local _ .vmem, ⟨74, _⟩ => ⟨S1x32x16x300, .bf16⟩
  | .local _ .vmem, ⟨75, _⟩ => ⟨S1x32x16x300, .bf16⟩
  | .local _ .vmem, ⟨76, _⟩ => ⟨S1x32x16x288, .bf16⟩
  | .local _ .vmem, ⟨77, _⟩ => ⟨S1x32x16x288, .bf16⟩
  | .local _ .vmem, ⟨78, _⟩ => ⟨S1x32x16x300, .bf16⟩
  | .local _ .vmem, ⟨79, _⟩ => ⟨S1x32x16x300, .bf16⟩
  | .local _ .vmem, ⟨80, _⟩ => ⟨S1x32x16x300, .bf16⟩
  | .local _ .vmem, ⟨81, _⟩ => ⟨S1x32x16x300, .bf16⟩
  | .local _ .vmem, ⟨82, _⟩ => ⟨S1x32x16x12, .bf16⟩
  | .local _ .vmem, ⟨83, _⟩ => ⟨S1x32x16x12, .bf16⟩
  | .local _ .vmem, ⟨84, _⟩ => ⟨S1x32x16x12, .bf16⟩
  | .local _ .vmem, ⟨85, _⟩ => ⟨S1x32x16x12, .bf16⟩
  | .local _ .vmem, ⟨86, _⟩ => ⟨S1x32x16x12, .bf16⟩
  | .local _ .vmem, ⟨87, _⟩ => ⟨S1x32x16x12, .bf16⟩
  | .local _ .vmem, ⟨88, _⟩ => ⟨S1x32x16x12, .bf16⟩
  | .local _ .vmem, ⟨89, _⟩ => ⟨S1x32x16x12, .bf16⟩
  | .local _ .vmem, ⟨90, _⟩ => ⟨S768x416, .bf16⟩
  | .local _ .vmem, ⟨91, _⟩ => ⟨S1x1x64, .f32⟩
  | .local _ .vmem, ⟨92, _⟩ => ⟨S32x32, .f32⟩
  | .local _ .vmem, ⟨93, _⟩ => ⟨S1x1x32, .f32⟩
  | .local _ .vmem, ⟨94, _⟩ => ⟨S32x32, .f32⟩
  | .local _ .vmem, ⟨95, _⟩ => ⟨S1x1x32, .f32⟩
  | .local _ .vmem, ⟨96, _⟩ => ⟨S1x32x16x278, .f32⟩
  | .local _ .vmem, ⟨97, _⟩ => ⟨S1x32x16x278, .f32⟩
  | .local _ .vmem, ⟨98, _⟩ => ⟨S1x32x16x12, .f32⟩
  | .local _ .vmem, ⟨99, _⟩ => ⟨S1x32x16x12, .f32⟩
  | .local _ .vmem, ⟨100, _⟩ => ⟨S1x32x23x256, .f32⟩
  | .local _ .vmem, ⟨101, _⟩ => ⟨S1x32x23x256, .f32⟩
  | .local _ .vmem, ⟨102, _⟩ => ⟨S1x32x23x256, .f32⟩
  | .local _ .vmem, ⟨103, _⟩ => ⟨S1x32x23x256, .f32⟩
  | .local _ .vmem, ⟨104, _⟩ => ⟨S1x32x23x256, .f32⟩
  | .local _ .vmem, ⟨105, _⟩ => ⟨S1x32x23x256, .f32⟩
  | .local _ .vmem, ⟨106, _⟩ => ⟨S1x32x23x256, .f32⟩
  | .local _ .vmem, ⟨107, _⟩ => ⟨S1x32x23x256, .f32⟩
  | .local _ .vmem, ⟨108, _⟩ => ⟨S1x32x23x256, .f32⟩
  | .local _ .vmem, ⟨109, _⟩ => ⟨S1x32x23x256, .f32⟩
  | .local _ .vmem, ⟨110, _⟩ => ⟨S1x32x23x256, .f32⟩
  | .local _ .vmem, ⟨111, _⟩ => ⟨S1x32x23x256, .f32⟩
  | .local _ .vmem, ⟨112, _⟩ => ⟨S1x32x23x256, .f32⟩
  | .local _ .vmem, ⟨113, _⟩ => ⟨S1x32x23x256, .f32⟩
  | .local _ .vmem, ⟨114, _⟩ => ⟨S1x32x23x256, .f32⟩
  | .local _ .vmem, ⟨115, _⟩ => ⟨S1x32x23x256, .f32⟩
  | .local _ .vmem, ⟨116, _⟩ => ⟨S768x256, .f32⟩
  | .local _ .vmem, ⟨117, _⟩ => ⟨S1x1x64, .f32⟩
  | .local _ .vmem, ⟨118, _⟩ => ⟨S32x32, .f32⟩
  | .local _ .vmem, ⟨119, _⟩ => ⟨S1x1x32, .f32⟩
  | .local _ .vmem, ⟨120, _⟩ => ⟨S1x32x256x12, .f32⟩
  | .local _ .vmem, ⟨121, _⟩ => ⟨S1x32x256x12, .f32⟩
  | _, _ => ⟨S4x32x256x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | _, _ => false

abbrev semScoped : Fin 0 → Bool
  | ⟨_, h⟩ => absurd h (Nat.not_lt_zero _)

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  ofTc nBuf bufTy 0 122 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_c_0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_1 : Ref sig .tc := ⟨.hbm, 59, rfl⟩
abbrev main_call0_v5 : Ref sig .tc := ⟨.hbm, 60, rfl⟩
abbrev main_call0_v6 : Ref sig .tc := ⟨.hbm, 61, rfl⟩
abbrev main_call0_c_2 : Ref sig .tc := ⟨.hbm, 62, rfl⟩
abbrev main_call0_v7 : Ref sig .tc := ⟨.hbm, 63, rfl⟩
abbrev main_call0_v8 : Ref sig .tc := ⟨.hbm, 64, rfl⟩
abbrev main_call0_c_3 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_v27 : Ref sig .tc := ⟨.hbm, 72, rfl⟩
abbrev main_c_5 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_v5 : Ref sig .tc := ⟨.hbm, 82, rfl⟩
abbrev main_call1_v6 : Ref sig .tc := ⟨.hbm, 83, rfl⟩
abbrev main_call1_c_2 : Ref sig .tc := ⟨.hbm, 84, rfl⟩
abbrev main_call1_v7 : Ref sig .tc := ⟨.hbm, 85, rfl⟩
abbrev main_call1_v8 : Ref sig .tc := ⟨.hbm, 86, rfl⟩
abbrev main_call1_c_3 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_6 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_c_7 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_c_8 : Ref sig .tc := ⟨.hbm, 113, rfl⟩
abbrev main_v45 : Ref sig .tc := ⟨.hbm, 114, rfl⟩
abbrev main_v46 : Ref sig .tc := ⟨.hbm, 115, rfl⟩
abbrev main_c_9 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_cst_10 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57_0 : Ref sig .tc := ⟨.hbm, 128, rfl⟩
abbrev main_v57_1 : Ref sig .tc := ⟨.hbm, 129, rfl⟩
abbrev main_v57_2 : Ref sig .tc := ⟨.hbm, 130, rfl⟩
abbrev main_v57_3 : Ref sig .tc := ⟨.hbm, 131, rfl⟩
abbrev main_v57_4 : Ref sig .tc := ⟨.hbm, 132, rfl⟩
abbrev main_v57_5 : Ref sig .tc := ⟨.hbm, 133, rfl⟩
abbrev main_v57_6 : Ref sig .tc := ⟨.hbm, 134, rfl⟩
abbrev main_v57_7 : Ref sig .tc := ⟨.hbm, 135, rfl⟩
abbrev main_v57_8 : Ref sig .tc := ⟨.hbm, 136, rfl⟩
abbrev main_v57_9 : Ref sig .tc := ⟨.hbm, 137, rfl⟩
abbrev main_v57_10 : Ref sig .tc := ⟨.hbm, 138, rfl⟩
abbrev main_v57_11 : Ref sig .tc := ⟨.hbm, 139, rfl⟩
abbrev main_v57_12 : Ref sig .tc := ⟨.hbm, 140, rfl⟩
abbrev main_v57_13 : Ref sig .tc := ⟨.hbm, 141, rfl⟩
abbrev main_v57_14 : Ref sig .tc := ⟨.hbm, 142, rfl⟩
abbrev main_v57_15 : Ref sig .tc := ⟨.hbm, 143, rfl⟩
abbrev main_v57_16 : Ref sig .tc := ⟨.hbm, 144, rfl⟩
abbrev main_v57_17 : Ref sig .tc := ⟨.hbm, 145, rfl⟩
abbrev main_v57_18 : Ref sig .tc := ⟨.hbm, 146, rfl⟩
abbrev main_v57_19 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117_0 : Ref sig .tc := ⟨.hbm, 207, rfl⟩
abbrev main_v117_1 : Ref sig .tc := ⟨.hbm, 208, rfl⟩
abbrev main_c_11 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg6_1 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg8_1 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc1_stg13_0 : Ref sig .tc := ⟨.vmem, 24, rfl⟩
abbrev cc1_stg13_1 : Ref sig .tc := ⟨.vmem, 25, rfl⟩
abbrev cc1_stg14_0 : Ref sig .tc := ⟨.vmem, 26, rfl⟩
abbrev cc1_stg14_1 : Ref sig .tc := ⟨.vmem, 27, rfl⟩
abbrev cc1_stg15_0 : Ref sig .tc := ⟨.vmem, 28, rfl⟩
abbrev cc1_stg15_1 : Ref sig .tc := ⟨.vmem, 29, rfl⟩
abbrev cc1_stg16_0 : Ref sig .tc := ⟨.vmem, 30, rfl⟩
abbrev cc1_stg16_1 : Ref sig .tc := ⟨.vmem, 31, rfl⟩
abbrev cc1_stg17_0 : Ref sig .tc := ⟨.vmem, 32, rfl⟩
abbrev cc1_stg17_1 : Ref sig .tc := ⟨.vmem, 33, rfl⟩
abbrev cc1_stg18_0 : Ref sig .tc := ⟨.vmem, 34, rfl⟩
abbrev cc1_stg18_1 : Ref sig .tc := ⟨.vmem, 35, rfl⟩
abbrev cc1_stg19_0 : Ref sig .tc := ⟨.vmem, 36, rfl⟩
abbrev cc1_stg19_1 : Ref sig .tc := ⟨.vmem, 37, rfl⟩
abbrev cc1_stg20_0 : Ref sig .tc := ⟨.vmem, 38, rfl⟩
abbrev cc1_stg20_1 : Ref sig .tc := ⟨.vmem, 39, rfl⟩
abbrev cc1_stg21_0 : Ref sig .tc := ⟨.vmem, 40, rfl⟩
abbrev cc1_stg21_1 : Ref sig .tc := ⟨.vmem, 41, rfl⟩
abbrev cc1_stg22_0 : Ref sig .tc := ⟨.vmem, 42, rfl⟩
abbrev cc1_stg22_1 : Ref sig .tc := ⟨.vmem, 43, rfl⟩
abbrev cc1_stg23_0 : Ref sig .tc := ⟨.vmem, 44, rfl⟩
abbrev cc1_stg23_1 : Ref sig .tc := ⟨.vmem, 45, rfl⟩
abbrev cc1_stg24_0 : Ref sig .tc := ⟨.vmem, 46, rfl⟩
abbrev cc1_stg24_1 : Ref sig .tc := ⟨.vmem, 47, rfl⟩
abbrev cc2_stg0_0 : Ref sig .tc := ⟨.vmem, 48, rfl⟩
abbrev cc2_stg0_1 : Ref sig .tc := ⟨.vmem, 49, rfl⟩
abbrev cc2_stg1_0 : Ref sig .tc := ⟨.vmem, 50, rfl⟩
abbrev cc2_stg1_1 : Ref sig .tc := ⟨.vmem, 51, rfl⟩
abbrev cc2_stg2_0 : Ref sig .tc := ⟨.vmem, 52, rfl⟩
abbrev cc2_stg2_1 : Ref sig .tc := ⟨.vmem, 53, rfl⟩
abbrev cc2_stg3_0 : Ref sig .tc := ⟨.vmem, 54, rfl⟩
abbrev cc2_stg3_1 : Ref sig .tc := ⟨.vmem, 55, rfl⟩
abbrev cc3_stg0_0 : Ref sig .tc := ⟨.vmem, 56, rfl⟩
abbrev cc3_stg0_1 : Ref sig .tc := ⟨.vmem, 57, rfl⟩
abbrev cc3_stg1_0 : Ref sig .tc := ⟨.vmem, 58, rfl⟩
abbrev cc3_stg1_1 : Ref sig .tc := ⟨.vmem, 59, rfl⟩
abbrev cc3_stg2_0 : Ref sig .tc := ⟨.vmem, 60, rfl⟩
abbrev cc3_stg2_1 : Ref sig .tc := ⟨.vmem, 61, rfl⟩
abbrev cc3_stg3_0 : Ref sig .tc := ⟨.vmem, 62, rfl⟩
abbrev cc3_stg3_1 : Ref sig .tc := ⟨.vmem, 63, rfl⟩
abbrev cc3_stg4_0 : Ref sig .tc := ⟨.vmem, 64, rfl⟩
abbrev cc3_stg4_1 : Ref sig .tc := ⟨.vmem, 65, rfl⟩
abbrev cc3_stg5_0 : Ref sig .tc := ⟨.vmem, 66, rfl⟩
abbrev cc3_stg5_1 : Ref sig .tc := ⟨.vmem, 67, rfl⟩
abbrev cc3_stg6_0 : Ref sig .tc := ⟨.vmem, 68, rfl⟩
abbrev cc3_stg6_1 : Ref sig .tc := ⟨.vmem, 69, rfl⟩
abbrev cc3_stg7_0 : Ref sig .tc := ⟨.vmem, 70, rfl⟩
abbrev cc3_stg7_1 : Ref sig .tc := ⟨.vmem, 71, rfl⟩
abbrev cc3_stg8_0 : Ref sig .tc := ⟨.vmem, 72, rfl⟩
abbrev cc3_stg8_1 : Ref sig .tc := ⟨.vmem, 73, rfl⟩
abbrev cc3_stg9_0 : Ref sig .tc := ⟨.vmem, 74, rfl⟩
abbrev cc3_stg9_1 : Ref sig .tc := ⟨.vmem, 75, rfl⟩
abbrev cc3_stg10_0 : Ref sig .tc := ⟨.vmem, 76, rfl⟩
abbrev cc3_stg10_1 : Ref sig .tc := ⟨.vmem, 77, rfl⟩
abbrev cc3_stg11_0 : Ref sig .tc := ⟨.vmem, 78, rfl⟩
abbrev cc3_stg11_1 : Ref sig .tc := ⟨.vmem, 79, rfl⟩
abbrev cc3_stg12_0 : Ref sig .tc := ⟨.vmem, 80, rfl⟩
abbrev cc3_stg12_1 : Ref sig .tc := ⟨.vmem, 81, rfl⟩
abbrev cc3_stg13_0 : Ref sig .tc := ⟨.vmem, 82, rfl⟩
abbrev cc3_stg13_1 : Ref sig .tc := ⟨.vmem, 83, rfl⟩
abbrev cc3_stg14_0 : Ref sig .tc := ⟨.vmem, 84, rfl⟩
abbrev cc3_stg14_1 : Ref sig .tc := ⟨.vmem, 85, rfl⟩
abbrev cc3_stg15_0 : Ref sig .tc := ⟨.vmem, 86, rfl⟩
abbrev cc3_stg15_1 : Ref sig .tc := ⟨.vmem, 87, rfl⟩
abbrev cc3_stg16_0 : Ref sig .tc := ⟨.vmem, 88, rfl⟩
abbrev cc3_stg16_1 : Ref sig .tc := ⟨.vmem, 89, rfl⟩
abbrev cc3_stg17_0 : Ref sig .tc := ⟨.vmem, 90, rfl⟩
abbrev cc3_stg18_0 : Ref sig .tc := ⟨.vmem, 91, rfl⟩
abbrev cc3_stg19_0 : Ref sig .tc := ⟨.vmem, 92, rfl⟩
abbrev cc3_stg20_0 : Ref sig .tc := ⟨.vmem, 93, rfl⟩
abbrev cc3_stg21_0 : Ref sig .tc := ⟨.vmem, 94, rfl⟩
abbrev cc3_stg22_0 : Ref sig .tc := ⟨.vmem, 95, rfl⟩
abbrev cc3_stg23_0 : Ref sig .tc := ⟨.vmem, 96, rfl⟩
abbrev cc3_stg23_1 : Ref sig .tc := ⟨.vmem, 97, rfl⟩
abbrev cc3_stg24_0 : Ref sig .tc := ⟨.vmem, 98, rfl⟩
abbrev cc3_stg24_1 : Ref sig .tc := ⟨.vmem, 99, rfl⟩
abbrev cc4_stg0_0 : Ref sig .tc := ⟨.vmem, 100, rfl⟩
abbrev cc4_stg0_1 : Ref sig .tc := ⟨.vmem, 101, rfl⟩
abbrev cc4_stg1_0 : Ref sig .tc := ⟨.vmem, 102, rfl⟩
abbrev cc4_stg1_1 : Ref sig .tc := ⟨.vmem, 103, rfl⟩
abbrev cc4_stg2_0 : Ref sig .tc := ⟨.vmem, 104, rfl⟩
abbrev cc4_stg2_1 : Ref sig .tc := ⟨.vmem, 105, rfl⟩
abbrev cc4_stg3_0 : Ref sig .tc := ⟨.vmem, 106, rfl⟩
abbrev cc4_stg3_1 : Ref sig .tc := ⟨.vmem, 107, rfl⟩
abbrev cc4_stg4_0 : Ref sig .tc := ⟨.vmem, 108, rfl⟩
abbrev cc4_stg4_1 : Ref sig .tc := ⟨.vmem, 109, rfl⟩
abbrev cc4_stg5_0 : Ref sig .tc := ⟨.vmem, 110, rfl⟩
abbrev cc4_stg5_1 : Ref sig .tc := ⟨.vmem, 111, rfl⟩
abbrev cc4_stg6_0 : Ref sig .tc := ⟨.vmem, 112, rfl⟩
abbrev cc4_stg6_1 : Ref sig .tc := ⟨.vmem, 113, rfl⟩
abbrev cc4_stg7_0 : Ref sig .tc := ⟨.vmem, 114, rfl⟩
abbrev cc4_stg7_1 : Ref sig .tc := ⟨.vmem, 115, rfl⟩
abbrev cc4_stg8_0 : Ref sig .tc := ⟨.vmem, 116, rfl⟩
abbrev cc4_stg9_0 : Ref sig .tc := ⟨.vmem, 117, rfl⟩
abbrev cc4_stg10_0 : Ref sig .tc := ⟨.vmem, 118, rfl⟩
abbrev cc4_stg11_0 : Ref sig .tc := ⟨.vmem, 119, rfl⟩
abbrev cc4_stg12_0 : Ref sig .tc := ⟨.vmem, 120, rfl⟩
abbrev cc4_stg12_1 : Ref sig .tc := ⟨.vmem, 121, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem5_1 : DmaSem sig := 9
abbrev cc1_sem6_0 : DmaSem sig := 10
abbrev cc1_sem6_1 : DmaSem sig := 11
abbrev cc1_sem7_0 : DmaSem sig := 12
abbrev cc1_sem7_1 : DmaSem sig := 13
abbrev cc1_sem8_0 : DmaSem sig := 14
abbrev cc1_sem8_1 : DmaSem sig := 15
abbrev cc1_sem9_0 : DmaSem sig := 16
abbrev cc1_sem9_1 : DmaSem sig := 17
abbrev cc1_sem10_0 : DmaSem sig := 18
abbrev cc1_sem10_1 : DmaSem sig := 19
abbrev cc1_sem11_0 : DmaSem sig := 20
abbrev cc1_sem11_1 : DmaSem sig := 21
abbrev cc1_sem12_0 : DmaSem sig := 22
abbrev cc1_sem12_1 : DmaSem sig := 23
abbrev cc1_sem13_0 : DmaSem sig := 24
abbrev cc1_sem13_1 : DmaSem sig := 25
abbrev cc1_sem14_0 : DmaSem sig := 26
abbrev cc1_sem14_1 : DmaSem sig := 27
abbrev cc1_sem15_0 : DmaSem sig := 28
abbrev cc1_sem15_1 : DmaSem sig := 29
abbrev cc1_sem16_0 : DmaSem sig := 30
abbrev cc1_sem16_1 : DmaSem sig := 31
abbrev cc1_sem17_0 : DmaSem sig := 32
abbrev cc1_sem17_1 : DmaSem sig := 33
abbrev cc1_sem18_0 : DmaSem sig := 34
abbrev cc1_sem18_1 : DmaSem sig := 35
abbrev cc1_sem19_0 : DmaSem sig := 36
abbrev cc1_sem19_1 : DmaSem sig := 37
abbrev cc1_sem20_0 : DmaSem sig := 38
abbrev cc1_sem20_1 : DmaSem sig := 39
abbrev cc1_sem21_0 : DmaSem sig := 40
abbrev cc1_sem21_1 : DmaSem sig := 41
abbrev cc1_sem22_0 : DmaSem sig := 42
abbrev cc1_sem22_1 : DmaSem sig := 43
abbrev cc1_sem23_0 : DmaSem sig := 44
abbrev cc1_sem23_1 : DmaSem sig := 45
abbrev cc1_sem24_0 : DmaSem sig := 46
abbrev cc1_sem24_1 : DmaSem sig := 47
abbrev cc2_sem0_0 : DmaSem sig := 48
abbrev cc2_sem0_1 : DmaSem sig := 49
abbrev cc2_sem1_0 : DmaSem sig := 50
abbrev cc2_sem1_1 : DmaSem sig := 51
abbrev cc2_sem2_0 : DmaSem sig := 52
abbrev cc2_sem2_1 : DmaSem sig := 53
abbrev cc2_sem3_0 : DmaSem sig := 54
abbrev cc2_sem3_1 : DmaSem sig := 55
abbrev cc3_sem0_0 : DmaSem sig := 56
abbrev cc3_sem0_1 : DmaSem sig := 57
abbrev cc3_sem1_0 : DmaSem sig := 58
abbrev cc3_sem1_1 : DmaSem sig := 59
abbrev cc3_sem2_0 : DmaSem sig := 60
abbrev cc3_sem2_1 : DmaSem sig := 61
abbrev cc3_sem3_0 : DmaSem sig := 62
abbrev cc3_sem3_1 : DmaSem sig := 63
abbrev cc3_sem4_0 : DmaSem sig := 64
abbrev cc3_sem4_1 : DmaSem sig := 65
abbrev cc3_sem5_0 : DmaSem sig := 66
abbrev cc3_sem5_1 : DmaSem sig := 67
abbrev cc3_sem6_0 : DmaSem sig := 68
abbrev cc3_sem6_1 : DmaSem sig := 69
abbrev cc3_sem7_0 : DmaSem sig := 70
abbrev cc3_sem7_1 : DmaSem sig := 71
abbrev cc3_sem8_0 : DmaSem sig := 72
abbrev cc3_sem8_1 : DmaSem sig := 73
abbrev cc3_sem9_0 : DmaSem sig := 74
abbrev cc3_sem9_1 : DmaSem sig := 75
abbrev cc3_sem10_0 : DmaSem sig := 76
abbrev cc3_sem10_1 : DmaSem sig := 77
abbrev cc3_sem11_0 : DmaSem sig := 78
abbrev cc3_sem11_1 : DmaSem sig := 79
abbrev cc3_sem12_0 : DmaSem sig := 80
abbrev cc3_sem12_1 : DmaSem sig := 81
abbrev cc3_sem13_0 : DmaSem sig := 82
abbrev cc3_sem13_1 : DmaSem sig := 83
abbrev cc3_sem14_0 : DmaSem sig := 84
abbrev cc3_sem14_1 : DmaSem sig := 85
abbrev cc3_sem15_0 : DmaSem sig := 86
abbrev cc3_sem15_1 : DmaSem sig := 87
abbrev cc3_sem16_0 : DmaSem sig := 88
abbrev cc3_sem16_1 : DmaSem sig := 89
abbrev cc3_sem17_0 : DmaSem sig := 90
abbrev cc3_sem18_0 : DmaSem sig := 91
abbrev cc3_sem19_0 : DmaSem sig := 92
abbrev cc3_sem20_0 : DmaSem sig := 93
abbrev cc3_sem21_0 : DmaSem sig := 94
abbrev cc3_sem22_0 : DmaSem sig := 95
abbrev cc3_sem23_0 : DmaSem sig := 96
abbrev cc3_sem23_1 : DmaSem sig := 97
abbrev cc3_sem24_0 : DmaSem sig := 98
abbrev cc3_sem24_1 : DmaSem sig := 99
abbrev cc4_sem0_0 : DmaSem sig := 100
abbrev cc4_sem0_1 : DmaSem sig := 101
abbrev cc4_sem1_0 : DmaSem sig := 102
abbrev cc4_sem1_1 : DmaSem sig := 103
abbrev cc4_sem2_0 : DmaSem sig := 104
abbrev cc4_sem2_1 : DmaSem sig := 105
abbrev cc4_sem3_0 : DmaSem sig := 106
abbrev cc4_sem3_1 : DmaSem sig := 107
abbrev cc4_sem4_0 : DmaSem sig := 108
abbrev cc4_sem4_1 : DmaSem sig := 109
abbrev cc4_sem5_0 : DmaSem sig := 110
abbrev cc4_sem5_1 : DmaSem sig := 111
abbrev cc4_sem6_0 : DmaSem sig := 112
abbrev cc4_sem6_1 : DmaSem sig := 113
abbrev cc4_sem7_0 : DmaSem sig := 114
abbrev cc4_sem7_1 : DmaSem sig := 115
abbrev cc4_sem8_0 : DmaSem sig := 116
abbrev cc4_sem9_0 : DmaSem sig := 117
abbrev cc4_sem10_0 : DmaSem sig := 118
abbrev cc4_sem11_0 : DmaSem sig := 119
abbrev cc4_sem12_0 : DmaSem sig := 120
abbrev cc4_sem12_1 : DmaSem sig := 121

abbrev nD : Nat := 1
abbrev τ : Topo := Topo.v7x

variable {F : FTy → Type} [FloatOps F]

abbrev grid0 : Pipeline.Grid := .none

abbrev stage0_0 : Fin 1 → Memref sig .tc .vmem S256x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_21 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_22 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_23 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_24 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S288x288 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S288x288 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S288x288 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x256x288 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x300 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x300 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x288 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256x300 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256x300 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256x288 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x256x300 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256x300 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x256x288 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x256x300 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x256x300 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x23x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x23x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S1x23x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S1x23x256 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S1x23x256 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S1x23x256 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S1x23x256 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S1x23x256 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev grid2 : Pipeline.Grid := ⟨2, ![4, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x256x160 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x160x384 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x256x384 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 16], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_6 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_8 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_9 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_10 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_11 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_12 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_13 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_14 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_15 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_16 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_19 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_21 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_22 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_23 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_24 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x32x16x288 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x32x16x288 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x32x16x300 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x32x16x300 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x32x16x288 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x32x16x300 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x32x16x300 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x32x16x288 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x32x16x300 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S1x32x16x300 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1x32x16x288 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S1x32x16x300 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S1x32x16x300 .bf16 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S1x32x16x12 .bf16 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S1x32x16x12 .bf16 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]

abbrev stage3_15 : Fin 2 → Memref sig .tc .vmem S1x32x16x12 .bf16 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true, true]

abbrev stage3_16 : Fin 2 → Memref sig .tc .vmem S1x32x16x12 .bf16 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true, true]

abbrev stage3_17 : Fin 1 → Memref sig .tc .vmem S768x416 .bf16 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false, false]

abbrev stage3_18 : Fin 1 → Memref sig .tc .vmem S1x1x64 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false, false]

abbrev stage3_19 : Fin 1 → Memref sig .tc .vmem S32x32 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false, false]

abbrev stage3_20 : Fin 1 → Memref sig .tc .vmem S1x1x32 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false, false]

abbrev stage3_21 : Fin 1 → Memref sig .tc .vmem S32x32 .f32 := fun | 0 => Memref.whole cc3_stg21_0 | ⟨_ + 1, h⟩ => absurd h (Nat.not_lt.2 (Nat.le_add_left _ _))
abbrev sem3_21 : Fin 1 → DmaSem sig := fun | 0 => cc3_sem21_0 | ⟨_ + 1, h⟩ => absurd h (Nat.not_lt.2 (Nat.le_add_left _ _))
abbrev reads3_21 : Fin grid3.rank → Bool := ![false, false]

abbrev stage3_22 : Fin 1 → Memref sig .tc .vmem S1x1x32 .f32 := fun | 0 => Memref.whole cc3_stg22_0 | ⟨_ + 1, h⟩ => absurd h (Nat.not_lt.2 (Nat.le_add_left _ _))
abbrev sem3_22 : Fin 1 → DmaSem sig := fun | 0 => cc3_sem22_0 | ⟨_ + 1, h⟩ => absurd h (Nat.not_lt.2 (Nat.le_add_left _ _))
abbrev reads3_22 : Fin grid3.rank → Bool := ![false, false]

abbrev stage3_23 : Fin 2 → Memref sig .tc .vmem S1x32x16x278 .f32 := fun | 0 => Memref.whole cc3_stg23_0 | 1 => Memref.whole cc3_stg23_1 | ⟨_ + 2, h⟩ => absurd h (Nat.not_lt.2 (Nat.le_add_left _ _))
abbrev sem3_23 : Fin 2 → DmaSem sig := fun | 0 => cc3_sem23_0 | 1 => cc3_sem23_1 | ⟨_ + 2, h⟩ => absurd h (Nat.not_lt.2 (Nat.le_add_left _ _))
abbrev reads3_23 : Fin grid3.rank → Bool := ![true, true]

abbrev stage3_24 : Fin 2 → Memref sig .tc .vmem S1x32x16x12 .f32 := fun | 0 => Memref.whole cc3_stg24_0 | 1 => Memref.whole cc3_stg24_1 | ⟨_ + 2, h⟩ => absurd h (Nat.not_lt.2 (Nat.le_add_left _ _))
abbrev sem3_24 : Fin 2 → DmaSem sig := fun | 0 => cc3_sem24_0 | 1 => cc3_sem24_1 | ⟨_ + 2, h⟩ => absurd h (Nat.not_lt.2 (Nat.le_add_left _ _))
abbrev reads3_24 : Fin grid3.rank → Bool := ![true, true]

abbrev grid4 : Pipeline.Grid := ⟨1, ![4], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_4 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_5 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_6 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_7 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_12 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x32x23x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x32x23x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x32x23x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x32x23x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x32x23x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x32x23x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x32x23x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x32x23x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S768x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S32x32 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x1x32 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S1x32x256x12 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]
-- ==== ReferenceIdeal.lean ====
abbrev S4x32x256x288 : Shape := ⟨4, ![4, 32, 256, 288]⟩
abbrev S256x16 : Shape := ⟨2, ![256, 16]⟩
abbrev S32x416x1x12 : Shape := ⟨4, ![32, 416, 1, 12]⟩
abbrev S32 : Shape := ⟨1, ![32]⟩
abbrev S32x32x1x1 : Shape := ⟨4, ![32, 32, 1, 1]⟩
abbrev S384x32x1x5 : Shape := ⟨4, ![384, 32, 1, 5]⟩
abbrev S384 : Shape := ⟨1, ![384]⟩
abbrev S4x32x256x1 : Shape := ⟨4, ![4, 32, 256, 1]⟩
abbrev S4x32x256x1x12 : Shape := ⟨5, ![4, 32, 256, 1, 12]⟩
abbrev S4x32x256x12 : Shape := ⟨4, ![4, 32, 256, 12]⟩
abbrev S4x32x256x300 : Shape := ⟨4, ![4, 32, 256, 300]⟩
abbrev S_ : Shape := ⟨0, ![]⟩
abbrev S4x32x256x289 : Shape := ⟨4, ![4, 32, 256, 289]⟩
abbrev S4x32x256x241 : Shape := ⟨4, ![4, 32, 256, 241]⟩
abbrev S4x32x256x1x47 : Shape := ⟨5, ![4, 32, 256, 1, 47]⟩
abbrev S4x32x256x47 : Shape := ⟨4, ![4, 32, 256, 47]⟩
abbrev S384x32x5 : Shape := ⟨3, ![384, 32, 5]⟩
abbrev S4x32x256x5 : Shape := ⟨4, ![4, 32, 256, 5]⟩
abbrev S4x256x384 : Shape := ⟨3, ![4, 256, 384]⟩
abbrev S4x384x256 : Shape := ⟨3, ![4, 384, 256]⟩
abbrev S1x384x1 : Shape := ⟨3, ![1, 384, 1]⟩
abbrev S4x12x32x256 : Shape := ⟨4, ![4, 12, 32, 256]⟩
abbrev S4x32x256x12x24 : Shape := ⟨5, ![4, 32, 256, 12, 24]⟩
abbrev S4x32x256x24 : Shape := ⟨4, ![4, 32, 256, 24]⟩
abbrev S1x4x1x32x1x256x1x24 : Shape := ⟨8, ![1, 4, 1, 32, 1, 256, 1, 24]⟩
abbrev S1x4x1x32x1x256x12x24 : Shape := ⟨8, ![1, 4, 1, 32, 1, 256, 12, 24]⟩
abbrev S4x32x256x277 : Shape := ⟨4, ![4, 32, 256, 277]⟩
abbrev S4x32x256x1x11 : Shape := ⟨5, ![4, 32, 256, 1, 11]⟩
abbrev S4x32x256x11 : Shape := ⟨4, ![4, 32, 256, 11]⟩
abbrev S16x256 : Shape := ⟨2, ![16, 256]⟩
abbrev S256x256 : Shape := ⟨2, ![256, 256]⟩
abbrev S256 : Shape := ⟨1, ![256]⟩
abbrev S256x1 : Shape := ⟨2, ![256, 1]⟩
abbrev S4x32x288x256 : Shape := ⟨4, ![4, 32, 288, 256]⟩
abbrev S4x416x256x300 : Shape := ⟨4, ![4, 416, 256, 300]⟩
abbrev S4x416x256x1 : Shape := ⟨4, ![4, 416, 256, 1]⟩
abbrev S4x416x256x301 : Shape := ⟨4, ![4, 416, 256, 301]⟩
abbrev S32x416x1x1 : Shape := ⟨4, ![32, 416, 1, 1]⟩
abbrev S32x416 : Shape := ⟨2, ![32, 416]⟩
abbrev S4x416x256x290 : Shape := ⟨4, ![4, 416, 256, 290]⟩
abbrev S4x256x290x32 : Shape := ⟨4, ![4, 256, 290, 32]⟩
abbrev S4x32x256x290 : Shape := ⟨4, ![4, 32, 256, 290]⟩
abbrev S1x32x1x1 : Shape := ⟨4, ![1, 32, 1, 1]⟩
abbrev S4x32x256x278 : Shape := ⟨4, ![4, 32, 256, 278]⟩
abbrev S32x32 : Shape := ⟨2, ![32, 32]⟩
abbrev S4x256x278x32 : Shape := ⟨4, ![4, 256, 278, 32]⟩
abbrev S4x256x12x32 : Shape := ⟨4, ![4, 256, 12, 32]⟩

abbrev nBuf : Space → Nat
  | .hbm => 595
  | .vmem => 0
  | .smem => 0
  | _ => 0

abbrev hbmTy0_0 (i : Nat) : BufTy := match i % 128 with
  | 0 => ⟨S4x32x256x288, .f32⟩
  | 1 => ⟨S256x16, .f32⟩
  | 2 => ⟨S32x416x1x12, .f32⟩
  | 3 => ⟨S32, .f32⟩
  | 4 => ⟨S32x416x1x12, .f32⟩
  | 5 => ⟨S32, .f32⟩
  | 6 => ⟨S32x32x1x1, .f32⟩
  | 7 => ⟨S32, .f32⟩
  | 8 => ⟨S32x32x1x1, .f32⟩
  | 9 => ⟨S32, .f32⟩
  | 10 => ⟨S384x32x1x5, .f32⟩
  | 11 => ⟨S384, .f32⟩
  | 12 => ⟨S384x32x1x5, .f32⟩
  | 13 => ⟨S384, .f32⟩
  | 14 => ⟨S384x32x1x5, .f32⟩
  | 15 => ⟨S384, .f32⟩
  | 16 => ⟨S384x32x1x5, .f32⟩
  | 17 => ⟨S384, .f32⟩
  | 18 => ⟨S4x32x256x1, .f32⟩
  | 19 => ⟨S4x32x256x1x12, .f32⟩
  | 20 => ⟨S4x32x256x12, .f32⟩
  | 21 => ⟨S4x32x256x300, .f32⟩
  | 22 => ⟨S_, .f32⟩
  | 23 => ⟨S4x32x256x300, .f32⟩
  | 24 => ⟨S_, .f32⟩
  | 25 => ⟨S_, .f32⟩
  | 26 => ⟨S4x32x256x288, .f32⟩
  | 27 => ⟨S_, .f32⟩
  | 28 => ⟨S4x32x256x1, .f32⟩
  | 29 => ⟨S4x32x256x289, .f32⟩
  | 30 => ⟨S4x32x256x288, .f32⟩
  | 31 => ⟨S_, .f32⟩
  | 32 => ⟨S_, .f32⟩
  | 33 => ⟨S4x32x256x288, .f32⟩
  | 34 => ⟨S_, .f32⟩
  | 35 => ⟨S4x32x256x1, .f32⟩
  | 36 => ⟨S4x32x256x289, .f32⟩
  | 37 => ⟨S4x32x256x241, .f32⟩
  | 38 => ⟨S4x32x256x241, .f32⟩
  | 39 => ⟨S4x32x256x241, .f32⟩
  | 40 => ⟨S_, .f32⟩
  | 41 => ⟨S4x32x256x241, .f32⟩
  | 42 => ⟨S4x32x256x241, .f32⟩
  | 43 => ⟨S4x32x256x241, .f32⟩
  | 44 => ⟨S4x32x256x241, .f32⟩
  | 45 => ⟨S4x32x256x241, .f32⟩
  | 46 => ⟨S_, .f32⟩
  | 47 => ⟨S4x32x256x241, .f32⟩
  | 48 => ⟨S4x32x256x241, .f32⟩
  | 49 => ⟨S4x32x256x241, .f32⟩
  | 50 => ⟨S4x32x256x241, .f32⟩
  | 51 => ⟨S_, .f32⟩
  | 52 => ⟨S4x32x256x241, .f32⟩
  | 53 => ⟨S4x32x256x241, .f32⟩
  | 54 => ⟨S4x32x256x1, .f32⟩
  | 55 => ⟨S4x32x256x1x47, .f32⟩
  | 56 => ⟨S4x32x256x47, .f32⟩
  | 57 => ⟨S4x32x256x288, .f32⟩
  | 58 => ⟨S4x32x256x1, .f32⟩
  | 59 => ⟨S4x32x256x1x47, .f32⟩
  | 60 => ⟨S4x32x256x47, .f32⟩
  | 61 => ⟨S4x32x256x288, .f32⟩
  | 62 => ⟨S4x32x256x288, .f32⟩
  | 63 => ⟨S_, .f32⟩
  | 64 => ⟨S4x32x256x288, .f32⟩
  | 65 => ⟨S4x32x256x288, .f32⟩
  | 66 => ⟨S4x32x256x288, .f32⟩
  | 67 => ⟨S4x32x256x288, .f32⟩
  | 68 => ⟨S4x32x256x288, .f32⟩
  | 69 => ⟨S384x32x5, .f32⟩
  | 70 => ⟨S4x32x256x5, .f32⟩
  | 71 => ⟨S4x256x384, .f32⟩
  | 72 => ⟨S4x384x256, .f32⟩
  | 73 => ⟨S1x384x1, .f32⟩
  | 74 => ⟨S4x384x256, .f32⟩
  | 75 => ⟨S4x384x256, .f32⟩
  | 76 => ⟨S4x12x32x256, .f32⟩
  | 77 => ⟨S4x32x256x12, .f32⟩
  | 78 => ⟨S4x32x256x300, .f32⟩
  | 79 => ⟨S4x32x256x1, .f32⟩
  | 80 => ⟨S4x32x256x1x12, .f32⟩
  | 81 => ⟨S4x32x256x12, .f32⟩
  | 82 => ⟨S4x32x256x300, .f32⟩
  | 83 => ⟨S4x32x256x1, .f32⟩
  | 84 => ⟨S4x32x256x1x12, .f32⟩
  | 85 => ⟨S4x32x256x12, .f32⟩
  | 86 => ⟨S4x32x256x300, .f32⟩
  | 87 => ⟨S4x32x256x12x24, .f32⟩
  | 88 => ⟨S_, .f32⟩
  | 89 => ⟨S4x32x256x24, .f32⟩
  | 90 => ⟨S_, .f32⟩
  | 91 => ⟨S4x32x256x24, .f32⟩
  | 92 => ⟨S4x32x256x24, .f32⟩
  | 93 => ⟨S4x32x256x12x24, .f32⟩
  | 94 => ⟨S_, .f32⟩
  | 95 => ⟨S4x32x256x24, .f32⟩
  | 96 => ⟨S_, .f32⟩
  | 97 => ⟨S4x32x256x24, .f32⟩
  | 98 => ⟨S4x32x256x24, .f32⟩
  | 99 => ⟨S4x32x256x24, .f32⟩
  | 100 => ⟨S4x32x256x24, .f32⟩
  | 101 => ⟨S_, .f32⟩
  | 102 => ⟨S4x32x256x24, .f32⟩
  | 103 => ⟨S4x32x256x24, .f32⟩
  | 104 => ⟨S1x4x1x32x1x256x1x24, .f32⟩
  | 105 => ⟨S1x4x1x32x1x256x12x24, .f32⟩
  | 106 => ⟨S4x32x256x288, .f32⟩
  | 107 => ⟨S1x4x1x32x1x256x1x24, .f32⟩
  | 108 => ⟨S1x4x1x32x1x256x12x24, .f32⟩
  | 109 => ⟨S4x32x256x288, .f32⟩
  | 110 => ⟨S4x32x256x288, .f32⟩
  | 111 => ⟨S_, .f32⟩
  | 112 => ⟨S4x32x256x288, .f32⟩
  | 113 => ⟨S4x32x256x288, .f32⟩
  | 114 => ⟨S4x32x256x288, .f32⟩
  | 115 => ⟨S4x32x256x288, .f32⟩
  | 116 => ⟨S4x32x256x288, .f32⟩
  | 117 => ⟨S384x32x5, .f32⟩
  | 118 => ⟨S4x32x256x5, .f32⟩
  | 119 => ⟨S4x256x384, .f32⟩
  | 120 => ⟨S4x384x256, .f32⟩
  | 121 => ⟨S1x384x1, .f32⟩
  | 122 => ⟨S4x384x256, .f32⟩
  | 123 => ⟨S4x384x256, .f32⟩
  | 124 => ⟨S4x12x32x256, .f32⟩
  | 125 => ⟨S4x32x256x12, .f32⟩
  | 126 => ⟨S4x32x256x300, .f32⟩
  | 127 => ⟨S4x32x256x12, .f32⟩
  | _ => ⟨S4x32x256x288, .f32⟩

abbrev hbmTy0_1 (i : Nat) : BufTy := match i % 128 with
  | 0 => ⟨S4x32x256x300, .f32⟩
  | 1 => ⟨S4x32x256x12, .f32⟩
  | 2 => ⟨S4x32x256x300, .f32⟩
  | 3 => ⟨S_, .f32⟩
  | 4 => ⟨S_, .f32⟩
  | 5 => ⟨S4x32x256x288, .f32⟩
  | 6 => ⟨S_, .f32⟩
  | 7 => ⟨S4x32x256x1, .f32⟩
  | 8 => ⟨S4x32x256x289, .f32⟩
  | 9 => ⟨S4x32x256x288, .f32⟩
  | 10 => ⟨S_, .f32⟩
  | 11 => ⟨S_, .f32⟩
  | 12 => ⟨S4x32x256x288, .f32⟩
  | 13 => ⟨S_, .f32⟩
  | 14 => ⟨S4x32x256x1, .f32⟩
  | 15 => ⟨S4x32x256x289, .f32⟩
  | 16 => ⟨S4x32x256x277, .f32⟩
  | 17 => ⟨S4x32x256x277, .f32⟩
  | 18 => ⟨S4x32x256x277, .f32⟩
  | 19 => ⟨S_, .f32⟩
  | 20 => ⟨S4x32x256x277, .f32⟩
  | 21 => ⟨S4x32x256x277, .f32⟩
  | 22 => ⟨S4x32x256x277, .f32⟩
  | 23 => ⟨S4x32x256x277, .f32⟩
  | 24 => ⟨S4x32x256x277, .f32⟩
  | 25 => ⟨S_, .f32⟩
  | 26 => ⟨S4x32x256x277, .f32⟩
  | 27 => ⟨S4x32x256x277, .f32⟩
  | 28 => ⟨S4x32x256x277, .f32⟩
  | 29 => ⟨S4x32x256x277, .f32⟩
  | 30 => ⟨S_, .f32⟩
  | 31 => ⟨S4x32x256x277, .f32⟩
  | 32 => ⟨S4x32x256x277, .f32⟩
  | 33 => ⟨S4x32x256x1, .f32⟩
  | 34 => ⟨S4x32x256x1x11, .f32⟩
  | 35 => ⟨S4x32x256x11, .f32⟩
  | 36 => ⟨S4x32x256x288, .f32⟩
  | 37 => ⟨S4x32x256x1, .f32⟩
  | 38 => ⟨S4x32x256x1x11, .f32⟩
  | 39 => ⟨S4x32x256x11, .f32⟩
  | 40 => ⟨S4x32x256x288, .f32⟩
  | 41 => ⟨S4x32x256x288, .f32⟩
  | 42 => ⟨S_, .f32⟩
  | 43 => ⟨S4x32x256x288, .f32⟩
  | 44 => ⟨S4x32x256x288, .f32⟩
  | 45 => ⟨S4x32x256x288, .f32⟩
  | 46 => ⟨S4x32x256x288, .f32⟩
  | 47 => ⟨S4x32x256x288, .f32⟩
  | 48 => ⟨S384x32x5, .f32⟩
  | 49 => ⟨S4x32x256x5, .f32⟩
  | 50 => ⟨S4x256x384, .f32⟩
  | 51 => ⟨S4x384x256, .f32⟩
  | 52 => ⟨S1x384x1, .f32⟩
  | 53 => ⟨S4x384x256, .f32⟩
  | 54 => ⟨S4x384x256, .f32⟩
  | 55 => ⟨S4x12x32x256, .f32⟩
  | 56 => ⟨S4x32x256x12, .f32⟩
  | 57 => ⟨S4x32x256x300, .f32⟩
  | 58 => ⟨S4x32x256x1, .f32⟩
  | 59 => ⟨S4x32x256x1x12, .f32⟩
  | 60 => ⟨S4x32x256x12, .f32⟩
  | 61 => ⟨S4x32x256x300, .f32⟩
  | 62 => ⟨S4x32x256x1, .f32⟩
  | 63 => ⟨S4x32x256x1x12, .f32⟩
  | 64 => ⟨S4x32x256x12, .f32⟩
  | 65 => ⟨S4x32x256x300, .f32⟩
  | 66 => ⟨S16x256, .f32⟩
  | 67 => ⟨S256x256, .f32⟩
  | 68 => ⟨S256x256, .i32⟩
  | 69 => ⟨S256x256, .i32⟩
  | 70 => ⟨S_, .i32⟩
  | 71 => ⟨S256x256, .i32⟩
  | 72 => ⟨S256x256, .i32⟩
  | 73 => ⟨S256x256, .i1⟩
  | 74 => ⟨S256x256, .f32⟩
  | 75 => ⟨S_, .f32⟩
  | 76 => ⟨S256x256, .f32⟩
  | 77 => ⟨S256x256, .f32⟩
  | 78 => ⟨S256x256, .f32⟩
  | 79 => ⟨S_, .f32⟩
  | 80 => ⟨S256, .f32⟩
  | 81 => ⟨S_, .f32⟩
  | 82 => ⟨S256, .f32⟩
  | 83 => ⟨S256, .f32⟩
  | 84 => ⟨S256x1, .f32⟩
  | 85 => ⟨S256x256, .f32⟩
  | 86 => ⟨S256x256, .f32⟩
  | 87 => ⟨S256x256, .f32⟩
  | 88 => ⟨S_, .f32⟩
  | 89 => ⟨S256, .f32⟩
  | 90 => ⟨S256x1, .f32⟩
  | 91 => ⟨S256x256, .f32⟩
  | 92 => ⟨S256x256, .f32⟩
  | 93 => ⟨S4x32x288x256, .f32⟩
  | 94 => ⟨S4x32x256x288, .f32⟩
  | 95 => ⟨S4x32x256x288, .f32⟩
  | 96 => ⟨S4x32x288x256, .f32⟩
  | 97 => ⟨S4x32x256x288, .f32⟩
  | 98 => ⟨S4x32x256x288, .f32⟩
  | 99 => ⟨S4x32x256x288, .f32⟩
  | 100 => ⟨S_, .f32⟩
  | 101 => ⟨S4x32x256x288, .f32⟩
  | 102 => ⟨S4x32x256x288, .f32⟩
  | 103 => ⟨S4x32x256x288, .f32⟩
  | 104 => ⟨S_, .f32⟩
  | 105 => ⟨S4x32x256x288, .f32⟩
  | 106 => ⟨S4x32x256x288, .f32⟩
  | 107 => ⟨S4x32x256x288, .f32⟩
  | 108 => ⟨S4x32x256x288, .f32⟩
  | 109 => ⟨S4x32x256x288, .f32⟩
  | 110 => ⟨S384x32x5, .f32⟩
  | 111 => ⟨S4x32x256x5, .f32⟩
  | 112 => ⟨S4x256x384, .f32⟩
  | 113 => ⟨S4x384x256, .f32⟩
  | 114 => ⟨S1x384x1, .f32⟩
  | 115 => ⟨S4x384x256, .f32⟩
  | 116 => ⟨S4x384x256, .f32⟩
  | 117 => ⟨S4x12x32x256, .f32⟩
  | 118 => ⟨S4x32x256x12, .f32⟩
  | 119 => ⟨S4x32x256x300, .f32⟩
  | 120 => ⟨S4x32x256x1, .f32⟩
  | 121 => ⟨S4x32x256x1x12, .f32⟩
  | 122 => ⟨S4x32x256x12, .f32⟩
  | 123 => ⟨S4x32x256x300, .f32⟩
  | 124 => ⟨S4x32x256x1, .f32⟩
  | 125 => ⟨S4x32x256x1x12, .f32⟩
  | 126 => ⟨S4x32x256x12, .f32⟩
  | 127 => ⟨S4x32x256x300, .f32⟩
  | _ => ⟨S4x32x256x288, .f32⟩

abbrev hbmTy0_2 (i : Nat) : BufTy := match i % 128 with
  | 0 => ⟨S4x416x256x300, .f32⟩
  | 1 => ⟨S_, .f32⟩
  | 2 => ⟨S4x416x256x1, .f32⟩
  | 3 => ⟨S4x416x256x301, .f32⟩
  | 4 => ⟨S4x416x256x300, .f32⟩
  | 5 => ⟨S_, .f32⟩
  | 6 => ⟨S4x416x256x1, .f32⟩
  | 7 => ⟨S4x416x256x301, .f32⟩
  | 8 => ⟨S32x416x1x1, .f32⟩
  | 9 => ⟨S32x416, .f32⟩
  | 10 => ⟨S4x416x256x290, .f32⟩
  | 11 => ⟨S4x256x290x32, .f32⟩
  | 12 => ⟨S4x32x256x290, .f32⟩
  | 13 => ⟨S_, .f32⟩
  | 14 => ⟨S4x32x256x290, .f32⟩
  | 15 => ⟨S4x32x256x290, .f32⟩
  | 16 => ⟨S32x416x1x1, .f32⟩
  | 17 => ⟨S32x416, .f32⟩
  | 18 => ⟨S4x416x256x290, .f32⟩
  | 19 => ⟨S4x256x290x32, .f32⟩
  | 20 => ⟨S4x32x256x290, .f32⟩
  | 21 => ⟨S4x32x256x290, .f32⟩
  | 22 => ⟨S32x416x1x1, .f32⟩
  | 23 => ⟨S32x416, .f32⟩
  | 24 => ⟨S4x416x256x290, .f32⟩
  | 25 => ⟨S4x256x290x32, .f32⟩
  | 26 => ⟨S4x32x256x290, .f32⟩
  | 27 => ⟨S4x32x256x290, .f32⟩
  | 28 => ⟨S32x416x1x1, .f32⟩
  | 29 => ⟨S32x416, .f32⟩
  | 30 => ⟨S4x416x256x290, .f32⟩
  | 31 => ⟨S4x256x290x32, .f32⟩
  | 32 => ⟨S4x32x256x290, .f32⟩
  | 33 => ⟨S4x32x256x290, .f32⟩
  | 34 => ⟨S32x416x1x1, .f32⟩
  | 35 => ⟨S32x416, .f32⟩
  | 36 => ⟨S4x416x256x290, .f32⟩
  | 37 => ⟨S4x256x290x32, .f32⟩
  | 38 => ⟨S4x32x256x290, .f32⟩
  | 39 => ⟨S4x32x256x290, .f32⟩
  | 40 => ⟨S32x416x1x1, .f32⟩
  | 41 => ⟨S32x416, .f32⟩
  | 42 => ⟨S4x416x256x290, .f32⟩
  | 43 => ⟨S4x256x290x32, .f32⟩
  | 44 => ⟨S4x32x256x290, .f32⟩
  | 45 => ⟨S4x32x256x290, .f32⟩
  | 46 => ⟨S32x416x1x1, .f32⟩
  | 47 => ⟨S32x416, .f32⟩
  | 48 => ⟨S4x416x256x290, .f32⟩
  | 49 => ⟨S4x256x290x32, .f32⟩
  | 50 => ⟨S4x32x256x290, .f32⟩
  | 51 => ⟨S4x32x256x290, .f32⟩
  | 52 => ⟨S32x416x1x1, .f32⟩
  | 53 => ⟨S32x416, .f32⟩
  | 54 => ⟨S4x416x256x290, .f32⟩
  | 55 => ⟨S4x256x290x32, .f32⟩
  | 56 => ⟨S4x32x256x290, .f32⟩
  | 57 => ⟨S4x32x256x290, .f32⟩
  | 58 => ⟨S32x416x1x1, .f32⟩
  | 59 => ⟨S32x416, .f32⟩
  | 60 => ⟨S4x416x256x290, .f32⟩
  | 61 => ⟨S4x256x290x32, .f32⟩
  | 62 => ⟨S4x32x256x290, .f32⟩
  | 63 => ⟨S4x32x256x290, .f32⟩
  | 64 => ⟨S32x416x1x1, .f32⟩
  | 65 => ⟨S32x416, .f32⟩
  | 66 => ⟨S4x416x256x290, .f32⟩
  | 67 => ⟨S4x256x290x32, .f32⟩
  | 68 => ⟨S4x32x256x290, .f32⟩
  | 69 => ⟨S4x32x256x290, .f32⟩
  | 70 => ⟨S32x416x1x1, .f32⟩
  | 71 => ⟨S32x416, .f32⟩
  | 72 => ⟨S4x416x256x290, .f32⟩
  | 73 => ⟨S4x256x290x32, .f32⟩
  | 74 => ⟨S4x32x256x290, .f32⟩
  | 75 => ⟨S4x32x256x290, .f32⟩
  | 76 => ⟨S32x416x1x1, .f32⟩
  | 77 => ⟨S32x416, .f32⟩
  | 78 => ⟨S4x416x256x290, .f32⟩
  | 79 => ⟨S4x256x290x32, .f32⟩
  | 80 => ⟨S4x32x256x290, .f32⟩
  | 81 => ⟨S4x32x256x290, .f32⟩
  | 82 => ⟨S1x32x1x1, .f32⟩
  | 83 => ⟨S4x32x256x290, .f32⟩
  | 84 => ⟨S4x32x256x290, .f32⟩
  | 85 => ⟨S32x416x1x1, .f32⟩
  | 86 => ⟨S32x416, .f32⟩
  | 87 => ⟨S4x416x256x290, .f32⟩
  | 88 => ⟨S4x256x290x32, .f32⟩
  | 89 => ⟨S4x32x256x290, .f32⟩
  | 90 => ⟨S_, .f32⟩
  | 91 => ⟨S4x32x256x290, .f32⟩
  | 92 => ⟨S4x32x256x290, .f32⟩
  | 93 => ⟨S32x416x1x1, .f32⟩
  | 94 => ⟨S32x416, .f32⟩
  | 95 => ⟨S4x416x256x290, .f32⟩
  | 96 => ⟨S4x256x290x32, .f32⟩
  | 97 => ⟨S4x32x256x290, .f32⟩
  | 98 => ⟨S4x32x256x290, .f32⟩
  | 99 => ⟨S32x416x1x1, .f32⟩
  | 100 => ⟨S32x416, .f32⟩
  | 101 => ⟨S4x416x256x290, .f32⟩
  | 102 => ⟨S4x256x290x32, .f32⟩
  | 103 => ⟨S4x32x256x290, .f32⟩
  | 104 => ⟨S4x32x256x290, .f32⟩
  | 105 => ⟨S32x416x1x1, .f32⟩
  | 106 => ⟨S32x416, .f32⟩
  | 107 => ⟨S4x416x256x290, .f32⟩
  | 108 => ⟨S4x256x290x32, .f32⟩
  | 109 => ⟨S4x32x256x290, .f32⟩
  | 110 => ⟨S4x32x256x290, .f32⟩
  | 111 => ⟨S32x416x1x1, .f32⟩
  | 112 => ⟨S32x416, .f32⟩
  | 113 => ⟨S4x416x256x290, .f32⟩
  | 114 => ⟨S4x256x290x32, .f32⟩
  | 115 => ⟨S4x32x256x290, .f32⟩
  | 116 => ⟨S4x32x256x290, .f32⟩
  | 117 => ⟨S32x416x1x1, .f32⟩
  | 118 => ⟨S32x416, .f32⟩
  | 119 => ⟨S4x416x256x290, .f32⟩
  | 120 => ⟨S4x256x290x32, .f32⟩
  | 121 => ⟨S4x32x256x290, .f32⟩
  | 122 => ⟨S4x32x256x290, .f32⟩
  | 123 => ⟨S32x416x1x1, .f32⟩
  | 124 => ⟨S32x416, .f32⟩
  | 125 => ⟨S4x416x256x290, .f32⟩
  | 126 => ⟨S4x256x290x32, .f32⟩
  | 127 => ⟨S4x32x256x290, .f32⟩
  | _ => ⟨S4x32x256x288, .f32⟩

abbrev hbmTy0_3 (i : Nat) : BufTy := match i % 128 with
  | 0 => ⟨S4x32x256x290, .f32⟩
  | 1 => ⟨S32x416x1x1, .f32⟩
  | 2 => ⟨S32x416, .f32⟩
  | 3 => ⟨S4x416x256x290, .f32⟩
  | 4 => ⟨S4x256x290x32, .f32⟩
  | 5 => ⟨S4x32x256x290, .f32⟩
  | 6 => ⟨S4x32x256x290, .f32⟩
  | 7 => ⟨S32x416x1x1, .f32⟩
  | 8 => ⟨S32x416, .f32⟩
  | 9 => ⟨S4x416x256x290, .f32⟩
  | 10 => ⟨S4x256x290x32, .f32⟩
  | 11 => ⟨S4x32x256x290, .f32⟩
  | 12 => ⟨S4x32x256x290, .f32⟩
  | 13 => ⟨S32x416x1x1, .f32⟩
  | 14 => ⟨S32x416, .f32⟩
  | 15 => ⟨S4x416x256x290, .f32⟩
  | 16 => ⟨S4x256x290x32, .f32⟩
  | 17 => ⟨S4x32x256x290, .f32⟩
  | 18 => ⟨S4x32x256x290, .f32⟩
  | 19 => ⟨S32x416x1x1, .f32⟩
  | 20 => ⟨S32x416, .f32⟩
  | 21 => ⟨S4x416x256x290, .f32⟩
  | 22 => ⟨S4x256x290x32, .f32⟩
  | 23 => ⟨S4x32x256x290, .f32⟩
  | 24 => ⟨S4x32x256x290, .f32⟩
  | 25 => ⟨S32x416x1x1, .f32⟩
  | 26 => ⟨S32x416, .f32⟩
  | 27 => ⟨S4x416x256x290, .f32⟩
  | 28 => ⟨S4x256x290x32, .f32⟩
  | 29 => ⟨S4x32x256x290, .f32⟩
  | 30 => ⟨S4x32x256x290, .f32⟩
  | 31 => ⟨S1x32x1x1, .f32⟩
  | 32 => ⟨S4x32x256x290, .f32⟩
  | 33 => ⟨S4x32x256x290, .f32⟩
  | 34 => ⟨S32x416x1x1, .f32⟩
  | 35 => ⟨S32x416, .f32⟩
  | 36 => ⟨S4x416x256x290, .f32⟩
  | 37 => ⟨S4x256x290x32, .f32⟩
  | 38 => ⟨S4x32x256x290, .f32⟩
  | 39 => ⟨S_, .f32⟩
  | 40 => ⟨S4x32x256x290, .f32⟩
  | 41 => ⟨S4x32x256x290, .f32⟩
  | 42 => ⟨S32x416x1x1, .f32⟩
  | 43 => ⟨S32x416, .f32⟩
  | 44 => ⟨S4x416x256x290, .f32⟩
  | 45 => ⟨S4x256x290x32, .f32⟩
  | 46 => ⟨S4x32x256x290, .f32⟩
  | 47 => ⟨S4x32x256x290, .f32⟩
  | 48 => ⟨S32x416x1x1, .f32⟩
  | 49 => ⟨S32x416, .f32⟩
  | 50 => ⟨S4x416x256x290, .f32⟩
  | 51 => ⟨S4x256x290x32, .f32⟩
  | 52 => ⟨S4x32x256x290, .f32⟩
  | 53 => ⟨S4x32x256x290, .f32⟩
  | 54 => ⟨S32x416x1x1, .f32⟩
  | 55 => ⟨S32x416, .f32⟩
  | 56 => ⟨S4x416x256x290, .f32⟩
  | 57 => ⟨S4x256x290x32, .f32⟩
  | 58 => ⟨S4x32x256x290, .f32⟩
  | 59 => ⟨S4x32x256x290, .f32⟩
  | 60 => ⟨S32x416x1x1, .f32⟩
  | 61 => ⟨S32x416, .f32⟩
  | 62 => ⟨S4x416x256x290, .f32⟩
  | 63 => ⟨S4x256x290x32, .f32⟩
  | 64 => ⟨S4x32x256x290, .f32⟩
  | 65 => ⟨S4x32x256x290, .f32⟩
  | 66 => ⟨S32x416x1x1, .f32⟩
  | 67 => ⟨S32x416, .f32⟩
  | 68 => ⟨S4x416x256x290, .f32⟩
  | 69 => ⟨S4x256x290x32, .f32⟩
  | 70 => ⟨S4x32x256x290, .f32⟩
  | 71 => ⟨S4x32x256x290, .f32⟩
  | 72 => ⟨S32x416x1x1, .f32⟩
  | 73 => ⟨S32x416, .f32⟩
  | 74 => ⟨S4x416x256x290, .f32⟩
  | 75 => ⟨S4x256x290x32, .f32⟩
  | 76 => ⟨S4x32x256x290, .f32⟩
  | 77 => ⟨S4x32x256x290, .f32⟩
  | 78 => ⟨S32x416x1x1, .f32⟩
  | 79 => ⟨S32x416, .f32⟩
  | 80 => ⟨S4x416x256x290, .f32⟩
  | 81 => ⟨S4x256x290x32, .f32⟩
  | 82 => ⟨S4x32x256x290, .f32⟩
  | 83 => ⟨S4x32x256x290, .f32⟩
  | 84 => ⟨S32x416x1x1, .f32⟩
  | 85 => ⟨S32x416, .f32⟩
  | 86 => ⟨S4x416x256x290, .f32⟩
  | 87 => ⟨S4x256x290x32, .f32⟩
  | 88 => ⟨S4x32x256x290, .f32⟩
  | 89 => ⟨S4x32x256x290, .f32⟩
  | 90 => ⟨S32x416x1x1, .f32⟩
  | 91 => ⟨S32x416, .f32⟩
  | 92 => ⟨S4x416x256x290, .f32⟩
  | 93 => ⟨S4x256x290x32, .f32⟩
  | 94 => ⟨S4x32x256x290, .f32⟩
  | 95 => ⟨S4x32x256x290, .f32⟩
  | 96 => ⟨S32x416x1x1, .f32⟩
  | 97 => ⟨S32x416, .f32⟩
  | 98 => ⟨S4x416x256x290, .f32⟩
  | 99 => ⟨S4x256x290x32, .f32⟩
  | 100 => ⟨S4x32x256x290, .f32⟩
  | 101 => ⟨S4x32x256x290, .f32⟩
  | 102 => ⟨S32x416x1x1, .f32⟩
  | 103 => ⟨S32x416, .f32⟩
  | 104 => ⟨S4x416x256x290, .f32⟩
  | 105 => ⟨S4x256x290x32, .f32⟩
  | 106 => ⟨S4x32x256x290, .f32⟩
  | 107 => ⟨S4x32x256x290, .f32⟩
  | 108 => ⟨S1x32x1x1, .f32⟩
  | 109 => ⟨S4x32x256x290, .f32⟩
  | 110 => ⟨S4x32x256x290, .f32⟩
  | 111 => ⟨S32x416x1x1, .f32⟩
  | 112 => ⟨S32x416, .f32⟩
  | 113 => ⟨S4x416x256x290, .f32⟩
  | 114 => ⟨S4x256x290x32, .f32⟩
  | 115 => ⟨S4x32x256x290, .f32⟩
  | 116 => ⟨S_, .f32⟩
  | 117 => ⟨S4x32x256x290, .f32⟩
  | 118 => ⟨S4x32x256x290, .f32⟩
  | 119 => ⟨S32x416x1x1, .f32⟩
  | 120 => ⟨S32x416, .f32⟩
  | 121 => ⟨S4x416x256x290, .f32⟩
  | 122 => ⟨S4x256x290x32, .f32⟩
  | 123 => ⟨S4x32x256x290, .f32⟩
  | 124 => ⟨S4x32x256x290, .f32⟩
  | 125 => ⟨S32x416x1x1, .f32⟩
  | 126 => ⟨S32x416, .f32⟩
  | 127 => ⟨S4x416x256x290, .f32⟩
  | _ => ⟨S4x32x256x288, .f32⟩

abbrev hbmTy0_4 (i : Nat) : BufTy := match i % 128 with
  | 0 => ⟨S4x256x290x32, .f32⟩
  | 1 => ⟨S4x32x256x290, .f32⟩
  | 2 => ⟨S4x32x256x290, .f32⟩
  | 3 => ⟨S32x416x1x1, .f32⟩
  | 4 => ⟨S32x416, .f32⟩
  | 5 => ⟨S4x416x256x290, .f32⟩
  | 6 => ⟨S4x256x290x32, .f32⟩
  | 7 => ⟨S4x32x256x290, .f32⟩
  | 8 => ⟨S4x32x256x290, .f32⟩
  | 9 => ⟨S32x416x1x1, .f32⟩
  | 10 => ⟨S32x416, .f32⟩
  | 11 => ⟨S4x416x256x290, .f32⟩
  | 12 => ⟨S4x256x290x32, .f32⟩
  | 13 => ⟨S4x32x256x290, .f32⟩
  | 14 => ⟨S4x32x256x290, .f32⟩
  | 15 => ⟨S32x416x1x1, .f32⟩
  | 16 => ⟨S32x416, .f32⟩
  | 17 => ⟨S4x416x256x290, .f32⟩
  | 18 => ⟨S4x256x290x32, .f32⟩
  | 19 => ⟨S4x32x256x290, .f32⟩
  | 20 => ⟨S4x32x256x290, .f32⟩
  | 21 => ⟨S32x416x1x1, .f32⟩
  | 22 => ⟨S32x416, .f32⟩
  | 23 => ⟨S4x416x256x290, .f32⟩
  | 24 => ⟨S4x256x290x32, .f32⟩
  | 25 => ⟨S4x32x256x290, .f32⟩
  | 26 => ⟨S4x32x256x290, .f32⟩
  | 27 => ⟨S32x416x1x1, .f32⟩
  | 28 => ⟨S32x416, .f32⟩
  | 29 => ⟨S4x416x256x290, .f32⟩
  | 30 => ⟨S4x256x290x32, .f32⟩
  | 31 => ⟨S4x32x256x290, .f32⟩
  | 32 => ⟨S4x32x256x290, .f32⟩
  | 33 => ⟨S32x416x1x1, .f32⟩
  | 34 => ⟨S32x416, .f32⟩
  | 35 => ⟨S4x416x256x290, .f32⟩
  | 36 => ⟨S4x256x290x32, .f32⟩
  | 37 => ⟨S4x32x256x290, .f32⟩
  | 38 => ⟨S4x32x256x290, .f32⟩
  | 39 => ⟨S32x416x1x1, .f32⟩
  | 40 => ⟨S32x416, .f32⟩
  | 41 => ⟨S4x416x256x290, .f32⟩
  | 42 => ⟨S4x256x290x32, .f32⟩
  | 43 => ⟨S4x32x256x290, .f32⟩
  | 44 => ⟨S4x32x256x290, .f32⟩
  | 45 => ⟨S32x416x1x1, .f32⟩
  | 46 => ⟨S32x416, .f32⟩
  | 47 => ⟨S4x416x256x290, .f32⟩
  | 48 => ⟨S4x256x290x32, .f32⟩
  | 49 => ⟨S4x32x256x290, .f32⟩
  | 50 => ⟨S4x32x256x290, .f32⟩
  | 51 => ⟨S32x416x1x1, .f32⟩
  | 52 => ⟨S32x416, .f32⟩
  | 53 => ⟨S4x416x256x290, .f32⟩
  | 54 => ⟨S4x256x290x32, .f32⟩
  | 55 => ⟨S4x32x256x290, .f32⟩
  | 56 => ⟨S4x32x256x290, .f32⟩
  | 57 => ⟨S1x32x1x1, .f32⟩
  | 58 => ⟨S4x32x256x290, .f32⟩
  | 59 => ⟨S4x32x256x290, .f32⟩
  | 60 => ⟨S4x32x256x290, .f32⟩
  | 61 => ⟨S4x32x256x278, .f32⟩
  | 62 => ⟨S32x32, .f32⟩
  | 63 => ⟨S4x256x278x32, .f32⟩
  | 64 => ⟨S4x32x256x278, .f32⟩
  | 65 => ⟨S1x32x1x1, .f32⟩
  | 66 => ⟨S4x32x256x278, .f32⟩
  | 67 => ⟨S4x32x256x278, .f32⟩
  | 68 => ⟨S4x32x256x12, .f32⟩
  | 69 => ⟨S32x32, .f32⟩
  | 70 => ⟨S4x256x12x32, .f32⟩
  | 71 => ⟨S4x32x256x12, .f32⟩
  | 72 => ⟨S1x32x1x1, .f32⟩
  | 73 => ⟨S4x32x256x12, .f32⟩
  | 74 => ⟨S4x32x256x12, .f32⟩
  | 75 => ⟨S4x32x256x290, .f32⟩
  | 76 => ⟨S4x32x256x12, .f32⟩
  | 77 => ⟨S32x32, .f32⟩
  | 78 => ⟨S4x256x12x32, .f32⟩
  | 79 => ⟨S4x32x256x12, .f32⟩
  | 80 => ⟨S1x32x1x1, .f32⟩
  | 81 => ⟨S4x32x256x12, .f32⟩
  | 82 => ⟨S4x32x256x12, .f32⟩
  | _ => ⟨S4x32x256x288, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x32x256x288, .f32⟩

abbrev bufTy : (tb : Table) → Fin (tcTables nBuf tb) → BufTy
  | .hbm, ⟨i, _⟩ => hbmTy i
  | _, _ => ⟨S4x32x256x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_call0_call0_cst : Ref sig .tc := ⟨.hbm, 24, rfl⟩
abbrev main_call0_call0_v0 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_call0_cst : Ref sig .tc := ⟨.hbm, 31, rfl⟩
abbrev main_call1_call0_v0 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_6 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_11 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call2_call0_cst : Ref sig .tc := ⟨.hbm, 131, rfl⟩
abbrev main_call2_call0_v0 : Ref sig .tc := ⟨.hbm, 132, rfl⟩
abbrev main_v96 : Ref sig .tc := ⟨.hbm, 133, rfl⟩
abbrev main_cst_12 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_call3_call0_cst : Ref sig .tc := ⟨.hbm, 138, rfl⟩
abbrev main_call3_call0_v0 : Ref sig .tc := ⟨.hbm, 139, rfl⟩
abbrev main_v100 : Ref sig .tc := ⟨.hbm, 140, rfl⟩
abbrev main_cst_13 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_14 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_15 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_16 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_17 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_c : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_18 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_19 : Ref sig .tc := ⟨.hbm, 207, rfl⟩
abbrev main_v160 : Ref sig .tc := ⟨.hbm, 208, rfl⟩
abbrev main_cst_20 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_21 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_22 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_cst_23 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_cst_24 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_cst_25 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_cst_26 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_cst_27 : Ref sig .tc := ⟨.hbm, 346, rfl⟩
abbrev main_v291 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_v316 : Ref sig .tc := ⟨.hbm, 372, rfl⟩
abbrev main_v317 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_v328 : Ref sig .tc := ⟨.hbm, 384, rfl⟩
abbrev main_v329 : Ref sig .tc := ⟨.hbm, 385, rfl⟩
abbrev main_v330 : Ref sig .tc := ⟨.hbm, 386, rfl⟩
abbrev main_v331 : Ref sig .tc := ⟨.hbm, 387, rfl⟩
abbrev main_v332 : Ref sig .tc := ⟨.hbm, 388, rfl⟩
abbrev main_v333 : Ref sig .tc := ⟨.hbm, 389, rfl⟩
abbrev main_v334 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_v338 : Ref sig .tc := ⟨.hbm, 394, rfl⟩
abbrev main_v339 : Ref sig .tc := ⟨.hbm, 395, rfl⟩
abbrev main_v340 : Ref sig .tc := ⟨.hbm, 396, rfl⟩
abbrev main_v341 : Ref sig .tc := ⟨.hbm, 397, rfl⟩
abbrev main_v342 : Ref sig .tc := ⟨.hbm, 398, rfl⟩
abbrev main_v343 : Ref sig .tc := ⟨.hbm, 399, rfl⟩
abbrev main_v344 : Ref sig .tc := ⟨.hbm, 400, rfl⟩
abbrev main_v345 : Ref sig .tc := ⟨.hbm, 401, rfl⟩
abbrev main_v346 : Ref sig .tc := ⟨.hbm, 402, rfl⟩
abbrev main_v347 : Ref sig .tc := ⟨.hbm, 403, rfl⟩
abbrev main_v348 : Ref sig .tc := ⟨.hbm, 404, rfl⟩
abbrev main_v349 : Ref sig .tc := ⟨.hbm, 405, rfl⟩
abbrev main_v350 : Ref sig .tc := ⟨.hbm, 406, rfl⟩
abbrev main_v351 : Ref sig .tc := ⟨.hbm, 407, rfl⟩
abbrev main_v352 : Ref sig .tc := ⟨.hbm, 408, rfl⟩
abbrev main_v353 : Ref sig .tc := ⟨.hbm, 409, rfl⟩
abbrev main_v354 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_cst_28 : Ref sig .tc := ⟨.hbm, 423, rfl⟩
abbrev main_v367 : Ref sig .tc := ⟨.hbm, 424, rfl⟩
abbrev main_v368 : Ref sig .tc := ⟨.hbm, 425, rfl⟩
abbrev main_v369 : Ref sig .tc := ⟨.hbm, 426, rfl⟩
abbrev main_v370 : Ref sig .tc := ⟨.hbm, 427, rfl⟩
abbrev main_v371 : Ref sig .tc := ⟨.hbm, 428, rfl⟩
abbrev main_v372 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_v376 : Ref sig .tc := ⟨.hbm, 433, rfl⟩
abbrev main_v377 : Ref sig .tc := ⟨.hbm, 434, rfl⟩
abbrev main_v378 : Ref sig .tc := ⟨.hbm, 435, rfl⟩
abbrev main_v379 : Ref sig .tc := ⟨.hbm, 436, rfl⟩
abbrev main_v380 : Ref sig .tc := ⟨.hbm, 437, rfl⟩
abbrev main_v381 : Ref sig .tc := ⟨.hbm, 438, rfl⟩
abbrev main_v382 : Ref sig .tc := ⟨.hbm, 439, rfl⟩
abbrev main_v383 : Ref sig .tc := ⟨.hbm, 440, rfl⟩
abbrev main_v384 : Ref sig .tc := ⟨.hbm, 441, rfl⟩
abbrev main_v385 : Ref sig .tc := ⟨.hbm, 442, rfl⟩
abbrev main_v386 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_v393 : Ref sig .tc := ⟨.hbm, 450, rfl⟩
abbrev main_v394 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_v406 : Ref sig .tc := ⟨.hbm, 463, rfl⟩
abbrev main_v407 : Ref sig .tc := ⟨.hbm, 464, rfl⟩
abbrev main_v408 : Ref sig .tc := ⟨.hbm, 465, rfl⟩
abbrev main_v409 : Ref sig .tc := ⟨.hbm, 466, rfl⟩
abbrev main_v410 : Ref sig .tc := ⟨.hbm, 467, rfl⟩
abbrev main_v411 : Ref sig .tc := ⟨.hbm, 468, rfl⟩
abbrev main_v412 : Ref sig .tc := ⟨.hbm, 469, rfl⟩
abbrev main_v413 : Ref sig .tc := ⟨.hbm, 470, rfl⟩
abbrev main_v414 : Ref sig .tc := ⟨.hbm, 471, rfl⟩
abbrev main_v415 : Ref sig .tc := ⟨.hbm, 472, rfl⟩
abbrev main_v416 : Ref sig .tc := ⟨.hbm, 473, rfl⟩
abbrev main_v417 : Ref sig .tc := ⟨.hbm, 474, rfl⟩
abbrev main_v418 : Ref sig .tc := ⟨.hbm, 475, rfl⟩
abbrev main_v419 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩
abbrev main_v424 : Ref sig .tc := ⟨.hbm, 481, rfl⟩
abbrev main_v425 : Ref sig .tc := ⟨.hbm, 482, rfl⟩
abbrev main_v426 : Ref sig .tc := ⟨.hbm, 483, rfl⟩
abbrev main_v427 : Ref sig .tc := ⟨.hbm, 484, rfl⟩
abbrev main_v428 : Ref sig .tc := ⟨.hbm, 485, rfl⟩
abbrev main_v429 : Ref sig .tc := ⟨.hbm, 486, rfl⟩
abbrev main_v430 : Ref sig .tc := ⟨.hbm, 487, rfl⟩
abbrev main_v431 : Ref sig .tc := ⟨.hbm, 488, rfl⟩
abbrev main_v432 : Ref sig .tc := ⟨.hbm, 489, rfl⟩
abbrev main_v433 : Ref sig .tc := ⟨.hbm, 490, rfl⟩
abbrev main_v434 : Ref sig .tc := ⟨.hbm, 491, rfl⟩
abbrev main_v435 : Ref sig .tc := ⟨.hbm, 492, rfl⟩
abbrev main_v436 : Ref sig .tc := ⟨.hbm, 493, rfl⟩
abbrev main_v437 : Ref sig .tc := ⟨.hbm, 494, rfl⟩
abbrev main_v438 : Ref sig .tc := ⟨.hbm, 495, rfl⟩
abbrev main_v439 : Ref sig .tc := ⟨.hbm, 496, rfl⟩
abbrev main_v440 : Ref sig .tc := ⟨.hbm, 497, rfl⟩
abbrev main_v441 : Ref sig .tc := ⟨.hbm, 498, rfl⟩
abbrev main_v442 : Ref sig .tc := ⟨.hbm, 499, rfl⟩
abbrev main_cst_29 : Ref sig .tc := ⟨.hbm, 500, rfl⟩
abbrev main_v443 : Ref sig .tc := ⟨.hbm, 501, rfl⟩
abbrev main_v444 : Ref sig .tc := ⟨.hbm, 502, rfl⟩
abbrev main_v445 : Ref sig .tc := ⟨.hbm, 503, rfl⟩
abbrev main_v446 : Ref sig .tc := ⟨.hbm, 504, rfl⟩
abbrev main_v447 : Ref sig .tc := ⟨.hbm, 505, rfl⟩
abbrev main_v448 : Ref sig .tc := ⟨.hbm, 506, rfl⟩
abbrev main_v449 : Ref sig .tc := ⟨.hbm, 507, rfl⟩
abbrev main_v450 : Ref sig .tc := ⟨.hbm, 508, rfl⟩
abbrev main_v451 : Ref sig .tc := ⟨.hbm, 509, rfl⟩
abbrev main_v452 : Ref sig .tc := ⟨.hbm, 510, rfl⟩
abbrev main_v453 : Ref sig .tc := ⟨.hbm, 511, rfl⟩
abbrev main_v454 : Ref sig .tc := ⟨.hbm, 512, rfl⟩
abbrev main_v455 : Ref sig .tc := ⟨.hbm, 513, rfl⟩
abbrev main_v456 : Ref sig .tc := ⟨.hbm, 514, rfl⟩
abbrev main_v457 : Ref sig .tc := ⟨.hbm, 515, rfl⟩
abbrev main_v458 : Ref sig .tc := ⟨.hbm, 516, rfl⟩
abbrev main_v459 : Ref sig .tc := ⟨.hbm, 517, rfl⟩
abbrev main_v460 : Ref sig .tc := ⟨.hbm, 518, rfl⟩
abbrev main_v461 : Ref sig .tc := ⟨.hbm, 519, rfl⟩
abbrev main_v462 : Ref sig .tc := ⟨.hbm, 520, rfl⟩
abbrev main_v463 : Ref sig .tc := ⟨.hbm, 521, rfl⟩
abbrev main_v464 : Ref sig .tc := ⟨.hbm, 522, rfl⟩
abbrev main_v465 : Ref sig .tc := ⟨.hbm, 523, rfl⟩
abbrev main_v466 : Ref sig .tc := ⟨.hbm, 524, rfl⟩
abbrev main_v467 : Ref sig .tc := ⟨.hbm, 525, rfl⟩
abbrev main_v468 : Ref sig .tc := ⟨.hbm, 526, rfl⟩
abbrev main_v469 : Ref sig .tc := ⟨.hbm, 527, rfl⟩
abbrev main_v470 : Ref sig .tc := ⟨.hbm, 528, rfl⟩
abbrev main_v471 : Ref sig .tc := ⟨.hbm, 529, rfl⟩
abbrev main_v472 : Ref sig .tc := ⟨.hbm, 530, rfl⟩
abbrev main_v473 : Ref sig .tc := ⟨.hbm, 531, rfl⟩
abbrev main_v474 : Ref sig .tc := ⟨.hbm, 532, rfl⟩
abbrev main_v475 : Ref sig .tc := ⟨.hbm, 533, rfl⟩
abbrev main_v476 : Ref sig .tc := ⟨.hbm, 534, rfl⟩
abbrev main_v477 : Ref sig .tc := ⟨.hbm, 535, rfl⟩
abbrev main_v478 : Ref sig .tc := ⟨.hbm, 536, rfl⟩
abbrev main_v479 : Ref sig .tc := ⟨.hbm, 537, rfl⟩
abbrev main_v480 : Ref sig .tc := ⟨.hbm, 538, rfl⟩
abbrev main_v481 : Ref sig .tc := ⟨.hbm, 539, rfl⟩
abbrev main_v482 : Ref sig .tc := ⟨.hbm, 540, rfl⟩
abbrev main_v483 : Ref sig .tc := ⟨.hbm, 541, rfl⟩
abbrev main_v484 : Ref sig .tc := ⟨.hbm, 542, rfl⟩
abbrev main_v485 : Ref sig .tc := ⟨.hbm, 543, rfl⟩
abbrev main_v486 : Ref sig .tc := ⟨.hbm, 544, rfl⟩
abbrev main_v487 : Ref sig .tc := ⟨.hbm, 545, rfl⟩
abbrev main_v488 : Ref sig .tc := ⟨.hbm, 546, rfl⟩
abbrev main_v489 : Ref sig .tc := ⟨.hbm, 547, rfl⟩
abbrev main_v490 : Ref sig .tc := ⟨.hbm, 548, rfl⟩
abbrev main_v491 : Ref sig .tc := ⟨.hbm, 549, rfl⟩
abbrev main_v492 : Ref sig .tc := ⟨.hbm, 550, rfl⟩
abbrev main_v493 : Ref sig .tc := ⟨.hbm, 551, rfl⟩
abbrev main_v494 : Ref sig .tc := ⟨.hbm, 552, rfl⟩
abbrev main_v495 : Ref sig .tc := ⟨.hbm, 553, rfl⟩
abbrev main_v496 : Ref sig .tc := ⟨.hbm, 554, rfl⟩
abbrev main_v497 : Ref sig .tc := ⟨.hbm, 555, rfl⟩
abbrev main_v498 : Ref sig .tc := ⟨.hbm, 556, rfl⟩
abbrev main_v499 : Ref sig .tc := ⟨.hbm, 557, rfl⟩
abbrev main_v500 : Ref sig .tc := ⟨.hbm, 558, rfl⟩
abbrev main_v501 : Ref sig .tc := ⟨.hbm, 559, rfl⟩
abbrev main_v502 : Ref sig .tc := ⟨.hbm, 560, rfl⟩
abbrev main_v503 : Ref sig .tc := ⟨.hbm, 561, rfl⟩
abbrev main_v504 : Ref sig .tc := ⟨.hbm, 562, rfl⟩
abbrev main_v505 : Ref sig .tc := ⟨.hbm, 563, rfl⟩
abbrev main_v506 : Ref sig .tc := ⟨.hbm, 564, rfl⟩
abbrev main_v507 : Ref sig .tc := ⟨.hbm, 565, rfl⟩
abbrev main_v508 : Ref sig .tc := ⟨.hbm, 566, rfl⟩
abbrev main_v509 : Ref sig .tc := ⟨.hbm, 567, rfl⟩
abbrev main_v510 : Ref sig .tc := ⟨.hbm, 568, rfl⟩
abbrev main_v511 : Ref sig .tc := ⟨.hbm, 569, rfl⟩
abbrev main_v512 : Ref sig .tc := ⟨.hbm, 570, rfl⟩
abbrev main_v513 : Ref sig .tc := ⟨.hbm, 571, rfl⟩
abbrev main_v514 : Ref sig .tc := ⟨.hbm, 572, rfl⟩
abbrev main_v515 : Ref sig .tc := ⟨.hbm, 573, rfl⟩
abbrev main_v516 : Ref sig .tc := ⟨.hbm, 574, rfl⟩
abbrev main_v517 : Ref sig .tc := ⟨.hbm, 575, rfl⟩
abbrev main_v518 : Ref sig .tc := ⟨.hbm, 576, rfl⟩
abbrev main_v519 : Ref sig .tc := ⟨.hbm, 577, rfl⟩
abbrev main_v520 : Ref sig .tc := ⟨.hbm, 578, rfl⟩
abbrev main_v521 : Ref sig .tc := ⟨.hbm, 579, rfl⟩
abbrev main_v522 : Ref sig .tc := ⟨.hbm, 580, rfl⟩
abbrev main_v523 : Ref sig .tc := ⟨.hbm, 581, rfl⟩
abbrev main_v524 : Ref sig .tc := ⟨.hbm, 582, rfl⟩
abbrev main_v525 : Ref sig .tc := ⟨.hbm, 583, rfl⟩
abbrev main_v526 : Ref sig .tc := ⟨.hbm, 584, rfl⟩
abbrev main_v527 : Ref sig .tc := ⟨.hbm, 585, rfl⟩
abbrev main_v528 : Ref sig .tc := ⟨.hbm, 586, rfl⟩
abbrev main_v529 : Ref sig .tc := ⟨.hbm, 587, rfl⟩
abbrev main_v530 : Ref sig .tc := ⟨.hbm, 588, rfl⟩
abbrev main_v531 : Ref sig .tc := ⟨.hbm, 589, rfl⟩
abbrev main_v532 : Ref sig .tc := ⟨.hbm, 590, rfl⟩
abbrev main_v533 : Ref sig .tc := ⟨.hbm, 591, rfl⟩
abbrev main_v534 : Ref sig .tc := ⟨.hbm, 592, rfl⟩
abbrev main_v535 : Ref sig .tc := ⟨.hbm, 593, rfl⟩
abbrev main_v536 : Ref sig .tc := ⟨.hbm, 594, rfl⟩

abbrev nD : Nat := 1
abbrev τ : Topo := Topo.v7x

variable {F : FTy → Type} [FloatOps F]
-- ==== Proof.RunIdeal.Region1.lean ====
/- The normalisation chain (call 1) at the entry contents `V`: its body, its windows and its pipeline data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxHeartbeats 2000000
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__chain_kernel` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S1x256x288 := Rect.unit (s := S1x256x288) ![0, 0, 0] S1x256x288.size inb_S1x256x288_S1x256x288_0_0_0
abbrev r1_1 : Rect S288x288 := Rect.unit (s := S288x288) ![0, 0] S288x288.size inb_S288x288_S288x288_0_0
abbrev r1_2 : Rect S256x256 := Rect.unit (s := S256x256) ![0, 0] S256x256.size inb_S256x256_S256x256_0_0
abbrev r1_3 : Rect S1x256x300 := Rect.unit (s := S1x256x300) ![0, 0, 0] S1x256x300.size inb_S1x256x300_S1x256x300_0_0_0
abbrev r1_4 : Rect S1x23x256 := Rect.unit (s := S1x23x256) ![0, 0, 0] S1x23x256.size inb_S1x23x256_S1x23x256_0_0_0

/-! ## What the body leaves in each output window's buffer -/

/-! ### Values of the body that the stores' payloads, spelt out, would write more than once

    Each is a vector the body binds (often a part call's result), stated over the input windows' blocks and
    numbered on from the skeleton's payload functions (`k1_pay54` …, after `k1_pay53`), so that
    `out1_W` and the values after it name it instead of spelling it out (`unfold_out out1_W` opens a canon
    with them, `unfold_payloads` opens them with the payloads); the comment after each is the printed function's
    name for the value (a count appended where that name is bound again). -/

def k1_pay54 (x0 : Vec F S1x256x288 .f32) (x1 : Vec F S288x288 .bf16) (x2 : Vec F S288x288 .bf16) (x3 : Vec F S288x288 .bf16) (x4 : Vec F S256x256 .bf16) : FVec F S256x288 .f32 :=
  k1_pay10 (View.ld x0 r1_0) (View.ld x1 r1_1) -- `v5`
def k1_pay55 (x0 : Vec F S1x256x288 .f32) (x1 : Vec F S288x288 .bf16) (x2 : Vec F S288x288 .bf16) (x3 : Vec F S288x288 .bf16) (x4 : Vec F S256x256 .bf16) : FVec F S256x288 .f32 :=
  k1_pay13 (View.ld x0 r1_0) (View.ld x1 r1_1) -- `v18`
def k1_pay56 (x0 : Vec F S1x256x288 .f32) (x1 : Vec F S288x288 .bf16) (x2 : Vec F S288x288 .bf16) (x3 : Vec F S288x288 .bf16) (x4 : Vec F S256x256 .bf16) : FVec F S256x288 .f32 :=
  k1_pay17 (View.ld x0 r1_0) (View.ld x1 r1_1) (View.ld x2 r1_1) -- `v34`
def k1_pay57 (x0 : Vec F S1x256x288 .f32) (x1 : Vec F S288x288 .bf16) (x2 : Vec F S288x288 .bf16) (x3 : Vec F S288x288 .bf16) (x4 : Vec F S256x256 .bf16) : FVec F S288x288 .bf16 :=
  k1_pay19 (View.ld x3 r1_1) -- `v37`
def k1_pay58 (x0 : Vec F S1x256x288 .f32) (x1 : Vec F S288x288 .bf16) (x2 : Vec F S288x288 .bf16) (x3 : Vec F S288x288 .bf16) (x4 : Vec F S256x256 .bf16) : FVec F S256x288 .f32 :=
  k1_pay20 (View.ld x0 r1_0) (View.ld x1 r1_1) (View.ld x2 r1_1) (View.ld x3 r1_1) -- `v39`
def k1_pay59 (x0 : Vec F S1x256x288 .f32) (x1 : Vec F S288x288 .bf16) (x2 : Vec F S288x288 .bf16) (x3 : Vec F S288x288 .bf16) (x4 : Vec F S256x256 .bf16) : FVec F S256x288 .f32 :=
  k1_pay21 (View.ld x0 r1_0) (View.ld x1 r1_1) (View.ld x2 r1_1) -- `v40`
def k1_pay60 (x0 : Vec F S1x256x288 .f32) (x1 : Vec F S288x288 .bf16) (x2 : Vec F S288x288 .bf16) (x3 : Vec F S288x288 .bf16) (x4 : Vec F S256x256 .bf16) : FVec F S256x300 .f32 :=
  k1_pay37 (k1_pay15 (View.ld x0 r1_0) (View.ld x1 r1_1) (View.ld x2 r1_1)) -- `v95`
def k1_pay61 (x0 : Vec F S1x256x288 .f32) (x1 : Vec F S288x288 .bf16) (x2 : Vec F S288x288 .bf16) (x3 : Vec F S288x288 .bf16) (x4 : Vec F S256x256 .bf16) : FVec F S256x300 .f32 :=
  k1_pay38 (k1_pay18 (View.ld x0 r1_0) (View.ld x1 r1_1) (View.ld x2 r1_1)) -- `v97`
def k1_pay62 (x0 : Vec F S1x256x288 .f32) (x1 : Vec F S288x288 .bf16) (x2 : Vec F S288x288 .bf16) (x3 : Vec F S288x288 .bf16) (x4 : Vec F S256x256 .bf16) : FVec F S256x300 .f32 :=
  k1_pay39 (k1_pay58 x0 x1 x2 x3 x4) -- `v101`
def k1_pay63 (x0 : Vec F S1x256x288 .f32) (x1 : Vec F S288x288 .bf16) (x2 : Vec F S288x288 .bf16) (x3 : Vec F S288x288 .bf16) (x4 : Vec F S256x256 .bf16) : FVec F S256x300 .f32 :=
  k1_pay40 (k1_pay24 (k1_pay57 x0 x1 x2 x3 x4) (k1_pay58 x0 x1 x2 x3 x4) (k1_pay59 x0 x1 x2 x3 x4)) -- `v105`
def k1_pay64 (x0 : Vec F S1x256x288 .f32) (x1 : Vec F S288x288 .bf16) (x2 : Vec F S288x288 .bf16) (x3 : Vec F S288x288 .bf16) (x4 : Vec F S256x256 .bf16) : FVec F S256x300 .f32 :=
  k1_pay41 (k1_pay26 (k1_pay56 x0 x1 x2 x3 x4) (k1_pay57 x0 x1 x2 x3 x4) (k1_pay58 x0 x1 x2 x3 x4) (k1_pay59 x0 x1 x2 x3 x4) (View.ld x4 r1_2)) -- `v109`
def k1_pay65 (x0 : Vec F S1x256x288 .f32) (x1 : Vec F S288x288 .bf16) (x2 : Vec F S288x288 .bf16) (x3 : Vec F S288x288 .bf16) (x4 : Vec F S256x256 .bf16) : FVec F S256x300 .f32 :=
  k1_pay42 (k1_pay29 (k1_pay56 x0 x1 x2 x3 x4) (k1_pay57 x0 x1 x2 x3 x4) (k1_pay58 x0 x1 x2 x3 x4) (k1_pay59 x0 x1 x2 x3 x4) (View.ld x4 r1_2)) -- `v113`

/-- Window 5's staging buffer after the body, from the input windows' blocks. -/
def out1_5 (x0 : Vec F S1x256x288 .f32) (x1 : Vec F S288x288 .bf16) (x2 : Vec F S288x288 .bf16) (x3 : Vec F S288x288 .bf16) (x4 : Vec F S256x256 .bf16) : Vec F S1x256x288 .bf16 :=
  View.canon [⟨r1_0, k1_pay30 (k1_pay12 (View.ld x0 r1_0) (View.ld x1 r1_1))⟩]

/-- Its stores cover the buffer. -/
theorem cover1_5 (p0 : Vec F S1x256x288 .bf16) (y : S1x256x288.Idx) :
    ∃ pc ∈ ([⟨r1_0, p0⟩] : List (View.Piece (Elt F) S1x256x288 .bf16)), y ∈ pc.1.set :=
  View.cover_of_tiled [⟨r1_0, p0⟩] S1x256x288.size (by rfl) y

/-- Window 6's staging buffer after the body, from the input windows' blocks. -/
def out1_6 (x0 : Vec F S1x256x288 .f32) (x1 : Vec F S288x288 .bf16) (x2 : Vec F S288x288 .bf16) (x3 : Vec F S288x288 .bf16) (x4 : Vec F S256x256 .bf16) : Vec F S1x256x300 .bf16 :=
  View.canon [⟨r1_3, k1_pay43 (k1_pay54 x0 x1 x2 x3 x4)⟩]

/-- Its stores cover the buffer. -/
theorem cover1_6 (p0 : Vec F S1x256x300 .bf16) (y : S1x256x300.Idx) :
    ∃ pc ∈ ([⟨r1_3, p0⟩] : List (View.Piece (Elt F) S1x256x300 .bf16)), y ∈ pc.1.set :=
  View.cover_of_tiled [⟨r1_3, p0⟩] S1x256x300.size (by rfl) y

/-- Window 7's staging buffer after the body, from the input windows' blocks. -/
def out1_7 (x0 : Vec F S1x256x288 .f32) (x1 : Vec F S288x288 .bf16) (x2 : Vec F S288x288 .bf16) (x3 : Vec F S288x288 .bf16) (x4 : Vec F S256x256 .bf16) : Vec F S1x256x300 .bf16 :=
  View.canon [⟨r1_3, k1_pay46 (k1_pay45 (k1_pay55 x0 x1 x2 x3 x4))⟩]

/-- Its stores cover the buffer. -/
theorem cover1_7 (p0 : Vec F S1x256x300 .bf16) (y : S1x256x300.Idx) :
    ∃ pc ∈ ([⟨r1_3, p0⟩] : List (View.Piece (Elt F) S1x256x300 .bf16)), y ∈ pc.1.set :=
  View.cover_of_tiled [⟨r1_3, p0⟩] S1x256x300.size (by rfl) y

/-- Window 8's staging buffer after the body, from the input windows' blocks. -/
def out1_8 (x0 : Vec F S1x256x288 .f32) (x1 : Vec F S288x288 .bf16) (x2 : Vec F S288x288 .bf16) (x3 : Vec F S288x288 .bf16) (x4 : Vec F S256x256 .bf16) : Vec F S1x256x288 .bf16 :=
  View.canon [⟨r1_0, k1_pay31 (k1_pay56 x0 x1 x2 x3 x4)⟩]

/-- Its stores cover the buffer. -/
theorem cover1_8 (p0 : Vec F S1x256x288 .bf16) (y : S1x256x288.Idx) :
    ∃ pc ∈ ([⟨r1_0, p0⟩] : List (View.Piece (Elt F) S1x256x288 .bf16)), y ∈ pc.1.set :=
  View.cover_of_tiled [⟨r1_0, p0⟩] S1x256x288.size (by rfl) y

/-- Window 9's staging buffer after the body, from the input windows' blocks. -/
def out1_9 (x0 : Vec F S1x256x288 .f32) (x1 : Vec F S288x288 .bf16) (x2 : Vec F S288x288 .bf16) (x3 : Vec F S288x288 .bf16) (x4 : Vec F S256x256 .bf16) : Vec F S1x256x300 .bf16 :=
  View.canon [⟨r1_3, k1_pay48 (k1_pay60 x0 x1 x2 x3 x4)⟩]

/-- Its stores cover the buffer. -/
theorem cover1_9 (p0 : Vec F S1x256x300 .bf16) (y : S1x256x300.Idx) :
    ∃ pc ∈ ([⟨r1_3, p0⟩] : List (View.Piece (Elt F) S1x256x300 .bf16)), y ∈ pc.1.set :=
  View.cover_of_tiled [⟨r1_3, p0⟩] S1x256x300.size (by rfl) y

/-- Window 10's staging buffer after the body, from the input windows' blocks. -/
def out1_10 (x0 : Vec F S1x256x288 .f32) (x1 : Vec F S288x288 .bf16) (x2 : Vec F S288x288 .bf16) (x3 : Vec F S288x288 .bf16) (x4 : Vec F S256x256 .bf16) : Vec F S1x256x300 .bf16 :=
  View.canon [⟨r1_3, k1_pay50 (k1_pay61 x0 x1 x2 x3 x4)⟩]

/-- Its stores cover the buffer. -/
theorem cover1_10 (p0 : Vec F S1x256x300 .bf16) (y : S1x256x300.Idx) :
    ∃ pc ∈ ([⟨r1_3, p0⟩] : List (View.Piece (Elt F) S1x256x300 .bf16)), y ∈ pc.1.set :=
  View.cover_of_tiled [⟨r1_3, p0⟩] S1x256x300.size (by rfl) y

/-- Window 11's staging buffer after the body, from the input windows' blocks. -/
def out1_11 (x0 : Vec F S1x256x288 .f32) (x1 : Vec F S288x288 .bf16) (x2 : Vec F S288x288 .bf16) (x3 : Vec F S288x288 .bf16) (x4 : Vec F S256x256 .bf16) : Vec F S1x256x288 .bf16 :=
  View.canon [⟨r1_0, k1_pay33 (k1_pay32 (k1_pay56 x0 x1 x2 x3 x4) (k1_pay57 x0 x1 x2 x3 x4) (k1_pay58 x0 x1 x2 x3 x4) (k1_pay59 x0 x1 x2 x3 x4))⟩]

/-- Its stores cover the buffer. -/
theorem cover1_11 (p0 : Vec F S1x256x288 .bf16) (y : S1x256x288.Idx) :
    ∃ pc ∈ ([⟨r1_0, p0⟩] : List (View.Piece (Elt F) S1x256x288 .bf16)), y ∈ pc.1.set :=
  View.cover_of_tiled [⟨r1_0, p0⟩] S1x256x288.size (by rfl) y

/-- Window 12's staging buffer after the body, from the input windows' blocks. -/
def out1_12 (x0 : Vec F S1x256x288 .f32) (x1 : Vec F S288x288 .bf16) (x2 : Vec F S288x288 .bf16) (x3 : Vec F S288x288 .bf16) (x4 : Vec F S256x256 .bf16) : Vec F S1x256x300 .bf16 :=
  View.canon [⟨r1_3, k1_pay52 (k1_pay62 x0 x1 x2 x3 x4)⟩]

/-- Its stores cover the buffer. -/
theorem cover1_12 (p0 : Vec F S1x256x300 .bf16) (y : S1x256x300.Idx) :
    ∃ pc ∈ ([⟨r1_3, p0⟩] : List (View.Piece (Elt F) S1x256x300 .bf16)), y ∈ pc.1.set :=
  View.cover_of_tiled [⟨r1_3, p0⟩] S1x256x300.size (by rfl) y

/-- Window 13's staging buffer after the body, from the input windows' blocks. -/
def out1_13 (x0 : Vec F S1x256x288 .f32) (x1 : Vec F S288x288 .bf16) (x2 : Vec F S288x288 .bf16) (x3 : Vec F S288x288 .bf16) (x4 : Vec F S256x256 .bf16) : Vec F S1x256x300 .bf16 :=
  View.canon [⟨r1_3, k1_pay2 (k1_pay63 x0 x1 x2 x3 x4)⟩]

/-- Its stores cover the buffer. -/
theorem cover1_13 (p0 : Vec F S1x256x300 .bf16) (y : S1x256x300.Idx) :
    ∃ pc ∈ ([⟨r1_3, p0⟩] : List (View.Piece (Elt F) S1x256x300 .bf16)), y ∈ pc.1.set :=
  View.cover_of_tiled [⟨r1_3, p0⟩] S1x256x300.size (by rfl) y

/-- Window 14's staging buffer after the body, from the input windows' blocks. -/
def out1_14 (x0 : Vec F S1x256x288 .f32) (x1 : Vec F S288x288 .bf16) (x2 : Vec F S288x288 .bf16) (x3 : Vec F S288x288 .bf16) (x4 : Vec F S256x256 .bf16) : Vec F S1x256x288 .bf16 :=
  View.canon [⟨r1_0, k1_pay34 (k1_pay28 (k1_pay56 x0 x1 x2 x3 x4) (k1_pay57 x0 x1 x2 x3 x4) (k1_pay58 x0 x1 x2 x3 x4) (k1_pay59 x0 x1 x2 x3 x4) (View.ld x4 r1_2))⟩]

/-- Its stores cover the buffer. -/
theorem cover1_14 (p0 : Vec F S1x256x288 .bf16) (y : S1x256x288.Idx) :
    ∃ pc ∈ ([⟨r1_0, p0⟩] : List (View.Piece (Elt F) S1x256x288 .bf16)), y ∈ pc.1.set :=
  View.cover_of_tiled [⟨r1_0, p0⟩] S1x256x288.size (by rfl) y

/-- Window 15's staging buffer after the body, from the input windows' blocks. -/
def out1_15 (x0 : Vec F S1x256x288 .f32) (x1 : Vec F S288x288 .bf16) (x2 : Vec F S288x288 .bf16) (x3 : Vec F S288x288 .bf16) (x4 : Vec F S256x256 .bf16) : Vec F S1x256x300 .bf16 :=
  View.canon [⟨r1_3, k1_pay4 (k1_pay64 x0 x1 x2 x3 x4)⟩]

/-- Its stores cover the buffer. -/
theorem cover1_15 (p0 : Vec F S1x256x300 .bf16) (y : S1x256x300.Idx) :
    ∃ pc ∈ ([⟨r1_3, p0⟩] : List (View.Piece (Elt F) S1x256x300 .bf16)), y ∈ pc.1.set :=
  View.cover_of_tiled [⟨r1_3, p0⟩] S1x256x300.size (by rfl) y

/-- Window 16's staging buffer after the body, from the input windows' blocks. -/
def out1_16 (x0 : Vec F S1x256x288 .f32) (x1 : Vec F S288x288 .bf16) (x2 : Vec F S288x288 .bf16) (x3 : Vec F S288x288 .bf16) (x4 : Vec F S256x256 .bf16) : Vec F S1x256x300 .bf16 :=
  View.canon [⟨r1_3, k1_pay6 (k1_pay65 x0 x1 x2 x3 x4)⟩]

/-- Its stores cover the buffer. -/
theorem cover1_16 (p0 : Vec F S1x256x300 .bf16) (y : S1x256x300.Idx) :
    ∃ pc ∈ ([⟨r1_3, p0⟩] : List (View.Piece (Elt F) S1x256x300 .bf16)), y ∈ pc.1.set :=
  View.cover_of_tiled [⟨r1_3, p0⟩] S1x256x300.size (by rfl) y

/-- Window 17's staging buffer after the body, from the input windows' blocks. -/
def out1_17 (x0 : Vec F S1x256x288 .f32) (x1 : Vec F S288x288 .bf16) (x2 : Vec F S288x288 .bf16) (x3 : Vec F S288x288 .bf16) (x4 : Vec F S256x256 .bf16) : Vec F S1x23x256 .f32 :=
  View.canon [⟨r1_4, k1_pay44 (k1_pay54 x0 x1 x2 x3 x4)⟩]

/-- Its stores cover the buffer. -/
theorem cover1_17 (p0 : Vec F S1x23x256 .f32) (y : S1x23x256.Idx) :
    ∃ pc ∈ ([⟨r1_4, p0⟩] : List (View.Piece (Elt F) S1x23x256 .f32)), y ∈ pc.1.set :=
  View.cover_of_tiled [⟨r1_4, p0⟩] S1x23x256.size (by rfl) y

/-- Window 18's staging buffer after the body, from the input windows' blocks. -/
def out1_18 (x0 : Vec F S1x256x288 .f32) (x1 : Vec F S288x288 .bf16) (x2 : Vec F S288x288 .bf16) (x3 : Vec F S288x288 .bf16) (x4 : Vec F S256x256 .bf16) : Vec F S1x23x256 .f32 :=
  View.canon [⟨r1_4, k1_pay47 (k1_pay36 (k1_pay55 x0 x1 x2 x3 x4))⟩]

/-- Its stores cover the buffer. -/
theorem cover1_18 (p0 : Vec F S1x23x256 .f32) (y : S1x23x256.Idx) :
    ∃ pc ∈ ([⟨r1_4, p0⟩] : List (View.Piece (Elt F) S1x23x256 .f32)), y ∈ pc.1.set :=
  View.cover_of_tiled [⟨r1_4, p0⟩] S1x23x256.size (by rfl) y

/-- Window 19's staging buffer after the body, from the input windows' blocks. -/
def out1_19 (x0 : Vec F S1x256x288 .f32) (x1 : Vec F S288x288 .bf16) (x2 : Vec F S288x288 .bf16) (x3 : Vec F S288x288 .bf16) (x4 : Vec F S256x256 .bf16) : Vec F S1x23x256 .f32 :=
  View.canon [⟨r1_4, k1_pay49 (k1_pay60 x0 x1 x2 x3 x4)⟩]

/-- Its stores cover the buffer. -/
theorem cover1_19 (p0 : Vec F S1x23x256 .f32) (y : S1x23x256.Idx) :
    ∃ pc ∈ ([⟨r1_4, p0⟩] : List (View.Piece (Elt F) S1x23x256 .f32)), y ∈ pc.1.set :=
  View.cover_of_tiled [⟨r1_4, p0⟩] S1x23x256.size (by rfl) y

/-- Window 20's staging buffer after the body, from the input windows' blocks. -/
def out1_20 (x0 : Vec F S1x256x288 .f32) (x1 : Vec F S288x288 .bf16) (x2 : Vec F S288x288 .bf16) (x3 : Vec F S288x288 .bf16) (x4 : Vec F S256x256 .bf16) : Vec F S1x23x256 .f32 :=
  View.canon [⟨r1_4, k1_pay51 (k1_pay61 x0 x1 x2 x3 x4)⟩]

/-- Its stores cover the buffer. -/
theorem cover1_20 (p0 : Vec F S1x23x256 .f32) (y : S1x23x256.Idx) :
    ∃ pc ∈ ([⟨r1_4, p0⟩] : List (View.Piece (Elt F) S1x23x256 .f32)), y ∈ pc.1.set :=
  View.cover_of_tiled [⟨r1_4, p0⟩] S1x23x256.size (by rfl) y

/-- Window 21's staging buffer after the body, from the input windows' blocks. -/
def out1_21 (x0 : Vec F S1x256x288 .f32) (x1 : Vec F S288x288 .bf16) (x2 : Vec F S288x288 .bf16) (x3 : Vec F S288x288 .bf16) (x4 : Vec F S256x256 .bf16) : Vec F S1x23x256 .f32 :=
  View.canon [⟨r1_4, k1_pay1 (k1_pay53 (k1_pay62 x0 x1 x2 x3 x4))⟩]

/-- Its stores cover the buffer. -/
theorem cover1_21 (p0 : Vec F S1x23x256 .f32) (y : S1x23x256.Idx) :
    ∃ pc ∈ ([⟨r1_4, p0⟩] : List (View.Piece (Elt F) S1x23x256 .f32)), y ∈ pc.1.set :=
  View.cover_of_tiled [⟨r1_4, p0⟩] S1x23x256.size (by rfl) y

/-- Window 22's staging buffer after the body, from the input windows' blocks. -/
def out1_22 (x0 : Vec F S1x256x288 .f32) (x1 : Vec F S288x288 .bf16) (x2 : Vec F S288x288 .bf16) (x3 : Vec F S288x288 .bf16) (x4 : Vec F S256x256 .bf16) : Vec F S1x23x256 .f32 :=
  View.canon [⟨r1_4, k1_pay3 (k1_pay63 x0 x1 x2 x3 x4)⟩]

/-- Its stores cover the buffer. -/
theorem cover1_22 (p0 : Vec F S1x23x256 .f32) (y : S1x23x256.Idx) :
    ∃ pc ∈ ([⟨r1_4, p0⟩] : List (View.Piece (Elt F) S1x23x256 .f32)), y ∈ pc.1.set :=
  View.cover_of_tiled [⟨r1_4, p0⟩] S1x23x256.size (by rfl) y

/-- Window 23's staging buffer after the body, from the input windows' blocks. -/
def out1_23 (x0 : Vec F S1x256x288 .f32) (x1 : Vec F S288x288 .bf16) (x2 : Vec F S288x288 .bf16) (x3 : Vec F S288x288 .bf16) (x4 : Vec F S256x256 .bf16) : Vec F S1x23x256 .f32 :=
  View.canon [⟨r1_4, k1_pay5 (k1_pay64 x0 x1 x2 x3 x4)⟩]

/-- Its stores cover the buffer. -/
theorem cover1_23 (p0 : Vec F S1x23x256 .f32) (y : S1x23x256.Idx) :
    ∃ pc ∈ ([⟨r1_4, p0⟩] : List (View.Piece (Elt F) S1x23x256 .f32)), y ∈ pc.1.set :=
  View.cover_of_tiled [⟨r1_4, p0⟩] S1x23x256.size (by rfl) y

/-- Window 24's staging buffer after the body, from the input windows' blocks. -/
def out1_24 (x0 : Vec F S1x256x288 .f32) (x1 : Vec F S288x288 .bf16) (x2 : Vec F S288x288 .bf16) (x3 : Vec F S288x288 .bf16) (x4 : Vec F S256x256 .bf16) : Vec F S1x23x256 .f32 :=
  View.canon [⟨r1_4, k1_pay7 (k1_pay65 x0 x1 x2 x3 x4)⟩]

/-- Its stores cover the buffer. -/
theorem cover1_24 (p0 : Vec F S1x23x256 .f32) (y : S1x23x256.Idx) :
    ∃ pc ∈ ([⟨r1_4, p0⟩] : List (View.Piece (Elt F) S1x23x256 .f32)), y ∈ pc.1.set :=
  View.cover_of_tiled [⟨r1_4, p0⟩] S1x23x256.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1x256x288 .f32) (harg1 : arg1.IsWhole) (arg2 : Memref sig .tc .vmem S288x288 .bf16) (harg2 : arg2.IsWhole) (arg3 : Memref sig .tc .vmem S288x288 .bf16) (harg3 : arg3.IsWhole) (arg4 : Memref sig .tc .vmem S288x288 .bf16) (harg4 : arg4.IsWhole) (arg5 : Memref sig .tc .vmem S256x256 .bf16) (harg5 : arg5.IsWhole) (arg6 : Memref sig .tc .vmem S1x256x288 .bf16) (harg6 : arg6.IsWhole) (arg7 : Memref sig .tc .vmem S1x256x300 .bf16) (harg7 : arg7.IsWhole) (arg8 : Memref sig .tc .vmem S1x256x300 .bf16) (harg8 : arg8.IsWhole) (arg9 : Memref sig .tc .vmem S1x256x288 .bf16) (harg9 : arg9.IsWhole) (arg10 : Memref sig .tc .vmem S1x256x300 .bf16) (harg10 : arg10.IsWhole) (arg11 : Memref sig .tc .vmem S1x256x300 .bf16) (harg11 : arg11.IsWhole) (arg12 : Memref sig .tc .vmem S1x256x288 .bf16) (harg12 : arg12.IsWhole) (arg13 : Memref sig .tc .vmem S1x256x300 .bf16) (harg13 : arg13.IsWhole) (arg14 : Memref sig .tc .vmem S1x256x300 .bf16) (harg14 : arg14.IsWhole) (arg15 : Memref sig .tc .vmem S1x256x288 .bf16) (harg15 : arg15.IsWhole) (arg16 : Memref sig .tc .vmem S1x256x300 .bf16) (harg16 : arg16.IsWhole) (arg17 : Memref sig .tc .vmem S1x256x300 .bf16) (harg17 : arg17.IsWhole) (arg18 : Memref sig .tc .vmem S1x23x256 .f32) (harg18 : arg18.IsWhole) (arg19 : Memref sig .tc .vmem S1x23x256 .f32) (harg19 : arg19.IsWhole) (arg20 : Memref sig .tc .vmem S1x23x256 .f32) (harg20 : arg20.IsWhole) (arg21 : Memref sig .tc .vmem S1x23x256 .f32) (harg21 : arg21.IsWhole) (arg22 : Memref sig .tc .vmem S1x23x256 .f32) (harg22 : arg22.IsWhole) (arg23 : Memref sig .tc .vmem S1x23x256 .f32) (harg23 : arg23.IsWhole) (arg24 : Memref sig .tc .vmem S1x23x256 .f32) (harg24 : arg24.IsWhole) (arg25 : Memref sig .tc .vmem S1x23x256 .f32) (harg25 : arg25.IsWhole)
    (x0 : Vec F S1x256x288 .f32) (x1 : Vec F S288x288 .bf16) (x2 : Vec F S288x288 .bf16) (x3 : Vec F S288x288 .bf16) (x4 : Vec F S256x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4) ∗ owns (c : Thread nD τ) arg8 fullShare (out1_7 x0 x1 x2 x3 x4) ∗ owns (c : Thread nD τ) arg9 fullShare (out1_8 x0 x1 x2 x3 x4) ∗ owns (c : Thread nD τ) arg10 fullShare (out1_9 x0 x1 x2 x3 x4) ∗ owns (c : Thread nD τ) arg11 fullShare (out1_10 x0 x1 x2 x3 x4) ∗ owns (c : Thread nD τ) arg12 fullShare (out1_11 x0 x1 x2 x3 x4) ∗ owns (c : Thread nD τ) arg13 fullShare (out1_12 x0 x1 x2 x3 x4) ∗ owns (c : Thread nD τ) arg14 fullShare (out1_13 x0 x1 x2 x3 x4) ∗ owns (c : Thread nD τ) arg15 fullShare (out1_14 x0 x1 x2 x3 x4) ∗ owns (c : Thread nD τ) arg16 fullShare (out1_15 x0 x1 x2 x3 x4) ∗ owns (c : Thread nD τ) arg17 fullShare (out1_16 x0 x1 x2 x3 x4) ∗ owns (c : Thread nD τ) arg18 fullShare (out1_17 x0 x1 x2 x3 x4) ∗ owns (c : Thread nD τ) arg19 fullShare (out1_18 x0 x1 x2 x3 x4) ∗ owns (c : Thread nD τ) arg20 fullShare (out1_19 x0 x1 x2 x3 x4) ∗ owns (c : Thread nD τ) arg21 fullShare (out1_20 x0 x1 x2 x3 x4) ∗ owns (c : Thread nD τ) arg22 fullShare (out1_21 x0 x1 x2 x3 x4) ∗ owns (c : Thread nD τ) arg23 fullShare (out1_22 x0 x1 x2 x3 x4) ∗ owns (c : Thread nD τ) arg24 fullShare (out1_23 x0 x1 x2 x3 x4) ∗ owns (c : Thread nD τ) arg25 fullShare (out1_24 x0 x1 x2 x3 x4)) -∗ K ⟨⟩))
      ⊢ wp frame (wpE (defs₀ (F := F)) Variants.none c none) E (cc1__chain_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc1__chain_kernel_eq_skeleton]; unfold cc1__chain_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_6 _)).trans ?_
    rfl
  isplitl [H7]
  · iexists _; isplitr
    swap; · iexact H7
    ipureintro
    refine (View.read_writes_eq_canon _ _ _ (cover1_7 _)).trans ?_
    rfl
  isplitl [H8]
  · iexists _; isplitr
    swap; · iexact H8
    ipureintro
    refine (View.read_writes_eq_canon _ _ _ (cover1_8 _)).trans ?_
    rfl
  isplitl [H9]
  · iexists _; isplitr
    swap; · iexact H9
    ipureintro
    refine (View.read_writes_eq_canon _ _ _ (cover1_9 _)).trans ?_
    rfl
  isplitl [H10]
  · iexists _; isplitr
    swap; · iexact H10
    ipureintro
    refine (View.read_writes_eq_canon _ _ _ (cover1_10 _)).trans ?_
    rfl
  isplitl [H11]
  · iexists _; isplitr
    swap; · iexact H11
    ipureintro
    refine (View.read_writes_eq_canon _ _ _ (cover1_11 _)).trans ?_
    rfl
  isplitl [H12]
  · iexists _; isplitr
    swap; · iexact H12
    ipureintro
    refine (View.read_writes_eq_canon _ _ _ (cover1_12 _)).trans ?_
    rfl
  isplitl [H13]
  · iexists _; isplitr
    swap; · iexact H13
    ipureintro
    refine (View.read_writes_eq_canon _ _ _ (cover1_13 _)).trans ?_
    rfl
  isplitl [H14]
  · iexists _; isplitr
    swap; · iexact H14
    ipureintro
    refine (View.read_writes_eq_canon _ _ _ (cover1_14 _)).trans ?_
    rfl
  isplitl [H15]
  · iexists _; isplitr
    swap; · iexact H15
    ipureintro
    refine (View.read_writes_eq_canon _ _ _ (cover1_15 _)).trans ?_
    rfl
  isplitl [H16]
  · iexists _; isplitr
    swap; · iexact H16
    ipureintro
    refine (View.read_writes_eq_canon _ _ _ (cover1_16 _)).trans ?_
    rfl
  isplitl [H17]
  · iexists _; isplitr
    swap; · iexact H17
    ipureintro
    refine (View.read_writes_eq_canon _ _ _ (cover1_17 _)).trans ?_
    rfl
  isplitl [H18]
  · iexists _; isplitr
    swap; · iexact H18
    ipureintro
    refine (View.read_writes_eq_canon _ _ _ (cover1_18 _)).trans ?_
    rfl
  isplitl [H19]
  · iexists _; isplitr
    swap; · iexact H19
    ipureintro
    refine (View.read_writes_eq_canon _ _ _ (cover1_19 _)).trans ?_
    rfl
  isplitl [H20]
  · iexists _; isplitr
    swap; · iexact H20
    ipureintro
    refine (View.read_writes_eq_canon _ _ _ (cover1_20 _)).trans ?_
    rfl
  isplitl [H21]
  · iexists _; isplitr
    swap; · iexact H21
    ipureintro
    refine (View.read_writes_eq_canon _ _ _ (cover1_21 _)).trans ?_
    rfl
  isplitl [H22]
  · iexists _; isplitr
    swap; · iexact H22
    ipureintro
    refine (View.read_writes_eq_canon _ _ _ (cover1_22 _)).trans ?_
    rfl
  isplitl [H23]
  · iexists _; isplitr
    swap; · iexact H23
    ipureintro
    refine (View.read_writes_eq_canon _ _ _ (cover1_23 _)).trans ?_
    rfl
  iexists _; isplitr
  swap; · iexact H24
  ipureintro
  refine (View.read_writes_eq_canon _ _ _ (cover1_24 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 1 t) (iblk1 V c 2 t) (iblk1 V c 3 t) (iblk1 V c 4 t)
    | ⟨11, _⟩ => out1_11 (iblk1 V c 0 t) (iblk1 V c 1 t) (iblk1 V c 2 t) (iblk1 V c 3 t) (iblk1 V c 4 t)
    | ⟨12, _⟩ => out1_12 (iblk1 V c 0 t) (iblk1 V c 1 t) (iblk1 V c 2 t) (iblk1 V c 3 t) (iblk1 V c 4 t)
    | ⟨13, _⟩ => out1_13 (iblk1 V c 0 t) (iblk1 V c 1 t) (iblk1 V c 2 t) (iblk1 V c 3 t) (iblk1 V c 4 t)
    | ⟨14, _⟩ => out1_14 (iblk1 V c 0 t) (iblk1 V c 1 t) (iblk1 V c 2 t) (iblk1 V c 3 t) (iblk1 V c 4 t)
    | ⟨15, _⟩ => out1_15 (iblk1 V c 0 t) (iblk1 V c 1 t) (iblk1 V c 2 t) (iblk1 V c 3 t) (iblk1 V c 4 t)
    | ⟨16, _⟩ => out1_16 (iblk1 V c 0 t) (iblk1 V c 1 t) (iblk1 V c 2 t) (iblk1 V c 3 t) (iblk1 V c 4 t)
    | ⟨17, _⟩ => out1_17 (iblk1 V c 0 t) (iblk1 V c 1 t) (iblk1 V c 2 t) (iblk1 V c 3 t) (iblk1 V c 4 t)
    | ⟨18, _⟩ => out1_18 (iblk1 V c 0 t) (iblk1 V c 1 t) (iblk1 V c 2 t) (iblk1 V c 3 t) (iblk1 V c 4 t)
    | ⟨19, _⟩ => out1_19 (iblk1 V c 0 t) (iblk1 V c 1 t) (iblk1 V c 2 t) (iblk1 V c 3 t) (iblk1 V c 4 t)
    | ⟨20, _⟩ => out1_20 (iblk1 V c 0 t) (iblk1 V c 1 t) (iblk1 V c 2 t) (iblk1 V c 3 t) (iblk1 V c 4 t)
    | ⟨21, _⟩ => out1_21 (iblk1 V c 0 t) (iblk1 V c 1 t) (iblk1 V c 2 t) (iblk1 V c 3 t) (iblk1 V c 4 t)
    | ⟨22, _⟩ => out1_22 (iblk1 V c 0 t) (iblk1 V c 1 t) (iblk1 V c 2 t) (iblk1 V c 3 t) (iblk1 V c 4 t)
    | ⟨23, _⟩ => out1_23 (iblk1 V c 0 t) (iblk1 V c 1 t) (iblk1 V c 2 t) (iblk1 V c 3 t) (iblk1 V c 4 t)
    | ⟨24, _⟩ => out1_24 (iblk1 V c 0 t) (iblk1 V c 1 t) (iblk1 V c 2 t) (iblk1 V c 3 t) (iblk1 V c 4 t)
    | ⟨_ + 25, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) := by dsimp only [dat1]
theorem after1_17 (c : Dev nD) (t : Fin cfg1.N) : (dat1 V c).after 17 t = out1_17 (iblk1 V c 0 t) (iblk1 V c 1 t) (iblk1 V c 2 t) (iblk1 V c 3 t) (iblk1 V c 4 t) := by dsimp only [dat1]
theorem after1_18 (c : Dev nD) (t : Fin cfg1.N) : (dat1 V c).after 18 t = out1_18 (iblk1 V c 0 t) (iblk1 V c 1 t) (iblk1 V c 2 t) (iblk1 V c 3 t) (iblk1 V c 4 t) := by dsimp only [dat1]
theorem after1_19 (c : Dev nD) (t : Fin cfg1.N) : (dat1 V c).after 19 t = out1_19 (iblk1 V c 0 t) (iblk1 V c 1 t) (iblk1 V c 2 t) (iblk1 V c 3 t) (iblk1 V c 4 t) := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) := by dsimp only [dat1]
theorem after1_21 (c : Dev nD) (t : Fin cfg1.N) : (dat1 V c).after 21 t = out1_21 (iblk1 V c 0 t) (iblk1 V c 1 t) (iblk1 V c 2 t) (iblk1 V c 3 t) (iblk1 V c 4 t) := by dsimp only [dat1]
theorem after1_22 (c : Dev nD) (t : Fin cfg1.N) : (dat1 V c).after 22 t = out1_22 (iblk1 V c 0 t) (iblk1 V c 1 t) (iblk1 V c 2 t) (iblk1 V c 3 t) (iblk1 V c 4 t) := by dsimp only [dat1]
theorem after1_23 (c : Dev nD) (t : Fin cfg1.N) : (dat1 V c).after 23 t = out1_23 (iblk1 V c 0 t) (iblk1 V c 1 t) (iblk1 V c 2 t) (iblk1 V c 3 t) (iblk1 V c 4 t) := by dsimp only [dat1]
theorem after1_24 (c : Dev nD) (t : Fin cfg1.N) : (dat1 V c).after 24 t = out1_24 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1 V c 2]; try rfl) t d).trans
    (by unfold Dat.fetched Dat.blockOf iblk1; rw [A_eq1 V c 2]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1 V c 3]; try rfl) t d).trans
    (by unfold Dat.fetched Dat.blockOf iblk1; rw [A_eq1 V c 3]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1 V c 4]; try rfl) t d).trans
    (by unfold Dat.fetched Dat.blockOf iblk1; rw [A_eq1 V c 4]; try rfl)

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.RunIdeal.Region3.lean ====
/- The two convolutions (call 3) at the entry contents `V`: its body, its windows and its pipeline data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxHeartbeats 2000000
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__conv_kernel` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_0 : Rect S1x32x16x288 := Rect.unit (s := S1x32x16x288) ![0, 0, 0, 0] S1x32x16x288.size inb_S1x32x16x288_S1x32x16x288_0_0_0_0
abbrev r3_1 : Rect S1x32x16x12 := Rect.unit (s := S1x32x16x12) ![0, 0, 0, 0] S1x32x16x12.size inb_S1x32x16x12_S1x32x16x12_0_0_0_0
abbrev r3_2 : Rect S1x32x16x300 := Rect.unit (s := S1x32x16x300) ![0, 0, 0, 0] S1x32x16x300.size inb_S1x32x16x300_S1x32x16x300_0_0_0_0
abbrev r3_3 : Rect S768x416 := Rect.unit (s := S768x416) ![0, 0] S768x416.size inb_S768x416_S768x416_0_0
abbrev r3_4 : Rect S1x1x64 := Rect.unit (s := S1x1x64) ![0, 0, 0] S1x1x64.size inb_S1x1x64_S1x1x64_0_0_0
abbrev r3_5 : Rect S32x32 := Rect.unit (s := S32x32) ![0, 0] S32x32.size inb_S32x32_S32x32_0_0
abbrev r3_6 : Rect S1x1x32 := Rect.unit (s := S1x1x32) ![0, 0, 0] S1x1x32.size inb_S1x1x32_S1x1x32_0_0_0
abbrev r3_7 : Rect S1x32x16x278 := Rect.unit (s := S1x32x16x278) ![0, 0, 0, 0] S1x32x16x278.size inb_S1x32x16x278_S1x32x16x278_0_0_0_0

/-! ## What the body leaves in each output window's buffer -/

/-! ### Values of the body that the stores' payloads, spelt out, would write more than once

    Each is a vector the body binds (often a part call's result), stated over the input windows' blocks and
    numbered on from the skeleton's payload functions (`k3_pay14` …, after `k3_pay13`), so that
    `out3_W` and the values after it name it instead of spelling it out (`unfold_out out3_W` opens a canon
    with them, `unfold_payloads` opens them with the payloads); the comment after each is the printed function's
    name for the value (a count appended where that name is bound again). -/

def k3_pay14 (x0 : Vec F S1x32x16x288 .f32) (x1 : Vec F S1x32x16x288 .bf16) (x2 : Vec F S1x32x16x300 .bf16) (x3 : Vec F S1x32x16x300 .bf16) (x4 : Vec F S1x32x16x288 .bf16) (x5 : Vec F S1x32x16x300 .bf16) (x6 : Vec F S1x32x16x300 .bf16) (x7 : Vec F S1x32x16x288 .bf16) (x8 : Vec F S1x32x16x300 .bf16) (x9 : Vec F S1x32x16x300 .bf16) (x10 : Vec F S1x32x16x288 .bf16) (x11 : Vec F S1x32x16x300 .bf16) (x12 : Vec F S1x32x16x300 .bf16) (x13 : Vec F S1x32x16x12 .bf16) (x14 : Vec F S1x32x16x12 .bf16) (x15 : Vec F S1x32x16x12 .bf16) (x16 : Vec F S1x32x16x12 .bf16) (x17 : Vec F S768x416 .bf16) (x18 : Vec F S1x1x64 .f32) (x19 : Vec F S32x32 .f32) (x20 : Vec F S1x1x32 .f32) (x21 : Vec F S32x32 .f32) (x22 : Vec F S1x1x32 .f32) : FVec F S416x16x301 .bf16 :=
  k3_pay9 (k3_pay3 (View.ld x0 r3_0)) (k3_pay4 (View.ld x1 r3_0) (View.ld x13 r3_1)) (k3_pay5 (View.ld x2 r3_2)) (k3_pay6 (View.ld x3 r3_2)) (k3_pay7 (View.ld x4 r3_0) (View.ld x14 r3_1)) (k3_pay8 (View.ld x5 r3_2)) (View.ld x6 r3_2) (View.ld x7 r3_0) (View.ld x15 r3_1) (View.ld x8 r3_2) (View.ld x9 r3_2) (View.ld x10 r3_0) (View.ld x16 r3_1) (View.ld x11 r3_2) (View.ld x12 r3_2) -- `v45`

/-- Window 23's staging buffer after the body, from the input windows' blocks. -/
def out3_23 (x0 : Vec F S1x32x16x288 .f32) (x1 : Vec F S1x32x16x288 .bf16) (x2 : Vec F S1x32x16x300 .bf16) (x3 : Vec F S1x32x16x300 .bf16) (x4 : Vec F S1x32x16x288 .bf16) (x5 : Vec F S1x32x16x300 .bf16) (x6 : Vec F S1x32x16x300 .bf16) (x7 : Vec F S1x32x16x288 .bf16) (x8 : Vec F S1x32x16x300 .bf16) (x9 : Vec F S1x32x16x300 .bf16) (x10 : Vec F S1x32x16x288 .bf16) (x11 : Vec F S1x32x16x300 .bf16) (x12 : Vec F S1x32x16x300 .bf16) (x13 : Vec F S1x32x16x12 .bf16) (x14 : Vec F S1x32x16x12 .bf16) (x15 : Vec F S1x32x16x12 .bf16) (x16 : Vec F S1x32x16x12 .bf16) (x17 : Vec F S768x416 .bf16) (x18 : Vec F S1x1x64 .f32) (x19 : Vec F S32x32 .f32) (x20 : Vec F S1x1x32 .f32) (x21 : Vec F S32x32 .f32) (x22 : Vec F S1x1x32 .f32) : Vec F S1x32x16x278 .f32 :=
  View.canon [⟨r3_7, k3_pay1 (k3_pay11 (k3_pay14 x0 x1 x2 x3 x4 x5 x6 x7 x8 x9 x10 x11 x12 x13 x14 x15 x16 x17 x18 x19 x20 x21 x22) (View.ld x17 r3_3) (View.ld x18 r3_4) (View.ld x19 r3_5) (View.ld x20 r3_6))⟩]

/-- Its stores cover the buffer. -/
theorem cover3_23 (p0 : Vec F S1x32x16x278 .f32) (y : S1x32x16x278.Idx) :
    ∃ pc ∈ ([⟨r3_7, p0⟩] : List (View.Piece (Elt F) S1x32x16x278 .f32)), y ∈ pc.1.set :=
  View.cover_of_tiled [⟨r3_7, p0⟩] S1x32x16x278.size (by rfl) y

/-- Window 24's staging buffer after the body, from the input windows' blocks. -/
def out3_24 (x0 : Vec F S1x32x16x288 .f32) (x1 : Vec F S1x32x16x288 .bf16) (x2 : Vec F S1x32x16x300 .bf16) (x3 : Vec F S1x32x16x300 .bf16) (x4 : Vec F S1x32x16x288 .bf16) (x5 : Vec F S1x32x16x300 .bf16) (x6 : Vec F S1x32x16x300 .bf16) (x7 : Vec F S1x32x16x288 .bf16) (x8 : Vec F S1x32x16x300 .bf16) (x9 : Vec F S1x32x16x300 .bf16) (x10 : Vec F S1x32x16x288 .bf16) (x11 : Vec F S1x32x16x300 .bf16) (x12 : Vec F S1x32x16x300 .bf16) (x13 : Vec F S1x32x16x12 .bf16) (x14 : Vec F S1x32x16x12 .bf16) (x15 : Vec F S1x32x16x12 .bf16) (x16 : Vec F S1x32x16x12 .bf16) (x17 : Vec F S768x416 .bf16) (x18 : Vec F S1x1x64 .f32) (x19 : Vec F S32x32 .f32) (x20 : Vec F S1x1x32 .f32) (x21 : Vec F S32x32 .f32) (x22 : Vec F S1x1x32 .f32) : Vec F S1x32x16x12 .f32 :=
  View.canon [⟨r3_1, k3_pay2 (k3_pay12 (View.ld x21 r3_5)) (k3_pay13 (k3_pay14 x0 x1 x2 x3 x4 x5 x6 x7 x8 x9 x10 x11 x12 x13 x14 x15 x16 x17 x18 x19 x20 x21 x22) (View.ld x17 r3_3) (View.ld x18 r3_4)) (View.ld x22 r3_6)⟩]

/-- Its stores cover the buffer. -/
theorem cover3_24 (p0 : Vec F S1x32x16x12 .f32) (y : S1x32x16x12.Idx) :
    ∃ pc ∈ ([⟨r3_1, p0⟩] : List (View.Piece (Elt F) S1x32x16x12 .f32)), y ∈ pc.1.set :=
  View.cover_of_tiled [⟨r3_1, p0⟩] S1x32x16x12.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg2 : Memref sig .tc .vmem S1x32x16x288 .f32) (harg2 : arg2.IsWhole) (arg3 : Memref sig .tc .vmem S1x32x16x288 .bf16) (harg3 : arg3.IsWhole) (arg4 : Memref sig .tc .vmem S1x32x16x300 .bf16) (harg4 : arg4.IsWhole) (arg5 : Memref sig .tc .vmem S1x32x16x300 .bf16) (harg5 : arg5.IsWhole) (arg6 : Memref sig .tc .vmem S1x32x16x288 .bf16) (harg6 : arg6.IsWhole) (arg7 : Memref sig .tc .vmem S1x32x16x300 .bf16) (harg7 : arg7.IsWhole) (arg8 : Memref sig .tc .vmem S1x32x16x300 .bf16) (harg8 : arg8.IsWhole) (arg9 : Memref sig .tc .vmem S1x32x16x288 .bf16) (harg9 : arg9.IsWhole) (arg10 : Memref sig .tc .vmem S1x32x16x300 .bf16) (harg10 : arg10.IsWhole) (arg11 : Memref sig .tc .vmem S1x32x16x300 .bf16) (harg11 : arg11.IsWhole) (arg12 : Memref sig .tc .vmem S1x32x16x288 .bf16) (harg12 : arg12.IsWhole) (arg13 : Memref sig .tc .vmem S1x32x16x300 .bf16) (harg13 : arg13.IsWhole) (arg14 : Memref sig .tc .vmem S1x32x16x300 .bf16) (harg14 : arg14.IsWhole) (arg15 : Memref sig .tc .vmem S1x32x16x12 .bf16) (harg15 : arg15.IsWhole) (arg16 : Memref sig .tc .vmem S1x32x16x12 .bf16) (harg16 : arg16.IsWhole) (arg17 : Memref sig .tc .vmem S1x32x16x12 .bf16) (harg17 : arg17.IsWhole) (arg18 : Memref sig .tc .vmem S1x32x16x12 .bf16) (harg18 : arg18.IsWhole) (arg19 : Memref sig .tc .vmem S768x416 .bf16) (harg19 : arg19.IsWhole) (arg20 : Memref sig .tc .vmem S1x1x64 .f32) (harg20 : arg20.IsWhole) (arg21 : Memref sig .tc .vmem S32x32 .f32) (harg21 : arg21.IsWhole) (arg22 : Memref sig .tc .vmem S1x1x32 .f32) (harg22 : arg22.IsWhole) (arg23 : Memref sig .tc .vmem S32x32 .f32) (harg23 : arg23.IsWhole) (arg24 : Memref sig .tc .vmem S1x1x32 .f32) (harg24 : arg24.IsWhole) (arg25 : Memref sig .tc .vmem S1x32x16x278 .f32) (harg25 : arg25.IsWhole) (arg26 : Memref sig .tc .vmem S1x32x16x12 .f32) (harg26 : arg26.IsWhole)
    (x0 : Vec F S1x32x16x288 .f32) (x1 : Vec F S1x32x16x288 .bf16) (x2 : Vec F S1x32x16x300 .bf16) (x3 : Vec F S1x32x16x300 .bf16) (x4 : Vec F S1x32x16x288 .bf16) (x5 : Vec F S1x32x16x300 .bf16) (x6 : Vec F S1x32x16x300 .bf16) (x7 : Vec F S1x32x16x288 .bf16) (x8 : Vec F S1x32x16x300 .bf16) (x9 : Vec F S1x32x16x300 .bf16) (x10 : Vec F S1x32x16x288 .bf16) (x11 : Vec F S1x32x16x300 .bf16) (x12 : Vec F S1x32x16x300 .bf16) (x13 : Vec F S1x32x16x12 .bf16) (x14 : Vec F S1x32x16x12 .bf16) (x15 : Vec F S1x32x16x12 .bf16) (x16 : Vec F S1x32x16x12 .bf16) (x17 : Vec F S768x416 .bf16) (x18 : Vec F S1x1x64 .f32) (x19 : Vec F S32x32 .f32) (x20 : Vec F S1x1x32 .f32) (x21 : Vec F S32x32 .f32) (x22 : Vec F S1x1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare (out3_23 x0 x1 x2 x3 x4 x5 x6 x7 x8 x9 x10 x11 x12 x13 x14 x15 x16 x17 x18 x19 x20 x21 x22) ∗ owns (c : Thread nD τ) arg26 fullShare (out3_24 x0 x1 x2 x3 x4 x5 x6 x7 x8 x9 x10 x11 x12 x13 x14 x15 x16 x17 x18 x19 x20 x21 x22)) -∗ K ⟨⟩))
      ⊢ wp frame (wpE (defs₀ (F := F)) Variants.none c none) E (cc3__conv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc3__conv_kernel_eq_skeleton]; unfold cc3__conv_kernel_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    refine (View.read_writes_eq_canon _ _ _ (cover3_23 _)).trans ?_
    rfl
  iexists _; isplitr
  swap; · iexact H24
  ipureintro
  refine (View.read_writes_eq_canon _ _ _ (cover3_24 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => out3_23 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t)
    | ⟨24, _⟩ => out3_24 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t)
    | ⟨_ + 25, h⟩ => absurd h (Nat.not_lt.2 (Nat.le_add_left _ _))
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = iblk3 V c 19 t := by dsimp only [dat3]
theorem after3_20 (c : Dev nD) (t : Fin cfg3.N) : (dat3 V c).after 20 t = iblk3 V c 20 t := by dsimp only [dat3]
theorem after3_21 (c : Dev nD) (t : Fin cfg3.N) : (dat3 V c).after 21 t = iblk3 V c 21 t := by dsimp only [dat3]
theorem after3_22 (c : Dev nD) (t : Fin cfg3.N) : (dat3 V c).after 22 t = iblk3 V c 22 t := by dsimp only [dat3]
theorem after3_23 (c : Dev nD) (t : Fin cfg3.N) : (dat3 V c).after 23 t = out3_23 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) := by dsimp only [dat3]
theorem after3_24 (c : Dev nD) (t : Fin cfg3.N) : (dat3 V c).after 24 t = out3_24 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3 V c 0]; try rfl) t d).trans
    (by unfold Dat.fetched Dat.blockOf iblk3; rw [A_eq3 V c 0]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3 V c 1]; try rfl) t d).trans
    (by unfold Dat.fetched Dat.blockOf iblk3; rw [A_eq3 V c 1]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3 V c 2]; try rfl) t d).trans
    (by unfold Dat.fetched Dat.blockOf iblk3; rw [A_eq3 V c 2]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3 V c 3]; try rfl) t d).trans
    (by unfold Dat.fetched Dat.blockOf iblk3; rw [A_eq3 V c 3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3 V c 4]; try rfl) t d).trans
    (by unfold Dat.fetched Dat.blockOf iblk3; rw [A_eq3 V c 4]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3 V c 5]; try rfl) t d).trans
    (by unfold Dat.fetched Dat.blockOf iblk3; rw [A_eq3 V c 5]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3 V c 6]; try rfl) t d).trans
    (by unfold Dat.fetched Dat.blockOf iblk3; rw [A_eq3 V c 6]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3 V c 7]; try rfl) t d).trans
    (by unfold Dat.fetched Dat.blockOf iblk3; rw [A_eq3 V c 7]; try rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3 V c 8]; try rfl) t d).trans
    (by unfold Dat.fetched Dat.blockOf iblk3; rw [A_eq3 V c 8]; try rfl)
theorem before3_9 (c : Dev nD) (t : Fin cfg3.N) (d) : (dat3 V c).before 9 t d = iblk3 V c 9 t :=
  ((dat3 V c).before_in_eq_fetched 9 rfl (fun _ => rfl) (fun _ _ _ => rfl) (fun t => by rw [after3_9]; unfold Dat.blockOf iblk3; rw [A_eq3 V c 9]; try rfl) t d).trans
    (by unfold Dat.fetched Dat.blockOf iblk3; rw [A_eq3 V c 9]; try rfl)
theorem before3_10 (c : Dev nD) (t : Fin cfg3.N) (d) : (dat3 V c).before 10 t d = iblk3 V c 10 t :=
  ((dat3 V c).before_in_eq_fetched 10 rfl (fun _ => rfl) (fun _ _ _ => rfl) (fun t => by rw [after3_10]; unfold Dat.blockOf iblk3; rw [A_eq3 V c 10]; try rfl) t d).trans
    (by unfold Dat.fetched Dat.blockOf iblk3; rw [A_eq3 V c 10]; try rfl)
theorem before3_11 (c : Dev nD) (t : Fin cfg3.N) (d) : (dat3 V c).before 11 t d = iblk3 V c 11 t :=
  ((dat3 V c).before_in_eq_fetched 11 rfl (fun _ => rfl) (fun _ _ _ => rfl) (fun t => by rw [after3_11]; unfold Dat.blockOf iblk3; rw [A_eq3 V c 11]; try rfl) t d).trans
    (by unfold Dat.fetched Dat.blockOf iblk3; rw [A_eq3 V c 11]; try rfl)
theorem before3_12 (c : Dev nD) (t : Fin cfg3.N) (d) : (dat3 V c).before 12 t d = iblk3 V c 12 t :=
  ((dat3 V c).before_in_eq_fetched 12 rfl (fun _ => rfl) (fun _ _ _ => rfl) (fun t => by rw [after3_12]; unfold Dat.blockOf iblk3; rw [A_eq3 V c 12]; try rfl) t d).trans
    (by unfold Dat.fetched Dat.blockOf iblk3; rw [A_eq3 V c 12]; try rfl)
theorem before3_13 (c : Dev nD) (t : Fin cfg3.N) (d) : (dat3 V c).before 13 t d = iblk3 V c 13 t :=
  ((dat3 V c).before_in_eq_fetched 13 rfl (fun _ => rfl) (fun _ _ _ => rfl) (fun t => by rw [after3_13]; unfold Dat.blockOf iblk3; rw [A_eq3 V c 13]; try rfl) t d).trans
    (by unfold Dat.fetched Dat.blockOf iblk3; rw [A_eq3 V c 13]; try rfl)
theorem before3_14 (c : Dev nD) (t : Fin cfg3.N) (d) : (dat3 V c).before 14 t d = iblk3 V c 14 t :=
  ((dat3 V c).before_in_eq_fetched 14 rfl (fun _ => rfl) (fun _ _ _ => rfl) (fun t => by rw [after3_14]; unfold Dat.blockOf iblk3; rw [A_eq3 V c 14]; try rfl) t d).trans
    (by unfold Dat.fetched Dat.blockOf iblk3; rw [A_eq3 V c 14]; try rfl)
theorem before3_15 (c : Dev nD) (t : Fin cfg3.N) (d) : (dat3 V c).before 15 t d = iblk3 V c 15 t :=
  ((dat3 V c).before_in_eq_fetched 15 rfl (fun _ => rfl) (fun _ _ _ => rfl) (fun t => by rw [after3_15]; unfold Dat.blockOf iblk3; rw [A_eq3 V c 15]; try rfl) t d).trans
    (by unfold Dat.fetched Dat.blockOf iblk3; rw [A_eq3 V c 15]; try rfl)
theorem before3_16 (c : Dev nD) (t : Fin cfg3.N) (d) : (dat3 V c).before 16 t d = iblk3 V c 16 t :=
  ((dat3 V c).before_in_eq_fetched 16 rfl (fun _ => rfl) (fun _ _ _ => rfl) (fun t => by rw [after3_16]; unfold Dat.blockOf iblk3; rw [A_eq3 V c 16]; try rfl) t d).trans
    (by unfold Dat.fetched Dat.blockOf iblk3; rw [A_eq3 V c 16]; try rfl)
theorem before3_17 (c : Dev nD) (t : Fin cfg3.N) (d) : (dat3 V c).before 17 t d = iblk3 V c 17 t :=
  ((dat3 V c).before_in_eq_fetched 17 rfl (fun _ => rfl) (fun _ _ _ => rfl) (fun t => by rw [after3_17]; unfold Dat.blockOf iblk3; rw [A_eq3 V c 17]; try rfl) t d).trans
    (by unfold Dat.fetched Dat.blockOf iblk3; rw [A_eq3 V c 17]; try rfl)
theorem before3_18 (c : Dev nD) (t : Fin cfg3.N) (d) : (dat3 V c).before 18 t d = iblk3 V c 18 t :=
  ((dat3 V c).before_in_eq_fetched 18 rfl (fun _ => rfl) (fun _ _ _ => rfl) (fun t => by rw [after3_18]; unfold Dat.blockOf iblk3; rw [A_eq3 V c 18]; try rfl) t d).trans
    (by unfold Dat.fetched Dat.blockOf iblk3; rw [A_eq3 V c 18]; try rfl)
theorem before3_19 (c : Dev nD) (t : Fin cfg3.N) (d) : (dat3 V c).before 19 t d = iblk3 V c 19 t :=
  ((dat3 V c).before_in_eq_fetched 19 rfl (fun _ => rfl) (fun _ _ _ => rfl) (fun t => by rw [after3_19]; unfold Dat.blockOf iblk3; rw [A_eq3 V c 19]; try rfl) t d).trans
    (by unfold Dat.fetched Dat.blockOf iblk3; rw [A_eq3 V c 19]; try rfl)
theorem before3_20 (c : Dev nD) (t : Fin cfg3.N) (d) : (dat3 V c).before 20 t d = iblk3 V c 20 t :=
  ((dat3 V c).before_in_eq_fetched 20 rfl (fun _ => rfl) (fun _ _ _ => rfl) (fun t => by rw [after3_20]; unfold Dat.blockOf iblk3; rw [A_eq3 V c 20]; try rfl) t d).trans
    (by unfold Dat.fetched Dat.blockOf iblk3; rw [A_eq3 V c 20]; try rfl)
theorem before3_21 (c : Dev nD) (t : Fin cfg3.N) (d) : (dat3 V c).before 21 t d = iblk3 V c 21 t :=
  ((dat3 V c).before_in_eq_fetched 21 rfl (fun _ => rfl) (fun _ _ _ => rfl) (fun t => by rw [after3_21]; unfold Dat.blockOf iblk3; rw [A_eq3 V c 21]; try rfl) t d).trans
    (by unfold Dat.fetched Dat.blockOf iblk3; rw [A_eq3 V c 21]; try rfl)
theorem before3_22 (c : Dev nD) (t : Fin cfg3.N) (d) : (dat3 V c).before 22 t d = iblk3 V c 22 t :=
  ((dat3 V c).before_in_eq_fetched 22 rfl (fun _ => rfl) (fun _ _ _ => rfl) (fun t => by rw [after3_22]; unfold Dat.blockOf iblk3; rw [A_eq3 V c 22]; try rfl) t d).trans
    (by unfold Dat.fetched Dat.blockOf iblk3; rw [A_eq3 V c 22]; try rfl)

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d))
    ∗ (∃ d, owns (c : Thread nD τ) (st3_21 t) fullShare ((dat3 V c).before 21 t d))
    ∗ (∃ d, owns (c : Thread nD τ) (st3_22 t) fullShare ((dat3 V c).before 22 t d))
    ∗ (∃ d, owns (c : Thread nD τ) (st3_23 t) fullShare ((dat3 V c).before 23 t d))
    ∗ (∃ d, owns (c : Thread nD τ) (st3_24 t) fullShare ((dat3 V c).before 24 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t)
    ∗ owns (c : Thread nD τ) (st3_21 t) fullShare ((dat3 V c).after 21 t)
    ∗ owns (c : Thread nD τ) (st3_22 t) fullShare ((dat3 V c).after 22 t)
    ∗ owns (c : Thread nD τ) (st3_23 t) fullShare ((dat3 V c).after 23 t)
    ∗ owns (c : Thread nD τ) (st3_24 t) fullShare ((dat3 V c).after 24 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19, before3_20, before3_21, before3_22]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20, after3_21, after3_22, after3_23, after3_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel3 c Set.univ (grid3.coords t) _ _ _ _ _ _ _ _ _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.RunIdeal.Fold0.lean ====
/- The unscoped buffers at the boundaries of the program. -/
module

public import proofs.«01_k».proof.Proof.Gen.KernelIdeal.Frame.Region0
public import proofs.«01_k».proof.Proof.RunIdeal.Region1
public import proofs.«01_k».proof.Proof.Gen.KernelIdeal.Frame.Region2
public import proofs.«01_k».proof.Proof.RunIdeal.Region3
public import proofs.«01_k».proof.Proof.Gen.KernelIdeal.Frame.Region4
public import proofs.«01_k».proof.Proof.Gen.KernelIdeal.Frame.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0 leaves a reference that is none of its output arrays alone. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4` (region 1's entry). -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- Region 1 leaves a reference that is none of its output arrays alone. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2` (region 2's entry). -/
abbrev W9 : Dev nD → Valuation τ sig (Elt F) := fun c => StableHlo.after hostOps2 (W8 m ρ c)
/-- A reference `hostOps2` does not write keeps its contents across it. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
/-- The same read at the TensorCore's references (what region 2's proof data take). -/
abbrev V9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- Region 2 leaves a reference that is none of its output arrays alone. -/
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3` (region 3's entry). -/
abbrev W11 : Dev nD → Valuation τ sig (Elt F) := fun c => StableHlo.after hostOps3 (W10 m ρ c)
/-- A reference `hostOps3` does not write keeps its contents across it. -/
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
theorem W11_args (c : Dev nD) : ∀ a ∈ argRefs, W11 m ρ c (Proc.devRef .tc a) = m ((c : Thread nD τ).loc a) :=
  fun a ha => (W11_of m ρ c a (hostOps3_args a ha)).trans (W10_args m ρ c a ha)
/-- The same read at the TensorCore's references (what region 3's proof data take). -/
abbrev V11 : (c : Dev nD) → (b : Ref sig .tc) → Buf (Elt F) ((c : Thread nD τ).loc b) := fun c b => W11 m ρ c b
/-- At region 3's exit: its arrays at what the pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- Region 3 leaves a reference that is none of its output arrays alone. -/
theorem W12_of (c : Dev nD) (r : Ref sig .tc) (h : ∀ w : Fin cfg3.W, Pipeline.arrRef spec3 w = r → (cfg3.win w).isOut = false) :
    W12 m ρ c (Proc.devRef .tc r) = W11 m ρ c (Proc.devRef .tc r) := by
  by_cases hw : ∃ w : Fin cfg3.W, Pipeline.arrRef spec3 w = r
  · obtain ⟨w, rfl⟩ := hw
    exact (W12_arr m ρ c w).trans (((dat3 (V11 m ρ) c).arrAt_in w (h w rfl) _).trans (A_eq3 (V11 m ρ) c w))
  · exact W12_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn3 a ha)).trans (W11_args m ρ c a ha)
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- After `hostOps4` (region 4's entry). -/
abbrev W13 : Dev nD → Valuation τ sig (Elt F) := fun c => StableHlo.after hostOps4 (W12 m ρ c)
/-- A reference `hostOps4` does not write keeps its contents across it. -/
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h
theorem W13_args (c : Dev nD) : ∀ a ∈ argRefs, W13 m ρ c (Proc.devRef .tc a) = m ((c : Thread nD τ).loc a) :=
  fun a ha => (W13_of m ρ c a (hostOps4_args a ha)).trans (W12_args m ρ c a ha)
/-- The same read at the TensorCore's references (what region 4's proof data take). -/
abbrev V13 : (c : Dev nD) → (b : Ref sig .tc) → Buf (Elt F) ((c : Thread nD τ).loc b) := fun c b => W13 m ρ c b
/-- At region 4's exit: its arrays at what the pipeline leaves, every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- Region 4 leaves a reference that is none of its output arrays alone. -/
theorem W14_of (c : Dev nD) (r : Ref sig .tc) (h : ∀ w : Fin cfg4.W, Pipeline.arrRef spec4 w = r → (cfg4.win w).isOut = false) :
    W14 m ρ c (Proc.devRef .tc r) = W13 m ρ c (Proc.devRef .tc r) := by
  by_cases hw : ∃ w : Fin cfg4.W, Pipeline.arrRef spec4 w = r
  · obtain ⟨w, rfl⟩ := hw
    exact (W14_arr m ρ c w).trans (((dat4 (V13 m ρ) c).arrAt_in w (h w rfl) _).trans (A_eq4 (V13 m ρ) c w))
  · exact W14_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn4 a ha)).trans (W13_args m ρ c a ha)
/-- The same read at the TensorCore's references (region 4's exit contents). -/
abbrev V14 : (c : Dev nD) → (b : Ref sig .tc) → Buf (Elt F) ((c : Thread nD τ).loc b) := fun c b => W14 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)

/-! ### The arguments end as launched: no host stretch writes one and no region may change one (a region reads it
    through an input window or bypasses it) -/

theorem W14_main_arg0 (c : Dev nD) : W14 m ρ c (Proc.devRef .tc main_arg0) = m ((c : Thread nD τ).loc main_arg0) :=
  W14_args m ρ c main_arg0 (by decide)
theorem W14_main_arg1 (c : Dev nD) : W14 m ρ c (Proc.devRef .tc main_arg1) = m ((c : Thread nD τ).loc main_arg1) :=
  W14_args m ρ c main_arg1 (by decide)
theorem W14_main_arg2 (c : Dev nD) : W14 m ρ c (Proc.devRef .tc main_arg2) = m ((c : Thread nD τ).loc main_arg2) :=
  W14_args m ρ c main_arg2 (by decide)
theorem W14_main_arg3 (c : Dev nD) : W14 m ρ c (Proc.devRef .tc main_arg3) = m ((c : Thread nD τ).loc main_arg3) :=
  W14_args m ρ c main_arg3 (by decide)
theorem W14_main_arg4 (c : Dev nD) : W14 m ρ c (Proc.devRef .tc main_arg4) = m ((c : Thread nD τ).loc main_arg4) :=
  W14_args m ρ c main_arg4 (by decide)
theorem W14_main_arg5 (c : Dev nD) : W14 m ρ c (Proc.devRef .tc main_arg5) = m ((c : Thread nD τ).loc main_arg5) :=
  W14_args m ρ c main_arg5 (by decide)
theorem W14_main_arg6 (c : Dev nD) : W14 m ρ c (Proc.devRef .tc main_arg6) = m ((c : Thread nD τ).loc main_arg6) :=
  W14_args m ρ c main_arg6 (by decide)
theorem W14_main_arg7 (c : Dev nD) : W14 m ρ c (Proc.devRef .tc main_arg7) = m ((c : Thread nD τ).loc main_arg7) :=
  W14_args m ρ c main_arg7 (by decide)
theorem W14_main_arg8 (c : Dev nD) : W14 m ρ c (Proc.devRef .tc main_arg8) = m ((c : Thread nD τ).loc main_arg8) :=
  W14_args m ρ c main_arg8 (by decide)
theorem W14_main_arg9 (c : Dev nD) : W14 m ρ c (Proc.devRef .tc main_arg9) = m ((c : Thread nD τ).loc main_arg9) :=
  W14_args m ρ c main_arg9 (by decide)
theorem W14_main_arg10 (c : Dev nD) : W14 m ρ c (Proc.devRef .tc main_arg10) = m ((c : Thread nD τ).loc main_arg10) :=
  W14_args m ρ c main_arg10 (by decide)
theorem W14_main_arg11 (c : Dev nD) : W14 m ρ c (Proc.devRef .tc main_arg11) = m ((c : Thread nD τ).loc main_arg11) :=
  W14_args m ρ c main_arg11 (by decide)
theorem W14_main_arg12 (c : Dev nD) : W14 m ρ c (Proc.devRef .tc main_arg12) = m ((c : Thread nD τ).loc main_arg12) :=
  W14_args m ρ c main_arg12 (by decide)
theorem W14_main_arg13 (c : Dev nD) : W14 m ρ c (Proc.devRef .tc main_arg13) = m ((c : Thread nD τ).loc main_arg13) :=
  W14_args m ρ c main_arg13 (by decide)
theorem W14_main_arg14 (c : Dev nD) : W14 m ρ c (Proc.devRef .tc main_arg14) = m ((c : Thread nD τ).loc main_arg14) :=
  W14_args m ρ c main_arg14 (by decide)
theorem W14_main_arg15 (c : Dev nD) : W14 m ρ c (Proc.devRef .tc main_arg15) = m ((c : Thread nD τ).loc main_arg15) :=
  W14_args m ρ c main_arg15 (by decide)
theorem W14_main_arg16 (c : Dev nD) : W14 m ρ c (Proc.devRef .tc main_arg16) = m ((c : Thread nD τ).loc main_arg16) :=
  W14_args m ρ c main_arg16 (by decide)
theorem W14_main_arg17 (c : Dev nD) : W14 m ρ c (Proc.devRef .tc main_arg17) = m ((c : Thread nD τ).loc main_arg17) :=
  W14_args m ρ c main_arg17 (by decide)
end Cert.KernelIdeal.Gen

end
-- ==== Proof.RunIdeal.State.lean ====
/- What the program state gives at each boundary. -/
module

public import proofs.«01_k».proof.Proof.RunIdeal.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
  | ⟨2, _⟩ => fun c => dat2 (V9 m ρ) c
  | ⟨3, _⟩ => fun c => dat3 (V11 m ρ) c
  | ⟨4, _⟩ => fun c => dat4 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W14`, the generator register at some state. -/
abbrev Tₙ (c : Dev nD) : sProp 𝕄 := iprop(StableHlo.held (c : Thread nD τ) (Pipeline.ucRefs τ sig) (W14 m ρ c) ∗ ∃ r, prngReg c r)

end Cert.KernelIdeal.Gen

end
-- ==== Proof.RunIdeal.Record0.lean ====
/- Call 0 as a segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunIdeal.Record1.lean ====
/- Call 1 as a segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunIdeal.Record2.lean ====
/- Call 2 as a segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunIdeal.Record3.lean ====
/- Call 3 as a segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) (A_eq3 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunIdeal.Record4.lean ====
/- Call 4 as a segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W13`, left at `W14`
    (what the launch reads at the end). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) (A_eq4 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.RunIdeal.Frame.lean ====
/- The program runs to its end and leaves its arguments as they were. -/
module

public import proofs.«01_k».proof.Proof.RunIdeal.Record0
public import proofs.«01_k».proof.Proof.RunIdeal.Record1
public import proofs.«01_k».proof.Proof.RunIdeal.Record2
public import proofs.«01_k».proof.Proof.RunIdeal.Record3
public import proofs.«01_k».proof.Proof.RunIdeal.Record4

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 14 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ) ]
/-- @main is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair run of the program ends, nothing faulting, and leaves every unscoped
    buffer at the contents of the last boundary and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W14 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

/-- The program ends with its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun s hs => by
    obtain ⟨h, hz⟩ := hs
    exact ⟨(fun c =>
      ⟨(h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c)⟩), hz⟩) (run m ρ)

end Cert.KernelIdeal.Gen

end
-- ==== Proof.Norms.lean ====
/- Normalisation by a weighted mean, over the reals, and what its steps are over the extended reals. -/
module

public import Idealize.ShloMosaic.Lib.Pointwise

@[expose] public section

noncomputable section

namespace Cert.Chain

open Idealize.ShloMosaic

/-- A real value at every node and time step. -/
abbrev Plane := Fin 256 → Fin 288 → ℝ

/-- The real number that the variance's offset pattern denotes. -/
def eps : ℝ := (Ideal.ofBits .f32 0x3727C5AC#32).toReal

/-- The offset is that real number and is not negative. -/
theorem eps_spec : Ideal.ofBits .f32 0x3727C5AC#32 = (eps : EReal) ∧ 0 ≤ eps := by
  unfold eps
  simp only [Ideal.ofBits, Ideal.ieee]
  simp
  constructor
  · norm_cast
  · positivity

/-- The pointwise square. -/
def sq (x : Plane) : Plane := fun n t => x n t * x n t

/-- The mean along time with weight `w s t` of step `s` in the mean at step `t`. -/
def meanT (w : Fin 288 → Fin 288 → ℝ) (x : Plane) : Plane := fun n t => ∑ s, x n s * w s t

/-- The mean along the nodes with weight `a n k` of node `k` in the mean at node `n`. -/
def meanN (a : Fin 256 → Fin 256 → ℝ) (x : Plane) : Plane := fun n t => ∑ k, a n k * x k t

/-- The offset variance under the mean `M`. -/
def var (M : Plane → Plane) (x : Plane) : Plane := fun n t => M (sq x) n t - M x n t * M x n t + eps

/-- The normalised plane under the mean `M`. -/
def normed (M : Plane → Plane) (x : Plane) : Plane := fun n t => (x n t - M x n t) / √(var M x n t + 1)

/-- The standard deviation under the mean `M`. -/
def dev (M : Plane → Plane) (x : Plane) : Plane := fun n t => √(var M x n t)

/-- A mean whose square is at most the mean of the squares. -/
def Averages (M : Plane → Plane) : Prop := ∀ x n t, M x n t * M x n t ≤ M (sq x) n t

/-- A weighted mean's square is at most the mean of the squares, for weights that are not negative and sum to one. -/
theorem sum_sq_le {ι : Type} [Fintype ι] (w v : ι → ℝ) (h0 : ∀ i, 0 ≤ w i) (h1 : ∑ i, w i = 1) :
    (∑ i, w i * v i) * (∑ i, w i * v i) ≤ ∑ i, w i * (v i * v i) := by
  have key : 0 ≤ ∑ i, w i * ((v i - ∑ j, w j * v j) * (v i - ∑ j, w j * v j)) :=
    Finset.sum_nonneg fun i _ => mul_nonneg (h0 i) (mul_self_nonneg _)
  generalize hm : ∑ j, w j * v j = m at *
  have e : ∑ i, w i * ((v i - m) * (v i - m)) = ∑ i, w i * (v i * v i) - 2 * m * (∑ i, w i * v i) + m * m * ∑ i, w i := by
    rw [Finset.mul_sum, Finset.mul_sum, ← Finset.sum_sub_distrib, ← Finset.sum_add_distrib]
    exact Finset.sum_congr rfl fun i _ => by ring
  rw [e, hm, h1] at key
  nlinarith

/-- The mean along time averages. -/
theorem averages_meanT (w : Fin 288 → Fin 288 → ℝ) (h0 : ∀ s t, 0 ≤ w s t) (h1 : ∀ t, ∑ s, w s t = 1) :
    Averages (meanT w) := by
  intro x n t
  have := sum_sq_le (fun s => w s t) (fun s => x n s) (fun s => h0 s t) (h1 t)
  simpa only [meanT, sq, mul_comm] using this

/-- The mean along the nodes averages. -/
theorem averages_meanN (a : Fin 256 → Fin 256 → ℝ) (h0 : ∀ n k, 0 ≤ a n k) (h1 : ∀ n, ∑ k, a n k = 1) :
    Averages (meanN a) := by
  intro x n t
  exact sum_sq_le (fun k => a n k) (fun k => x k t) (fun k => h0 n k) (h1 n)

/-- Under an averaging mean the offset variance is not negative. -/
theorem var_nonneg {M : Plane → Plane} (hM : Averages M) (x : Plane) (n : Fin 256) (t : Fin 288) : 0 ≤ var M x n t := by
  have h := hM x n t
  have e := eps_spec.2
  unfold var
  linarith

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The variance's arithmetic stays in the reals. -/
theorem var_coe (q m : ℝ) : (q : EReal) - (m : EReal) * (m : EReal) + Ideal.ofBits .f32 0x3727C5AC#32 = ((q - m * m + eps : ℝ) : EReal) := by
  rw [eps_spec.1]; norm_cast

/-- Multiplying by the reciprocal root is dividing by the root. -/
theorem mul_rsqrt_coe (x m : ℝ) {v : ℝ} (hv : 0 ≤ v) :
    ((x : EReal) - (m : EReal)) * Ideal.rsqrt ((v : EReal) + 1) = (((x - m) / √(v + 1) : ℝ) : EReal) := by
  have e : ((v : EReal) + 1) = ((v + 1 : ℝ) : EReal) := by norm_cast
  rw [e, Ideal.rsqrt_coe, if_neg (by linarith), if_neg (by linarith), div_eq_mul_inv]
  norm_cast

/-- Dividing by the root, in the extended reals. -/
theorem div_sqrt_coe (x m : ℝ) {v : ℝ} (hv : 0 ≤ v) :
    Ideal.div ((x : EReal) - (m : EReal)) (Ideal.sqrt ((v : EReal) + 1)) = (((x - m) / √(v + 1) : ℝ) : EReal) := by
  have e : ((v : EReal) + 1) = ((v + 1 : ℝ) : EReal) := by norm_cast
  have hp : 0 < √(v + 1) := Real.sqrt_pos.mpr (by linarith)
  rw [e, Ideal.sqrt_coe, if_neg (by linarith)]
  have hne : ((√(v + 1) : ℝ) : EReal) ≠ 0 := by exact_mod_cast hp.ne'
  unfold Ideal.div
  rw [if_neg hne, div_eq_mul_inv, EReal.coe_mul, EReal.coe_inv, EReal.coe_sub]

/-- The root, in the extended reals. -/
theorem sqrt_coe' {v : ℝ} (hv : 0 ≤ v) : Ideal.sqrt (v : EReal) = ((√v : ℝ) : EReal) := by
  rw [Ideal.sqrt_coe, if_neg (by linarith)]

end Cert.Chain
-- ==== Proof.Groups.lean ====
/- Channels that lie in groups of 32, one group after the other. -/
module

public import proofs.«01_k».proof.Proof.Norms
public import proofs.«01_k».proof.Proof.Gen.KernelIdeal.Skeleton
public import proofs.«01_k».proof.Proof.Gen.ReferenceIdeal.Run
public import Idealize.ShloMosaic.Lib.Pipeline.ValueKit

@[expose] public section

set_option maxRecDepth 16384

noncomputable section

namespace Cert.Chain

open Idealize.ShloMosaic Idealize.ShloMosaic.StableHlo

/-- The value at a channel, from the values of the groups. -/
def pick {N : ℕ} (f : Fin N → Fin 32 → EReal) (c : Fin (N * 32)) : EReal :=
  f ⟨c.val / 32, by omega⟩ ⟨c.val % 32, by omega⟩

open Cert.ReferenceIdeal in
/-- Thirteen groups joined along the second axis. -/
theorem cat4 (g0 g1 g2 g3 g4 g5 g6 g7 g8 g9 g10 g11 g12 : S4x32x256x300.Idx → EReal) (h) (b : Fin 4) (c : Fin 416) (n : Fin 256) (t : Fin 300) :
    concatenate S4x416x256x300 1 [⟨S4x32x256x300, g0⟩, ⟨S4x32x256x300, g1⟩, ⟨S4x32x256x300, g2⟩, ⟨S4x32x256x300, g3⟩, ⟨S4x32x256x300, g4⟩, ⟨S4x32x256x300, g5⟩, ⟨S4x32x256x300, g6⟩, ⟨S4x32x256x300, g7⟩, ⟨S4x32x256x300, g8⟩, ⟨S4x32x256x300, g9⟩, ⟨S4x32x256x300, g10⟩, ⟨S4x32x256x300, g11⟩, ⟨S4x32x256x300, g12⟩] h (ix4 b c n t)
      = pick (N := 13) (fun g c => (![g0, g1, g2, g3, g4, g5, g6, g7, g8, g9, g10, g11, g12] : Fin 13 → S4x32x256x300.Idx → EReal) g (ix4 b c n t)) c :=
  concatenate_ofFn_apply (s₁ := S4x32x256x300) (t := S4x416x256x300) 1 (![g0, g1, g2, g3, g4, g5, g6, g7, g8, g9, g10, g11, g12] : Fin 13 → S4x32x256x300.Idx → EReal) h rfl 32 rfl
    (ix4 b c n t) ⟨c.val / 32, by omega⟩ rfl (ix4 b ⟨c.val % 32, by omega⟩ n t) rfl fun k hk => by
      match k with
      | ⟨0, _⟩ => rfl
      | ⟨1, _⟩ => exact absurd rfl hk
      | ⟨2, _⟩ => rfl
      | ⟨3, _⟩ => rfl

open Cert.KernelIdeal in
/-- Thirteen groups of a block joined along the first axis. -/
theorem cat3 (g0 g1 g2 g3 g4 g5 g6 g7 g8 g9 g10 g11 g12 : S32x16x300.Idx → EReal) (h) (c : Fin 416) (n : Fin 16) (t : Fin 300) :
    concatenate S416x16x300 0 [⟨S32x16x300, g0⟩, ⟨S32x16x300, g1⟩, ⟨S32x16x300, g2⟩, ⟨S32x16x300, g3⟩, ⟨S32x16x300, g4⟩, ⟨S32x16x300, g5⟩, ⟨S32x16x300, g6⟩, ⟨S32x16x300, g7⟩, ⟨S32x16x300, g8⟩, ⟨S32x16x300, g9⟩, ⟨S32x16x300, g10⟩, ⟨S32x16x300, g11⟩, ⟨S32x16x300, g12⟩] h (ix3 c n t)
      = pick (N := 13) (fun g c => (![g0, g1, g2, g3, g4, g5, g6, g7, g8, g9, g10, g11, g12] : Fin 13 → S32x16x300.Idx → EReal) g (ix3 c n t)) c :=
  concatenate_ofFn_apply (s₁ := S32x16x300) (t := S416x16x300) 0 (![g0, g1, g2, g3, g4, g5, g6, g7, g8, g9, g10, g11, g12] : Fin 13 → S32x16x300.Idx → EReal) h rfl 32 rfl
    (ix3 c n t) ⟨c.val / 32, by omega⟩ rfl (ix3 ⟨c.val % 32, by omega⟩ n t) rfl fun k hk => by
      match k with
      | ⟨0, _⟩ => exact absurd rfl hk
      | ⟨1, _⟩ => rfl
      | ⟨2, _⟩ => rfl

open Cert.KernelIdeal in
/-- Eight groups of a block joined along the first axis. -/
theorem cat8 (g0 g1 g2 g3 g4 g5 g6 g7 : S32x23x256.Idx → EReal) (h) (c : Fin 256) (t : Fin 23) (n : Fin 256) :
    concatenate S256x23x256 0 [⟨S32x23x256, g0⟩, ⟨S32x23x256, g1⟩, ⟨S32x23x256, g2⟩, ⟨S32x23x256, g3⟩, ⟨S32x23x256, g4⟩, ⟨S32x23x256, g5⟩, ⟨S32x23x256, g6⟩, ⟨S32x23x256, g7⟩] h (ix3 c t n)
      = pick (N := 8) (fun g c => (![g0, g1, g2, g3, g4, g5, g6, g7] : Fin 8 → S32x23x256.Idx → EReal) g (ix3 c t n)) c :=
  concatenate_ofFn_apply (s₁ := S32x23x256) (t := S256x23x256) 0 (![g0, g1, g2, g3, g4, g5, g6, g7] : Fin 8 → S32x23x256.Idx → EReal) h rfl 32 rfl
    (ix3 c t n) ⟨c.val / 32, by omega⟩ rfl (ix3 ⟨c.val % 32, by omega⟩ t n) rfl fun k hk => by
      match k with
      | ⟨0, _⟩ => exact absurd rfl hk
      | ⟨1, _⟩ => rfl
      | ⟨2, _⟩ => rfl

/-- Equal groups have equal channels. -/
theorem pick_congr {N : ℕ} {f f' : Fin N → Fin 32 → EReal} (h : ∀ g c, f g c = f' g c) (c : Fin (N * 32)) : pick f c = pick f' c := h _ _

end Cert.Chain
-- ==== Proof.Mix.lean ====
/- The gated dilated product and the two projections, written once for both programs. -/
module

public import proofs.«01_k».proof.Proof.Groups

@[expose] public section

set_option maxRecDepth 16384

noncomputable section

namespace Cert.Chain

open Idealize.ShloMosaic

/-- Twelve terms, added from the left. -/
def acc12 (f : Fin 12 → EReal) : EReal := f 0 + f 1 + f 2 + f 3 + f 4 + f 5 + f 6 + f 7 + f 8 + f 9 + f 10 + f 11

/-- Twelve products of weights with the channels of a slab, and the bias. -/
def convAt {N : ℕ} (W : Fin N → Fin 12 → EReal) (b : EReal) (S : Fin 12 → Fin N → EReal) : EReal :=
  acc12 (fun k => ∑ c, W c k * S k c) + b

/-- The product of the two convolutions. -/
def gateAt {N : ℕ} (Wa Wb : Fin N → Fin 12 → EReal) (ba bb : EReal) (S : Fin 12 → Fin N → EReal) : EReal :=
  convAt Wa ba S * convAt Wb bb S

/-- A projection of the gated channels. -/
def project (R : Fin 32 → EReal) (r : EReal) (G : Fin 32 → EReal) : EReal := ∑ o, R o * G o + r

/-- A sum of twelve terms depends only on the terms. -/
theorem acc12_congr {f g : Fin 12 → EReal} (h : ∀ k, f k = g k) : acc12 f = acc12 g := congrArg acc12 (funext h)

/-- A gated product depends only on its weights, biases and entries. -/
theorem gateAt_congr {N : ℕ} {Wa Wb Wa' Wb' : Fin N → Fin 12 → EReal} {ba bb ba' bb' : EReal} {S S' : Fin 12 → Fin N → EReal}
    (ha : ∀ c k, Wa c k = Wa' c k) (hb : ∀ c k, Wb c k = Wb' c k) (h1 : ba = ba') (h2 : bb = bb') (hS : ∀ k c, S k c = S' k c) :
    gateAt Wa Wb ba bb S = gateAt Wa' Wb' ba' bb' S' := by
  rw [show Wa = Wa' from funext fun c => funext (ha c), show Wb = Wb' from funext fun c => funext (hb c), h1, h2,
    show S = S' from funext fun k => funext (hS k)]

/-- The channels of thirteen groups, one zero step before them. -/
def slab (G : Fin 13 → Fin 32 → Fin 300 → EReal) (c : Fin 416) (t : Fin 301) : EReal :=
  if h : t.val < 1 then 0 else pick (N := 13) (fun g c => G g c ⟨t.val - 1, by omega⟩) c

/-- The twelve shifts of the slab that step `t` reads. -/
def shifts {N : ℕ} (S : Fin N → Fin 301 → EReal) (t : Fin 290) (k : Fin 12) (c : Fin N) : EReal := S c ⟨k.val + t.val, by omega⟩

/-- A plane followed by twelve further steps. -/
def glue (p : Fin 288 → EReal) (r : Fin 12 → EReal) (t : Fin 300) : EReal :=
  if h : t.val < 288 then p ⟨t.val, h⟩ else r ⟨t.val - 288, by omega⟩

/-- The twelve further steps of channel `o`: a product over the last five steps of every channel. -/
def further (p : Fin 32 → Fin 288 → EReal) (W : Fin 384 → Fin 32 → Fin 5 → EReal) (β : Fin 384 → EReal) (o : Fin 32) (q : Fin 12) : EReal :=
  (∑ c, ∑ r : Fin 5, W ⟨q.val * 32 + o.val, by omega⟩ c r * p c ⟨283 + r.val, by omega⟩) + β ⟨q.val * 32 + o.val, by omega⟩

/-- A slab depends only on its groups. -/
theorem slab_congr {G G' : Fin 13 → Fin 32 → Fin 300 → EReal} (h : ∀ g c t, G g c t = G' g c t) (c : Fin 416) (t : Fin 301) :
    slab G c t = slab G' c t := by
  rw [show G = G' from funext fun g => funext fun c => funext (h g c)]

end Cert.Chain
-- ==== Proof.ChainBody.lean ====
/- The values of the normalisation chain's body, at an index. -/
module

public import proofs.«01_k».proof.Proof.Norms
public import proofs.«01_k».proof.Proof.Gen.KernelIdeal.Skeleton

@[expose] public section

set_option maxRecDepth 16384

noncomputable section

namespace Cert.Chain

open Idealize.ShloMosaic Cert.KernelIdeal

/-- The vector holds the plane's values. -/
def Holds (v : FVec Ideal S256x288 .f32) (x : Plane) : Prop := ∀ n t, v (ix2 n t) = (x n t : EReal)

/-- The loaded square matrix holds the weights. -/
def HoldsW (v : FVec Ideal S288x288 .bf16) (w : Fin 288 → Fin 288 → ℝ) : Prop := ∀ s t, v (ix2 s t) = (w s t : EReal)

/-- The loaded block holds the plane's values. -/
def HoldsB (v : FVec Ideal S1x256x288 .f32) (x : Plane) : Prop := ∀ n t, v (ix3 0 n t) = (x n t : EReal)

section
variable {v0 : Vec Ideal S1x256x288 .f32} {v2 v19 v36 : Vec Ideal S288x288 .bf16} {v53 : Vec Ideal S256x256 .bf16}
variable {x : Plane} {w1 w2 w3 : Fin 288 → Fin 288 → ℝ} {a : Fin 256 → Fin 256 → ℝ}

/-- The first mean. -/
theorem pay10_coe (h0 : HoldsB v0 x) (h1 : HoldsW v2 w1) : Holds (Gen.k1_pay10 v0 v2) (meanT w1 x) := by
  intro n t
  pointwise [Gen.k1_pay10, Gen.k1_pay8, Gen.k1_pay9]
  rw [meanT, coe_sum]
  exact Finset.sum_congr rfl fun s _ => by rw [h0 n s, h1 s t, EReal.coe_mul]

/-- The first variance. -/
theorem pay11_coe (h0 : HoldsB v0 x) (h1 : HoldsW v2 w1) : Holds (Gen.k1_pay11 v0 v2) (var (meanT w1) x) := by
  intro n t
  pointwise [Gen.k1_pay11, Gen.k1_pay8, Gen.k1_pay9]
  have e : ∑ s, v0 (ix3 0 n s) * v0 (ix3 0 n s) * v2 (ix2 s t) = ((meanT w1 (sq x) n t : ℝ) : EReal) := by
    rw [meanT, coe_sum]
    exact Finset.sum_congr rfl fun s _ => by rw [h0 n s, h1 s t, EReal.coe_mul, sq, EReal.coe_mul]
  rw [e, pay10_coe h0 h1 n t, var_coe, var]

/-- The first normalised plane. -/
theorem pay12_coe (h0 : HoldsB v0 x) (h1 : HoldsW v2 w1) (hA : Averages (meanT w1)) :
    Holds (Gen.k1_pay12 v0 v2) (normed (meanT w1) x) := by
  intro n t
  pointwise [Gen.k1_pay12, Gen.k1_pay8, Gen.k1_pay9]
  rw [h0 n t, pay10_coe h0 h1 n t, pay11_coe h0 h1 n t, mul_rsqrt_coe _ _ (var_nonneg hA x n t), normed]

/-- The first deviation. -/
theorem pay13_coe (h0 : HoldsB v0 x) (h1 : HoldsW v2 w1) (hA : Averages (meanT w1)) :
    Holds (Gen.k1_pay13 v0 v2) (dev (meanT w1) x) := by
  intro n t
  pointwise [Gen.k1_pay13]
  rw [pay11_coe h0 h1 n t, sqrt_coe' (var_nonneg hA x n t), dev]

/-- The second mean. -/
theorem pay15_coe (hx : Holds (Gen.k1_pay12 v0 v2) x) (h1 : HoldsW v19 w2) : Holds (Gen.k1_pay15 v0 v2 v19) (meanT w2 x) := by
  intro n t
  pointwise [Gen.k1_pay15, Gen.k1_pay14]
  rw [meanT, coe_sum]
  exact Finset.sum_congr rfl fun s _ => by rw [hx n s, h1 s t, EReal.coe_mul]

/-- The second variance. -/
theorem pay16_coe (hx : Holds (Gen.k1_pay12 v0 v2) x) (h1 : HoldsW v19 w2) : Holds (Gen.k1_pay16 v0 v2 v19) (var (meanT w2) x) := by
  intro n t
  pointwise [Gen.k1_pay16, Gen.k1_pay14]
  have e : ∑ s, Gen.k1_pay12 v0 v2 (ix2 n s) * Gen.k1_pay12 v0 v2 (ix2 n s) * v19 (ix2 s t) = ((meanT w2 (sq x) n t : ℝ) : EReal) := by
    rw [meanT, coe_sum]
    exact Finset.sum_congr rfl fun s _ => by rw [hx n s, h1 s t, EReal.coe_mul, sq, EReal.coe_mul]
  rw [e, pay15_coe hx h1 n t, var_coe, var]

/-- The second normalised plane. -/
theorem pay17_coe (hx : Holds (Gen.k1_pay12 v0 v2) x) (h1 : HoldsW v19 w2) (hA : Averages (meanT w2)) :
    Holds (Gen.k1_pay17 v0 v2 v19) (normed (meanT w2) x) := by
  intro n t
  pointwise [Gen.k1_pay17]
  rw [hx n t, pay15_coe hx h1 n t, pay16_coe hx h1 n t, mul_rsqrt_coe _ _ (var_nonneg hA x n t), normed]

/-- The second deviation. -/
theorem pay18_coe (hx : Holds (Gen.k1_pay12 v0 v2) x) (h1 : HoldsW v19 w2) (hA : Averages (meanT w2)) :
    Holds (Gen.k1_pay18 v0 v2 v19) (dev (meanT w2) x) := by
  intro n t
  pointwise [Gen.k1_pay18]
  rw [pay16_coe hx h1 n t, sqrt_coe' (var_nonneg hA x n t), dev]

/-- The third mean. -/
theorem pay20_coe (hx : Holds (Gen.k1_pay17 v0 v2 v19) x) (h1 : HoldsW v36 w3) :
    Holds (Gen.k1_pay20 v0 v2 v19 v36) (meanT w3 x) := by
  intro n t
  pointwise [Gen.k1_pay20, Gen.k1_pay19]
  rw [meanT, coe_sum]
  exact Finset.sum_congr rfl fun s _ => by rw [hx n s, h1 s t, EReal.coe_mul]

/-- The square of the second normalised plane. -/
theorem pay21_coe (hx : Holds (Gen.k1_pay17 v0 v2 v19) x) : Holds (Gen.k1_pay21 v0 v2 v19) (sq x) := by
  intro n t
  pointwise [Gen.k1_pay21]
  rw [hx n t, sq, EReal.coe_mul]

/-- The third step's matrix. -/
theorem pay19_coe (h1 : HoldsW v36 w3) : HoldsW (Gen.k1_pay19 v36) w3 := by
  intro n t
  pointwise [Gen.k1_pay19]
  exact h1 n t
end

section
variable {v34 v39 v40 : FVec Ideal S256x288 .f32} {v37 : FVec Ideal S288x288 .bf16} {v53 : Vec Ideal S256x256 .bf16}
variable {x : Plane} {w3 : Fin 288 → Fin 288 → ℝ} {a : Fin 256 → Fin 256 → ℝ}

/-- The third variance. -/
theorem pay22_coe (h37 : HoldsW v37 w3) (h39 : Holds v39 (meanT w3 x)) (h40 : Holds v40 (sq x)) :
    Holds (Gen.k1_pay22 v37 v39 v40) (var (meanT w3) x) := by
  intro n t
  pointwise [Gen.k1_pay22]
  have e : ∑ s, v40 (ix2 n s) * v37 (ix2 s t) = ((meanT w3 (sq x) n t : ℝ) : EReal) := by
    rw [meanT, coe_sum]
    exact Finset.sum_congr rfl fun s _ => by rw [h40 n s, h37 s t, EReal.coe_mul]
  rw [e, h39 n t, var_coe, var]

/-- The third normalised plane. -/
theorem pay23_coe (h34 : Holds v34 x) (h37 : HoldsW v37 w3) (h39 : Holds v39 (meanT w3 x)) (h40 : Holds v40 (sq x))
    (hA : Averages (meanT w3)) : Holds (Gen.k1_pay23 v34 v37 v39 v40) (normed (meanT w3) x) := by
  intro n t
  pointwise [Gen.k1_pay23]
  rw [h34 n t, h39 n t, pay22_coe h37 h39 h40 n t, mul_rsqrt_coe _ _ (var_nonneg hA x n t), normed]

/-- The third deviation. -/
theorem pay24_coe (h37 : HoldsW v37 w3) (h39 : Holds v39 (meanT w3 x)) (h40 : Holds v40 (sq x))
    (hA : Averages (meanT w3)) : Holds (Gen.k1_pay24 v37 v39 v40) (dev (meanT w3) x) := by
  intro n t
  pointwise [Gen.k1_pay24]
  rw [pay22_coe h37 h39 h40 n t, sqrt_coe' (var_nonneg hA x n t), dev]

/-- The mean over the nodes. -/
theorem pay26_coe (hx : Holds (Gen.k1_pay23 v34 v37 v39 v40) x) (ha : ∀ n k, v53 (ix2 n k) = (a n k : EReal)) :
    Holds (Gen.k1_pay26 v34 v37 v39 v40 v53) (meanN a x) := by
  intro n t
  pointwise [Gen.k1_pay26, Gen.k1_pay25]
  rw [meanN, coe_sum]
  exact Finset.sum_congr rfl fun k _ => by rw [hx k t, ha n k, EReal.coe_mul]

/-- The variance over the nodes. -/
theorem pay27_coe (hx : Holds (Gen.k1_pay23 v34 v37 v39 v40) x) (ha : ∀ n k, v53 (ix2 n k) = (a n k : EReal)) :
    Holds (Gen.k1_pay27 v34 v37 v39 v40 v53) (var (meanN a) x) := by
  intro n t
  pointwise [Gen.k1_pay27, Gen.k1_pay25]
  have e : ∑ k, v53 (ix2 n k) * (Gen.k1_pay23 v34 v37 v39 v40 (ix2 k t) * Gen.k1_pay23 v34 v37 v39 v40 (ix2 k t))
      = ((meanN a (sq x) n t : ℝ) : EReal) := by
    rw [meanN, coe_sum]
    exact Finset.sum_congr rfl fun k _ => by rw [hx k t, ha n k, sq, EReal.coe_mul, EReal.coe_mul]
  rw [e, pay26_coe hx ha n t, var_coe, var]

/-- The plane normalised over the nodes. -/
theorem pay28_coe (hx : Holds (Gen.k1_pay23 v34 v37 v39 v40) x) (ha : ∀ n k, v53 (ix2 n k) = (a n k : EReal))
    (hA : Averages (meanN a)) : Holds (Gen.k1_pay28 v34 v37 v39 v40 v53) (normed (meanN a) x) := by
  intro n t
  pointwise [Gen.k1_pay28]
  rw [hx n t, pay26_coe hx ha n t, pay27_coe hx ha n t, mul_rsqrt_coe _ _ (var_nonneg hA x n t), normed]

/-- The deviation over the nodes. -/
theorem pay29_coe (hx : Holds (Gen.k1_pay23 v34 v37 v39 v40) x) (ha : ∀ n k, v53 (ix2 n k) = (a n k : EReal))
    (hA : Averages (meanN a)) : Holds (Gen.k1_pay29 v34 v37 v39 v40 v53) (dev (meanN a) x) := by
  intro n t
  pointwise [Gen.k1_pay29]
  rw [pay27_coe hx ha n t, sqrt_coe' (var_nonneg hA x n t), dev]
end

end Cert.Chain
-- ==== Proof.ChainOut.lean ====
/- The values that the normalisation chain's body stores, at an index. -/
module

public import proofs.«01_k».proof.Proof.ChainBody
public import proofs.«01_k».proof.Proof.RunIdeal.Region1
public import Idealize.ShloMosaic.Lib.Pipeline.ValueKit

@[expose] public section

set_option maxRecDepth 16384

noncomputable section

namespace Cert.Chain

open Idealize.ShloMosaic Cert.KernelIdeal

/-- A plane extended past its end by its last column. -/
def extC (x : Plane) (n : Fin 256) (t : Fin 300) : ℝ := if h : (t : ℕ) < 288 then x n ⟨t, h⟩ else x n 287

/-- A plane extended past its end by its first columns. -/
def extS (x : Plane) (n : Fin 256) (t : Fin 300) : ℝ :=
  if h : (t : ℕ) < 288 then x n ⟨t, h⟩ else x n ⟨t - 288, by omega⟩

/-- The four normalised planes, each from the one before. -/
def p1 (w1 : Fin 288 → Fin 288 → ℝ) (x : Plane) : Plane := normed (meanT w1) x
/-- The plane after the seasonal normalisation. -/
def p2 (w1 w2 : Fin 288 → Fin 288 → ℝ) (x : Plane) : Plane := normed (meanT w2) (p1 w1 x)
/-- The plane after the short normalisation. -/
def p3 (w1 w2 w3 : Fin 288 → Fin 288 → ℝ) (x : Plane) : Plane := normed (meanT w3) (p2 w1 w2 x)
/-- The plane after the spatial normalisation. -/
def p4 (w1 w2 w3 : Fin 288 → Fin 288 → ℝ) (a : Fin 256 → Fin 256 → ℝ) (x : Plane) : Plane := normed (meanN a) (p3 w1 w2 w3 x)

/-- The body's blocks hold a plane, three weight matrices and the node weights, each of which averages. -/
structure Body (x0 : Vec Ideal S1x256x288 .f32) (x1 x2 x3 : Vec Ideal S288x288 .bf16) (x4 : Vec Ideal S256x256 .bf16)
    (x : Plane) (w1 w2 w3 : Fin 288 → Fin 288 → ℝ) (a : Fin 256 → Fin 256 → ℝ) : Prop where
  h0 : HoldsB x0 x
  h1 : HoldsW x1 w1
  h2 : HoldsW x2 w2
  h3 : HoldsW x3 w3
  h4 : ∀ n k, x4 (ix2 n k) = (a n k : EReal)
  A1 : Averages (meanT w1)
  A2 : Averages (meanT w2)
  A3 : Averages (meanT w3)
  A4 : Averages (meanN a)

variable {x0 : Vec Ideal S1x256x288 .f32} {x1 x2 x3 : Vec Ideal S288x288 .bf16} {x4 : Vec Ideal S256x256 .bf16}
    {x : Plane} {w1 w2 w3 : Fin 288 → Fin 288 → ℝ} {a : Fin 256 → Fin 256 → ℝ}

/-- A load of a whole block is the block. -/
theorem ld0 (v : Vec Ideal S1x256x288 .f32) : View.ld v Gen.r1_0 = v := View.ld_unit_lit' _ v (by decide)
/-- A load of a whole block is the block. -/
theorem ld1 (v : Vec Ideal S288x288 .bf16) : View.ld v Gen.r1_1 = v := View.ld_unit_lit' _ v (by decide)
/-- A load of a whole block is the block. -/
theorem ld2 (v : Vec Ideal S256x256 .bf16) : View.ld v Gen.r1_2 = v := View.ld_unit_lit' _ v (by decide)

/-- A plane with twelve further steps, as the body builds it. -/
theorem e35 {v : FVec Ideal S256x288 .f32} {x : Plane} (h : Holds v x) (n : Fin 256) (t : Fin 300) :
    Gen.k1_pay35 v (ix2 n t) = ((extC x n t : ℝ) : EReal) := by
  pointwise [Gen.k1_pay35]
  unfold extC
  split <;> exact h _ _

/-- A plane with twelve further steps, as the body builds it. -/
theorem e36 {v : FVec Ideal S256x288 .f32} {x : Plane} (h : Holds v x) (n : Fin 256) (t : Fin 300) :
    Gen.k1_pay36 v (ix2 n t) = ((extC x n t : ℝ) : EReal) := by
  pointwise [Gen.k1_pay36]
  unfold extC
  split <;> exact h _ _

/-- A plane with twelve further steps, as the body builds it. -/
theorem e39 {v : FVec Ideal S256x288 .f32} {x : Plane} (h : Holds v x) (n : Fin 256) (t : Fin 300) :
    Gen.k1_pay39 v (ix2 n t) = ((extC x n t : ℝ) : EReal) := by
  pointwise [Gen.k1_pay39]
  unfold extC
  split <;> exact h _ _

/-- A plane with twelve further steps, as the body builds it. -/
theorem e40 {v : FVec Ideal S256x288 .f32} {x : Plane} (h : Holds v x) (n : Fin 256) (t : Fin 300) :
    Gen.k1_pay40 v (ix2 n t) = ((extC x n t : ℝ) : EReal) := by
  pointwise [Gen.k1_pay40]
  unfold extC
  split <;> exact h _ _

/-- A plane with twelve further steps, as the body builds it. -/
theorem e41 {v : FVec Ideal S256x288 .f32} {x : Plane} (h : Holds v x) (n : Fin 256) (t : Fin 300) :
    Gen.k1_pay41 v (ix2 n t) = ((extC x n t : ℝ) : EReal) := by
  pointwise [Gen.k1_pay41]
  unfold extC
  split <;> exact h _ _

/-- A plane with twelve further steps, as the body builds it. -/
theorem e42 {v : FVec Ideal S256x288 .f32} {x : Plane} (h : Holds v x) (n : Fin 256) (t : Fin 300) :
    Gen.k1_pay42 v (ix2 n t) = ((extC x n t : ℝ) : EReal) := by
  pointwise [Gen.k1_pay42]
  unfold extC
  split <;> exact h _ _

/-- A plane with twelve further steps, as the body builds it. -/
theorem e37 {v : FVec Ideal S256x288 .f32} {x : Plane} (h : Holds v x) (n : Fin 256) (t : Fin 300) :
    Gen.k1_pay37 v (ix2 n t) = ((extS x n t : ℝ) : EReal) := by
  pointwise [Gen.k1_pay37]
  unfold extS
  split <;> exact h _ _

/-- A plane with twelve further steps, as the body builds it. -/
theorem e38 {v : FVec Ideal S256x288 .f32} {x : Plane} (h : Holds v x) (n : Fin 256) (t : Fin 300) :
    Gen.k1_pay38 v (ix2 n t) = ((extS x n t : ℝ) : EReal) := by
  pointwise [Gen.k1_pay38]
  unfold extS
  split <;> exact h _ _

section
include x0
variable (B : Body x0 x1 x2 x3 x4 x w1 w2 w3 a)
include B

/-- A value of the body, in the chain's planes. -/
theorem v54 : Holds (Gen.k1_pay54 x0 x1 x2 x3 x4) (meanT w1 x) := by
  rw [Gen.k1_pay54, ld0, ld1]; exact pay10_coe B.h0 B.h1
/-- A value of the body, in the chain's planes. -/
theorem v55 : Holds (Gen.k1_pay55 x0 x1 x2 x3 x4) (dev (meanT w1) x) := by
  rw [Gen.k1_pay55, ld0, ld1]; exact pay13_coe B.h0 B.h1 B.A1
/-- A value of the body, in the chain's planes. -/
theorem v12 : Holds (Gen.k1_pay12 x0 x1) (p1 w1 x) := pay12_coe B.h0 B.h1 B.A1
/-- A value of the body, in the chain's planes. -/
theorem v17 : Holds (Gen.k1_pay17 x0 x1 x2) (p2 w1 w2 x) := pay17_coe (v12 B) B.h2 B.A2
/-- A value of the body, in the chain's planes. -/
theorem v56 : Holds (Gen.k1_pay56 x0 x1 x2 x3 x4) (p2 w1 w2 x) := by
  rw [Gen.k1_pay56, ld0, ld1, ld1]; exact v17 B
/-- A value of the body, in the chain's planes. -/
theorem v57 : HoldsW (Gen.k1_pay57 x0 x1 x2 x3 x4) w3 := by
  rw [Gen.k1_pay57, ld1]; exact pay19_coe B.h3
/-- A value of the body, in the chain's planes. -/
theorem v58 : Holds (Gen.k1_pay58 x0 x1 x2 x3 x4) (meanT w3 (p2 w1 w2 x)) := by
  rw [Gen.k1_pay58, ld0, ld1, ld1, ld1]; exact pay20_coe (v17 B) B.h3
/-- A value of the body, in the chain's planes. -/
theorem v59 : Holds (Gen.k1_pay59 x0 x1 x2 x3 x4) (sq (p2 w1 w2 x)) := by
  rw [Gen.k1_pay59, ld0, ld1, ld1]; exact pay21_coe (v17 B)
/-- A value of the body, in the chain's planes. -/
theorem v23 : Holds (Gen.k1_pay23 (Gen.k1_pay56 x0 x1 x2 x3 x4) (Gen.k1_pay57 x0 x1 x2 x3 x4) (Gen.k1_pay58 x0 x1 x2 x3 x4) (Gen.k1_pay59 x0 x1 x2 x3 x4))
    (p3 w1 w2 w3 x) := pay23_coe (v56 B) (v57 B) (v58 B) (v59 B) B.A3

/-- What window 5 stores. -/
theorem o5 (n : Fin 256) (t : Fin 288) : Gen.out1_5 x0 x1 x2 x3 x4 (ix3 0 n t) = ((p1 w1 x : Fin 256 → Fin 288 → ℝ) n t : EReal) := by
  unfold Gen.out1_5
  frame_out
  pointwise [Gen.k1_pay30]
  skip
  exact v12 B _ _

/-- What window 8 stores. -/
theorem o8 (n : Fin 256) (t : Fin 288) : Gen.out1_8 x0 x1 x2 x3 x4 (ix3 0 n t) = ((p2 w1 w2 x : Fin 256 → Fin 288 → ℝ) n t : EReal) := by
  unfold Gen.out1_8
  frame_out
  pointwise [Gen.k1_pay31]
  skip
  exact v56 B _ _

/-- What window 11 stores. -/
theorem o11 (n : Fin 256) (t : Fin 288) : Gen.out1_11 x0 x1 x2 x3 x4 (ix3 0 n t) = ((p3 w1 w2 w3 x : Fin 256 → Fin 288 → ℝ) n t : EReal) := by
  unfold Gen.out1_11
  frame_out
  pointwise [Gen.k1_pay33, Gen.k1_pay32]
  skip
  exact v23 B _ _

/-- What window 14 stores. -/
theorem o14 (n : Fin 256) (t : Fin 288) : Gen.out1_14 x0 x1 x2 x3 x4 (ix3 0 n t) = ((p4 w1 w2 w3 a x : Fin 256 → Fin 288 → ℝ) n t : EReal) := by
  unfold Gen.out1_14
  frame_out
  pointwise [Gen.k1_pay34]
  skip
  exact pay28_coe (v23 B) B.h4 B.A4 _ _

/-- What window 6 stores. -/
theorem o6 (n : Fin 256) (t : Fin 300) : Gen.out1_6 x0 x1 x2 x3 x4 (ix3 0 n t) = ((extC (meanT w1 x) : Fin 256 → Fin 300 → ℝ) n t : EReal) := by
  unfold Gen.out1_6
  frame_out
  pointwise [Gen.k1_pay43]
  skip
  exact e35 (v54 B) _ _

/-- What window 7 stores. -/
theorem o7 (n : Fin 256) (t : Fin 300) : Gen.out1_7 x0 x1 x2 x3 x4 (ix3 0 n t) = ((extC (dev (meanT w1) x) : Fin 256 → Fin 300 → ℝ) n t : EReal) := by
  unfold Gen.out1_7
  frame_out
  pointwise [Gen.k1_pay46, Gen.k1_pay45]
  skip
  exact e36 (v55 B) _ _

/-- What window 9 stores. -/
theorem o9 (n : Fin 256) (t : Fin 300) : Gen.out1_9 x0 x1 x2 x3 x4 (ix3 0 n t) = ((extS (meanT w2 (p1 w1 x)) : Fin 256 → Fin 300 → ℝ) n t : EReal) := by
  unfold Gen.out1_9
  frame_out
  pointwise [Gen.k1_pay48, Gen.k1_pay60]
  rw [ld0, ld1, ld1]
  exact e37 (pay15_coe (v12 B) B.h2) _ _

/-- What window 10 stores. -/
theorem o10 (n : Fin 256) (t : Fin 300) : Gen.out1_10 x0 x1 x2 x3 x4 (ix3 0 n t) = ((extS (dev (meanT w2) (p1 w1 x)) : Fin 256 → Fin 300 → ℝ) n t : EReal) := by
  unfold Gen.out1_10
  frame_out
  pointwise [Gen.k1_pay50, Gen.k1_pay61]
  rw [ld0, ld1, ld1]
  exact e38 (pay18_coe (v12 B) B.h2 B.A2) _ _

/-- What window 12 stores. -/
theorem o12 (n : Fin 256) (t : Fin 300) : Gen.out1_12 x0 x1 x2 x3 x4 (ix3 0 n t) = ((extC (meanT w3 (p2 w1 w2 x)) : Fin 256 → Fin 300 → ℝ) n t : EReal) := by
  unfold Gen.out1_12
  frame_out
  pointwise [Gen.k1_pay52, Gen.k1_pay62]
  skip
  exact e39 (v58 B) _ _

/-- What window 13 stores. -/
theorem o13 (n : Fin 256) (t : Fin 300) : Gen.out1_13 x0 x1 x2 x3 x4 (ix3 0 n t) = ((extC (dev (meanT w3) (p2 w1 w2 x)) : Fin 256 → Fin 300 → ℝ) n t : EReal) := by
  unfold Gen.out1_13
  frame_out
  pointwise [Gen.k1_pay2, Gen.k1_pay63]
  skip
  exact e40 (pay24_coe (v57 B) (v58 B) (v59 B) B.A3) _ _

/-- What window 15 stores. -/
theorem o15 (n : Fin 256) (t : Fin 300) : Gen.out1_15 x0 x1 x2 x3 x4 (ix3 0 n t) = ((extC (meanN a (p3 w1 w2 w3 x)) : Fin 256 → Fin 300 → ℝ) n t : EReal) := by
  unfold Gen.out1_15
  frame_out
  pointwise [Gen.k1_pay4, Gen.k1_pay64]
  rw [ld2]
  exact e41 (pay26_coe (v23 B) B.h4) _ _

/-- What window 16 stores. -/
theorem o16 (n : Fin 256) (t : Fin 300) : Gen.out1_16 x0 x1 x2 x3 x4 (ix3 0 n t) = ((extC (dev (meanN a) (p3 w1 w2 w3 x)) : Fin 256 → Fin 300 → ℝ) n t : EReal) := by
  unfold Gen.out1_16
  frame_out
  pointwise [Gen.k1_pay6, Gen.k1_pay65]
  rw [ld2]
  exact e42 (pay29_coe (v23 B) B.h4 B.A4) _ _

/-- What window 17 stores. -/
theorem o17 (j : Fin 23) (n : Fin 256) :
    Gen.out1_17 x0 x1 x2 x3 x4 (ix3 0 j n) = ((extC (meanT w1 x) : Fin 256 → Fin 300 → ℝ) n ⟨277 + j, by omega⟩ : EReal) := by
  unfold Gen.out1_17
  frame_out
  pointwise [Gen.k1_pay44]
  skip
  exact e35 (v54 B) _ _

/-- What window 18 stores. -/
theorem o18 (j : Fin 23) (n : Fin 256) :
    Gen.out1_18 x0 x1 x2 x3 x4 (ix3 0 j n) = ((extC (dev (meanT w1) x) : Fin 256 → Fin 300 → ℝ) n ⟨277 + j, by omega⟩ : EReal) := by
  unfold Gen.out1_18
  frame_out
  pointwise [Gen.k1_pay47]
  skip
  exact e36 (v55 B) _ _

/-- What window 19 stores. -/
theorem o19 (j : Fin 23) (n : Fin 256) :
    Gen.out1_19 x0 x1 x2 x3 x4 (ix3 0 j n) = ((extS (meanT w2 (p1 w1 x)) : Fin 256 → Fin 300 → ℝ) n ⟨277 + j, by omega⟩ : EReal) := by
  unfold Gen.out1_19
  frame_out
  pointwise [Gen.k1_pay49, Gen.k1_pay60]
  rw [ld0, ld1, ld1]
  exact e37 (pay15_coe (v12 B) B.h2) _ _

/-- What window 20 stores. -/
theorem o20 (j : Fin 23) (n : Fin 256) :
    Gen.out1_20 x0 x1 x2 x3 x4 (ix3 0 j n) = ((extS (dev (meanT w2) (p1 w1 x)) : Fin 256 → Fin 300 → ℝ) n ⟨277 + j, by omega⟩ : EReal) := by
  unfold Gen.out1_20
  frame_out
  pointwise [Gen.k1_pay51, Gen.k1_pay61]
  rw [ld0, ld1, ld1]
  exact e38 (pay18_coe (v12 B) B.h2 B.A2) _ _

/-- What window 21 stores. -/
theorem o21 (j : Fin 23) (n : Fin 256) :
    Gen.out1_21 x0 x1 x2 x3 x4 (ix3 0 j n) = ((extC (meanT w3 (p2 w1 w2 x)) : Fin 256 → Fin 300 → ℝ) n ⟨277 + j, by omega⟩ : EReal) := by
  unfold Gen.out1_21
  frame_out
  pointwise [Gen.k1_pay1, Gen.k1_pay53, Gen.k1_pay62]
  skip
  exact e39 (v58 B) _ _

/-- What window 22 stores. -/
theorem o22 (j : Fin 23) (n : Fin 256) :
    Gen.out1_22 x0 x1 x2 x3 x4 (ix3 0 j n) = ((extC (dev (meanT w3) (p2 w1 w2 x)) : Fin 256 → Fin 300 → ℝ) n ⟨277 + j, by omega⟩ : EReal) := by
  unfold Gen.out1_22
  frame_out
  pointwise [Gen.k1_pay3, Gen.k1_pay63]
  skip
  exact e40 (pay24_coe (v57 B) (v58 B) (v59 B) B.A3) _ _

/-- What window 23 stores. -/
theorem o23 (j : Fin 23) (n : Fin 256) :
    Gen.out1_23 x0 x1 x2 x3 x4 (ix3 0 j n) = ((extC (meanN a (p3 w1 w2 w3 x)) : Fin 256 → Fin 300 → ℝ) n ⟨277 + j, by omega⟩ : EReal) := by
  unfold Gen.out1_23
  frame_out
  pointwise [Gen.k1_pay5, Gen.k1_pay64]
  rw [ld2]
  exact e41 (pay26_coe (v23 B) B.h4) _ _

/-- What window 24 stores. -/
theorem o24 (j : Fin 23) (n : Fin 256) :
    Gen.out1_24 x0 x1 x2 x3 x4 (ix3 0 j n) = ((extC (dev (meanN a) (p3 w1 w2 w3 x)) : Fin 256 → Fin 300 → ℝ) n ⟨277 + j, by omega⟩ : EReal) := by
  unfold Gen.out1_24
  frame_out
  pointwise [Gen.k1_pay7, Gen.k1_pay65]
  rw [ld2]
  exact e42 (pay29_coe (v23 B) B.h4 B.A4) _ _

end

end Cert.Chain
-- ==== Proof.Means.lean ====
/- Window and season means over the reals: by weights and by partial sums. -/
module

public import proofs.«01_k».proof.Proof.Norms
public import proofs.«01_k».proof.Proof.Gen.ReferenceIdeal.Run

@[expose] public section

set_option maxRecDepth 16384

noncomputable section

namespace Cert.Chain

open Idealize.ShloMosaic Idealize.ShloMosaic.StableHlo Cert.ReferenceIdeal

/-- A row of 288 values, continued by zero. -/
def cont (f : Fin 288 → ℝ) (i : ℕ) : ℝ := if h : i < 288 then f ⟨i, h⟩ else 0

/-- The sum of the first `k` values of a row. -/
def part (f : Fin 288 → ℝ) (k : ℕ) : ℝ := ∑ i ∈ Finset.range k, cont f i

/-- The weight of step `s` in the mean of the `L` steps ending at step `t`, or at step `L - 1` for an earlier `t`. -/
def win (L : ℕ) (s t : Fin 288) : ℝ := if s.val ≤ max t.val (L - 1) ∧ max t.val (L - 1) < s.val + L then 1 / (L : ℝ) else 0

/-- The weight of step `s` in the mean over the steps in phase with step `t`, for a period of 24. -/
def sea (s t : Fin 288) : ℝ := if s.val % 24 = t.val % 24 then 1 / 12 else 0

/-- A sum over the steps is the sum of the continued row. -/
theorem sum_cont (f : Fin 288 → ℝ) : ∑ s, f s = ∑ i ∈ Finset.range 288, cont f i := by
  rw [← Fin.sum_univ_eq_sum_range]
  exact Finset.sum_congr rfl fun s _ => by simp [cont]

/-- A sum over the steps that keeps one run of them is a difference of two partial sums. -/
theorem sum_run (f : Fin 288 → ℝ) (a L : ℕ) (ha : a + L ≤ 288) :
    ∑ s : Fin 288, (if a ≤ s.val ∧ s.val < a + L then f s else 0) = part f (a + L) - part f a := by
  rw [sum_cont]
  have e : ∀ i ∈ Finset.range 288, cont (fun s : Fin 288 => if a ≤ s.val ∧ s.val < a + L then f s else 0) i
      = if i ∈ Finset.Ico a (a + L) then cont f i else 0 := by
    intro i hi
    have hi := Finset.mem_range.mp hi
    simp only [cont, hi, dif_pos, Finset.mem_Ico]
  rw [Finset.sum_congr rfl e, Finset.sum_ite_mem]
  have : Finset.range 288 ∩ Finset.Ico a (a + L) = Finset.Ico a (a + L) := by
    ext i; simp only [Finset.mem_inter, Finset.mem_range, Finset.mem_Ico]; omega
  rw [this, Finset.sum_Ico_eq_sub _ (by omega)]
  rfl

/-- The window mean is a difference of two partial sums over the window's length. -/
theorem meanT_win (L : ℕ) (hL : 0 < L) (hL' : L ≤ 288) (x : Plane) (n : Fin 256) (t : Fin 288) :
    meanT (win L) x n t = (part (x n) (max t.val (L - 1) + 1 - L + L) - part (x n) (max t.val (L - 1) + 1 - L)) / L := by
  have ht := t.isLt
  rw [← sum_run (x n) (max t.val (L - 1) + 1 - L) L (by omega), Finset.sum_div]
  unfold meanT win
  refine Finset.sum_congr rfl fun s _ => ?_
  have e : (s.val ≤ max t.val (L - 1) ∧ max t.val (L - 1) < s.val + L)
      ↔ (max t.val (L - 1) + 1 - L ≤ s.val ∧ s.val < max t.val (L - 1) + 1 - L + L) := by omega
  rw [if_congr e rfl rfl]
  split <;> simp [div_eq_mul_inv]

/-- The window weights are not negative. -/
theorem win_nonneg (L : ℕ) (s t : Fin 288) : 0 ≤ win L s t := by
  unfold win; split <;> positivity

/-- The window weights sum to one. -/
theorem win_sum (L : ℕ) (hL : 0 < L) (hL' : L ≤ 288) (t : Fin 288) : ∑ s, win L s t = 1 := by
  have h := meanT_win L hL hL' (fun _ _ => 1) 0 t
  have ht := t.isLt
  simp only [meanT, one_mul] at h
  rw [h]
  have e : ∀ k ≤ 288, part (fun _ => 1) k = k := by
    intro k hk
    unfold part
    rw [Finset.sum_congr rfl fun i hi => by
      rw [cont, dif_pos (lt_of_lt_of_le (Finset.mem_range.mp hi) hk)]]
    simp
  rw [e _ (by omega), e _ (by omega), Nat.cast_add, add_sub_cancel_left, div_self (by positivity)]

/-- A sum over the steps, phase by phase. -/
theorem sum_phase (f : Fin 288 → ℝ) : ∑ s, f s = ∑ k : Fin 12, ∑ p : Fin 24, f ⟨k.val * 24 + p.val, by omega⟩ := by
  rw [← Finset.sum_product', Finset.univ_product_univ]
  symm
  refine Fintype.sum_equiv (finProdFinEquiv (m := 12) (n := 24)) _ _ fun y => ?_
  congr 1
  apply Fin.ext
  simp [finProdFinEquiv]
  ring

/-- The season mean is the mean of the twelve steps in phase. -/
theorem meanT_sea (x : Plane) (n : Fin 256) (t : Fin 288) :
    meanT sea x n t = (∑ k : Fin 12, x n ⟨k.val * 24 + t.val % 24, by omega⟩) / 12 := by
  unfold meanT sea
  rw [sum_phase, Finset.sum_div]
  refine Finset.sum_congr rfl fun k _ => ?_
  have hp : t.val % 24 < 24 := by omega
  rw [Finset.sum_eq_single (⟨t.val % 24, hp⟩ : Fin 24)]
  · rw [if_pos (by simp only; omega)]; ring
  · intro p _ hne
    rw [if_neg, mul_zero]
    intro h
    apply hne
    apply Fin.ext
    simp only at h ⊢
    omega
  · intro h; exact absurd (Finset.mem_univ _) h

/-- The season weights are not negative. -/
theorem sea_nonneg (s t : Fin 288) : 0 ≤ sea s t := by
  unfold sea; split <;> positivity

/-- The season weights sum to one. -/
theorem sea_sum (t : Fin 288) : ∑ s, sea s t = 1 := by
  have h := meanT_sea (fun _ _ => 1) 0 t
  simp only [meanT, one_mul] at h
  rw [h]; norm_num

/-- Adding real terms one after the other. -/
theorem foldl_add_coe {ι : Type} (l : List ι) (g : ι → ℝ) (term : ι → EReal) (h : ∀ i, term i = (g i : EReal)) (r : ℝ) :
    l.foldl (fun r n => r + term n) (r : EReal) = ((r + (l.map g).sum : ℝ) : EReal) := by
  induction l generalizing r with
  | nil => simp
  | cons a l ih =>
    rw [List.foldl_cons, h a, ← EReal.coe_add, ih, List.map_cons, List.sum_cons, add_assoc]

/-- The row-major position of four coordinates. -/
theorem rowMajor4 (d : Fin 4 → Nat) (p : (a : Fin 4) → Fin (d a)) :
    (Shape.rowMajorPi d p).val = (p 0).val * (∏ a : Fin 3, d a.succ) + ((p 1).val * (∏ a : Fin 2, d a.succ.succ)
      + ((p 2).val * (∏ a : Fin 1, d a.succ.succ.succ) + ((p 3).val * 1 + 0))) := by
  have e : ∀ (d : Fin 0 → Nat) (y : (a : Fin 0) → Fin (d a)), (Shape.rowMajorPi d y).val = 0 := by
    intro d y
    have := (Shape.rowMajorPi d y).isLt
    simp at this
    exact this
  rw [Shape.rowMajorPi_succ_val, Shape.rowMajorPi_succ_val, Shape.rowMajorPi_succ_val, Shape.rowMajorPi_succ_val, e]
  rfl

/-- The one-row window's multi-index at a row-major position. -/
theorem symm4 (n : Fin (⟨4, ![1, 1, 1, 288]⟩ : Shape).numel) : ((⟨4, ![1, 1, 1, 288]⟩ : Shape).rowMajor.symm n 3).val = n.val := by
  have h := congrArg Fin.val ((⟨4, ![1, 1, 1, 288]⟩ : Shape).rowMajor.apply_symm_apply n)
  rw [← h]
  generalize (⟨4, ![1, 1, 1, 288]⟩ : Shape).rowMajor.symm n = p
  have h0 : (p 0).val = 0 := Nat.lt_one_iff.mp (p 0).isLt
  have h1 : (p 1).val = 0 := Nat.lt_one_iff.mp (p 1).isLt
  have h2 : (p 2).val = 0 := Nat.lt_one_iff.mp (p 2).isLt
  refine Eq.trans ?_ (rowMajor4 ![1, 1, 1, 288] p).symm
  change (p 3).val = (p 0).val * _ + ((p 1).val * _ + ((p 2).val * _ + ((p 3).val * 1 + 0)))
  rw [h0, h1, h2]
  omega

/-- The running sum along the last axis, as it prints: entry `j` holds the sum of the entries up to `j`. -/
theorem cumsum_coe (x : S4x32x256x288.Idx → EReal) (f : Fin 288 → ℝ) (init : S_.Idx → EReal) (h) (hu)
    (b : Fin 4) (c : Fin 32) (n : Fin 256) (hx : ∀ i, x (ix4 b c n i) = (f i : EReal)) (hi : init (Shape.Idx.first hu) = 0) (j : Fin 288) :
    Host.reduceWindowAdd (F := Ideal) (φ := .f32) (t := S4x32x256x288) ![1, 1, 1, 288] ![1, 1, 1, 1] ![0, 0, 0, 287] ![0, 0, 0, 0] x init h hu (ix4 b c n j)
      = (part f (j.val + 1) : EReal) := by
  have hj := j.isLt
  change Host.reduceWindow (s := S4x32x256x288) (t := S4x32x256x288) (fun p q : EReal => p + q) ![1, 1, 1, 288] ![1, 1, 1, 1] ![0, 0, 0, 287] ![0, 0, 0, 0] x init h hu (ix4 b c n j) = _
  unfold Host.reduceWindow
  dsimp only
  rw [hi]
  refine (foldl_add_coe _ (fun k => if 287 ≤ j.val + k.val then cont f (j.val + k.val - 287) else 0) _ (fun k => ?_) 0).trans ?_
  · have hk : k.val < 288 := lt_of_lt_of_eq k.isLt (by decide)
    have w3 := symm4 k
    have w0 : ((⟨4, ![1, 1, 1, 288]⟩ : Shape).rowMajor.symm k 0).val = 0 := Nat.lt_one_iff.mp (Fin.isLt _)
    have w1 : ((⟨4, ![1, 1, 1, 288]⟩ : Shape).rowMajor.symm k 1).val = 0 := Nat.lt_one_iff.mp (Fin.isLt _)
    have w2 : ((⟨4, ![1, 1, 1, 288]⟩ : Shape).rowMajor.symm k 2).val = 0 := Nat.lt_one_iff.mp (Fin.isLt _)
    split
    · next hin =>
      have h3 := hin 3
      change 287 ≤ j.val * 1 + ((⟨4, ![1, 1, 1, 288]⟩ : Shape).rowMajor.symm k 3).val
        ∧ j.val * 1 + ((⟨4, ![1, 1, 1, 288]⟩ : Shape).rowMajor.symm k 3).val - 287 < 288 at h3
      rw [w3] at h3
      rw [if_pos (by omega), cont, dif_pos (by omega), ← hx]
      refine congrArg x (funext fun a => Fin.ext ?_)
      match a with
      | ⟨0, _⟩ =>
        show b.val * 1 + ((⟨4, ![1, 1, 1, 288]⟩ : Shape).rowMajor.symm k 0).val - 0 = b.val
        rw [w0]; omega
      | ⟨1, _⟩ =>
        show c.val * 1 + ((⟨4, ![1, 1, 1, 288]⟩ : Shape).rowMajor.symm k 1).val - 0 = c.val
        rw [w1]; omega
      | ⟨2, _⟩ =>
        show n.val * 1 + ((⟨4, ![1, 1, 1, 288]⟩ : Shape).rowMajor.symm k 2).val - 0 = n.val
        rw [w2]; omega
      | ⟨3, _⟩ =>
        show j.val * 1 + ((⟨4, ![1, 1, 1, 288]⟩ : Shape).rowMajor.symm k 3).val - 287 = j.val + k.val - 287
        rw [w3]; omega
    · next hin =>
      rw [if_neg fun hle => hin fun a => by
        match a with
        | ⟨0, _⟩ =>
          show 0 ≤ b.val * 1 + ((⟨4, ![1, 1, 1, 288]⟩ : Shape).rowMajor.symm k 0).val
            ∧ b.val * 1 + ((⟨4, ![1, 1, 1, 288]⟩ : Shape).rowMajor.symm k 0).val - 0 < 4
          rw [w0]; omega
        | ⟨1, _⟩ =>
          show 0 ≤ c.val * 1 + ((⟨4, ![1, 1, 1, 288]⟩ : Shape).rowMajor.symm k 1).val
            ∧ c.val * 1 + ((⟨4, ![1, 1, 1, 288]⟩ : Shape).rowMajor.symm k 1).val - 0 < 32
          rw [w1]; omega
        | ⟨2, _⟩ =>
          show 0 ≤ n.val * 1 + ((⟨4, ![1, 1, 1, 288]⟩ : Shape).rowMajor.symm k 2).val
            ∧ n.val * 1 + ((⟨4, ![1, 1, 1, 288]⟩ : Shape).rowMajor.symm k 2).val - 0 < 256
          rw [w2]; omega
        | ⟨3, _⟩ =>
          show 287 ≤ j.val * 1 + ((⟨4, ![1, 1, 1, 288]⟩ : Shape).rowMajor.symm k 3).val
            ∧ j.val * 1 + ((⟨4, ![1, 1, 1, 288]⟩ : Shape).rowMajor.symm k 3).val - 287 < 288
          rw [w3]; omega]
      simp
  · congr 1
    rw [zero_add, ← Fin.sum_univ_def]
    rw [Fin.sum_univ_eq_sum_range (fun k => if 287 ≤ j.val + k then cont f (j.val + k - 287) else 0)]
    have e : (⟨4, ![1, 1, 1, 288]⟩ : Shape).numel = (287 - j.val) + (j.val + 1) :=
      (by decide : (⟨4, ![1, 1, 1, 288]⟩ : Shape).numel = 288).trans (by omega)
    rw [e, Finset.sum_range_add, Finset.sum_eq_zero, zero_add]
    · refine Finset.sum_congr rfl fun i hi => ?_
      have hi := Finset.mem_range.mp hi
      rw [if_pos (by omega)]
      congr 1
      omega
    · intro i hi
      have hi := Finset.mem_range.mp hi
      rw [if_neg (by omega)]

end Cert.Chain
-- ==== Proof.Adj.lean ====
/- The node weights: a softmax of the embeddings' products, over the reals. -/
module

public import proofs.«01_k».proof.Proof.Norms
public import proofs.«01_k».proof.Proof.Gen.KernelIdeal.Skeleton
public import proofs.«01_k».proof.Proof.Gen.ReferenceIdeal.Run
public import Idealize.ShloMosaic.Lib.Tactic.CleanTypes

@[expose] public section

set_option maxRecDepth 16384

noncomputable section

namespace Cert.Chain

open Idealize.ShloMosaic Idealize.ShloMosaic.StableHlo Cert.KernelIdeal

/-- The similarity of two nodes, lowered by ten on the diagonal. -/
def logit (e : Fin 256 → Fin 16 → ℝ) (n k : Fin 256) : ℝ := ∑ j, e n j * e k j - if n = k then 10 else 0

/-- The greatest similarity of a node. -/
def top (e : Fin 256 → Fin 16 → ℝ) (n : Fin 256) : ℝ := Finset.univ.sup' ⟨0, Finset.mem_univ _⟩ (logit e n)

/-- The weight of node `k` in the mean at node `n`. -/
def adj (e : Fin 256 → Fin 16 → ℝ) (n k : Fin 256) : ℝ :=
  Real.exp (logit e n k - top e n) / ∑ x, Real.exp (logit e n x - top e n)

/-- The weights' denominator is positive. -/
theorem adj_den (e : Fin 256 → Fin 16 → ℝ) (n : Fin 256) : 0 < ∑ x, Real.exp (logit e n x - top e n) :=
  Finset.sum_pos (fun _ _ => Real.exp_pos _) ⟨0, Finset.mem_univ _⟩

/-- A weight is not negative. -/
theorem adj_nonneg (e : Fin 256 → Fin 16 → ℝ) (n k : Fin 256) : 0 ≤ adj e n k :=
  div_nonneg (Real.exp_pos _).le (adj_den e n).le

/-- A node's weights sum to one. -/
theorem adj_sum (e : Fin 256 → Fin 16 → ℝ) (n : Fin 256) : ∑ k, adj e n k = 1 := by
  unfold adj
  rw [← Finset.sum_div]
  exact div_self (adj_den e n).ne'

/-- A maximum taken from minus infinity over real values is their greatest. -/
theorem fold_max_coe (f : Fin 256 → ℝ) :
    Finset.univ.fold max (⊥ : EReal) (fun x => (f x : EReal)) = ((Finset.univ.sup' ⟨0, Finset.mem_univ _⟩ f : ℝ) : EReal) := by
  apply le_antisymm
  · rw [Finset.fold_max_le]
    exact ⟨bot_le, fun x hx => EReal.coe_le_coe_iff.mpr (Finset.le_sup' f hx)⟩
  · obtain ⟨x, hx, hfx⟩ := Finset.exists_mem_eq_sup' (⟨0, Finset.mem_univ _⟩ : Finset.univ.Nonempty) f
    rw [hfx, Finset.le_fold_max]
    exact .inr ⟨x, hx, le_refl _⟩

/-- The literal ten. -/
theorem ten : Ideal.ofBits .f32 1092616192#32 = ((10 : ℝ) : EReal) := by
  simp [Ideal.ofBits, Ideal.ieee]; rw [← EReal.coe_mul]; norm_num

/-- The literal minus infinity. -/
theorem negInf : Ideal.ofBits .f32 4286578688#32 = (⊥ : EReal) := by
  simp [Ideal.ofBits, Ideal.ieee]

/-- The quotient of two real values of which the second is positive. -/
theorem div_coe (x y : ℝ) (h : 0 < y) : Ideal.div (x : EReal) (y : EReal) = ((x / y : ℝ) : EReal) := by
  have h0 : (y : EReal) ≠ 0 := by exact_mod_cast h.ne'
  rw [Ideal.div, if_neg h0, ← EReal.coe_inv, ← EReal.coe_mul, div_eq_mul_inv]

/-- The exponential of a real value. -/
theorem exp_coe (x : ℝ) : Ideal.exp (x : EReal) = ((Real.exp x : ℝ) : EReal) := by
  rfl

/-- The kernel's node weights. -/
theorem kernel_adj {v : Vec Ideal S256x16 .f32} {e : Fin 256 → Fin 16 → ℝ} (h : ∀ n j, v (ix2 n j) = (e n j : EReal)) (n k : Fin 256) :
    Gen.k0_pay1 v (ix2 n k) = (adj e n k : EReal) := by
  pointwise [Gen.k0_pay1]
  have hl : ∀ n k : Fin 256, ∑ x, v (ix2 n x) * v (ix2 k x) - Scalar.select (IntOp.cmpi .eq (BitVec.ofNat 32 ↑n) (BitVec.ofNat 32 ↑k)) (Ideal.ofBits .f32 1092616192#32) 0 = (logit e n k : EReal) := by
    intro n k
    have hs : ∑ x, v (ix2 n x) * v (ix2 k x) = ((∑ j, e n j * e k j : ℝ) : EReal) := by
      rw [coe_sum]
      exact Finset.sum_congr rfl fun x _ => by rw [h, h, EReal.coe_mul]
    have hd : Scalar.select (IntOp.cmpi .eq (BitVec.ofNat 32 ↑n) (BitVec.ofNat 32 ↑k)) (Ideal.ofBits .f32 1092616192#32) 0 = ((if n = k then 10 else 0 : ℝ) : EReal) := by
      rw [ten]
      by_cases hnk : n = k
      · subst hnk; simp [IntOp.cmpi, Scalar.select]
      · have : BitVec.ofNat 32 (n : ℕ) ≠ BitVec.ofNat 32 (k : ℕ) := by
          intro hb
          apply hnk
          have := congrArg BitVec.toNat hb
          simp at this
          omega
        have hb : (BitVec.ofNat 32 (n : ℕ) == BitVec.ofNat 32 (k : ℕ)) = false := by simpa using this
        simp [IntOp.cmpi, Scalar.select, hnk, hb]
    rw [hs, hd, logit, EReal.coe_sub]
  simp only [hl, negInf, fold_max_coe, ← EReal.coe_sub, exp_coe, ← coe_sum]
  exact div_coe _ _ (adj_den e n)

/-- Whether two node indices are equal, as a number. -/
theorem EReal_uitofp_eq (n k : Fin 256) : (FloatOps.uitofp .f32 (IntOp.cmpi .eq (IntOp.addi (BitVec.ofNat 32 ↑n) 0#32) (BitVec.ofNat 32 ↑k)) : Ideal .f32)
    = ((if n = k then 1 else 0 : ℝ) : EReal) := by
  by_cases hnk : n = k
  · subst hnk; simp [IntOp.cmpi, IntOp.addi, FloatOps.uitofp]
  · have : BitVec.ofNat 32 (n : ℕ) ≠ BitVec.ofNat 32 (k : ℕ) := by
      intro hb
      apply hnk
      have := congrArg BitVec.toNat hb
      simp at this
      omega
    have hb : (BitVec.ofNat 32 (n : ℕ) == BitVec.ofNat 32 (k : ℕ)) = false := by simpa using this
    simp [IntOp.cmpi, IntOp.addi, hnk, hb, FloatOps.uitofp]

open Cert.ReferenceIdeal.Value in
/-- The reference's similarities. -/
theorem ref_logit {V0 : Valuation Cert.ReferenceIdeal.τ Cert.ReferenceIdeal.sig (Elt Ideal)} {e : Fin 256 → Fin 16 → ℝ}
    (h : ∀ n j, V0 (Proc.devRef .tc Cert.ReferenceIdeal.main_arg1) (ix2 n j) = (e n j : EReal)) (n k : Fin 256) :
    res_main_v159 V0 (ix2 n k) = (logit e n k : EReal) := by
  unfold res_main_v159
  clean_types
  pointwise
  rw [ten, EReal_uitofp_eq]
  refine (congrArg₂ (fun p q : EReal => p - q) ((Finset.sum_congr rfl fun x _ => by
    rw [h n x, h k x, ← EReal.coe_mul]).trans (coe_sum Finset.univ fun j => e n j * e k j).symm) rfl).trans ?_
  rw [logit, EReal.coe_sub, ← EReal.coe_mul]
  congr 2
  split <;> simp

open Cert.ReferenceIdeal.Value in
/-- The reference's node weights. -/
theorem ref_adj {V0 : Valuation Cert.ReferenceIdeal.τ Cert.ReferenceIdeal.sig (Elt Ideal)} {e : Fin 256 → Fin 16 → ℝ}
    (h : ∀ n j, V0 (Proc.devRef .tc Cert.ReferenceIdeal.main_arg1) (ix2 n j) = (e n j : EReal)) (n k : Fin 256) :
    res_main_v170 V0 (ix2 n k) = (adj e n k : EReal) := by
  have h166 : ∀ n k, res_main_v166 V0 (ix2 n k) = ((Real.exp (logit e n k - top e n) : ℝ) : EReal) := by
    intro n k
    unfold res_main_v166
    clean_types
    pointwise
    simp only [ref_logit h, negInf, fold_max_coe, bot_sup_eq, ← EReal.coe_sub, exp_coe]
    rfl
  unfold res_main_v170
  clean_types
  pointwise
  simp only [h166, ← coe_sum]
  exact div_coe _ _ (adj_den e n)

end Cert.Chain
-- ==== Proof.Spec.lean ====
/- The thirteen groups of channels that the slab is made of. -/
module

public import proofs.«01_k».proof.Proof.Mix
public import proofs.«01_k».proof.Proof.ChainOut
public import proofs.«01_k».proof.Proof.Means
public import proofs.«01_k».proof.Proof.Adj

@[expose] public section

set_option maxRecDepth 16384

noncomputable section

namespace Cert.Chain

open Idealize.ShloMosaic

/-- The values of a real plane at one node. -/
def row (x : Plane) (n : Fin 256) (t : Fin 288) : EReal := (x n t : EReal)

/-- The four weights of the further steps, and their biases. -/
structure Further where
  W : Fin 4 → Fin 384 → Fin 32 → Fin 5 → EReal
  β : Fin 4 → Fin 384 → EReal

/-- Stage `i` (0 to 3) of the chain, from plane `x` on. -/
def stage (w1 w2 w3 : Fin 288 → Fin 288 → ℝ) (a : Fin 256 → Fin 256 → ℝ) (i : Fin 4) (x : Plane) : Plane :=
  (![p1 w1 x, p2 w1 w2 x, p3 w1 w2 w3 x, p4 w1 w2 w3 a x] : Fin 4 → Plane) i

/-- A stage with its twelve further steps. -/
def longer (F : Further) (i : Fin 4) (p : Fin 32 → Fin 288 → EReal) (c : Fin 32) (t : Fin 300) : EReal :=
  glue (p c) (further p (F.W i) (F.β i) c) t

/-- The thirteen groups at one row and node. -/
def groups (Q : Fin 32 → Plane) (w1 w2 w3 : Fin 288 → Fin 288 → ℝ) (a : Fin 256 → Fin 256 → ℝ) (F : Further) (n : Fin 256)
    (g : Fin 13) (c : Fin 32) (t : Fin 300) : EReal :=
  (![(extC (Q c) n t : EReal),
    longer F 0 (fun c => row (p1 w1 (Q c)) n) c t,
    (extC (meanT w1 (Q c)) n t : EReal),
    (extC (dev (meanT w1) (Q c)) n t : EReal),
    longer F 1 (fun c => row (p2 w1 w2 (Q c)) n) c t,
    (extS (meanT w2 (p1 w1 (Q c))) n t : EReal),
    (extS (dev (meanT w2) (p1 w1 (Q c))) n t : EReal),
    longer F 2 (fun c => row (p3 w1 w2 w3 (Q c)) n) c t,
    (extC (meanT w3 (p2 w1 w2 (Q c))) n t : EReal),
    (extC (dev (meanT w3) (p2 w1 w2 (Q c))) n t : EReal),
    longer F 3 (fun c => row (p4 w1 w2 w3 a (Q c)) n) c t,
    (extC (meanN a (p3 w1 w2 w3 (Q c))) n t : EReal),
    (extC (dev (meanN a) (p3 w1 w2 w3 (Q c))) n t : EReal)] : Fin 13 → EReal) g

/-- The groups with the five that carry a plane itself set to zero. -/
def statGroups (Q : Fin 32 → Plane) (w1 w2 w3 : Fin 288 → Fin 288 → ℝ) (a : Fin 256 → Fin 256 → ℝ) (n : Fin 256)
    (g : Fin 13) (c : Fin 32) (t : Fin 300) : EReal :=
  (![0, 0,
    (extC (meanT w1 (Q c)) n t : EReal),
    (extC (dev (meanT w1) (Q c)) n t : EReal), 0,
    (extS (meanT w2 (p1 w1 (Q c))) n t : EReal),
    (extS (dev (meanT w2) (p1 w1 (Q c))) n t : EReal), 0,
    (extC (meanT w3 (p2 w1 w2 (Q c))) n t : EReal),
    (extC (dev (meanT w3) (p2 w1 w2 (Q c))) n t : EReal), 0,
    (extC (meanN a (p3 w1 w2 w3 (Q c))) n t : EReal),
    (extC (dev (meanN a) (p3 w1 w2 w3 (Q c))) n t : EReal)] : Fin 13 → EReal) g

end Cert.Chain
-- ==== Proof.RefFirst.lean ====
/- The reference's four normalisations, stage by stage, over the reals. -/
module

public import proofs.«01_k».proof.Proof.Means
public import proofs.«01_k».proof.Proof.Adj
public import proofs.«01_k».proof.Proof.ChainOut

@[expose] public section

set_option maxRecDepth 16384

noncomputable section

namespace Cert.Chain

open Idealize.ShloMosaic Idealize.ShloMosaic.StableHlo Cert.ReferenceIdeal Cert.ReferenceIdeal.Value

variable {V0 : Valuation Cert.ReferenceIdeal.τ Cert.ReferenceIdeal.sig (Elt Ideal)} {Q : Fin 4 → Fin 32 → Plane}

/-- The literal forty-eight. -/
theorem f48 : Ideal.ofBits .f32 1111490560#32 = ((48 : ℝ) : EReal) := by
  simp [Ideal.ofBits, Ideal.ieee]; rw [← EReal.coe_mul]; norm_num

/-- The literal twelve. -/
theorem f12 : Ideal.ofBits .f32 1094713344#32 = ((12 : ℝ) : EReal) := by
  simp [Ideal.ofBits, Ideal.ieee]; rw [← EReal.coe_mul]; norm_num

/-- A difference of partial sums over the window's length, as the reference takes it. -/
theorem win_coe (L : ℕ) (hL : 0 < L) (hL' : L ≤ 288) (x : Plane) (n : Fin 256) (t : Fin 288) (k : ℕ) (hk : t.val = k + (L - 1)) :
    Ideal.div ((part (x n) (L + k) : EReal) - (part (x n) k : EReal)) ((L : ℝ) : EReal) = (meanT (win L) x n t : EReal) := by
  rw [meanT_win L hL hL', ← EReal.coe_sub, div_coe _ _ (by positivity)]
  have e1 : max t.val (L - 1) + 1 - L = k := by omega
  rw [e1, add_comm L k]

/-- Before the first full window the mean is that of the first full window. -/
theorem meanT_early (L : ℕ) (x : Plane) (n : Fin 256) (t t' : Fin 288) (h : max t'.val (L - 1) = max t.val (L - 1)) :
    meanT (win L) x n t' = meanT (win L) x n t := by
  simp only [meanT, win, h]

/-- Early steps share one variance. -/
theorem var_early (L : ℕ) (x : Plane) (n : Fin 256) (t t' : Fin 288) (h : max t'.val (L - 1) = max t.val (L - 1)) :
    var (meanT (win L)) x n t' = var (meanT (win L)) x n t := by
  simp only [var, meanT_early L _ n t t' h]

/-- The window weights average. -/
theorem averages_win (L : ℕ) (hL : 0 < L) (hL' : L ≤ 288) : Averages (meanT (win L)) :=
  averages_meanT _ (win_nonneg L) (win_sum L hL hL')

/-- The seasonal weights average. -/
theorem averages_sea : Averages (meanT sea) := averages_meanT _ sea_nonneg sea_sum

/-- The node weights average. -/
theorem averages_adj (e : Fin 256 → Fin 16 → ℝ) : Averages (meanN (adj e)) :=
  averages_meanN _ (adj_nonneg e) (adj_sum e)

/-- Array 7 of the reference, in the first planes. -/
theorem r7 (h : ∀ b c n t, V0 (Proc.devRef .tc main_arg0) (ix4 b c n t) = (Q b c n t : EReal)) (b : Fin 4) (c : Fin 32) (n : Fin 256) (t : Fin 289) :
    res_main_v7 V0 (ix4 b c n t) = (part (Q b c n) t.val : EReal) := by
  unfold res_main_v7
  clean_types
  pointwise
  split
  · next h0 =>
    have e : t.val = 0 := by omega
    rw [e]
    simp [part]
  · next h0 =>
    refine (cumsum_coe _ (Q b c n) _ _ _ b c n (fun i => h b c n i) (by pointwise) _).trans ?_
    congr 2
    simp only
    omega

/-- Array 11 of the reference, in the first planes. -/
theorem r11 (h : ∀ b c n t, V0 (Proc.devRef .tc main_arg0) (ix4 b c n t) = (Q b c n t : EReal)) (b : Fin 4) (c : Fin 32) (n : Fin 256) (t : Fin 289) :
    res_main_v11 V0 (ix4 b c n t) = (part (sq (Q b c) n) t.val : EReal) := by
  unfold res_main_v11
  clean_types
  pointwise
  split
  · next h0 =>
    have e : t.val = 0 := by omega
    rw [e]
    simp [part]
  · next h0 =>
    refine (cumsum_coe _ (sq (Q b c) n) _ _ _ b c n (fun i => by
      pointwise
      exact (congrArg₂ (fun p q : EReal => p * q) (h b c n i) (h b c n i)).trans (EReal.coe_mul _ _).symm) (by pointwise) _).trans ?_
    congr 2
    simp only
    omega

/-- Array 16 of the reference, in the first planes. -/
theorem r16 (h : ∀ b c n t, V0 (Proc.devRef .tc main_arg0) (ix4 b c n t) = (Q b c n t : EReal)) (b : Fin 4) (c : Fin 32) (n : Fin 256) (t : Fin 241) :
    res_main_v16 V0 (ix4 b c n t) = (meanT (win 48) (Q b c) n ⟨t.val + 47, by omega⟩ : EReal) := by
  unfold res_main_v16
  clean_types
  pointwise
  rw [r7 h, r7 h, f48]
  exact win_coe 48 (by decide) (by decide) (Q b c) n _ t.val rfl

/-- Array 25 of the reference, in the first planes. -/
theorem r25 (h : ∀ b c n t, V0 (Proc.devRef .tc main_arg0) (ix4 b c n t) = (Q b c n t : EReal)) (b : Fin 4) (c : Fin 32) (n : Fin 256) (t : Fin 241) :
    res_main_v25 V0 (ix4 b c n t) = (var (meanT (win 48)) (Q b c) n ⟨t.val + 47, by omega⟩ : EReal) := by
  unfold res_main_v25
  clean_types
  pointwise
  rw [r16 h, r11 h, r11 h, f48]
  have e := win_coe 48 (by decide) (by decide) (sq (Q b c)) n ⟨t.val + 47, by omega⟩ t.val rfl
  refine (congrArg (fun q : EReal => q - _ * _ + _) e).trans ?_
  exact var_coe _ _

/-- Array 29 of the reference, in the first planes. -/
theorem r29 (h : ∀ b c n t, V0 (Proc.devRef .tc main_arg0) (ix4 b c n t) = (Q b c n t : EReal)) (b : Fin 4) (c : Fin 32) (n : Fin 256) (t : Fin 288) :
    res_main_v29 V0 (ix4 b c n t) = (meanT (win 48) (Q b c) n t : EReal) := by
  unfold res_main_v29
  clean_types
  pointwise
  split
  · next h0 =>
    refine (r16 h b c n _).trans (congrArg _ (meanT_early 48 _ n t _ ?_))
    simp only [Fin.val_zero]
    omega
  · next h0 =>
    refine (r16 h b c n _).trans (congrArg _ (meanT_early 48 _ n t _ ?_))
    simp only
    omega

/-- Array 33 of the reference, in the first planes. -/
theorem r33 (h : ∀ b c n t, V0 (Proc.devRef .tc main_arg0) (ix4 b c n t) = (Q b c n t : EReal)) (b : Fin 4) (c : Fin 32) (n : Fin 256) (t : Fin 288) :
    res_main_v33 V0 (ix4 b c n t) = (var (meanT (win 48)) (Q b c) n t : EReal) := by
  unfold res_main_v33
  clean_types
  pointwise
  split
  · next h0 =>
    refine (r25 h b c n _).trans (congrArg _ (var_early 48 _ n t _ ?_))
    simp only [Fin.val_zero]
    omega
  · next h0 =>
    refine (r25 h b c n _).trans (congrArg _ (var_early 48 _ n t _ ?_))
    simp only
    omega

/-- The normalised stage, from the stage before. -/
theorem r38 (h : ∀ b c n t, V0 (Proc.devRef .tc main_arg0) (ix4 b c n t) = (Q b c n t : EReal)) (b : Fin 4) (c : Fin 32) (n : Fin 256) (t : Fin 288) :
    res_main_v38 V0 (ix4 b c n t) = (normed (meanT (win 48)) (Q b c) n t : EReal) := by
  unfold res_main_v38
  clean_types
  pointwise
  rw [r29 h, r33 h]
  refine (congrArg (fun q : EReal => Ideal.div (q - _) _) (h b c n t)).trans ?_
  exact div_sqrt_coe _ _ (var_nonneg (averages_win 48 (by decide) (by decide)) _ n t)

/-- Array 39 of the reference, in the first planes. -/
theorem r39 (h : ∀ b c n t, V0 (Proc.devRef .tc main_arg0) (ix4 b c n t) = (Q b c n t : EReal)) (b : Fin 4) (c : Fin 32) (n : Fin 256) (t : Fin 288) :
    res_main_v39 V0 (ix4 b c n t) = (dev (meanT (win 48)) (Q b c) n t : EReal) := by
  unfold res_main_v39
  clean_types
  pointwise
  rw [r33 h]
  exact sqrt_coe' (var_nonneg (averages_win 48 (by decide) (by decide)) _ n t)

/-- The stage's statistic, extended past the end. -/
theorem r53 (h : ∀ b c n t, V0 (Proc.devRef .tc main_arg0) (ix4 b c n t) = (Q b c n t : EReal)) (b : Fin 4) (c : Fin 32) (n : Fin 256) (t : Fin 300) :
    res_main_v53 V0 (ix4 b c n t) = (extC (meanT (win 48) (Q b c)) n t : EReal) := by
  unfold res_main_v53 extC
  clean_types
  pointwise
  split <;> exact r29 h b c n _

/-- The stage's statistic, extended past the end. -/
theorem r57 (h : ∀ b c n t, V0 (Proc.devRef .tc main_arg0) (ix4 b c n t) = (Q b c n t : EReal)) (b : Fin 4) (c : Fin 32) (n : Fin 256) (t : Fin 300) :
    res_main_v57 V0 (ix4 b c n t) = (extC (dev (meanT (win 48)) (Q b c)) n t : EReal) := by
  unfold res_main_v57 extC
  clean_types
  pointwise
  split <;> exact r39 h b c n _

/-- Array 58 of the reference, in the first planes. -/
theorem r58 (h : ∀ b c n t, res_main_v38 V0 (ix4 b c n t) = (Q b c n t : EReal)) (b : Fin 4) (c : Fin 32) (n : Fin 256) (k : Fin 12) (p : Fin 24) :
    res_main_v58 V0 (ix5 b c n k p) = (Q b c n ⟨k.val * 24 + p.val, by omega⟩ : EReal) := by
  unfold res_main_v58
  clean_types
  pointwise
  exact h b c n _

/-- The mean of the twelve steps in phase, as the reference takes it. -/
theorem sea_coe (x : Plane) (n : Fin 256) (t : Fin 288) (g : Fin 12 → EReal)
    (hg : ∀ k : Fin 12, g k = (x n ⟨k.val * 24 + t.val % 24, by omega⟩ : EReal)) :
    Ideal.div (∑ k, g k) ((12 : ℝ) : EReal) = (meanT sea x n t : EReal) := by
  rw [Finset.sum_congr rfl fun k _ => hg k, ← coe_sum, div_coe _ _ (by norm_num), meanT_sea]

/-- Array 61 of the reference, in the first planes. -/
theorem r61 (h : ∀ b c n t, res_main_v38 V0 (ix4 b c n t) = (Q b c n t : EReal)) (b : Fin 4) (c : Fin 32) (n : Fin 256) (t : Fin 288) (p : Fin 24) (hp : p.val = t.val % 24) :
    res_main_v61 V0 (ix4 b c n p) = (meanT sea (Q b c) n t : EReal) := by
  unfold res_main_v61
  clean_types
  pointwise
  rw [f12]
  refine sea_coe (Q b c) n t _ fun k => (r58 h b c n k p).trans ?_
  simp only [hp]

/-- Array 72 of the reference, in the first planes. -/
theorem r72 (h : ∀ b c n t, res_main_v38 V0 (ix4 b c n t) = (Q b c n t : EReal)) (b : Fin 4) (c : Fin 32) (n : Fin 256) (t : Fin 288) :
    res_main_v72 V0 (ix4 b c n t) = (meanT sea (Q b c) n t : EReal) := by
  unfold res_main_v72
  clean_types
  pointwise
  exact r61 h b c n t _ rfl

end Cert.Chain
-- ==== Proof.RefVar.lean ====
/- The variance of the seasonal mean in the reference. -/
module

public import proofs.«01_k».proof.Proof.RefFirst

@[expose] public section

set_option maxRecDepth 16384

noncomputable section

namespace Cert.Chain

open Idealize.ShloMosaic Idealize.ShloMosaic.StableHlo Cert.ReferenceIdeal Cert.ReferenceIdeal.Value

variable {V0 : Valuation Cert.ReferenceIdeal.τ Cert.ReferenceIdeal.sig (Elt Ideal)} {Q : Fin 4 → Fin 32 → Plane}

/-- A row of 24 repeated along the time axis. -/
theorem tile_at (v : S4x32x256x24.Idx → EReal) (h1) (h2) (h3) (b : Fin 4) (c : Fin 32) (n : Fin 256) (t : Fin 288) :
    shapeCast S4x32x256x288 (broadcastInDim (s := S1x4x1x32x1x256x1x24) S1x4x1x32x1x256x12x24 ![0, 1, 2, 3, 4, 5, 6, 7] h1
      (shapeCast S1x4x1x32x1x256x1x24 v h2)) h3 (ix4 b c n t) = v (ix4 b c n ⟨t.val % 24, by omega⟩) := by
  pointwise

/-- Mean of squares less square of the mean, over atoms. -/
theorem var_at (u : S4x32x256x12x24.Idx → EReal) (m : S4x32x256x24.Idx → EReal) (b : Fin 4) (c : Fin 32) (n : Fin 256) (p : Fin 24) :
    (addf (F := Ideal) (φ := .f32) (subf (Host.divf (Host.reduceAdd (mulf u u) (constant S_ .f32 0x00000000#32) Gen.reducesTo_S4x32x256x12x24_S4x32x256x24_d3 Gen.h_S_)
      (broadcastInDim S4x32x256x24 ![] Gen.bcast_S_S4x32x256x24 (constant S_ .f32 0x41400000#32))) (mulf m m))
      (broadcastInDim S4x32x256x24 ![] Gen.bcast_S_S4x32x256x24 (constant S_ .f32 0x3727C5AC#32)) : S4x32x256x24.Idx → EReal) (ix4 b c n p)
      = Ideal.div (∑ k : Fin 12, u (ix5 b c n k p) * u (ix5 b c n k p)) (Ideal.ofBits .f32 0x41400000#32) - m (ix4 b c n p) * m (ix4 b c n p)
        + Ideal.ofBits .f32 0x3727C5AC#32 := by
  pointwise

/-- The seasonal variance of the reference. -/
theorem r75 (h : ∀ b c n t, res_main_v38 V0 (ix4 b c n t) = (Q b c n t : EReal)) (b : Fin 4) (c : Fin 32) (n : Fin 256) (t : Fin 288) :
    res_main_v75 V0 (ix4 b c n t) = (var (meanT sea) (Q b c) n t : EReal) := by
  have e : Ideal.div (∑ k : Fin 12, (fun p q : EReal => p * q) (res_main_v58 V0 (ix5 b c n k ⟨t.val % 24, by omega⟩)) (res_main_v58 V0 (ix5 b c n k ⟨t.val % 24, by omega⟩))) ((12 : ℝ) : EReal) = (meanT sea (sq (Q b c)) n t : EReal) := by
    refine sea_coe (sq (Q b c)) n t _ fun k => ?_
    exact (congrArg₂ (fun p q : EReal => p * q) (r58 h b c n k _) (r58 h b c n k _)).trans (EReal.coe_mul _ _).symm
  have e' := r61 h b c n t ⟨t.val % 24, by omega⟩ rfl
  unfold res_main_v75
  refine (tile_at _ _ _ _ b c n t).trans ?_
  refine (var_at (res_main_v58 V0) (res_main_v61 V0) b c n _).trans ?_
  rw [f12, e']
  refine (congrArg (fun q : EReal => q - _ * _ + _) e).trans (var_coe _ _)

end Cert.Chain
-- ==== Proof.RefChain.lean ====
/- The reference's four normalisations, stage by stage, over the reals. -/
module

public import proofs.«01_k».proof.Proof.RefVar

@[expose] public section

set_option maxRecDepth 16384

noncomputable section

namespace Cert.Chain

open Idealize.ShloMosaic Idealize.ShloMosaic.StableHlo Cert.ReferenceIdeal Cert.ReferenceIdeal.Value

variable {V0 : Valuation Cert.ReferenceIdeal.τ Cert.ReferenceIdeal.sig (Elt Ideal)} {Q : Fin 4 → Fin 32 → Plane}

/-- The normalised stage, from the stage before. -/
theorem r80 (h : ∀ b c n t, res_main_v38 V0 (ix4 b c n t) = (Q b c n t : EReal)) (b : Fin 4) (c : Fin 32) (n : Fin 256) (t : Fin 288) :
    res_main_v80 V0 (ix4 b c n t) = (normed (meanT sea) (Q b c) n t : EReal) := by
  unfold res_main_v80
  clean_types
  pointwise
  rw [r72 h, r75 h]
  refine (congrArg (fun q : EReal => Ideal.div (q - _) _) (h b c n t)).trans ?_
  exact div_sqrt_coe _ _ (var_nonneg averages_sea _ n t)

/-- Array 81 of the reference, in the chain's planes. -/
theorem r81 (h : ∀ b c n t, res_main_v38 V0 (ix4 b c n t) = (Q b c n t : EReal)) (b : Fin 4) (c : Fin 32) (n : Fin 256) (t : Fin 288) :
    res_main_v81 V0 (ix4 b c n t) = (dev (meanT sea) (Q b c) n t : EReal) := by
  unfold res_main_v81
  clean_types
  pointwise
  rw [r75 h]
  exact sqrt_coe' (var_nonneg averages_sea _ n t)

/-- The stage's statistic, extended past the end. -/
theorem r93 (h : ∀ b c n t, res_main_v38 V0 (ix4 b c n t) = (Q b c n t : EReal)) (b : Fin 4) (c : Fin 32) (n : Fin 256) (t : Fin 300) :
    res_main_v93 V0 (ix4 b c n t) = (extS (meanT sea (Q b c)) n t : EReal) := by
  unfold res_main_v93 extS
  clean_types
  pointwise
  split <;> exact r72 h b c n _

/-- The stage's statistic, extended past the end. -/
theorem r95 (h : ∀ b c n t, res_main_v38 V0 (ix4 b c n t) = (Q b c n t : EReal)) (b : Fin 4) (c : Fin 32) (n : Fin 256) (t : Fin 300) :
    res_main_v95 V0 (ix4 b c n t) = (extS (dev (meanT sea) (Q b c)) n t : EReal) := by
  unfold res_main_v95 extS
  clean_types
  pointwise
  split <;> exact r81 h b c n _

/-- Array 98 of the reference, in the chain's planes. -/
theorem r98 (h : ∀ b c n t, res_main_v80 V0 (ix4 b c n t) = (Q b c n t : EReal)) (b : Fin 4) (c : Fin 32) (n : Fin 256) (t : Fin 289) :
    res_main_v98 V0 (ix4 b c n t) = (part (Q b c n) t.val : EReal) := by
  unfold res_main_v98
  clean_types
  pointwise
  split
  · next h0 =>
    have e : t.val = 0 := by omega
    rw [e]
    simp [part]
  · next h0 =>
    refine (cumsum_coe _ (Q b c n) _ _ _ b c n (fun i => h b c n i) (by pointwise) _).trans ?_
    congr 2
    simp only
    omega

/-- Array 102 of the reference, in the chain's planes. -/
theorem r102 (h : ∀ b c n t, res_main_v80 V0 (ix4 b c n t) = (Q b c n t : EReal)) (b : Fin 4) (c : Fin 32) (n : Fin 256) (t : Fin 289) :
    res_main_v102 V0 (ix4 b c n t) = (part (sq (Q b c) n) t.val : EReal) := by
  unfold res_main_v102
  clean_types
  pointwise
  split
  · next h0 =>
    have e : t.val = 0 := by omega
    rw [e]
    simp [part]
  · next h0 =>
    refine (cumsum_coe _ (sq (Q b c) n) _ _ _ b c n (fun i => by
      pointwise
      exact (congrArg₂ (fun p q : EReal => p * q) (h b c n i) (h b c n i)).trans (EReal.coe_mul _ _).symm) (by pointwise) _).trans ?_
    congr 2
    simp only
    omega

/-- Array 107 of the reference, in the chain's planes. -/
theorem r107 (h : ∀ b c n t, res_main_v80 V0 (ix4 b c n t) = (Q b c n t : EReal)) (b : Fin 4) (c : Fin 32) (n : Fin 256) (t : Fin 277) :
    res_main_v107 V0 (ix4 b c n t) = (meanT (win 12) (Q b c) n ⟨t.val + 11, by omega⟩ : EReal) := by
  unfold res_main_v107
  clean_types
  pointwise
  rw [r98 h, r98 h, f12]
  exact win_coe 12 (by decide) (by decide) (Q b c) n _ t.val rfl

/-- Array 116 of the reference, in the chain's planes. -/
theorem r116 (h : ∀ b c n t, res_main_v80 V0 (ix4 b c n t) = (Q b c n t : EReal)) (b : Fin 4) (c : Fin 32) (n : Fin 256) (t : Fin 277) :
    res_main_v116 V0 (ix4 b c n t) = (var (meanT (win 12)) (Q b c) n ⟨t.val + 11, by omega⟩ : EReal) := by
  unfold res_main_v116
  clean_types
  pointwise
  rw [r107 h, r102 h, r102 h, f12]
  have e := win_coe 12 (by decide) (by decide) (sq (Q b c)) n ⟨t.val + 11, by omega⟩ t.val rfl
  refine (congrArg (fun q : EReal => q - _ * _ + _) e).trans ?_
  exact var_coe _ _

/-- Array 120 of the reference, in the chain's planes. -/
theorem r120 (h : ∀ b c n t, res_main_v80 V0 (ix4 b c n t) = (Q b c n t : EReal)) (b : Fin 4) (c : Fin 32) (n : Fin 256) (t : Fin 288) :
    res_main_v120 V0 (ix4 b c n t) = (meanT (win 12) (Q b c) n t : EReal) := by
  unfold res_main_v120
  clean_types
  pointwise
  split
  · next h0 =>
    refine (r107 h b c n _).trans (congrArg _ (meanT_early 12 _ n t _ ?_))
    simp only [Fin.val_zero]
    omega
  · next h0 =>
    refine (r107 h b c n _).trans (congrArg _ (meanT_early 12 _ n t _ ?_))
    simp only
    omega

/-- Array 124 of the reference, in the chain's planes. -/
theorem r124 (h : ∀ b c n t, res_main_v80 V0 (ix4 b c n t) = (Q b c n t : EReal)) (b : Fin 4) (c : Fin 32) (n : Fin 256) (t : Fin 288) :
    res_main_v124 V0 (ix4 b c n t) = (var (meanT (win 12)) (Q b c) n t : EReal) := by
  unfold res_main_v124
  clean_types
  pointwise
  split
  · next h0 =>
    refine (r116 h b c n _).trans (congrArg _ (var_early 12 _ n t _ ?_))
    simp only [Fin.val_zero]
    omega
  · next h0 =>
    refine (r116 h b c n _).trans (congrArg _ (var_early 12 _ n t _ ?_))
    simp only
    omega

/-- The normalised stage, from the stage before. -/
theorem r129 (h : ∀ b c n t, res_main_v80 V0 (ix4 b c n t) = (Q b c n t : EReal)) (b : Fin 4) (c : Fin 32) (n : Fin 256) (t : Fin 288) :
    res_main_v129 V0 (ix4 b c n t) = (normed (meanT (win 12)) (Q b c) n t : EReal) := by
  unfold res_main_v129
  clean_types
  pointwise
  rw [r120 h, r124 h]
  refine (congrArg (fun q : EReal => Ideal.div (q - _) _) (h b c n t)).trans ?_
  exact div_sqrt_coe _ _ (var_nonneg (averages_win 12 (by decide) (by decide)) _ n t)

/-- Array 130 of the reference, in the chain's planes. -/
theorem r130 (h : ∀ b c n t, res_main_v80 V0 (ix4 b c n t) = (Q b c n t : EReal)) (b : Fin 4) (c : Fin 32) (n : Fin 256) (t : Fin 288) :
    res_main_v130 V0 (ix4 b c n t) = (dev (meanT (win 12)) (Q b c) n t : EReal) := by
  unfold res_main_v130
  clean_types
  pointwise
  rw [r124 h]
  exact sqrt_coe' (var_nonneg (averages_win 12 (by decide) (by decide)) _ n t)

/-- The stage's statistic, extended past the end. -/
theorem r144 (h : ∀ b c n t, res_main_v80 V0 (ix4 b c n t) = (Q b c n t : EReal)) (b : Fin 4) (c : Fin 32) (n : Fin 256) (t : Fin 300) :
    res_main_v144 V0 (ix4 b c n t) = (extC (meanT (win 12) (Q b c)) n t : EReal) := by
  unfold res_main_v144 extC
  clean_types
  pointwise
  split <;> exact r120 h b c n _

/-- The stage's statistic, extended past the end. -/
theorem r148 (h : ∀ b c n t, res_main_v80 V0 (ix4 b c n t) = (Q b c n t : EReal)) (b : Fin 4) (c : Fin 32) (n : Fin 256) (t : Fin 300) :
    res_main_v148 V0 (ix4 b c n t) = (extC (dev (meanT (win 12)) (Q b c)) n t : EReal) := by
  unfold res_main_v148 extC
  clean_types
  pointwise
  split <;> exact r130 h b c n _

/-- Array 172 of the reference, in the chain's planes. -/
theorem r172 {e : Fin 256 → Fin 16 → ℝ} (he : ∀ n j, V0 (Proc.devRef .tc main_arg1) (ix2 n j) = (e n j : EReal))
    (h : ∀ b c n t, res_main_v129 V0 (ix4 b c n t) = (Q b c n t : EReal)) (b : Fin 4) (c : Fin 32) (n : Fin 256) (t : Fin 288) :
    res_main_v172 V0 (ix4 b c n t) = (meanN (adj e) (Q b c) n t : EReal) := by
  unfold res_main_v172 meanN
  clean_types
  pointwise
  rw [coe_sum]
  refine Finset.sum_congr rfl fun k _ => ?_
  rw [h, ref_adj he, ← EReal.coe_mul, mul_comm]

/-- Array 179 of the reference, in the chain's planes. -/
theorem r179 {e : Fin 256 → Fin 16 → ℝ} (he : ∀ n j, V0 (Proc.devRef .tc main_arg1) (ix2 n j) = (e n j : EReal))
    (h : ∀ b c n t, res_main_v129 V0 (ix4 b c n t) = (Q b c n t : EReal)) (b : Fin 4) (c : Fin 32) (n : Fin 256) (t : Fin 288) :
    res_main_v179 V0 (ix4 b c n t) = (var (meanN (adj e)) (Q b c) n t : EReal) := by
  unfold res_main_v179
  clean_types
  pointwise
  rw [r172 he h]
  refine (congrArg (fun q : EReal => q - _ * _ + _) ?_).trans (var_coe (meanN (adj e) (sq (Q b c)) n t) _)
  rw [meanN, coe_sum]
  refine Finset.sum_congr rfl fun k _ => ?_
  rw [h, ref_adj he, ← EReal.coe_mul, ← EReal.coe_mul, mul_comm]
  rfl

/-- The normalised stage, from the stage before. -/
theorem r184 {e : Fin 256 → Fin 16 → ℝ} (he : ∀ n j, V0 (Proc.devRef .tc main_arg1) (ix2 n j) = (e n j : EReal))
    (h : ∀ b c n t, res_main_v129 V0 (ix4 b c n t) = (Q b c n t : EReal)) (b : Fin 4) (c : Fin 32) (n : Fin 256) (t : Fin 288) :
    res_main_v184 V0 (ix4 b c n t) = (normed (meanN (adj e)) (Q b c) n t : EReal) := by
  unfold res_main_v184
  clean_types
  pointwise
  rw [r172 he h, r179 he h]
  refine (congrArg (fun q : EReal => Ideal.div (q - _) _) (h b c n t)).trans ?_
  exact div_sqrt_coe _ _ (var_nonneg (averages_adj e) _ n t)

/-- Array 185 of the reference, in the chain's planes. -/
theorem r185 {e : Fin 256 → Fin 16 → ℝ} (he : ∀ n j, V0 (Proc.devRef .tc main_arg1) (ix2 n j) = (e n j : EReal))
    (h : ∀ b c n t, res_main_v129 V0 (ix4 b c n t) = (Q b c n t : EReal)) (b : Fin 4) (c : Fin 32) (n : Fin 256) (t : Fin 288) :
    res_main_v185 V0 (ix4 b c n t) = (dev (meanN (adj e)) (Q b c) n t : EReal) := by
  unfold res_main_v185
  clean_types
  pointwise
  rw [r179 he h]
  exact sqrt_coe' (var_nonneg (averages_adj e) _ n t)

/-- The stage's statistic, extended past the end. -/
theorem r199 {e : Fin 256 → Fin 16 → ℝ} (he : ∀ n j, V0 (Proc.devRef .tc main_arg1) (ix2 n j) = (e n j : EReal))
    (h : ∀ b c n t, res_main_v129 V0 (ix4 b c n t) = (Q b c n t : EReal)) (b : Fin 4) (c : Fin 32) (n : Fin 256) (t : Fin 300) :
    res_main_v199 V0 (ix4 b c n t) = (extC (meanN (adj e) (Q b c)) n t : EReal) := by
  unfold res_main_v199 extC
  clean_types
  pointwise
  split <;> exact r172 he h b c n _

/-- The stage's statistic, extended past the end. -/
theorem r203 {e : Fin 256 → Fin 16 → ℝ} (he : ∀ n j, V0 (Proc.devRef .tc main_arg1) (ix2 n j) = (e n j : EReal))
    (h : ∀ b c n t, res_main_v129 V0 (ix4 b c n t) = (Q b c n t : EReal)) (b : Fin 4) (c : Fin 32) (n : Fin 256) (t : Fin 300) :
    res_main_v203 V0 (ix4 b c n t) = (extC (dev (meanN (adj e)) (Q b c)) n t : EReal) := by
  unfold res_main_v203 extC
  clean_types
  pointwise
  split <;> exact r185 he h b c n _

end Cert.Chain
-- ==== Proof.RefMix.lean ====
/- The reference's gated products, read at an index. -/
module

public import proofs.«01_k».proof.Proof.Mix
public import Idealize.ShloMosaic.Lib.Tactic.CleanTypes

@[expose] public section

set_option maxRecDepth 16384

noncomputable section

namespace Cert.Chain

open Idealize.ShloMosaic Idealize.ShloMosaic.StableHlo Cert.ReferenceIdeal
open Cert.ReferenceIdeal.Value Cert.ReferenceIdeal.Gen

/-- The channels of a slab at one row and node. -/
def slabE (S : S4x416x256x301.Idx → EReal) (b : Fin 4) (n : Fin 256) (c : Fin 416) (i : Fin 301) : EReal := S (ix4 b c n i)

/-- The weights of one output channel. -/
def wtE (w : S32x416x1x12.Idx → EReal) (o : Fin 32) (c : Fin 416) (k : Fin 12) : EReal := w (ix4 o c 0 k)

/-- The first nine terms. -/
def nine (f : Fin 12 → EReal) : EReal := f 0 + f 1 + f 2 + f 3 + f 4 + f 5 + f 6 + f 7 + f 8

/-- One tap of the reference's product. -/
theorem term_ref (S : S4x416x256x301.Idx → EReal) (w : S32x416x1x12.Idx → EReal) (b : Fin 4) (o : Fin 32) (n : Fin 256) (i : Fin 301) (k : Fin 12) (t : Fin 290) (h : i.val = k.val + t.val) :
    (∑ c, S (ix4 b c n i) * w (ix4 o c 0 k)) = ∑ c, wtE w o c k * shifts (slabE S b n) t k c := by
  have e : i = ⟨k.val + t.val, by omega⟩ := Fin.ext h
  rw [e]
  exact Finset.sum_congr rfl fun c _ => mul_comm _ _

/-- The first nine taps. -/
theorem nine_ref (S : S4x416x256x301.Idx → EReal) (w : S32x416x1x12.Idx → EReal) (b : Fin 4) (o : Fin 32) (n : Fin 256) (t : Fin 290) :
    (∑ c, S (ix4 b c n ⟨t.val, by omega⟩) * w (ix4 o c 0 0)) + (∑ c, S (ix4 b c n ⟨1 + t.val, by omega⟩) * w (ix4 o c 0 1)) + (∑ c, S (ix4 b c n ⟨2 + t.val, by omega⟩) * w (ix4 o c 0 2)) + (∑ c, S (ix4 b c n ⟨3 + t.val, by omega⟩) * w (ix4 o c 0 3)) + (∑ c, S (ix4 b c n ⟨4 + t.val, by omega⟩) * w (ix4 o c 0 4)) + (∑ c, S (ix4 b c n ⟨5 + t.val, by omega⟩) * w (ix4 o c 0 5)) + (∑ c, S (ix4 b c n ⟨6 + t.val, by omega⟩) * w (ix4 o c 0 6)) + (∑ c, S (ix4 b c n ⟨7 + t.val, by omega⟩) * w (ix4 o c 0 7)) + (∑ c, S (ix4 b c n ⟨8 + t.val, by omega⟩) * w (ix4 o c 0 8)) = nine (fun k => ∑ c, wtE w o c k * shifts (slabE S b n) t k c) :=
  (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (term_ref S w b o n ⟨t.val, by omega⟩ 0 t (by simp)) (term_ref S w b o n ⟨1 + t.val, by omega⟩ 1 t (by simp))) (term_ref S w b o n ⟨2 + t.val, by omega⟩ 2 t (by simp))) (term_ref S w b o n ⟨3 + t.val, by omega⟩ 3 t (by simp))) (term_ref S w b o n ⟨4 + t.val, by omega⟩ 4 t (by simp))) (term_ref S w b o n ⟨5 + t.val, by omega⟩ 5 t (by simp))) (term_ref S w b o n ⟨6 + t.val, by omega⟩ 6 t (by simp))) (term_ref S w b o n ⟨7 + t.val, by omega⟩ 7 t (by simp))) (term_ref S w b o n ⟨8 + t.val, by omega⟩ 8 t (by simp)))

/-- The reference's gated product. -/
theorem gate_ref (S : S4x416x256x301.Idx → EReal) (w v : S32x416x1x12.Idx → EReal) (b : Fin 4) (o : Fin 32) (n : Fin 256) (t : Fin 290) (z y β γ : EReal)
    (hz : z = nine (fun k => ∑ c, wtE w o c k * shifts (slabE S b n) t k c)) (hy : y = nine (fun k => ∑ c, wtE v o c k * shifts (slabE S b n) t k c)) :
    (z + (∑ c, S (ix4 b c n ⟨9 + t.val, by omega⟩) * w (ix4 o c 0 9)) + (∑ c, S (ix4 b c n ⟨10 + t.val, by omega⟩) * w (ix4 o c 0 10)) + (∑ c, S (ix4 b c n ⟨11 + t.val, by omega⟩) * w (ix4 o c 0 11)) + β) * (y + (∑ c, S (ix4 b c n ⟨9 + t.val, by omega⟩) * v (ix4 o c 0 9)) + (∑ c, S (ix4 b c n ⟨10 + t.val, by omega⟩) * v (ix4 o c 0 10)) + (∑ c, S (ix4 b c n ⟨11 + t.val, by omega⟩) * v (ix4 o c 0 11)) + γ) = gateAt (wtE w o) (wtE v o) β γ (shifts (slabE S b n) t) :=
  congrArg₂ (fun p q : EReal => p * q) (congrArg₂ (fun p q : EReal => p + q) (congrArg₂ (fun p q : EReal => p + q) (congrArg₂ (fun p q : EReal => p + q) (congrArg₂ (fun p q : EReal => p + q) hz (term_ref S w b o n ⟨9 + t.val, by omega⟩ 9 t (by simp))) (term_ref S w b o n ⟨10 + t.val, by omega⟩ 10 t (by simp))) (term_ref S w b o n ⟨11 + t.val, by omega⟩ 11 t (by simp))) rfl) (congrArg₂ (fun p q : EReal => p + q) (congrArg₂ (fun p q : EReal => p + q) (congrArg₂ (fun p q : EReal => p + q) (congrArg₂ (fun p q : EReal => p + q) hy (term_ref S v b o n ⟨9 + t.val, by omega⟩ 9 t (by simp))) (term_ref S v b o n ⟨10 + t.val, by omega⟩ 10 t (by simp))) (term_ref S v b o n ⟨11 + t.val, by omega⟩ 11 t (by simp))) rfl)

variable {V0 : Valuation Cert.ReferenceIdeal.τ Cert.ReferenceIdeal.sig (Elt Ideal)}

/-- The first nine terms of a convolution. -/
theorem q264 (b : Fin 4) (o : Fin 32) (n : Fin 256) (t : Fin 290) :
    (res_main_v264 V0 (ix4 b o n t) : EReal) = nine (fun k => ∑ c, wtE (V0 (Proc.devRef .tc main_arg2)) o c k * shifts (slabE (res_main_v206 V0) b n) t k c) := by
  unfold res_main_v264; clean_types; pointwise
  exact nine_ref (res_main_v206 V0) (V0 (Proc.devRef .tc main_arg2)) b o n t

/-- The first nine terms of a convolution. -/
theorem q340 (b : Fin 4) (o : Fin 32) (n : Fin 256) (t : Fin 290) :
    (res_main_v340 V0 (ix4 b o n t) : EReal) = nine (fun k => ∑ c, wtE (V0 (Proc.devRef .tc main_arg4)) o c k * shifts (slabE (res_main_v206 V0) b n) t k c) := by
  unfold res_main_v340; clean_types; pointwise
  exact nine_ref (res_main_v206 V0) (V0 (Proc.devRef .tc main_arg4)) b o n t

/-- The first nine terms of a convolution. -/
theorem q416 (b : Fin 4) (o : Fin 32) (n : Fin 256) (t : Fin 290) :
    (res_main_v416 V0 (ix4 b o n t) : EReal) = nine (fun k => ∑ c, wtE (V0 (Proc.devRef .tc main_arg2)) o c k * shifts (slabE (res_main_v209 V0) b n) t k c) := by
  unfold res_main_v416; clean_types; pointwise
  exact nine_ref (res_main_v209 V0) (V0 (Proc.devRef .tc main_arg2)) b o n t

/-- The first nine terms of a convolution. -/
theorem q492 (b : Fin 4) (o : Fin 32) (n : Fin 256) (t : Fin 290) :
    (res_main_v492 V0 (ix4 b o n t) : EReal) = nine (fun k => ∑ c, wtE (V0 (Proc.devRef .tc main_arg4)) o c k * shifts (slabE (res_main_v209 V0) b n) t k c) := by
  unfold res_main_v492; clean_types; pointwise
  exact nine_ref (res_main_v209 V0) (V0 (Proc.devRef .tc main_arg4)) b o n t

/-- The gated product of the full slab. -/
theorem q514 (b : Fin 4) (o : Fin 32) (n : Fin 256) (t : Fin 290) :
    (res_main_v514 V0 (ix4 b o n t) : EReal) = gateAt (wtE (V0 (Proc.devRef .tc main_arg2)) o) (wtE (V0 (Proc.devRef .tc main_arg4)) o) (V0 (Proc.devRef .tc main_arg3) (ix1 o)) (V0 (Proc.devRef .tc main_arg5) (ix1 o)) (shifts (slabE (res_main_v206 V0) b n) t) := by
  unfold res_main_v514; clean_types; pointwise
  exact gate_ref (res_main_v206 V0) (V0 (Proc.devRef .tc main_arg2)) (V0 (Proc.devRef .tc main_arg4)) b o n t _ _ _ _ (q264 b o n t) (q340 b o n t)

/-- Result 521 of the reference. -/
theorem q521 (b : Fin 4) (o' : Fin 32) (n : Fin 256) (u : Fin 278) :
    ((addf (F := Ideal) (φ := .f32) (transpose S4x32x256x278 [0, 3, 1, 2] (Host.dotGeneral (F := Ideal) (φ₁ := .f32) (φ₂ := .f32) dot_S4x32x256x278_S32x32_S4x256x278x32_1_1_023_0_n_n none (extractStridedSlice S4x32x256x278 ![0, 0, 0, 0] (res_main_v514 V0) slices_S4x32x256x290_S4x32x256x278_0_0_0_0) (shapeCast _ (V0 (Proc.devRef .tc main_arg8)) shapeCasts_S32x32x1x1_S32x32)) transposes_S4x256x278x32_S4x32x256x278_0_3_1_2) (broadcastInDim S4x32x256x278 ![0, 1, 2, 3] bcast_S1x32x1x1_S4x32x256x278_0_1_2_3 (broadcastInDim S1x32x1x1 ![1] bcast_S32_S1x32x1x1_1 (V0 (Proc.devRef .tc main_arg9))))) : (main_v521 : Ref sig .tc).ty.Contents (Elt Ideal)) (ix4 b o' n u)
      = project (fun o => V0 (Proc.devRef .tc main_arg8) (ix4 o' o 0 0)) (V0 (Proc.devRef .tc main_arg9) (ix1 o')) (fun o => gateAt (wtE (V0 (Proc.devRef .tc main_arg2)) o) (wtE (V0 (Proc.devRef .tc main_arg4)) o) (V0 (Proc.devRef .tc main_arg3) (ix1 o)) (V0 (Proc.devRef .tc main_arg5) (ix1 o)) (shifts (slabE (res_main_v206 V0) b n) ⟨u.val, by omega⟩)) := by
  clean_types; pointwise
  refine congrArg₂ (fun p q : EReal => p + q) (Finset.sum_congr rfl fun o _ => ?_) rfl
  refine (mul_comm _ _).trans (congrArg₂ (fun p q : EReal => p * q) rfl ?_)
  exact q514 b o n ⟨u.val, by omega⟩

/-- Result 528 of the reference. -/
theorem q528 (b : Fin 4) (o' : Fin 32) (n : Fin 256) (u : Fin 12) :
    ((addf (F := Ideal) (φ := .f32) (transpose S4x32x256x12 [0, 3, 1, 2] (Host.dotGeneral (F := Ideal) (φ₁ := .f32) (φ₂ := .f32) dot_S4x32x256x12_S32x32_S4x256x12x32_1_1_023_0_n_n none (extractStridedSlice S4x32x256x12 ![0, 0, 0, 278] (res_main_v514 V0) slices_S4x32x256x290_S4x32x256x12_0_0_0_278) (shapeCast _ (V0 (Proc.devRef .tc main_arg6)) shapeCasts_S32x32x1x1_S32x32)) transposes_S4x256x12x32_S4x32x256x12_0_3_1_2) (broadcastInDim S4x32x256x12 ![0, 1, 2, 3] bcast_S1x32x1x1_S4x32x256x12_0_1_2_3 (broadcastInDim S1x32x1x1 ![1] bcast_S32_S1x32x1x1_1 (V0 (Proc.devRef .tc main_arg7))))) : (main_v528 : Ref sig .tc).ty.Contents (Elt Ideal)) (ix4 b o' n u)
      = project (fun o => V0 (Proc.devRef .tc main_arg6) (ix4 o' o 0 0)) (V0 (Proc.devRef .tc main_arg7) (ix1 o')) (fun o => gateAt (wtE (V0 (Proc.devRef .tc main_arg2)) o) (wtE (V0 (Proc.devRef .tc main_arg4)) o) (V0 (Proc.devRef .tc main_arg3) (ix1 o)) (V0 (Proc.devRef .tc main_arg5) (ix1 o)) (shifts (slabE (res_main_v206 V0) b n) ⟨278 + u.val, by omega⟩)) := by
  clean_types; pointwise
  refine congrArg₂ (fun p q : EReal => p + q) (Finset.sum_congr rfl fun o _ => ?_) rfl
  refine (mul_comm _ _).trans (congrArg₂ (fun p q : EReal => p * q) rfl ?_)
  exact q514 b o n ⟨278 + u.val, by omega⟩

/-- Result 536 of the reference. -/
theorem q536 (b : Fin 4) (o' : Fin 32) (n : Fin 256) (u : Fin 12) :
    ((addf (F := Ideal) (φ := .f32) (transpose S4x32x256x12 [0, 3, 1, 2] (Host.dotGeneral (F := Ideal) (φ₁ := .f32) (φ₂ := .f32) dot_S4x32x256x12_S32x32_S4x256x12x32_1_1_023_0_n_n none (extractStridedSlice S4x32x256x12 ![0, 0, 0, 278] (mulf (F := Ideal) (φ := .f32) (addf (F := Ideal) (φ := .f32) (addf (F := Ideal) (φ := .f32) (addf (F := Ideal) (φ := .f32) (addf (F := Ideal) (φ := .f32) (res_main_v416 V0) (transpose S4x32x256x290 [0, 3, 1, 2] (Host.dotGeneral (F := Ideal) (φ₁ := .f32) (φ₂ := .f32) dot_S4x416x256x290_S32x416_S4x256x290x32_1_1_023_0_n_n none (extractStridedSlice S4x416x256x290 ![0, 0, 0, 9] (res_main_v209 V0) slices_S4x416x256x301_S4x416x256x290_0_0_0_9) (shapeCast _ (extractStridedSlice S32x416x1x1 ![0, 0, 0, 9] (V0 (Proc.devRef .tc main_arg2)) slices_S32x416x1x12_S32x416x1x1_0_0_0_9) shapeCasts_S32x416x1x1_S32x416)) transposes_S4x256x290x32_S4x32x256x290_0_3_1_2)) (transpose S4x32x256x290 [0, 3, 1, 2] (Host.dotGeneral (F := Ideal) (φ₁ := .f32) (φ₂ := .f32) dot_S4x416x256x290_S32x416_S4x256x290x32_1_1_023_0_n_n none (extractStridedSlice S4x416x256x290 ![0, 0, 0, 10] (res_main_v209 V0) slices_S4x416x256x301_S4x416x256x290_0_0_0_10) (shapeCast _ (extractStridedSlice S32x416x1x1 ![0, 0, 0, 10] (V0 (Proc.devRef .tc main_arg2)) slices_S32x416x1x12_S32x416x1x1_0_0_0_10) shapeCasts_S32x416x1x1_S32x416)) transposes_S4x256x290x32_S4x32x256x290_0_3_1_2)) (transpose S4x32x256x290 [0, 3, 1, 2] (Host.dotGeneral (F := Ideal) (φ₁ := .f32) (φ₂ := .f32) dot_S4x416x256x290_S32x416_S4x256x290x32_1_1_023_0_n_n none (extractStridedSlice S4x416x256x290 ![0, 0, 0, 11] (res_main_v209 V0) slices_S4x416x256x301_S4x416x256x290_0_0_0_11) (shapeCast _ (extractStridedSlice S32x416x1x1 ![0, 0, 0, 11] (V0 (Proc.devRef .tc main_arg2)) slices_S32x416x1x12_S32x416x1x1_0_0_0_11) shapeCasts_S32x416x1x1_S32x416)) transposes_S4x256x290x32_S4x32x256x290_0_3_1_2)) (broadcastInDim S4x32x256x290 ![0, 1, 2, 3] bcast_S1x32x1x1_S4x32x256x290_0_1_2_3 (broadcastInDim S1x32x1x1 ![1] bcast_S32_S1x32x1x1_1 (V0 (Proc.devRef .tc main_arg3))))) (addf (F := Ideal) (φ := .f32) (addf (F := Ideal) (φ := .f32) (addf (F := Ideal) (φ := .f32) (addf (F := Ideal) (φ := .f32) (res_main_v492 V0) (transpose S4x32x256x290 [0, 3, 1, 2] (Host.dotGeneral (F := Ideal) (φ₁ := .f32) (φ₂ := .f32) dot_S4x416x256x290_S32x416_S4x256x290x32_1_1_023_0_n_n none (extractStridedSlice S4x416x256x290 ![0, 0, 0, 9] (res_main_v209 V0) slices_S4x416x256x301_S4x416x256x290_0_0_0_9) (shapeCast _ (extractStridedSlice S32x416x1x1 ![0, 0, 0, 9] (V0 (Proc.devRef .tc main_arg4)) slices_S32x416x1x12_S32x416x1x1_0_0_0_9) shapeCasts_S32x416x1x1_S32x416)) transposes_S4x256x290x32_S4x32x256x290_0_3_1_2)) (transpose S4x32x256x290 [0, 3, 1, 2] (Host.dotGeneral (F := Ideal) (φ₁ := .f32) (φ₂ := .f32) dot_S4x416x256x290_S32x416_S4x256x290x32_1_1_023_0_n_n none (extractStridedSlice S4x416x256x290 ![0, 0, 0, 10] (res_main_v209 V0) slices_S4x416x256x301_S4x416x256x290_0_0_0_10) (shapeCast _ (extractStridedSlice S32x416x1x1 ![0, 0, 0, 10] (V0 (Proc.devRef .tc main_arg4)) slices_S32x416x1x12_S32x416x1x1_0_0_0_10) shapeCasts_S32x416x1x1_S32x416)) transposes_S4x256x290x32_S4x32x256x290_0_3_1_2)) (transpose S4x32x256x290 [0, 3, 1, 2] (Host.dotGeneral (F := Ideal) (φ₁ := .f32) (φ₂ := .f32) dot_S4x416x256x290_S32x416_S4x256x290x32_1_1_023_0_n_n none (extractStridedSlice S4x416x256x290 ![0, 0, 0, 11] (res_main_v209 V0) slices_S4x416x256x301_S4x416x256x290_0_0_0_11) (shapeCast _ (extractStridedSlice S32x416x1x1 ![0, 0, 0, 11] (V0 (Proc.devRef .tc main_arg4)) slices_S32x416x1x12_S32x416x1x1_0_0_0_11) shapeCasts_S32x416x1x1_S32x416)) transposes_S4x256x290x32_S4x32x256x290_0_3_1_2)) (broadcastInDim S4x32x256x290 ![0, 1, 2, 3] bcast_S1x32x1x1_S4x32x256x290_0_1_2_3 (broadcastInDim S1x32x1x1 ![1] bcast_S32_S1x32x1x1_1 (V0 (Proc.devRef .tc main_arg5)))))) slices_S4x32x256x290_S4x32x256x12_0_0_0_278) (shapeCast _ (V0 (Proc.devRef .tc main_arg6)) shapeCasts_S32x32x1x1_S32x32)) transposes_S4x256x12x32_S4x32x256x12_0_3_1_2) (broadcastInDim S4x32x256x12 ![0, 1, 2, 3] bcast_S1x32x1x1_S4x32x256x12_0_1_2_3 (broadcastInDim S1x32x1x1 ![1] bcast_S32_S1x32x1x1_1 (V0 (Proc.devRef .tc main_arg7))))) : (main_v536 : Ref sig .tc).ty.Contents (Elt Ideal)) (ix4 b o' n u)
      = project (fun o => V0 (Proc.devRef .tc main_arg6) (ix4 o' o 0 0)) (V0 (Proc.devRef .tc main_arg7) (ix1 o')) (fun o => gateAt (wtE (V0 (Proc.devRef .tc main_arg2)) o) (wtE (V0 (Proc.devRef .tc main_arg4)) o) (V0 (Proc.devRef .tc main_arg3) (ix1 o)) (V0 (Proc.devRef .tc main_arg5) (ix1 o)) (shifts (slabE (res_main_v209 V0) b n) ⟨278 + u.val, by omega⟩)) := by
  clean_types; pointwise
  refine congrArg₂ (fun p q : EReal => p + q) (Finset.sum_congr rfl fun o _ => ?_) rfl
  refine (mul_comm _ _).trans (congrArg₂ (fun p q : EReal => p * q) rfl ?_)
  exact gate_ref (res_main_v209 V0) (V0 (Proc.devRef .tc main_arg2)) (V0 (Proc.devRef .tc main_arg4)) b o n ⟨278 + u.val, by omega⟩ _ _ _ _ (q416 b o n ⟨278 + u.val, by omega⟩) (q492 b o n ⟨278 + u.val, by omega⟩)

end Cert.Chain
-- ==== Proof.RefSlab.lean ====
/- The reference's two slabs are made of the thirteen groups. -/
module

public import proofs.«01_k».proof.Proof.Spec
public import proofs.«01_k».proof.Proof.RefChain
public import proofs.«01_k».proof.Proof.RefMix

@[expose] public section

set_option maxRecDepth 16384

noncomputable section

namespace Cert.Chain

open Idealize.ShloMosaic Idealize.ShloMosaic.StableHlo Cert.ReferenceIdeal
open Cert.ReferenceIdeal.Value Cert.ReferenceIdeal.Gen

/-- A plane with its twelve further steps, as the reference joins them. -/
theorem glue_ref (p : S4x32x256x288.Idx → EReal) (w : S384x32x1x5.Idx → EReal) (β : S384.Idx → EReal) (b : Fin 4) (c : Fin 32) (n : Fin 256) (t : Fin 300) :
    ((concatenate S4x32x256x300 3 [⟨S4x32x256x288, p⟩, ⟨S4x32x256x12, (transpose S4x32x256x12 [0, 2, 3, 1] (shapeCast _ (addf (F := Ideal) (φ := .f32) (transpose S4x384x256 [0, 2, 1] (Host.dotGeneral (F := Ideal) (φ₁ := .f32) (φ₂ := .f32) dot_S4x32x256x5_S384x32x5_S4x256x384_13_12_02_0_n_n none (extractStridedSlice S4x32x256x5 ![0, 0, 0, 283] p slices_S4x32x256x288_S4x32x256x5_0_0_0_283) (shapeCast _ w shapeCasts_S384x32x1x5_S384x32x5)) transposes_S4x256x384_S4x384x256_0_2_1) (broadcastInDim S4x384x256 ![0, 1, 2] bcast_S1x384x1_S4x384x256_0_1_2 (broadcastInDim S1x384x1 ![1] bcast_S384_S1x384x1_1 β))) shapeCasts_S4x384x256_S4x12x32x256) transposes_S4x12x32x256_S4x32x256x12_0_2_3_1)⟩] concatenates_S4x32x256x288_S4x32x256x12_S4x32x256x300_d3) : S4x32x256x300.Idx → EReal) (ix4 b c n t)
      = glue (fun t => p (ix4 b c n t)) (further (fun c t => p (ix4 b c n t)) (fun d c r => w (ix4 d c 0 r)) (fun d => β (ix1 d)) c) t := by
  clean_types; pointwise
  unfold glue further
  split
  · rfl
  · exact congrArg (· + _) (Finset.sum_congr rfl fun x _ => Finset.sum_congr rfl fun r _ => mul_comm _ _)

/-- A plane extended by its last column, as the reference extends it. -/
theorem ext_ref (p : S4x32x256x288.Idx → EReal) {x : Plane} (b : Fin 4) (c : Fin 32) (n : Fin 256) (t : Fin 300) (h : ∀ t, p (ix4 b c n t) = (x n t : EReal)) :
    ((concatenate S4x32x256x300 3 [⟨S4x32x256x288, p⟩, ⟨S4x32x256x12, (shapeCast _ (broadcastInDim S4x32x256x1x12 ![0, 1, 2, 3] bcast_S4x32x256x1_S4x32x256x1x12_0_1_2_3 (extractStridedSlice S4x32x256x1 ![0, 0, 0, 287] p slices_S4x32x256x288_S4x32x256x1_0_0_0_287)) shapeCasts_S4x32x256x1x12_S4x32x256x12)⟩] concatenates_S4x32x256x288_S4x32x256x12_S4x32x256x300_d3) : S4x32x256x300.Idx → EReal) (ix4 b c n t) = (extC x n t : EReal) := by
  clean_types; pointwise
  unfold extC
  split <;> exact h _

/-- A longer plane depends only on its two parts. -/
theorem longer_congr {F : Further} {i : Fin 4} {p p' : Fin 32 → Fin 288 → EReal} {W : Fin 384 → Fin 32 → Fin 5 → EReal} {β : Fin 384 → EReal}
    (hW : ∀ d c r, W d c r = F.W i d c r) (hb : ∀ d, β d = F.β i d) (hp : ∀ c t, p c t = p' c t) (c : Fin 32) (t : Fin 300) :
    glue (p c) (further p W β c) t = longer F i p' c t := by
  rw [show p = p' from funext fun c => funext (hp c), show W = F.W i from funext fun d => funext fun c => funext (hW d c), show β = F.β i from funext hb]
  rfl

/-- A plane with its further steps in the reference. -/
theorem long_ref (p : S4x32x256x288.Idx → EReal) (w : S384x32x1x5.Idx → EReal) (β : S384.Idx → EReal) {F : Further} {i : Fin 4} {p' : Fin 32 → Fin 288 → EReal} (b : Fin 4) (c : Fin 32) (n : Fin 256) (t : Fin 300)
    (hW : ∀ d c r, w (ix4 d c 0 r) = F.W i d c r) (hb : ∀ d, β (ix1 d) = F.β i d) (hp : ∀ c t, p (ix4 b c n t) = p' c t) :
    ((concatenate S4x32x256x300 3 [⟨S4x32x256x288, p⟩, ⟨S4x32x256x12, (transpose S4x32x256x12 [0, 2, 3, 1] (shapeCast _ (addf (F := Ideal) (φ := .f32) (transpose S4x384x256 [0, 2, 1] (Host.dotGeneral (F := Ideal) (φ₁ := .f32) (φ₂ := .f32) dot_S4x32x256x5_S384x32x5_S4x256x384_13_12_02_0_n_n none (extractStridedSlice S4x32x256x5 ![0, 0, 0, 283] p slices_S4x32x256x288_S4x32x256x5_0_0_0_283) (shapeCast _ w shapeCasts_S384x32x1x5_S384x32x5)) transposes_S4x256x384_S4x384x256_0_2_1) (broadcastInDim S4x384x256 ![0, 1, 2] bcast_S1x384x1_S4x384x256_0_1_2 (broadcastInDim S1x384x1 ![1] bcast_S384_S1x384x1_1 β))) shapeCasts_S4x384x256_S4x12x32x256) transposes_S4x12x32x256_S4x32x256x12_0_2_3_1)⟩] concatenates_S4x32x256x288_S4x32x256x12_S4x32x256x300_d3) : S4x32x256x300.Idx → EReal) (ix4 b c n t) = longer F i p' c t :=
  (glue_ref p w β b c n t).trans (longer_congr hW hb hp c t)

/-- A zero column in front of a slab. -/
theorem zero_then (v : S4x416x256x300.Idx → EReal) (h1) (h2) (b : Fin 4) (c : Fin 416) (n : Fin 256) (t : Fin 301) :
    (concatenate S4x416x256x301 3 [⟨S4x416x256x1, (broadcastInDim S4x416x256x1 ![] h1 (constant (F := Ideal) S_ .f32 0x00000000#32))⟩, ⟨S4x416x256x300, v⟩] h2 : S4x416x256x301.Idx → EReal) (ix4 b c n t)
      = if h : t.val < 1 then 0 else v (ix4 b c n ⟨t.val - 1, by omega⟩) := by
  pointwise

/-- A group of zeros. -/
theorem zero_ref {V0 : Valuation Cert.ReferenceIdeal.τ Cert.ReferenceIdeal.sig (Elt Ideal)} (i : S4x32x256x300.Idx) : res_main_v4 V0 i = (0 : EReal) := by
  unfold res_main_v4; clean_types; pointwise

variable {V0 : Valuation Cert.ReferenceIdeal.τ Cert.ReferenceIdeal.sig (Elt Ideal)} {Q : Fin 4 → Fin 32 → Plane} {e : Fin 256 → Fin 16 → ℝ}

/-- The weights of the further steps, from the arguments. -/
def furtherOf (w0 w1 w2 w3 : S384x32x1x5.Idx → EReal) (b0 b1 b2 b3 : S384.Idx → EReal) : Further where
  W := fun i d c r => (![w0, w1, w2, w3] : Fin 4 → S384x32x1x5.Idx → EReal) i (ix4 d c 0 r)
  β := fun i d => (![b0, b1, b2, b3] : Fin 4 → S384.Idx → EReal) i (ix1 d)

/-- The reference's weights of the further steps. -/
def refFurther (V0 : Valuation Cert.ReferenceIdeal.τ Cert.ReferenceIdeal.sig (Elt Ideal)) : Further :=
  furtherOf (V0 (Proc.devRef .tc main_arg10)) (V0 (Proc.devRef .tc main_arg12)) (V0 (Proc.devRef .tc main_arg14)) (V0 (Proc.devRef .tc main_arg16))
    (V0 (Proc.devRef .tc main_arg11)) (V0 (Proc.devRef .tc main_arg13)) (V0 (Proc.devRef .tc main_arg15)) (V0 (Proc.devRef .tc main_arg17))

/-- The concatenated groups at an index. -/
theorem r204 (hx : ∀ b c n t, V0 (Proc.devRef .tc main_arg0) (ix4 b c n t) = (Q b c n t : EReal))
    (he : ∀ n j, V0 (Proc.devRef .tc main_arg1) (ix2 n j) = (e n j : EReal)) (b : Fin 4) (c : Fin 416) (n : Fin 256) (t : Fin 300) :
    res_main_v204 V0 (ix4 b c n t) = pick (N := 13) (fun g c => groups (Q b) (win 48) sea (win 12) (adj e) (refFurther V0) n g c t) c := by
  unfold res_main_v204
  refine (cat4 _ _ _ _ _ _ _ _ _ _ _ _ _ _ b c n t).trans (pick_congr (N := 13) (fun g c => ?_) c)
  match g with
  | ⟨0, _⟩ => exact ext_ref _ b c n t fun t => hx b c n t
  | ⟨1, _⟩ => exact long_ref (res_main_v38 V0) (V0 (Proc.devRef .tc main_arg10)) (V0 (Proc.devRef .tc main_arg11)) (F := refFurther V0) (i := 0) (p' := fun c => row (p1 (win 48) (Q b c)) n) b c n t (fun d c r => rfl) (fun d => rfl) (fun c t => r38 hx b c n t)
  | ⟨2, _⟩ => exact r53 hx b c n t
  | ⟨3, _⟩ => exact r57 hx b c n t
  | ⟨4, _⟩ => exact long_ref (res_main_v80 V0) (V0 (Proc.devRef .tc main_arg12)) (V0 (Proc.devRef .tc main_arg13)) (F := refFurther V0) (i := 1) (p' := fun c => row (p2 (win 48) sea (Q b c)) n) b c n t (fun d c r => rfl) (fun d => rfl) (fun c t => r80 (r38 hx) b c n t)
  | ⟨5, _⟩ => exact r93 (r38 hx) b c n t
  | ⟨6, _⟩ => exact r95 (r38 hx) b c n t
  | ⟨7, _⟩ => exact long_ref (res_main_v129 V0) (V0 (Proc.devRef .tc main_arg14)) (V0 (Proc.devRef .tc main_arg15)) (F := refFurther V0) (i := 2) (p' := fun c => row (p3 (win 48) sea (win 12) (Q b c)) n) b c n t (fun d c r => rfl) (fun d => rfl) (fun c t => r129 (r80 (r38 hx)) b c n t)
  | ⟨8, _⟩ => exact r144 (r80 (r38 hx)) b c n t
  | ⟨9, _⟩ => exact r148 (r80 (r38 hx)) b c n t
  | ⟨10, _⟩ => exact long_ref (res_main_v184 V0) (V0 (Proc.devRef .tc main_arg16)) (V0 (Proc.devRef .tc main_arg17)) (F := refFurther V0) (i := 3) (p' := fun c => row (p4 (win 48) sea (win 12) (adj e) (Q b c)) n) b c n t (fun d c r => rfl) (fun d => rfl) (fun c t => r184 he (r129 (r80 (r38 hx))) b c n t)
  | ⟨11, _⟩ => exact r199 he (r129 (r80 (r38 hx))) b c n t
  | ⟨12, _⟩ => exact r203 he (r129 (r80 (r38 hx))) b c n t

/-- A slab of the reference at an index. -/
theorem r209 (hx : ∀ b c n t, V0 (Proc.devRef .tc main_arg0) (ix4 b c n t) = (Q b c n t : EReal))
    (he : ∀ n j, V0 (Proc.devRef .tc main_arg1) (ix2 n j) = (e n j : EReal)) (b : Fin 4) (c : Fin 416) (n : Fin 256) (t : Fin 301) :
    res_main_v209 V0 (ix4 b c n t) = slab (statGroups (Q b) (win 48) sea (win 12) (adj e) n) c t := by
  unfold res_main_v209
  refine (zero_then _ _ _ b c n t).trans ?_
  unfold slab
  split
  · rfl
  refine (cat4 _ _ _ _ _ _ _ _ _ _ _ _ _ _ b c n _).trans (pick_congr (N := 13) (fun g c => ?_) c)
  match g with
  | ⟨0, _⟩ => exact zero_ref (V0 := V0) (ix4 b c n ⟨t.val - 1, by omega⟩)
  | ⟨1, _⟩ => exact zero_ref (V0 := V0) (ix4 b c n ⟨t.val - 1, by omega⟩)
  | ⟨2, _⟩ => exact r53 hx b c n _
  | ⟨3, _⟩ => exact r57 hx b c n _
  | ⟨4, _⟩ => exact zero_ref (V0 := V0) (ix4 b c n ⟨t.val - 1, by omega⟩)
  | ⟨5, _⟩ => exact r93 (r38 hx) b c n _
  | ⟨6, _⟩ => exact r95 (r38 hx) b c n _
  | ⟨7, _⟩ => exact zero_ref (V0 := V0) (ix4 b c n ⟨t.val - 1, by omega⟩)
  | ⟨8, _⟩ => exact r144 (r80 (r38 hx)) b c n _
  | ⟨9, _⟩ => exact r148 (r80 (r38 hx)) b c n _
  | ⟨10, _⟩ => exact zero_ref (V0 := V0) (ix4 b c n ⟨t.val - 1, by omega⟩)
  | ⟨11, _⟩ => exact r199 he (r129 (r80 (r38 hx))) b c n _
  | ⟨12, _⟩ => exact r203 he (r129 (r80 (r38 hx))) b c n _

/-- A slab of the reference at an index. -/
theorem r206 (hx : ∀ b c n t, V0 (Proc.devRef .tc main_arg0) (ix4 b c n t) = (Q b c n t : EReal))
    (he : ∀ n j, V0 (Proc.devRef .tc main_arg1) (ix2 n j) = (e n j : EReal)) (b : Fin 4) (c : Fin 416) (n : Fin 256) (t : Fin 301) :
    res_main_v206 V0 (ix4 b c n t) = slab (groups (Q b) (win 48) sea (win 12) (adj e) (refFurther V0) n) c t := by
  unfold res_main_v206
  refine (zero_then _ _ _ b c n t).trans ?_
  unfold slab
  split
  · rfl
  exact r204 hx he b c n _

end Cert.Chain
-- ==== Proof.HostMats.lean ====
/- What the host prepares for the normalisation chain: the planes and the three weight matrices. -/
module

public import proofs.«01_k».proof.Proof.RunIdeal.Fold0
public import proofs.«01_k».proof.Proof.Means
public import proofs.«01_k».proof.Proof.Adj

@[expose] public section

set_option maxRecDepth 16384

noncomputable section

namespace Cert.Chain

open Idealize.ShloMosaic Idealize.ShloMosaic.StableHlo Cert.KernelIdeal

/-- The literal forty-eight. -/
theorem c48 : Ideal.ofBits .f32 1111490560#32 = ((48 : ℝ) : EReal) := by
  simp [Ideal.ofBits, Ideal.ieee]; rw [← EReal.coe_mul]; norm_num

/-- The literal twelve. -/
theorem c12 : Ideal.ofBits .f32 1094713344#32 = ((12 : ℝ) : EReal) := by
  simp [Ideal.ofBits, Ideal.ieee]; rw [← EReal.coe_mul]; norm_num

/-- The bit that says whether step `s` lies in the window of step `t`, of length 48. -/
theorem bit48 : ∀ s t : Fin 288,
    IntOp.andi (IntOp.cmpi CmpIPredicate.sle (BitVec.ofNat 32 s.val) (IntOp.maxsi (BitVec.ofNat 32 t.val) 47#32))
      (IntOp.cmpi CmpIPredicate.sge (BitVec.ofNat 32 s.val)
        (IntOp.addi (IntOp.subi (IntOp.maxsi (BitVec.ofNat 32 t.val) 47#32) 48#32) 1#32))
      = if s.val ≤ max t.val (48 - 1) ∧ max t.val (48 - 1) < s.val + 48 then 1#1 else 0#1 := by decide +kernel

/-- The bit that says whether step `s` lies in the window of step `t`, of length 12. -/
theorem bit12 : ∀ s t : Fin 288,
    IntOp.andi (IntOp.cmpi CmpIPredicate.sle (BitVec.ofNat 32 s.val) (IntOp.maxsi (BitVec.ofNat 32 t.val) 11#32))
      (IntOp.cmpi CmpIPredicate.sge (BitVec.ofNat 32 s.val)
        (IntOp.addi (IntOp.subi (IntOp.maxsi (BitVec.ofNat 32 t.val) 11#32) 12#32) 1#32))
      = if s.val ≤ max t.val (12 - 1) ∧ max t.val (12 - 1) < s.val + 12 then 1#1 else 0#1 := by decide +kernel

/-- The bit that says whether two steps are in phase. -/
theorem bit24 : ∀ s t : Fin 288,
    IntOp.cmpi CmpIPredicate.eq (BitVec.ofNat 32 (s.val % 24)) (BitVec.ofNat 32 (t.val % 24))
      = if s.val % 24 = t.val % 24 then 1#1 else 0#1 := by decide +kernel

/-- The remainder of a step by 24, as the host computes it with a sign correction. -/
def rem (x k : BitVec 32) : BitVec 32 :=
  let d := Scalar.select (IntOp.cmpi CmpIPredicate.eq k 0#32) 1#32 k
  let r := IntOp.remsi ArithUnit.host x d
  Scalar.select (IntOp.andi (IntOp.cmpi CmpIPredicate.ne (IntOp.cmpi CmpIPredicate.slt r 0#32) (IntOp.cmpi CmpIPredicate.slt d 0#32))
    (IntOp.cmpi CmpIPredicate.ne r 0#32)) (IntOp.addi r d) r

/-- A step's place in its day, as a word. -/
theorem rem24 : ∀ s : Fin 288, rem (BitVec.ofNat 32 s.val) 24#32 = BitVec.ofNat 32 (s.val % 24) := by decide +kernel

/-- A bit over a length, as a weight. -/
theorem weight (p : Prop) [Decidable p] (L : ℝ) (hL : 0 < L) :
    Ideal.div ((if p then 1#1 else 0#1 : BitVec 1).toNat : EReal) (L : EReal) = ((if p then 1 / L else 0 : ℝ) : EReal) := by
  have h : ((if p then 1#1 else 0#1 : BitVec 1).toNat : EReal) = ((if p then 1 else 0 : ℝ) : EReal) := by
    split <;> simp
  rw [h, div_coe _ _ hL]
  split <;> simp

/-- A bit as a number. -/
theorem uitofp_bit (b : BitVec 1) : (FloatOps.uitofp .f32 b : Ideal .f32) = ((b.toNat : EReal)) := by
  simp [FloatOps.uitofp]

variable (V : Valuation τ sig (Elt Ideal))

/-- Array 1 of the host code before the chain, at an index. -/
theorem host_v1 (b : Fin 4) (c : Fin 32) (i : Fin 128) (hi : i.val = b.val * 32 + c.val) (n : Fin 256) (t : Fin 288) :
    after Gen.hostOps1 V (Proc.devRef .tc main_v1) (ix3 i n t) = V (Proc.devRef .tc main_arg0) (ix4 b c n t) := by
  unfold Gen.hostOps1
  after_results
  pointwise
  congr 2
  · simp only [hi]; apply Fin.ext; simp only; omega
  · simp only [hi]; apply Fin.ext; simp only; omega

/-- Array 22 of the host code before the chain, at an index. -/
theorem host_v22 (s t : Fin 288) : after Gen.hostOps1 V (Proc.devRef .tc main_v22) (ix2 s t) = (win 48 s t : EReal) := by
  unfold Gen.hostOps1
  after_results
  pointwise
  rw [bit48, uitofp_bit, c48, weight _ _ (by norm_num), win]
  norm_num

/-- Array 24 of the host code before the chain, at an index. -/
theorem host_v24 (s : Fin 288) : after Gen.hostOps1 V (Proc.devRef .tc main_v24) (ix2 s 0) = BitVec.ofNat 32 s := by
  unfold Gen.hostOps1
  after_results
  pointwise

/-- Array 26 of the host code before the chain, at an index. -/
theorem host_v26 (t : Fin 288) : after Gen.hostOps1 V (Proc.devRef .tc main_v26) (ix2 0 t) = BitVec.ofNat 32 t := by
  unfold Gen.hostOps1
  after_results
  pointwise

/-- A literal of the host code. -/
theorem host_c4 : after Gen.hostOps1 V (Proc.devRef .tc main_c_4) ix0 = 24#32 := by
  unfold Gen.hostOps1
  after_results
  pointwise

/-- A literal of the host code. -/
theorem host_c5 : after Gen.hostOps1_2 V (Proc.devRef .tc main_c_5) ix0 = 24#32 := by
  unfold Gen.hostOps1_2
  after_results
  pointwise

/-- Array 27 of the host code before the chain, at an index. -/
theorem host_v27 (s : Fin 288) : after Gen.hostOps1_1 V (Proc.devRef .tc main_v27) (ix2 s 0)
    = rem (V (Proc.devRef .tc main_v24) (ix2 s 0)) (V (Proc.devRef .tc main_c_4) ix0) := by
  unfold Gen.hostOps1_1
  after_results
  simp only [TRef.ofBuf, TRef.toBuf, main_call0_call0, id, cast_cast, cast_eq]
  pointwise
  rfl

/-- Array 28 of the host code before the chain, at an index. -/
theorem host_v28 (t : Fin 288) : after Gen.hostOps1_3 V (Proc.devRef .tc main_v28) (ix2 0 t)
    = rem (V (Proc.devRef .tc main_v26) (ix2 0 t)) (V (Proc.devRef .tc main_c_5) ix0) := by
  unfold Gen.hostOps1_3
  after_results
  simp only [TRef.ofBuf, TRef.toBuf, main_call1_call0, id, cast_cast, cast_eq]
  pointwise
  rfl

/-- Array 35 of the host code before the chain, at an index. -/
theorem host_v35 (h27 : ∀ s : Fin 288, V (Proc.devRef .tc main_v27) (ix2 s 0) = BitVec.ofNat 32 (s.val % 24))
    (h28 : ∀ t : Fin 288, V (Proc.devRef .tc main_v28) (ix2 0 t) = BitVec.ofNat 32 (t.val % 24)) (s t : Fin 288) :
    after Gen.hostOps1_4 V (Proc.devRef .tc main_v35) (ix2 s t) = (sea s t : EReal) := by
  unfold Gen.hostOps1_4
  after_results
  pointwise
  rw [h27, h28, bit24, uitofp_bit, c12, weight _ _ (by norm_num), sea]

/-- Array 56 of the host code before the chain, at an index. -/
theorem host_v56 (s t : Fin 288) : after Gen.hostOps1_4 V (Proc.devRef .tc main_v56) (ix2 s t) = (win 12 s t : EReal) := by
  unfold Gen.hostOps1_4
  after_results
  pointwise
  rw [bit12, uitofp_bit, c12, weight _ _ (by norm_num), win]
  norm_num

end Cert.Chain
-- ==== Proof.HostAux.lean ====
module
public import proofs.«01_k».proof.Proof.HostMats
@[expose] public section
set_option maxRecDepth 16384
noncomputable section
/-! What the host lays out for the product over the last steps: the gathered weight columns and the tails cut by batch. -/
namespace Cert.Chain
open Idealize.ShloMosaic Idealize.ShloMosaic.StableHlo Cert.KernelIdeal
variable (V : Valuation τ sig (Elt Ideal))

/-- The groups the last product reads, of the thirteen. -/
def grp : Fin 8 → Fin 13 := ![2, 3, 5, 6, 8, 9, 11, 12]
/-- The channel among the 416 that channel `c` of the last product's 256 stands for. -/
def chan (c : Fin 256) : Fin 416 := ⟨(grp ⟨c.val / 32, by omega⟩).val * 32 + c.val % 32, by have := (grp ⟨c.val / 32, by omega⟩).isLt; omega⟩

/-- The gather of weight columns read at an index: the column its start index names, clamped. -/
theorem gather_cols (x : S64x416x12.Idx → EReal) (i : IVec S256x1 32) (o : Fin 64) (c : Fin 256) (k : Fin 12) :
    Host.gather gather_S64x416x12_S256x1_S64x256x12_02_1_n_n_1_1_64112 x i (ix3 o c k) = x (ix3 o ⟨min (i (ix2 c 0)).toInt.toNat 415, by omega⟩ k) := by
  unfold Host.gather
  congr 1
  funext a
  refine Fin.ext ?_
  match a with
  | 0 =>
    show GatherDims.start _ _ _ _ + GatherDims.batchCoord _ _ _ + GatherDims.offCoord _ _ _ = _
    rw [GatherDims.batchCoord_eq_zero _ _ _ List.not_mem_nil]
    unfold GatherDims.start
    rw [dif_neg (by decide)]
    simp only [Nat.zero_add]
    rfl
  | 1 =>
    show GatherDims.start _ _ _ _ + GatherDims.batchCoord _ _ _ + GatherDims.offCoord _ _ _ = _
    rw [GatherDims.batchCoord_eq_zero _ _ _ List.not_mem_nil, GatherDims.offCoord_eq_zero _ _ _ (by decide)]
    unfold GatherDims.start
    rw [dif_pos (by decide)]
    simp only [Nat.add_zero]
    have e : GatherDims.siIdx gather_S64x416x12_S256x1_S64x256x12_02_1_n_n_1_1_64112 (ix3 o c k) ⟨0, by decide⟩ = (ix2 c 0 : S256x1.Idx) := by
      funext b; refine Fin.ext ?_
      match b with
      | ⟨0, _⟩ => rfl
      | ⟨1, _⟩ => rfl
    exact congrArg (fun z => min (i z).toInt.toNat 415) e
  | 2 =>
    show GatherDims.start _ _ _ _ + GatherDims.batchCoord _ _ _ + GatherDims.offCoord _ _ _ = _
    rw [GatherDims.batchCoord_eq_zero _ _ _ List.not_mem_nil]
    unfold GatherDims.start
    rw [dif_neg (by decide)]
    simp only [Nat.zero_add]
    rfl

/-- The table of start indices lists the channels of the eight groups in order. -/
theorem lit0_chan : ∀ c : Fin 256, min (lit0 c).toInt.toNat 415 = (chan c).val := by decide +kernel
/-- The position of a row index in its array. -/
theorem rowMajor_256 : ∀ c : Fin 256, S256.rowMajor (ix1 c) = c := fun c => Fin.ext (Shape.rowMajor_val_one (ix1 c))

/-- The gathered weights with the taps laid over the rows. -/
theorem host_v124 (h0 : V (Proc.devRef .tc main_c_0) = constantI S256 1 0#1) (hc : V (Proc.devRef .tc main_c) = fun i => lit0 (S256.rowMajor i)) (o : Fin 768) (c : Fin 256) :
    after Gen.hostOps4 V (Proc.devRef .tc main_v124) (ix2 o c) = V (Proc.devRef .tc main_v95) (ix3 ⟨o.val % 64, by omega⟩ (chan c) ⟨o.val / 64, by omega⟩) := by
  unfold Gen.hostOps4
  after_results
  pointwise
  rw [h0, hc]
  refine (gather_cols _ _ _ _ _).trans ?_
  refine congrArg (V (Proc.devRef .tc main_v95)) ?_
  refine congrArg (fun z => (ix3 ⟨o.val % 64, by omega⟩ z ⟨o.val / 64, by omega⟩ : S64x416x12.Idx)) (Fin.ext ?_)
  rw [← lit0_chan c]
  pointwise
  rw [rowMajor_256]

/-- Array 12 of the chain cut by batch. -/
theorem host_v125 (b : Fin 4) (c : Fin 32) (s : Fin 23) (n : Fin 256)  : after Gen.hostOps4 V (Proc.devRef .tc main_v125) (ix4 b c s n) = V (Proc.devRef .tc main_v57_12) (ix3 ⟨b.val * 32 + c.val, by omega⟩ s n) := by
  unfold Gen.hostOps4
  after_results
  pointwise

/-- Array 13 of the chain cut by batch. -/
theorem host_v126 (b : Fin 4) (c : Fin 32) (s : Fin 23) (n : Fin 256)  : after Gen.hostOps4 V (Proc.devRef .tc main_v126) (ix4 b c s n) = V (Proc.devRef .tc main_v57_13) (ix3 ⟨b.val * 32 + c.val, by omega⟩ s n) := by
  unfold Gen.hostOps4
  after_results
  pointwise

/-- Array 14 of the chain cut by batch. -/
theorem host_v127 (b : Fin 4) (c : Fin 32) (s : Fin 23) (n : Fin 256)  : after Gen.hostOps4 V (Proc.devRef .tc main_v127) (ix4 b c s n) = V (Proc.devRef .tc main_v57_14) (ix3 ⟨b.val * 32 + c.val, by omega⟩ s n) := by
  unfold Gen.hostOps4
  after_results
  pointwise

/-- Array 15 of the chain cut by batch. -/
theorem host_v128 (b : Fin 4) (c : Fin 32) (s : Fin 23) (n : Fin 256)  : after Gen.hostOps4 V (Proc.devRef .tc main_v128) (ix4 b c s n) = V (Proc.devRef .tc main_v57_15) (ix3 ⟨b.val * 32 + c.val, by omega⟩ s n) := by
  unfold Gen.hostOps4
  after_results
  pointwise

/-- Array 16 of the chain cut by batch. -/
theorem host_v129 (b : Fin 4) (c : Fin 32) (s : Fin 23) (n : Fin 256)  : after Gen.hostOps4 V (Proc.devRef .tc main_v129) (ix4 b c s n) = V (Proc.devRef .tc main_v57_16) (ix3 ⟨b.val * 32 + c.val, by omega⟩ s n) := by
  unfold Gen.hostOps4
  after_results
  pointwise

/-- Array 17 of the chain cut by batch. -/
theorem host_v130 (b : Fin 4) (c : Fin 32) (s : Fin 23) (n : Fin 256)  : after Gen.hostOps4 V (Proc.devRef .tc main_v130) (ix4 b c s n) = V (Proc.devRef .tc main_v57_17) (ix3 ⟨b.val * 32 + c.val, by omega⟩ s n) := by
  unfold Gen.hostOps4
  after_results
  pointwise

/-- Array 18 of the chain cut by batch. -/
theorem host_v131 (b : Fin 4) (c : Fin 32) (s : Fin 23) (n : Fin 256)  : after Gen.hostOps4 V (Proc.devRef .tc main_v131) (ix4 b c s n) = V (Proc.devRef .tc main_v57_18) (ix3 ⟨b.val * 32 + c.val, by omega⟩ s n) := by
  unfold Gen.hostOps4
  after_results
  pointwise

/-- Array 19 of the chain cut by batch. -/
theorem host_v132 (b : Fin 4) (c : Fin 32) (s : Fin 23) (n : Fin 256)  : after Gen.hostOps4 V (Proc.devRef .tc main_v132) (ix4 b c s n) = V (Proc.devRef .tc main_v57_19) (ix3 ⟨b.val * 32 + c.val, by omega⟩ s n) := by
  unfold Gen.hostOps4
  after_results
  pointwise

/-- The table of start indices. -/
theorem host_c : after Gen.hostOps0 V (Proc.devRef .tc main_c) = fun i => lit0 (S256.rowMajor i) := by
  unfold Gen.hostOps0
  after_results
  rfl
/-- The row of zero bits beside it. -/
theorem host_c0 : after Gen.hostOps0 V (Proc.devRef .tc main_c_0) = constantI S256 1 0#1 := by
  unfold Gen.hostOps0
  after_results

end Cert.Chain
-- ==== Proof.AuxOut.lean ====
/- What the grid step of the auxiliary result writes. -/
module

public import proofs.«01_k».proof.Proof.Mix
public import proofs.«01_k».proof.Proof.Gen.KernelIdeal.Frame.Region4

@[expose] public section

set_option maxRecDepth 16384

noncomputable section

namespace Cert.Chain

open Idealize.ShloMosaic Idealize.ShloMosaic.StableHlo Cert.KernelIdeal

/-- The channels of eight groups at the time steps that step `t` reads. -/
def shift8 (H : Fin 8 → Fin 32 → Fin 23 → Fin 256 → EReal) (n : Fin 256) (t k : Fin 12) (c : Fin 256) : EReal :=
  pick (N := 8) (fun g c => H g c ⟨k.val + t.val, by omega⟩ n) c

/-- The weight block holds two convolutions' weights and biases, for 256 channels. -/
structure AuxWeights (x8 : S768x256.Idx → EReal) (x9 : S1x1x64.Idx → EReal) (Wa Wb : Fin 32 → Fin 256 → Fin 12 → EReal) (ba bb : Fin 32 → EReal) : Prop where
  wa : ∀ (k : Fin 12) (o : Fin 32) (r : Fin 768) (c : Fin 256), r.val = 64 * k.val + o.val → x8 (ix2 r c) = Wa o c k
  wb : ∀ (k : Fin 12) (o : Fin 32) (r : Fin 768) (c : Fin 256), r.val = 64 * k.val + 32 + o.val → x8 (ix2 r c) = Wb o c k
  ba : ∀ (o : Fin 32) (r : Fin 64), r.val = o.val → x9 (ix3 0 0 r) = ba o
  bb : ∀ (o : Fin 32) (r : Fin 64), r.val = 32 + o.val → x9 (ix3 0 0 r) = bb o

/-- The eight blocks hold the eight groups. -/
def Eight (x0 x1 x2 x3 x4 x5 x6 x7 : S1x32x23x256.Idx → EReal) (H : Fin 8 → Fin 32 → Fin 23 → Fin 256 → EReal) : Prop :=
  ∀ g c t n, (![x0, x1, x2, x3, x4, x5, x6, x7] : Fin 8 → S1x32x23x256.Idx → EReal) g (ix4 0 c t n) = H g c t n

/-- The auxiliary product of weights and stacked steps, as a sum over taps and channels. -/
theorem aux_product (v : S768x256.Idx → EReal) (w : S256x23x256.Idx → EReal) (r : Fin 768) (t : Fin 23) (n : Fin 256) :
    (matmul (F := Ideal) (φ₁ := .f32) (φ₂ := .f32) dot_S768x256_S256x23x256_S768x23x256_1_0_0_12_n_n none (v : FVec Ideal S768x256 .f32) (w : FVec Ideal S256x23x256 .f32) (constant S768x23x256 .f32 0x00000000#32) : S768x23x256.Idx → EReal) (ix3 r t n)
      = ∑ c, v (ix2 r c) * w (ix3 c t n) := by
  pointwise

variable {x0 x1 x2 x3 x4 x5 x6 x7 : Vec Ideal S1x32x23x256 .f32} {x8 : Vec Ideal S768x256 .f32} {x9 : Vec Ideal S1x1x64 .f32} {x10 : Vec Ideal S32x32 .f32} {x11 : Vec Ideal S1x1x32 .f32}
  {H : Fin 8 → Fin 32 → Fin 23 → Fin 256 → EReal} {Wa Wb : Fin 32 → Fin 256 → Fin 12 → EReal} {ba bb : Fin 32 → EReal}

/-- One tap of the auxiliary product. -/
theorem aux_pay2 (H8 : Eight x0 x1 x2 x3 x4 x5 x6 x7 H) (r : Fin 768) (i : Fin 23) (n : Fin 256) :
    Gen.k4_pay2 (F := Ideal) x0 x1 x2 x3 x4 x5 x6 x7 x8 (ix3 r i n) = ∑ c, x8 (ix2 r c) * pick (N := 8) (fun g c => H g c i n) c := by
  unfold Gen.k4_pay2
  refine (aux_product (shapeCast S768x256 x8 Gen.shapeCasts_S768x256_S768x256) _ r i n).trans (Finset.sum_congr rfl fun c _ => congrArg₂ (fun p q : EReal => p * q) (show _ = x8 (ix2 r c) by pointwise) ?_)
  refine (cat8 _ _ _ _ _ _ _ _ _ c i n).trans (pick_congr (N := 8) (fun g c => ?_) c)
  refine Eq.trans ?_ (H8 g c i n)
  match g with
  | ⟨0, _⟩ => exact (by pointwise)
  | ⟨1, _⟩ => exact (by pointwise)
  | ⟨2, _⟩ => exact (by pointwise)
  | ⟨3, _⟩ => exact (by pointwise)
  | ⟨4, _⟩ => exact (by pointwise)
  | ⟨5, _⟩ => exact (by pointwise)
  | ⟨6, _⟩ => exact (by pointwise)
  | ⟨7, _⟩ => exact (by pointwise)

/-- One term of the auxiliary product. -/
theorem aux_term (H8 : Eight x0 x1 x2 x3 x4 x5 x6 x7 H) (W : Fin 256 → Fin 12 → EReal) (r : Fin 768) (i : Fin 23) (k t : Fin 12) (n : Fin 256)
    (hW : ∀ c, x8 (ix2 r c) = W c k) (hi : i.val = k.val + t.val) :
    Gen.k4_pay2 (F := Ideal) x0 x1 x2 x3 x4 x5 x6 x7 x8 (ix3 r i n) = ∑ c, W c k * shift8 H n t k c := by
  have e : i = ⟨k.val + t.val, by omega⟩ := Fin.ext hi
  rw [e]
  exact (aux_pay2 H8 r _ n).trans (Finset.sum_congr rfl fun c _ => congrArg₂ (fun p q : EReal => p * q) (hW c) rfl)

/-- The first tap of the auxiliary product, as the body slices it. -/
theorem aux_first (H8 : Eight x0 x1 x2 x3 x4 x5 x6 x7 H) (W : Fin 256 → Fin 12 → EReal) (r : Fin 64) (t : Fin 12) (n : Fin 256)
    (hW : ∀ c, x8 (ix2 ⟨r.val, by omega⟩ c) = W c 0) :
    Gen.k4_pay3 (F := Ideal) x0 x1 x2 x3 x4 x5 x6 x7 x8 (ix3 r t n) = ∑ c, W c 0 * shift8 H n t 0 c := by
  pointwise [Gen.k4_pay3]
  exact aux_term H8 W _ _ 0 t n hW (by simp)

/-- What the grid step writes. -/
theorem out12 (H8 : Eight x0 x1 x2 x3 x4 x5 x6 x7 H) (w : AuxWeights x8 x9 Wa Wb ba bb) (o : Fin 32) (n : Fin 256) (t : Fin 12) :
    Gen.out4_12 x0 x1 x2 x3 x4 x5 x6 x7 x8 x9 x10 x11 (ix4 0 o n t)
      = project (fun o' => x10 (ix2 o o')) (x11 (ix3 0 0 o)) (fun o' => gateAt (N := 256) (Wa o') (Wb o') (ba o') (bb o') (shift8 H n t)) := by
  unfold Gen.out4_12; frame_out
  pointwise [Gen.k4_pay1]
  exact congrArg₂ (fun p q : EReal => p + q) (Finset.sum_congr rfl fun o' _ => congrArg₂ (fun p q : EReal => p * q) rfl (congrArg₂ (fun p q : EReal => p * q)
    (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (aux_first H8 _ _ t n (fun c => w.wa 0 o' _ c (by show _ = _; simp <;> omega))) (aux_term H8 _ _ _ 1 t n (fun c => w.wa 1 o' _ c (by show _ = _; simp <;> omega)) (by simp))) (aux_term H8 _ _ _ 2 t n (fun c => w.wa 2 o' _ c (by show _ = _; simp <;> omega)) (by simp))) (aux_term H8 _ _ _ 3 t n (fun c => w.wa 3 o' _ c (by show _ = _; simp <;> omega)) (by simp))) (aux_term H8 _ _ _ 4 t n (fun c => w.wa 4 o' _ c (by show _ = _; simp <;> omega)) (by simp))) (aux_term H8 _ _ _ 5 t n (fun c => w.wa 5 o' _ c (by show _ = _; simp <;> omega)) (by simp))) (aux_term H8 _ _ _ 6 t n (fun c => w.wa 6 o' _ c (by show _ = _; simp <;> omega)) (by simp))) (aux_term H8 _ _ _ 7 t n (fun c => w.wa 7 o' _ c (by show _ = _; simp <;> omega)) (by simp))) (aux_term H8 _ _ _ 8 t n (fun c => w.wa 8 o' _ c (by show _ = _; simp <;> omega)) (by simp))) (aux_term H8 _ _ _ 9 t n (fun c => w.wa 9 o' _ c (by show _ = _; simp <;> omega)) (by simp))) (aux_term H8 _ _ _ 10 t n (fun c => w.wa 10 o' _ c (by show _ = _; simp <;> omega)) (by simp))) (aux_term H8 _ _ _ 11 t n (fun c => w.wa 11 o' _ c (by show _ = _; simp <;> omega)) (by simp))) (w.ba o' _ (by simp)))
    (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (aux_first H8 _ _ t n (fun c => w.wb 0 o' _ c (by show _ = _; simp <;> omega))) (aux_term H8 _ _ _ 1 t n (fun c => w.wb 1 o' _ c (by show _ = _; simp <;> omega)) (by simp))) (aux_term H8 _ _ _ 2 t n (fun c => w.wb 2 o' _ c (by show _ = _; simp <;> omega)) (by simp))) (aux_term H8 _ _ _ 3 t n (fun c => w.wb 3 o' _ c (by show _ = _; simp <;> omega)) (by simp))) (aux_term H8 _ _ _ 4 t n (fun c => w.wb 4 o' _ c (by show _ = _; simp <;> omega)) (by simp))) (aux_term H8 _ _ _ 5 t n (fun c => w.wb 5 o' _ c (by show _ = _; simp <;> omega)) (by simp))) (aux_term H8 _ _ _ 6 t n (fun c => w.wb 6 o' _ c (by show _ = _; simp <;> omega)) (by simp))) (aux_term H8 _ _ _ 7 t n (fun c => w.wb 7 o' _ c (by show _ = _; simp <;> omega)) (by simp))) (aux_term H8 _ _ _ 8 t n (fun c => w.wb 8 o' _ c (by show _ = _; simp <;> omega)) (by simp))) (aux_term H8 _ _ _ 9 t n (fun c => w.wb 9 o' _ c (by show _ = _; simp <;> omega)) (by simp))) (aux_term H8 _ _ _ 10 t n (fun c => w.wb 10 o' _ c (by show _ = _; simp <;> omega)) (by simp))) (aux_term H8 _ _ _ 11 t n (fun c => w.wb 11 o' _ c (by show _ = _; simp <;> omega)) (by simp))) (w.bb o' _ (by simp))))) rfl

end Cert.Chain
-- ==== Proof.AuxSum.lean ====
/- The gated product over the last steps, whose channels are eight of the thirteen groups, is the one over all of them. -/
module

public import proofs.«01_k».proof.Proof.HostAux
public import proofs.«01_k».proof.Proof.AuxOut
public import proofs.«01_k».proof.Proof.Mix
public import proofs.«01_k».proof.Proof.Spec

@[expose] public section

set_option maxRecDepth 16384

noncomputable section

namespace Cert.Chain

open Idealize.ShloMosaic Idealize.ShloMosaic.TcCoe Cert.KernelIdeal

/-- Different gathered groups are different groups. -/
theorem grp_inj : Function.Injective grp := by decide

/-- The group of a gathered channel. -/
theorem chan_div (c : Fin 256) : (chan c).val / 32 = (grp ⟨c.val / 32, by omega⟩).val := by
  show ((grp ⟨c.val / 32, by omega⟩).val * 32 + c.val % 32) / 32 = _; omega
/-- The place of a gathered channel in its group. -/
theorem chan_mod (c : Fin 256) : (chan c).val % 32 = c.val % 32 := by
  show ((grp ⟨c.val / 32, by omega⟩).val * 32 + c.val % 32) % 32 = _; omega

/-- Different gathered channels are different channels. -/
theorem chan_inj : Function.Injective chan := fun c d h => by
  have h1 : grp ⟨c.val / 32, by omega⟩ = grp ⟨d.val / 32, by omega⟩ := Fin.ext (by rw [← chan_div, ← chan_div, h])
  have h2 : c.val % 32 = d.val % 32 := by rw [← chan_mod, ← chan_mod, h]
  have h3 : c.val / 32 = d.val / 32 := congrArg Fin.val (grp_inj h1)
  exact Fin.ext (by omega)

/-- A sum over all channels whose terms vanish outside the eight groups is the sum over their channels. -/
theorem sum_chan (f : Fin 416 → EReal) (hf : ∀ c : Fin 416, (∀ g, grp g ≠ ⟨c.val / 32, by omega⟩) → f c = 0) : ∑ c, f (chan c) = ∑ c, f c := by
  rw [← Finset.sum_image (s := Finset.univ) (g := chan) (f := f) (fun c _ d _ h => chan_inj h)]
  refine Finset.sum_subset (Finset.subset_univ _) fun c _ hc => hf c fun g hg => hc ?_
  refine Finset.mem_image.mpr ⟨⟨g.val * 32 + c.val % 32, by omega⟩, Finset.mem_univ _, Fin.ext ?_⟩
  have e1 : (chan ⟨g.val * 32 + c.val % 32, by omega⟩).val / 32 = c.val / 32 := by
    rw [chan_div]
    have : (⟨(g.val * 32 + c.val % 32) / 32, by omega⟩ : Fin 8) = g := Fin.ext (by show (g.val * 32 + c.val % 32) / 32 = g.val; omega)
    rw [this, hg]
  have e2 : (chan ⟨g.val * 32 + c.val % 32, by omega⟩).val % 32 = c.val % 32 := by
    rw [chan_mod]; show (g.val * 32 + c.val % 32) % 32 = _; omega
  omega

/-- The slab at a late step reads the groups one step before. -/
theorem slab_late (K : Fin 13 → Fin 32 → Fin 300 → EReal) (c : Fin 416) (k u : Fin 12) :
    shifts (slab K) ⟨278 + u.val, by omega⟩ k c = K ⟨c.val / 32, by omega⟩ ⟨c.val % 32, by omega⟩ ⟨277 + (k.val + u.val), by omega⟩ := by
  unfold shifts slab
  rw [dif_neg (show ¬ k.val + (278 + u.val) < 1 by omega)]
  unfold pick
  exact congrArg (K _ _) (Fin.ext (by show k.val + (278 + u.val) - 1 = 277 + (k.val + u.val); omega))

/-- A tap's sum over all channels is the sum over the gathered ones. -/
theorem term_aux (K : Fin 13 → Fin 32 → Fin 300 → EReal) (hK : ∀ g, (∀ g', grp g' ≠ g) → ∀ c t, K g c t = 0)
    (H : Fin 8 → Fin 32 → Fin 23 → Fin 256 → EReal) (n : Fin 256) (hH : ∀ g i s, H g i s n = K (grp g) i ⟨277 + s.val, by omega⟩)
    (W : Fin 416 → Fin 12 → EReal) (k u : Fin 12) :
    ∑ c, W (chan c) k * shift8 H n u k c = ∑ c, W c k * shifts (slab K) ⟨278 + u.val, by omega⟩ k c := by
  rw [← sum_chan (fun c => W c k * shifts (slab K) ⟨278 + u.val, by omega⟩ k c) fun c hc => ?_]
  · refine Finset.sum_congr rfl fun c _ => congrArg (W (chan c) k * ·) ?_
    rw [slab_late]
    unfold shift8 pick
    refine (hH _ _ _).trans ?_
    have e1 : (⟨(chan c).val / 32, by omega⟩ : Fin 13) = grp ⟨c.val / 32, by omega⟩ := Fin.ext (chan_div c)
    have e2 : (⟨(chan c).val % 32, by omega⟩ : Fin 32) = ⟨c.val % 32, by omega⟩ := Fin.ext (chan_mod c)
    rw [e1, e2]
  · rw [slab_late, hK _ hc, mul_zero]

/-- The gated product over the eight groups is the one over the thirteen. -/
theorem gate_aux (K : Fin 13 → Fin 32 → Fin 300 → EReal) (hK : ∀ g, (∀ g', grp g' ≠ g) → ∀ c t, K g c t = 0)
    (H : Fin 8 → Fin 32 → Fin 23 → Fin 256 → EReal) (n : Fin 256) (hH : ∀ g i s, H g i s n = K (grp g) i ⟨277 + s.val, by omega⟩)
    (Wa Wb : Fin 416 → Fin 12 → EReal) (ba bb : EReal) (u : Fin 12) :
    gateAt (N := 256) (fun c k => Wa (chan c) k) (fun c k => Wb (chan c) k) ba bb (shift8 H n u)
      = gateAt (N := 416) Wa Wb ba bb (shifts (slab K) ⟨278 + u.val, by omega⟩) := by
  unfold gateAt convAt
  exact congrArg₂ (fun p q : EReal => (p + ba) * (q + bb)) (acc12_congr fun k => term_aux K hK H n hH Wa k u) (acc12_congr fun k => term_aux K hK H n hH Wb k u)

/-- The groups that are not gathered hold zeros. -/
theorem stat_zero (Q : Fin 32 → Plane) (w1 w2 w3 : Fin 288 → Fin 288 → ℝ) (a : Fin 256 → Fin 256 → ℝ) (n : Fin 256) (g : Fin 13) (h : ∀ g', grp g' ≠ g)
    (c : Fin 32) (t : Fin 300) : statGroups Q w1 w2 w3 a n g c t = 0 :=
  match g, h with
  | 0, _ => rfl
  | 1, _ => rfl
  | 2, h => absurd rfl (h 0)
  | 3, h => absurd rfl (h 1)
  | 4, _ => rfl
  | 5, h => absurd rfl (h 2)
  | 6, h => absurd rfl (h 3)
  | 7, _ => rfl
  | 8, h => absurd rfl (h 4)
  | 9, h => absurd rfl (h 5)
  | 10, _ => rfl
  | 11, h => absurd rfl (h 6)
  | 12, h => absurd rfl (h 7)

/-- One entry of a result: the gated product of a slab, projected. -/
def outAt (a2 a4 : S32x416x1x12.Idx → EReal) (a3 a5 : S32.Idx → EReal) (R : S32x32x1x1.Idx → EReal) (r : S32.Idx → EReal)
    (S : Fin 416 → Fin 301 → EReal) (t : Fin 290) (o : Fin 32) : EReal :=
  project (fun o' => R (ix4 o o' 0 0)) (r (ix1 o)) fun o' =>
    gateAt (fun c k => a2 (ix4 o' c 0 k)) (fun c k => a4 (ix4 o' c 0 k)) (a3 (ix1 o')) (a5 (ix1 o')) (shifts S t)

/-- A projection depends only on its weights, its bias and its entries. -/
theorem project_congr {R R' : Fin 32 → EReal} {r r' : EReal} {G G' : Fin 32 → EReal} (h1 : ∀ o, R o = R' o) (h2 : r = r') (h3 : ∀ o, G o = G' o) :
    project R r G = project R' r' G' := by
  rw [show R = R' from funext h1, h2, show G = G' from funext h3]

/-- An entry of a result depends only on the arguments' values and the slab's. -/
theorem outAt_congr {a2 a4 a2' a4' : S32x416x1x12.Idx → EReal} {a3 a5 a3' a5' : S32.Idx → EReal} {R R' : S32x32x1x1.Idx → EReal} {r r' : S32.Idx → EReal}
    {S S' : Fin 416 → Fin 301 → EReal} (h2 : a2 = a2') (h3 : a3 = a3') (h4 : a4 = a4') (h5 : a5 = a5') (hR : R = R') (hr : r = r') (hS : ∀ c t, S c t = S' c t)
    (t : Fin 290) (o : Fin 32) : outAt a2 a4 a3 a5 R r S t o = outAt a2' a4' a3' a5' R' r' S' t o := by
  rw [h2, h3, h4, h5, hR, hr, show S = S' from funext fun c => funext (hS c)]

end Cert.Chain
-- ==== Proof.RefOut.lean ====
/- The reference's results at an index, in the arguments. -/
module

public import proofs.«01_k».proof.Proof.RefSlab
public import proofs.«01_k».proof.Proof.RefMix
public import proofs.«01_k».proof.Proof.AuxSum

@[expose] public section

set_option maxRecDepth 16384

noncomputable section

namespace Cert.Chain

open Idealize.ShloMosaic Idealize.ShloMosaic.StableHlo Cert.ReferenceIdeal
open Cert.ReferenceIdeal.Value Cert.ReferenceIdeal.Gen

/-- A projected gated product over a slab is an entry of a result. -/
theorem slab_out (a2 a4 : S32x416x1x12.Idx → EReal) (a3 a5 : S32.Idx → EReal) (R : S32x32x1x1.Idx → EReal) (r : S32.Idx → EReal)
    (X : S4x416x256x301.Idx → EReal) (S : Fin 416 → Fin 301 → EReal) (b : Fin 4) (n : Fin 256) (hX : ∀ i t, X (ix4 b i n t) = S i t) (o : Fin 32) (t : Fin 290) :
    project (fun o' => R (ix4 o o' 0 0)) (r (ix1 o)) (fun o' => gateAt (wtE a2 o') (wtE a4 o') (a3 (ix1 o')) (a5 (ix1 o')) (shifts (slabE X b n) t))
      = outAt a2 a4 a3 a5 R r S t o := by
  unfold outAt
  exact project_congr (fun _ => rfl) rfl fun o' => gateAt_congr (fun _ _ => rfl) (fun _ _ => rfl) rfl rfl fun k i => hX i _

variable {V0 : Valuation Cert.ReferenceIdeal.τ Cert.ReferenceIdeal.sig (Elt Ideal)} {Q : Fin 4 → Fin 32 → Plane} {e : Fin 256 → Fin 16 → ℝ}

/-- The terms of the reference's array 521. -/
theorem ref521 (hx : ∀ b c n t, V0 (Proc.devRef .tc main_arg0) (ix4 b c n t) = (Q b c n t : EReal))
    (he : ∀ n j, V0 (Proc.devRef .tc main_arg1) (ix2 n j) = (e n j : EReal)) (b : Fin 4) (o : Fin 32) (n : Fin 256) (u : Fin 278) :
    project (fun o' => V0 (Proc.devRef .tc main_arg8) (ix4 o o' 0 0)) (V0 (Proc.devRef .tc main_arg9) (ix1 o)) (fun o' => gateAt (wtE (V0 (Proc.devRef .tc main_arg2)) o') (wtE (V0 (Proc.devRef .tc main_arg4)) o') (V0 (Proc.devRef .tc main_arg3) (ix1 o')) (V0 (Proc.devRef .tc main_arg5) (ix1 o')) (shifts (slabE (res_main_v206 V0) b n) ⟨u.val, by omega⟩))
      = outAt (V0 (Proc.devRef .tc main_arg2)) (V0 (Proc.devRef .tc main_arg4)) (V0 (Proc.devRef .tc main_arg3)) (V0 (Proc.devRef .tc main_arg5)) (V0 (Proc.devRef .tc main_arg8)) (V0 (Proc.devRef .tc main_arg9)) (slab (groups (Q b) (win 48) sea (win 12) (adj e) (refFurther V0) n)) ⟨u.val, by omega⟩ o :=
  slab_out (V0 (Proc.devRef .tc main_arg2)) (V0 (Proc.devRef .tc main_arg4)) (V0 (Proc.devRef .tc main_arg3)) (V0 (Proc.devRef .tc main_arg5)) (V0 (Proc.devRef .tc main_arg8)) (V0 (Proc.devRef .tc main_arg9)) (res_main_v206 V0) (slab (groups (Q b) (win 48) sea (win 12) (adj e) (refFurther V0) n)) b n
    (fun i t => r206 hx he b i n t) o ⟨u.val, by omega⟩

/-- The terms of the reference's array 528. -/
theorem ref528 (hx : ∀ b c n t, V0 (Proc.devRef .tc main_arg0) (ix4 b c n t) = (Q b c n t : EReal))
    (he : ∀ n j, V0 (Proc.devRef .tc main_arg1) (ix2 n j) = (e n j : EReal)) (b : Fin 4) (o : Fin 32) (n : Fin 256) (u : Fin 12) :
    project (fun o' => V0 (Proc.devRef .tc main_arg6) (ix4 o o' 0 0)) (V0 (Proc.devRef .tc main_arg7) (ix1 o)) (fun o' => gateAt (wtE (V0 (Proc.devRef .tc main_arg2)) o') (wtE (V0 (Proc.devRef .tc main_arg4)) o') (V0 (Proc.devRef .tc main_arg3) (ix1 o')) (V0 (Proc.devRef .tc main_arg5) (ix1 o')) (shifts (slabE (res_main_v206 V0) b n) ⟨278 + u.val, by omega⟩))
      = outAt (V0 (Proc.devRef .tc main_arg2)) (V0 (Proc.devRef .tc main_arg4)) (V0 (Proc.devRef .tc main_arg3)) (V0 (Proc.devRef .tc main_arg5)) (V0 (Proc.devRef .tc main_arg6)) (V0 (Proc.devRef .tc main_arg7)) (slab (groups (Q b) (win 48) sea (win 12) (adj e) (refFurther V0) n)) ⟨278 + u.val, by omega⟩ o :=
  slab_out (V0 (Proc.devRef .tc main_arg2)) (V0 (Proc.devRef .tc main_arg4)) (V0 (Proc.devRef .tc main_arg3)) (V0 (Proc.devRef .tc main_arg5)) (V0 (Proc.devRef .tc main_arg6)) (V0 (Proc.devRef .tc main_arg7)) (res_main_v206 V0) (slab (groups (Q b) (win 48) sea (win 12) (adj e) (refFurther V0) n)) b n
    (fun i t => r206 hx he b i n t) o ⟨278 + u.val, by omega⟩

/-- The terms of the reference's array 536. -/
theorem ref536 (hx : ∀ b c n t, V0 (Proc.devRef .tc main_arg0) (ix4 b c n t) = (Q b c n t : EReal))
    (he : ∀ n j, V0 (Proc.devRef .tc main_arg1) (ix2 n j) = (e n j : EReal)) (b : Fin 4) (o : Fin 32) (n : Fin 256) (u : Fin 12) :
    project (fun o' => V0 (Proc.devRef .tc main_arg6) (ix4 o o' 0 0)) (V0 (Proc.devRef .tc main_arg7) (ix1 o)) (fun o' => gateAt (wtE (V0 (Proc.devRef .tc main_arg2)) o') (wtE (V0 (Proc.devRef .tc main_arg4)) o') (V0 (Proc.devRef .tc main_arg3) (ix1 o')) (V0 (Proc.devRef .tc main_arg5) (ix1 o')) (shifts (slabE (res_main_v209 V0) b n) ⟨278 + u.val, by omega⟩))
      = outAt (V0 (Proc.devRef .tc main_arg2)) (V0 (Proc.devRef .tc main_arg4)) (V0 (Proc.devRef .tc main_arg3)) (V0 (Proc.devRef .tc main_arg5)) (V0 (Proc.devRef .tc main_arg6)) (V0 (Proc.devRef .tc main_arg7)) (slab (statGroups (Q b) (win 48) sea (win 12) (adj e) n)) ⟨278 + u.val, by omega⟩ o :=
  slab_out (V0 (Proc.devRef .tc main_arg2)) (V0 (Proc.devRef .tc main_arg4)) (V0 (Proc.devRef .tc main_arg3)) (V0 (Proc.devRef .tc main_arg5)) (V0 (Proc.devRef .tc main_arg6)) (V0 (Proc.devRef .tc main_arg7)) (res_main_v209 V0) (slab (statGroups (Q b) (win 48) sea (win 12) (adj e) n)) b n
    (fun i t => r209 hx he b i n t) o ⟨278 + u.val, by omega⟩

end Cert.Chain
-- ==== Proof.ChainArr.lean ====
/- The arrays that the normalisation chain leaves. -/
module

public import proofs.«01_k».proof.Proof.ChainOut

@[expose] public section

set_option maxRecDepth 16384

noncomputable section

namespace Cert.Chain

open Idealize.ShloMosaic Idealize.ShloMosaic.TcCoe Cert.KernelIdeal

variable (V : (c : Dev nD) → (b : Ref sig .tc) → Buf (Elt Ideal) ((c : Thread nD τ).loc b)) (c : Dev nD)

/-- What the chain is entered with: the planes, the three weight matrices and the node weights. -/
structure Entry (X : Fin 128 → Plane) (w1 w2 w3 : Fin 288 → Fin 288 → ℝ) (a : Fin 256 → Fin 256 → ℝ) : Prop where
  h0 : ∀ b n t, V c main_v1 (ix3 b n t) = (X b n t : EReal)
  h1 : ∀ s t, V c main_v22 (ix2 s t) = (w1 s t : EReal)
  h2 : ∀ s t, V c main_v35 (ix2 s t) = (w2 s t : EReal)
  h3 : ∀ s t, V c main_v56 (ix2 s t) = (w3 s t : EReal)
  h4 : ∀ n k, V c main_v0 (ix2 n k) = (a n k : EReal)
  A1 : Averages (meanT w1)
  A2 : Averages (meanT w2)
  A3 : Averages (meanT w3)
  A4 : Averages (meanN a)

/-- The last steps of an extended plane. -/
def tail (f : Fin 256 → Fin 300 → ℝ) (n : Fin 256) (j : Fin 23) : ℝ := f n ⟨277 + j, by omega⟩

/-- The block of window 0 at a point. -/
theorem idx0 : ∀ t : Fin cfg1.N, win1_0.index t = ![t.val, 0, 0] := by decide +kernel

/-- The block of window 1 at a point. -/
theorem idx1 : ∀ t : Fin cfg1.N, win1_1.index t = ![0, 0] := by decide +kernel
/-- The block of window 2 at a point. -/
theorem idx2 : ∀ t : Fin cfg1.N, win1_2.index t = ![0, 0] := by decide +kernel
/-- The block of window 3 at a point. -/
theorem idx3 : ∀ t : Fin cfg1.N, win1_3.index t = ![0, 0] := by decide +kernel
/-- The block of window 4 at a point. -/
theorem idx4 : ∀ t : Fin cfg1.N, win1_4.index t = ![0, 0] := by decide +kernel

/-- Window 0's block, in its array. -/
theorem blk0 (t : Fin cfg1.N) (n : Fin 256) (s : Fin 288) : Gen.iblk1 V c 0 t (ix3 0 n s) = V c main_v1 (ix3 t n s) := by
  blk_ext [Gen.iblk1, idx0 t]
/-- Window 1's block, in its array. -/
theorem blk1 (t : Fin cfg1.N) (n s : Fin 288) : Gen.iblk1 V c 1 t (ix2 n s) = V c main_v22 (ix2 n s) := by
  blk_ext [Gen.iblk1, idx1 t]
/-- Window 2's block, in its array. -/
theorem blk2 (t : Fin cfg1.N) (n s : Fin 288) : Gen.iblk1 V c 2 t (ix2 n s) = V c main_v35 (ix2 n s) := by
  blk_ext [Gen.iblk1, idx2 t]
/-- Window 3's block, in its array. -/
theorem blk3 (t : Fin cfg1.N) (n s : Fin 288) : Gen.iblk1 V c 3 t (ix2 n s) = V c main_v56 (ix2 n s) := by
  blk_ext [Gen.iblk1, idx3 t]
/-- Window 4's block, in its array. -/
theorem blk4 (t : Fin cfg1.N) (n s : Fin 256) : Gen.iblk1 V c 4 t (ix2 n s) = V c main_v0 (ix2 n s) := by
  blk_ext [Gen.iblk1, idx4 t]

variable {V c} {X : Fin 128 → Plane} {w1 w2 w3 : Fin 288 → Fin 288 → ℝ} {a : Fin 256 → Fin 256 → ℝ}

/-- The blocks at a grid point hold that point's plane and the weights. -/
theorem Entry.body (E : Entry V c X w1 w2 w3 a) (t : Fin cfg1.N) :
    Body (Gen.iblk1 V c 0 t) (Gen.iblk1 V c 1 t) (Gen.iblk1 V c 2 t) (Gen.iblk1 V c 3 t) (Gen.iblk1 V c 4 t) (X t) w1 w2 w3 a :=
  ⟨fun n s => (blk0 V c t n s).trans (E.h0 t n s), fun n s => (blk1 V c t n s).trans (E.h1 n s),
    fun n s => (blk2 V c t n s).trans (E.h2 n s), fun n s => (blk3 V c t n s).trans (E.h3 n s),
    fun n s => (blk4 V c t n s).trans (E.h4 n s), E.A1, E.A2, E.A3, E.A4⟩

/-- The block of window 5 at a point. -/
theorem idx5 : ∀ t : Fin cfg1.N, win1_5.index t = ![t.val, 0, 0] := by decide +kernel

/-- What the array of window 5 holds at the end. -/
theorem Entry.arr5 (E : Entry V c X w1 w2 w3 a) (i0 : Fin 128) (n : Fin 256) (t : Fin 288) :
    (Gen.dat1 V c).arrAt 5 cfg1.N (ix3 i0 n t) = ((p1 w1 (X i0) : Fin 256 → Fin 288 → ℝ) n t : EReal) := by
  have h := (Gen.dat1 V c).arrAt_eq_of_covers 5 (fun i : S128x256x288.Idx => ((p1 w1 (X (i 0)) : Fin 256 → Fin 288 → ℝ) (i 1) (i 2) : EReal)) (by decide +kernel) fun t hf y => ?_
  · exact congrFun h _
  blk_simp
  rw [Gen.after1_5]
  idx_vars y
  obtain rfl : y0 = 0 := Subsingleton.elim _ _
  have e : ((View.whole main_v57_0).slice (win1_5.rect t)).emb (ix3 0 y1 y2) = ix3 t y1 y2 := by blk_ext [idx5 t]
  rw [o5 (E.body t), e]
  rfl

/-- The block of window 6 at a point. -/
theorem idx6 : ∀ t : Fin cfg1.N, win1_6.index t = ![t.val, 0, 0] := by decide +kernel

/-- What the array of window 6 holds at the end. -/
theorem Entry.arr6 (E : Entry V c X w1 w2 w3 a) (i0 : Fin 128) (n : Fin 256) (t : Fin 300) :
    (Gen.dat1 V c).arrAt 6 cfg1.N (ix3 i0 n t) = ((extC (meanT w1 (X i0)) : Fin 256 → Fin 300 → ℝ) n t : EReal) := by
  have h := (Gen.dat1 V c).arrAt_eq_of_covers 6 (fun i : S128x256x300.Idx => ((extC (meanT w1 (X (i 0))) : Fin 256 → Fin 300 → ℝ) (i 1) (i 2) : EReal)) (by decide +kernel) fun t hf y => ?_
  · exact congrFun h _
  blk_simp
  rw [Gen.after1_6]
  idx_vars y
  obtain rfl : y0 = 0 := Subsingleton.elim _ _
  have e : ((View.whole main_v57_1).slice (win1_6.rect t)).emb (ix3 0 y1 y2) = ix3 t y1 y2 := by blk_ext [idx6 t]
  rw [o6 (E.body t), e]
  rfl

/-- The block of window 7 at a point. -/
theorem idx7 : ∀ t : Fin cfg1.N, win1_7.index t = ![t.val, 0, 0] := by decide +kernel

/-- What the array of window 7 holds at the end. -/
theorem Entry.arr7 (E : Entry V c X w1 w2 w3 a) (i0 : Fin 128) (n : Fin 256) (t : Fin 300) :
    (Gen.dat1 V c).arrAt 7 cfg1.N (ix3 i0 n t) = ((extC (dev (meanT w1) (X i0)) : Fin 256 → Fin 300 → ℝ) n t : EReal) := by
  have h := (Gen.dat1 V c).arrAt_eq_of_covers 7 (fun i : S128x256x300.Idx => ((extC (dev (meanT w1) (X (i 0))) : Fin 256 → Fin 300 → ℝ) (i 1) (i 2) : EReal)) (by decide +kernel) fun t hf y => ?_
  · exact congrFun h _
  blk_simp
  rw [Gen.after1_7]
  idx_vars y
  obtain rfl : y0 = 0 := Subsingleton.elim _ _
  have e : ((View.whole main_v57_2).slice (win1_7.rect t)).emb (ix3 0 y1 y2) = ix3 t y1 y2 := by blk_ext [idx7 t]
  rw [o7 (E.body t), e]
  rfl

/-- The block of window 8 at a point. -/
theorem idx8 : ∀ t : Fin cfg1.N, win1_8.index t = ![t.val, 0, 0] := by decide +kernel

/-- What the array of window 8 holds at the end. -/
theorem Entry.arr8 (E : Entry V c X w1 w2 w3 a) (i0 : Fin 128) (n : Fin 256) (t : Fin 288) :
    (Gen.dat1 V c).arrAt 8 cfg1.N (ix3 i0 n t) = ((p2 w1 w2 (X i0) : Fin 256 → Fin 288 → ℝ) n t : EReal) := by
  have h := (Gen.dat1 V c).arrAt_eq_of_covers 8 (fun i : S128x256x288.Idx => ((p2 w1 w2 (X (i 0)) : Fin 256 → Fin 288 → ℝ) (i 1) (i 2) : EReal)) (by decide +kernel) fun t hf y => ?_
  · exact congrFun h _
  blk_simp
  rw [Gen.after1_8]
  idx_vars y
  obtain rfl : y0 = 0 := Subsingleton.elim _ _
  have e : ((View.whole main_v57_3).slice (win1_8.rect t)).emb (ix3 0 y1 y2) = ix3 t y1 y2 := by blk_ext [idx8 t]
  rw [o8 (E.body t), e]
  rfl

/-- The block of window 9 at a point. -/
theorem idx9 : ∀ t : Fin cfg1.N, win1_9.index t = ![t.val, 0, 0] := by decide +kernel

/-- What the array of window 9 holds at the end. -/
theorem Entry.arr9 (E : Entry V c X w1 w2 w3 a) (i0 : Fin 128) (n : Fin 256) (t : Fin 300) :
    (Gen.dat1 V c).arrAt 9 cfg1.N (ix3 i0 n t) = ((extS (meanT w2 (p1 w1 (X i0))) : Fin 256 → Fin 300 → ℝ) n t : EReal) := by
  have h := (Gen.dat1 V c).arrAt_eq_of_covers 9 (fun i : S128x256x300.Idx => ((extS (meanT w2 (p1 w1 (X (i 0)))) : Fin 256 → Fin 300 → ℝ) (i 1) (i 2) : EReal)) (by decide +kernel) fun t hf y => ?_
  · exact congrFun h _
  blk_simp
  rw [Gen.after1_9]
  idx_vars y
  obtain rfl : y0 = 0 := Subsingleton.elim _ _
  have e : ((View.whole main_v57_4).slice (win1_9.rect t)).emb (ix3 0 y1 y2) = ix3 t y1 y2 := by blk_ext [idx9 t]
  rw [o9 (E.body t), e]
  rfl

/-- The block of window 10 at a point. -/
theorem idx10 : ∀ t : Fin cfg1.N, win1_10.index t = ![t.val, 0, 0] := by decide +kernel

/-- What the array of window 10 holds at the end. -/
theorem Entry.arr10 (E : Entry V c X w1 w2 w3 a) (i0 : Fin 128) (n : Fin 256) (t : Fin 300) :
    (Gen.dat1 V c).arrAt 10 cfg1.N (ix3 i0 n t) = ((extS (dev (meanT w2) (p1 w1 (X i0))) : Fin 256 → Fin 300 → ℝ) n t : EReal) := by
  have h := (Gen.dat1 V c).arrAt_eq_of_covers 10 (fun i : S128x256x300.Idx => ((extS (dev (meanT w2) (p1 w1 (X (i 0)))) : Fin 256 → Fin 300 → ℝ) (i 1) (i 2) : EReal)) (by decide +kernel) fun t hf y => ?_
  · exact congrFun h _
  blk_simp
  rw [Gen.after1_10]
  idx_vars y
  obtain rfl : y0 = 0 := Subsingleton.elim _ _
  have e : ((View.whole main_v57_5).slice (win1_10.rect t)).emb (ix3 0 y1 y2) = ix3 t y1 y2 := by blk_ext [idx10 t]
  rw [o10 (E.body t), e]
  rfl

/-- The block of window 11 at a point. -/
theorem idx11 : ∀ t : Fin cfg1.N, win1_11.index t = ![t.val, 0, 0] := by decide +kernel

/-- What the array of window 11 holds at the end. -/
theorem Entry.arr11 (E : Entry V c X w1 w2 w3 a) (i0 : Fin 128) (n : Fin 256) (t : Fin 288) :
    (Gen.dat1 V c).arrAt 11 cfg1.N (ix3 i0 n t) = ((p3 w1 w2 w3 (X i0) : Fin 256 → Fin 288 → ℝ) n t : EReal) := by
  have h := (Gen.dat1 V c).arrAt_eq_of_covers 11 (fun i : S128x256x288.Idx => ((p3 w1 w2 w3 (X (i 0)) : Fin 256 → Fin 288 → ℝ) (i 1) (i 2) : EReal)) (by decide +kernel) fun t hf y => ?_
  · exact congrFun h _
  blk_simp
  rw [Gen.after1_11]
  idx_vars y
  obtain rfl : y0 = 0 := Subsingleton.elim _ _
  have e : ((View.whole main_v57_6).slice (win1_11.rect t)).emb (ix3 0 y1 y2) = ix3 t y1 y2 := by blk_ext [idx11 t]
  rw [o11 (E.body t), e]
  rfl

/-- The block of window 12 at a point. -/
theorem idx12 : ∀ t : Fin cfg1.N, win1_12.index t = ![t.val, 0, 0] := by decide +kernel

/-- What the array of window 12 holds at the end. -/
theorem Entry.arr12 (E : Entry V c X w1 w2 w3 a) (i0 : Fin 128) (n : Fin 256) (t : Fin 300) :
    (Gen.dat1 V c).arrAt 12 cfg1.N (ix3 i0 n t) = ((extC (meanT w3 (p2 w1 w2 (X i0))) : Fin 256 → Fin 300 → ℝ) n t : EReal) := by
  have h := (Gen.dat1 V c).arrAt_eq_of_covers 12 (fun i : S128x256x300.Idx => ((extC (meanT w3 (p2 w1 w2 (X (i 0)))) : Fin 256 → Fin 300 → ℝ) (i 1) (i 2) : EReal)) (by decide +kernel) fun t hf y => ?_
  · exact congrFun h _
  blk_simp
  rw [Gen.after1_12]
  idx_vars y
  obtain rfl : y0 = 0 := Subsingleton.elim _ _
  have e : ((View.whole main_v57_7).slice (win1_12.rect t)).emb (ix3 0 y1 y2) = ix3 t y1 y2 := by blk_ext [idx12 t]
  rw [o12 (E.body t), e]
  rfl

/-- The block of window 13 at a point. -/
theorem idx13 : ∀ t : Fin cfg1.N, win1_13.index t = ![t.val, 0, 0] := by decide +kernel

/-- What the array of window 13 holds at the end. -/
theorem Entry.arr13 (E : Entry V c X w1 w2 w3 a) (i0 : Fin 128) (n : Fin 256) (t : Fin 300) :
    (Gen.dat1 V c).arrAt 13 cfg1.N (ix3 i0 n t) = ((extC (dev (meanT w3) (p2 w1 w2 (X i0))) : Fin 256 → Fin 300 → ℝ) n t : EReal) := by
  have h := (Gen.dat1 V c).arrAt_eq_of_covers 13 (fun i : S128x256x300.Idx => ((extC (dev (meanT w3) (p2 w1 w2 (X (i 0)))) : Fin 256 → Fin 300 → ℝ) (i 1) (i 2) : EReal)) (by decide +kernel) fun t hf y => ?_
  · exact congrFun h _
  blk_simp
  rw [Gen.after1_13]
  idx_vars y
  obtain rfl : y0 = 0 := Subsingleton.elim _ _
  have e : ((View.whole main_v57_8).slice (win1_13.rect t)).emb (ix3 0 y1 y2) = ix3 t y1 y2 := by blk_ext [idx13 t]
  rw [o13 (E.body t), e]
  rfl

/-- The block of window 14 at a point. -/
theorem idx14 : ∀ t : Fin cfg1.N, win1_14.index t = ![t.val, 0, 0] := by decide +kernel

/-- What the array of window 14 holds at the end. -/
theorem Entry.arr14 (E : Entry V c X w1 w2 w3 a) (i0 : Fin 128) (n : Fin 256) (t : Fin 288) :
    (Gen.dat1 V c).arrAt 14 cfg1.N (ix3 i0 n t) = ((p4 w1 w2 w3 a (X i0) : Fin 256 → Fin 288 → ℝ) n t : EReal) := by
  have h := (Gen.dat1 V c).arrAt_eq_of_covers 14 (fun i : S128x256x288.Idx => ((p4 w1 w2 w3 a (X (i 0)) : Fin 256 → Fin 288 → ℝ) (i 1) (i 2) : EReal)) (by decide +kernel) fun t hf y => ?_
  · exact congrFun h _
  blk_simp
  rw [Gen.after1_14]
  idx_vars y
  obtain rfl : y0 = 0 := Subsingleton.elim _ _
  have e : ((View.whole main_v57_9).slice (win1_14.rect t)).emb (ix3 0 y1 y2) = ix3 t y1 y2 := by blk_ext [idx14 t]
  rw [o14 (E.body t), e]
  rfl

/-- The block of window 15 at a point. -/
theorem idx15 : ∀ t : Fin cfg1.N, win1_15.index t = ![t.val, 0, 0] := by decide +kernel

/-- What the array of window 15 holds at the end. -/
theorem Entry.arr15 (E : Entry V c X w1 w2 w3 a) (i0 : Fin 128) (n : Fin 256) (t : Fin 300) :
    (Gen.dat1 V c).arrAt 15 cfg1.N (ix3 i0 n t) = ((extC (meanN a (p3 w1 w2 w3 (X i0))) : Fin 256 → Fin 300 → ℝ) n t : EReal) := by
  have h := (Gen.dat1 V c).arrAt_eq_of_covers 15 (fun i : S128x256x300.Idx => ((extC (meanN a (p3 w1 w2 w3 (X (i 0)))) : Fin 256 → Fin 300 → ℝ) (i 1) (i 2) : EReal)) (by decide +kernel) fun t hf y => ?_
  · exact congrFun h _
  blk_simp
  rw [Gen.after1_15]
  idx_vars y
  obtain rfl : y0 = 0 := Subsingleton.elim _ _
  have e : ((View.whole main_v57_10).slice (win1_15.rect t)).emb (ix3 0 y1 y2) = ix3 t y1 y2 := by blk_ext [idx15 t]
  rw [o15 (E.body t), e]
  rfl

/-- The block of window 16 at a point. -/
theorem idx16 : ∀ t : Fin cfg1.N, win1_16.index t = ![t.val, 0, 0] := by decide +kernel

/-- What the array of window 16 holds at the end. -/
theorem Entry.arr16 (E : Entry V c X w1 w2 w3 a) (i0 : Fin 128) (n : Fin 256) (t : Fin 300) :
    (Gen.dat1 V c).arrAt 16 cfg1.N (ix3 i0 n t) = ((extC (dev (meanN a) (p3 w1 w2 w3 (X i0))) : Fin 256 → Fin 300 → ℝ) n t : EReal) := by
  have h := (Gen.dat1 V c).arrAt_eq_of_covers 16 (fun i : S128x256x300.Idx => ((extC (dev (meanN a) (p3 w1 w2 w3 (X (i 0)))) : Fin 256 → Fin 300 → ℝ) (i 1) (i 2) : EReal)) (by decide +kernel) fun t hf y => ?_
  · exact congrFun h _
  blk_simp
  rw [Gen.after1_16]
  idx_vars y
  obtain rfl : y0 = 0 := Subsingleton.elim _ _
  have e : ((View.whole main_v57_11).slice (win1_16.rect t)).emb (ix3 0 y1 y2) = ix3 t y1 y2 := by blk_ext [idx16 t]
  rw [o16 (E.body t), e]
  rfl

/-- The block of window 17 at a point. -/
theorem idx17 : ∀ t : Fin cfg1.N, win1_17.index t = ![t.val, 0, 0] := by decide +kernel

/-- What the array of window 17 holds at the end. -/
theorem Entry.arr17 (E : Entry V c X w1 w2 w3 a) (i0 : Fin 128) (j : Fin 23) (n : Fin 256) :
    (Gen.dat1 V c).arrAt 17 cfg1.N (ix3 i0 j n) = ((tail (extC (meanT w1 (X i0))) : Fin 256 → Fin 23 → ℝ) n j : EReal) := by
  have h := (Gen.dat1 V c).arrAt_eq_of_covers 17 (fun i : S128x23x256.Idx => ((tail (extC (meanT w1 (X (i 0)))) : Fin 256 → Fin 23 → ℝ) (i 2) (i 1) : EReal)) (by decide +kernel) fun t hf y => ?_
  · exact congrFun h _
  blk_simp
  rw [Gen.after1_17]
  idx_vars y
  obtain rfl : y0 = 0 := Subsingleton.elim _ _
  have e : ((View.whole main_v57_12).slice (win1_17.rect t)).emb (ix3 0 y1 y2) = ix3 t y1 y2 := by blk_ext [idx17 t]
  rw [o17 (E.body t), e]
  rfl

/-- The block of window 18 at a point. -/
theorem idx18 : ∀ t : Fin cfg1.N, win1_18.index t = ![t.val, 0, 0] := by decide +kernel

/-- What the array of window 18 holds at the end. -/
theorem Entry.arr18 (E : Entry V c X w1 w2 w3 a) (i0 : Fin 128) (j : Fin 23) (n : Fin 256) :
    (Gen.dat1 V c).arrAt 18 cfg1.N (ix3 i0 j n) = ((tail (extC (dev (meanT w1) (X i0))) : Fin 256 → Fin 23 → ℝ) n j : EReal) := by
  have h := (Gen.dat1 V c).arrAt_eq_of_covers 18 (fun i : S128x23x256.Idx => ((tail (extC (dev (meanT w1) (X (i 0)))) : Fin 256 → Fin 23 → ℝ) (i 2) (i 1) : EReal)) (by decide +kernel) fun t hf y => ?_
  · exact congrFun h _
  blk_simp
  rw [Gen.after1_18]
  idx_vars y
  obtain rfl : y0 = 0 := Subsingleton.elim _ _
  have e : ((View.whole main_v57_13).slice (win1_18.rect t)).emb (ix3 0 y1 y2) = ix3 t y1 y2 := by blk_ext [idx18 t]
  rw [o18 (E.body t), e]
  rfl

/-- The block of window 19 at a point. -/
theorem idx19 : ∀ t : Fin cfg1.N, win1_19.index t = ![t.val, 0, 0] := by decide +kernel

/-- What the array of window 19 holds at the end. -/
theorem Entry.arr19 (E : Entry V c X w1 w2 w3 a) (i0 : Fin 128) (j : Fin 23) (n : Fin 256) :
    (Gen.dat1 V c).arrAt 19 cfg1.N (ix3 i0 j n) = ((tail (extS (meanT w2 (p1 w1 (X i0)))) : Fin 256 → Fin 23 → ℝ) n j : EReal) := by
  have h := (Gen.dat1 V c).arrAt_eq_of_covers 19 (fun i : S128x23x256.Idx => ((tail (extS (meanT w2 (p1 w1 (X (i 0))))) : Fin 256 → Fin 23 → ℝ) (i 2) (i 1) : EReal)) (by decide +kernel) fun t hf y => ?_
  · exact congrFun h _
  blk_simp
  rw [Gen.after1_19]
  idx_vars y
  obtain rfl : y0 = 0 := Subsingleton.elim _ _
  have e : ((View.whole main_v57_14).slice (win1_19.rect t)).emb (ix3 0 y1 y2) = ix3 t y1 y2 := by blk_ext [idx19 t]
  rw [o19 (E.body t), e]
  rfl

/-- The block of window 20 at a point. -/
theorem idx20 : ∀ t : Fin cfg1.N, win1_20.index t = ![t.val, 0, 0] := by decide +kernel

/-- What the array of window 20 holds at the end. -/
theorem Entry.arr20 (E : Entry V c X w1 w2 w3 a) (i0 : Fin 128) (j : Fin 23) (n : Fin 256) :
    (Gen.dat1 V c).arrAt 20 cfg1.N (ix3 i0 j n) = ((tail (extS (dev (meanT w2) (p1 w1 (X i0)))) : Fin 256 → Fin 23 → ℝ) n j : EReal) := by
  have h := (Gen.dat1 V c).arrAt_eq_of_covers 20 (fun i : S128x23x256.Idx => ((tail (extS (dev (meanT w2) (p1 w1 (X (i 0))))) : Fin 256 → Fin 23 → ℝ) (i 2) (i 1) : EReal)) (by decide +kernel) fun t hf y => ?_
  · exact congrFun h _
  blk_simp
  rw [Gen.after1_20]
  idx_vars y
  obtain rfl : y0 = 0 := Subsingleton.elim _ _
  have e : ((View.whole main_v57_15).slice (win1_20.rect t)).emb (ix3 0 y1 y2) = ix3 t y1 y2 := by blk_ext [idx20 t]
  rw [o20 (E.body t), e]
  rfl

/-- The block of window 21 at a point. -/
theorem idx21 : ∀ t : Fin cfg1.N, win1_21.index t = ![t.val, 0, 0] := by decide +kernel

/-- What the array of window 21 holds at the end. -/
theorem Entry.arr21 (E : Entry V c X w1 w2 w3 a) (i0 : Fin 128) (j : Fin 23) (n : Fin 256) :
    (Gen.dat1 V c).arrAt 21 cfg1.N (ix3 i0 j n) = ((tail (extC (meanT w3 (p2 w1 w2 (X i0)))) : Fin 256 → Fin 23 → ℝ) n j : EReal) := by
  have h := (Gen.dat1 V c).arrAt_eq_of_covers 21 (fun i : S128x23x256.Idx => ((tail (extC (meanT w3 (p2 w1 w2 (X (i 0))))) : Fin 256 → Fin 23 → ℝ) (i 2) (i 1) : EReal)) (by decide +kernel) fun t hf y => ?_
  · exact congrFun h _
  blk_simp
  rw [Gen.after1_21]
  idx_vars y
  obtain rfl : y0 = 0 := Subsingleton.elim _ _
  have e : ((View.whole main_v57_16).slice (win1_21.rect t)).emb (ix3 0 y1 y2) = ix3 t y1 y2 := by blk_ext [idx21 t]
  rw [o21 (E.body t), e]
  rfl

/-- The block of window 22 at a point. -/
theorem idx22 : ∀ t : Fin cfg1.N, win1_22.index t = ![t.val, 0, 0] := by decide +kernel

/-- What the array of window 22 holds at the end. -/
theorem Entry.arr22 (E : Entry V c X w1 w2 w3 a) (i0 : Fin 128) (j : Fin 23) (n : Fin 256) :
    (Gen.dat1 V c).arrAt 22 cfg1.N (ix3 i0 j n) = ((tail (extC (dev (meanT w3) (p2 w1 w2 (X i0)))) : Fin 256 → Fin 23 → ℝ) n j : EReal) := by
  have h := (Gen.dat1 V c).arrAt_eq_of_covers 22 (fun i : S128x23x256.Idx => ((tail (extC (dev (meanT w3) (p2 w1 w2 (X (i 0))))) : Fin 256 → Fin 23 → ℝ) (i 2) (i 1) : EReal)) (by decide +kernel) fun t hf y => ?_
  · exact congrFun h _
  blk_simp
  rw [Gen.after1_22]
  idx_vars y
  obtain rfl : y0 = 0 := Subsingleton.elim _ _
  have e : ((View.whole main_v57_17).slice (win1_22.rect t)).emb (ix3 0 y1 y2) = ix3 t y1 y2 := by blk_ext [idx22 t]
  rw [o22 (E.body t), e]
  rfl

/-- The block of window 23 at a point. -/
theorem idx23 : ∀ t : Fin cfg1.N, win1_23.index t = ![t.val, 0, 0] := by decide +kernel

/-- What the array of window 23 holds at the end. -/
theorem Entry.arr23 (E : Entry V c X w1 w2 w3 a) (i0 : Fin 128) (j : Fin 23) (n : Fin 256) :
    (Gen.dat1 V c).arrAt 23 cfg1.N (ix3 i0 j n) = ((tail (extC (meanN a (p3 w1 w2 w3 (X i0)))) : Fin 256 → Fin 23 → ℝ) n j : EReal) := by
  have h := (Gen.dat1 V c).arrAt_eq_of_covers 23 (fun i : S128x23x256.Idx => ((tail (extC (meanN a (p3 w1 w2 w3 (X (i 0))))) : Fin 256 → Fin 23 → ℝ) (i 2) (i 1) : EReal)) (by decide +kernel) fun t hf y => ?_
  · exact congrFun h _
  blk_simp
  rw [Gen.after1_23]
  idx_vars y
  obtain rfl : y0 = 0 := Subsingleton.elim _ _
  have e : ((View.whole main_v57_18).slice (win1_23.rect t)).emb (ix3 0 y1 y2) = ix3 t y1 y2 := by blk_ext [idx23 t]
  rw [o23 (E.body t), e]
  rfl

/-- The block of window 24 at a point. -/
theorem idx24 : ∀ t : Fin cfg1.N, win1_24.index t = ![t.val, 0, 0] := by decide +kernel

/-- What the array of window 24 holds at the end. -/
theorem Entry.arr24 (E : Entry V c X w1 w2 w3 a) (i0 : Fin 128) (j : Fin 23) (n : Fin 256) :
    (Gen.dat1 V c).arrAt 24 cfg1.N (ix3 i0 j n) = ((tail (extC (dev (meanN a) (p3 w1 w2 w3 (X i0)))) : Fin 256 → Fin 23 → ℝ) n j : EReal) := by
  have h := (Gen.dat1 V c).arrAt_eq_of_covers 24 (fun i : S128x23x256.Idx => ((tail (extC (dev (meanN a) (p3 w1 w2 w3 (X (i 0))))) : Fin 256 → Fin 23 → ℝ) (i 2) (i 1) : EReal)) (by decide +kernel) fun t hf y => ?_
  · exact congrFun h _
  blk_simp
  rw [Gen.after1_24]
  idx_vars y
  obtain rfl : y0 = 0 := Subsingleton.elim _ _
  have e : ((View.whole main_v57_19).slice (win1_24.rect t)).emb (ix3 0 y1 y2) = ix3 t y1 y2 := by blk_ext [idx24 t]
  rw [o24 (E.body t), e]
  rfl

end Cert.Chain
-- ==== Proof.KerEntry.lean ====
/- What the chain is entered with, from the launch contents. -/
module

public import proofs.«01_k».proof.Proof.ChainArr
public import proofs.«01_k».proof.Proof.HostMats
public import proofs.«01_k».proof.Proof.RefFirst

@[expose] public section

set_option maxRecDepth 16384

noncomputable section

namespace Cert.Chain

open Idealize.ShloMosaic Idealize.ShloMosaic.TcCoe Cert.KernelIdeal

section Weights0
variable (V : (c : Dev nD) → (b : Ref sig .tc) → Buf (Elt Ideal) ((c : Thread nD τ).loc b)) (c : Dev nD)

/-- The one block of the node weights' call. -/
theorem adjIdx0 : ∀ t : Fin cfg0.N, win0_0.index t = ![0, 0] := by decide +kernel
/-- The one block of the node weights' call. -/
theorem adjIdx1 : ∀ t : Fin cfg0.N, win0_1.index t = ![0, 0] := by decide +kernel

/-- The block read is the node features. -/
theorem adj_blk (t : Fin cfg0.N) (n : Fin 256) (j : Fin 16) : Gen.iblk0 V c 0 t (ix2 n j) = V c main_arg1 (ix2 n j) := by
  blk_ext [Gen.iblk0, adjIdx0 t]

/-- The block written is the whole array. -/
theorem adj_emb (t : Fin cfg0.N) (n k : Fin 256) : ((View.whole main_v0).slice (win0_1.rect t)).emb (ix2 n k) = ix2 n k := by
  blk_ext [adjIdx1 t]

/-- What the node weights' call writes. -/
theorem adj_out {x : Vec Ideal S256x16 .f32} {e : Fin 256 → Fin 16 → ℝ} (h : ∀ n j, x (ix2 n j) = (e n j : EReal)) (n k : Fin 256) :
    Gen.out0_1 x (ix2 n k) = (adj e n k : EReal) := by
  unfold Gen.out0_1; frame_out
  refine kernel_adj ?_ n k
  intro n j
  refine Eq.trans ?_ (h n j)
  pointwise

/-- What the node weights' call leaves. -/
theorem adj_step {e : Fin 256 → Fin 16 → ℝ} (h : ∀ n j, V c main_arg1 (ix2 n j) = (e n j : EReal)) (t : Fin cfg0.N) (n k : Fin 256) :
    (Gen.dat0 V c).after 1 t (ix2 n k) = (adj e n k : EReal) := by
  rw [Gen.after0_1]
  exact adj_out (fun n j => (adj_blk V c t n j).trans (h n j)) n k

/-- The node weights as a function of the array's index. -/
def adjFun (e : Fin 256 → Fin 16 → ℝ) (i : S256x256.Idx) : EReal := (adj e (i 0) (i 1) : ℝ)

/-- What the array of node weights holds after its call. -/
theorem adj_arr {e : Fin 256 → Fin 16 → ℝ} (he : ∀ n j, V c main_arg1 (ix2 n j) = (e n j : EReal)) (n k : Fin 256) :
    (Gen.dat0 V c).arrAt 1 cfg0.N (ix2 n k) = (adj e n k : EReal) := by
  have h := (Gen.dat0 V c).arrAt_eq_of_covers 1 (adjFun e) (by decide +kernel) fun t hf y => ?_
  · exact congrFun h _
  blk_simp
  idx_vars y
  exact (adj_step V c he t y0 y1).trans (congrArg (adjFun e) (adj_emb t y0 y1)).symm

end Weights0

variable (m : (ℓ : Loc nD τ sig) → Buf (Elt Ideal) ℓ) (ρ : Dev nD → PrngReg) (c : Dev nD)
variable {Q : Fin 4 → Fin 32 → Plane} {e : Fin 256 → Fin 16 → ℝ}

/-- The planes in the order the chain takes them. -/
def planes (Q : Fin 4 → Fin 32 → Plane) (i : Fin 128) : Plane := Q ⟨i.val / 32, by omega⟩ ⟨i.val % 32, by omega⟩

/-- A reference that neither the stretches after the first nor region 0 touch. -/
theorem W7_W3 (r : Ref sig .tc) (h1 : r ∉ Gen.hostOps1_1_W) (h2 : r ∉ Gen.hostOps1_2_W) (h3 : r ∉ Gen.hostOps1_3_W) (h4 : r ∉ Gen.hostOps1_4_W) :
    Gen.W7 m ρ c (Proc.devRef .tc r) = Gen.W3 m ρ c (Proc.devRef .tc r) :=
  (Gen.W7_of m ρ c r h4).trans ((Gen.W6_of m ρ c r h3).trans ((Gen.W5_of m ρ c r h2).trans (Gen.W4_of m ρ c r h1)))

/-- Array 1 as the chain finds it. -/
theorem entry_v1 (hx : ∀ b i n t, m ((c : Thread nD τ).loc main_arg0) (ix4 b i n t) = (Q b i n t : EReal)) (i : Fin 128) (n : Fin 256) (t : Fin 288) :
    Gen.W7 m ρ c (Proc.devRef .tc main_v1) (ix3 i n t) = (planes Q i n t : EReal) := by
  rw [W7_W3 m ρ c main_v1 (by decide) (by decide) (by decide) (by decide)]
  refine (host_v1 (Gen.W2 m ρ c) ⟨i.val / 32, by omega⟩ ⟨i.val % 32, by omega⟩ i (by show i.val = i.val / 32 * 32 + i.val % 32; omega) n t).trans ?_
  rw [Gen.W2_args m ρ c main_arg0 (by decide)]
  exact hx _ _ _ _

/-- Array 22 as the chain finds it. -/
theorem entry_v22 (s t : Fin 288) : Gen.W7 m ρ c (Proc.devRef .tc main_v22) (ix2 s t) = (win 48 s t : EReal) := by
  rw [W7_W3 m ρ c main_v22 (by decide) (by decide) (by decide) (by decide)]
  exact host_v22 (Gen.W2 m ρ c) s t

/-- Array 27 as the chain finds it. -/
theorem entry_v27 (s : Fin 288) : Gen.W6 m ρ c (Proc.devRef .tc main_v27) (ix2 s 0) = BitVec.ofNat 32 (s.val % 24) := by
  rw [Gen.W6_of m ρ c main_v27 (by decide), Gen.W5_of m ρ c main_v27 (by decide)]
  refine (host_v27 (Gen.W3 m ρ c) s).trans ?_
  exact (congrArg₂ rem (host_v24 (Gen.W2 m ρ c) s) (host_c4 (Gen.W2 m ρ c))).trans (rem24 s)

/-- Array 28 as the chain finds it. -/
theorem entry_v28 (t : Fin 288) : Gen.W6 m ρ c (Proc.devRef .tc main_v28) (ix2 0 t) = BitVec.ofNat 32 (t.val % 24) := by
  refine (host_v28 (Gen.W5 m ρ c) t).trans ?_
  rw [Gen.W5_of m ρ c main_v26 (by decide), Gen.W4_of m ρ c main_v26 (by decide)]
  exact (congrArg₂ rem (host_v26 (Gen.W2 m ρ c) t) (host_c5 (Gen.W4 m ρ c))).trans (rem24 t)

/-- Array 0 as the chain finds it. -/
theorem entry_v0 (he : ∀ n j, m ((c : Thread nD τ).loc main_arg1) (ix2 n j) = (e n j : EReal)) (n k : Fin 256) :
    Gen.W7 m ρ c (Proc.devRef .tc main_v0) (ix2 n k) = (adj e n k : EReal) := by
  rw [W7_W3 m ρ c main_v0 (by decide) (by decide) (by decide) (by decide), Gen.W3_of m ρ c main_v0 (by decide)]
  refine (congrFun (Gen.W2_arr m ρ c 1) (ix2 n k)).trans ?_
  refine adj_arr (Gen.V1 m ρ) c (fun n j => ?_) n k
  refine Eq.trans ?_ (he n j)
  exact congrFun (Gen.W1_args m ρ c main_arg1 (by decide)) (ix2 n j)

/-- The chain's entry. -/
theorem entry (hx : ∀ b i n t, m ((c : Thread nD τ).loc main_arg0) (ix4 b i n t) = (Q b i n t : EReal))
    (he : ∀ n j, m ((c : Thread nD τ).loc main_arg1) (ix2 n j) = (e n j : EReal)) :
    Entry (Gen.V7 m ρ) c (planes Q) (win 48) sea (win 12) (adj e) where
  h0 := entry_v1 m ρ c hx
  h1 := entry_v22 m ρ c
  h2 := host_v35 (Gen.W6 m ρ c) (entry_v27 m ρ c) (entry_v28 m ρ c)
  h3 := host_v56 (Gen.W6 m ρ c)
  h4 := entry_v0 m ρ c he
  A1 := averages_win 48 (by norm_num) (by norm_num)
  A2 := averages_sea
  A3 := averages_win 12 (by norm_num) (by norm_num)
  A4 := averages_adj e

end Cert.Chain
-- ==== Proof.HostRex.lean ====
module
public import proofs.«01_k».proof.Proof.HostMats
@[expose] public section
set_option maxRecDepth 16384
noncomputable section
/-! What the host lays out for the per-layer product: the last five columns of the four cleaned inputs, the weights and the biases. -/
namespace Cert.Chain
open Idealize.ShloMosaic Idealize.ShloMosaic.StableHlo Cert.KernelIdeal
variable (V : Valuation τ sig (Elt Ideal))
set_option maxHeartbeats 4000000 in
/-- The biases of the four layers, stacked. -/
theorem host_v81 (l : Fin 4) (d : Fin 384) : after Gen.hostOps2 V (Proc.devRef .tc main_v81) (ix3 l 0 d) = (![V (Proc.devRef .tc main_arg11), V (Proc.devRef .tc main_arg13), V (Proc.devRef .tc main_arg15), V (Proc.devRef .tc main_arg17)] : Fin 4 → S384.Idx → EReal) l (ix1 d) := by
  have e : after Gen.hostOps2 V = after (Gen.hostOps2.drop 22) (after (Gen.hostOps2.take 22) V) := rfl
  rw [e]
  generalize hV' : after (Gen.hostOps2.take 22) V = V'
  simp only [Gen.hostOps2, List.drop]
  after_results
  match l with
  | ⟨0, _⟩ =>
    pointwise
    subst hV'
    simp only [Gen.hostOps2, List.take]
    after_results
    pointwise
  | ⟨1, _⟩ =>
    pointwise
    subst hV'
    simp only [Gen.hostOps2, List.take]
    after_results
    pointwise
  | ⟨2, _⟩ =>
    pointwise
    subst hV'
    simp only [Gen.hostOps2, List.take]
    after_results
    pointwise
  | ⟨3, _⟩ =>
    pointwise
    subst hV'
    simp only [Gen.hostOps2, List.take]
    after_results
    pointwise

set_option maxHeartbeats 4000000 in
/-- The weights of the four layers, stacked, channel and tap joined in one axis. -/
theorem host_v75 (l : Fin 4) (j : Fin 160) (d : Fin 384) : after Gen.hostOps2 V (Proc.devRef .tc main_v75) (ix3 l j d) = (![V (Proc.devRef .tc main_arg10), V (Proc.devRef .tc main_arg12), V (Proc.devRef .tc main_arg14), V (Proc.devRef .tc main_arg16)] : Fin 4 → S384x32x1x5.Idx → EReal) l (ix4 d ⟨j.val / 5, by omega⟩ 0 ⟨j.val % 5, by omega⟩) := by
  have e : after Gen.hostOps2 V = after (Gen.hostOps2.drop 13) (after (Gen.hostOps2.take 13) V) := rfl
  rw [e]
  generalize hV' : after (Gen.hostOps2.take 13) V = V'
  simp only [Gen.hostOps2, List.drop]
  after_results
  match l with
  | ⟨0, _⟩ =>
    pointwise
    subst hV'
    simp only [Gen.hostOps2, List.take]
    after_results
    pointwise
  | ⟨1, _⟩ =>
    pointwise
    subst hV'
    simp only [Gen.hostOps2, List.take]
    after_results
    pointwise
  | ⟨2, _⟩ =>
    pointwise
    subst hV'
    simp only [Gen.hostOps2, List.take]
    after_results
    pointwise
  | ⟨3, _⟩ =>
    pointwise
    subst hV'
    simp only [Gen.hostOps2, List.take]
    after_results
    pointwise

/-- Cleaned input 0 with a leading axis. -/
theorem host_v58 (p : Fin 128) (n : Fin 256) (q : Fin 288) : after (Gen.hostOps2.take 4) V (Proc.devRef .tc main_v58) (ix4 0 p n q) = V (Proc.devRef .tc main_v57_0) (ix3 p n q) := by
  simp only [Gen.hostOps2, List.take]
  after_results
  pointwise
/-- Cleaned input 1 with a leading axis. -/
theorem host_v59 (p : Fin 128) (n : Fin 256) (q : Fin 288) : after (Gen.hostOps2.take 4) V (Proc.devRef .tc main_v59) (ix4 0 p n q) = V (Proc.devRef .tc main_v57_3) (ix3 p n q) := by
  simp only [Gen.hostOps2, List.take]
  after_results
  pointwise
/-- Cleaned input 2 with a leading axis. -/
theorem host_v60 (p : Fin 128) (n : Fin 256) (q : Fin 288) : after (Gen.hostOps2.take 4) V (Proc.devRef .tc main_v60) (ix4 0 p n q) = V (Proc.devRef .tc main_v57_6) (ix3 p n q) := by
  simp only [Gen.hostOps2, List.take]
  after_results
  pointwise
/-- Cleaned input 3 with a leading axis. -/
theorem host_v61 (p : Fin 128) (n : Fin 256) (q : Fin 288) : after (Gen.hostOps2.take 4) V (Proc.devRef .tc main_v61) (ix4 0 p n q) = V (Proc.devRef .tc main_v57_9) (ix3 p n q) := by
  simp only [Gen.hostOps2, List.take]
  after_results
  pointwise
set_option maxHeartbeats 4000000 in
/-- The last five columns of the four cleaned inputs, stacked, channel and tap joined in one axis. -/
theorem host_v66 (l : Fin 4) (b : Fin 4) (n : Fin 256) (j : Fin 160) : after Gen.hostOps2 V (Proc.devRef .tc main_v66) (ix4 l b n j) = (![V (Proc.devRef .tc main_v57_0), V (Proc.devRef .tc main_v57_3), V (Proc.devRef .tc main_v57_6), V (Proc.devRef .tc main_v57_9)] : Fin 4 → S128x256x288.Idx → EReal) l (ix3 ⟨b.val * 32 + j.val / 5, by omega⟩ n ⟨283 + j.val % 5, by omega⟩) := by
  have e : after Gen.hostOps2 V = after (Gen.hostOps2.drop 4) (after (Gen.hostOps2.take 4) V) := rfl
  rw [e]
  generalize hV' : after (Gen.hostOps2.take 4) V = V'
  simp only [Gen.hostOps2, List.drop]
  after_results
  match l with
  | ⟨0, _⟩ =>
    pointwise
    subst hV'
    exact host_v58 V _ _ _
  | ⟨1, _⟩ =>
    pointwise
    subst hV'
    exact host_v59 V _ _ _
  | ⟨2, _⟩ =>
    pointwise
    subst hV'
    exact host_v60 V _ _ _
  | ⟨3, _⟩ =>
    pointwise
    subst hV'
    exact host_v61 V _ _ _

end Cert.Chain
-- ==== Proof.AuxArr.lean ====
/- The arrays that the further steps and the auxiliary call leave. -/
module

public import proofs.«01_k».proof.Proof.AuxOut
public import proofs.«01_k».proof.Proof.Gen.KernelIdeal.Frame.Region2

@[expose] public section

set_option maxRecDepth 16384

noncomputable section

namespace Cert.Chain

open Idealize.ShloMosaic Idealize.ShloMosaic.TcCoe Cert.KernelIdeal

variable (V : (c : Dev nD) → (b : Ref sig .tc) → Buf (Elt Ideal) ((c : Thread nD τ).loc b)) (c : Dev nD)

/-- What the auxiliary call is entered with. -/
structure AuxEntry (H : Fin 4 → Fin 8 → Fin 32 → Fin 23 → Fin 256 → EReal) (Wa Wb : Fin 32 → Fin 256 → Fin 12 → EReal) (ba bb : Fin 32 → EReal) : Prop where
  h0 : ∀ b i s n, V c main_v125 (ix4 b i s n) = H b 0 i s n
  h1 : ∀ b i s n, V c main_v126 (ix4 b i s n) = H b 1 i s n
  h2 : ∀ b i s n, V c main_v127 (ix4 b i s n) = H b 2 i s n
  h3 : ∀ b i s n, V c main_v128 (ix4 b i s n) = H b 3 i s n
  h4 : ∀ b i s n, V c main_v129 (ix4 b i s n) = H b 4 i s n
  h5 : ∀ b i s n, V c main_v130 (ix4 b i s n) = H b 5 i s n
  h6 : ∀ b i s n, V c main_v131 (ix4 b i s n) = H b 6 i s n
  h7 : ∀ b i s n, V c main_v132 (ix4 b i s n) = H b 7 i s n
  w : AuxWeights (V c main_v124) (V c main_v100) Wa Wb ba bb

/-- Window 0 of the auxiliary call takes the row of its point, or the whole array. -/
theorem K0 : ∀ t : Fin cfg4.N, win4_0.index t = ![t.val, 0, 0, 0] := by decide +kernel
/-- Window 1 of the auxiliary call takes the row of its point, or the whole array. -/
theorem K1 : ∀ t : Fin cfg4.N, win4_1.index t = ![t.val, 0, 0, 0] := by decide +kernel
/-- Window 2 of the auxiliary call takes the row of its point, or the whole array. -/
theorem K2 : ∀ t : Fin cfg4.N, win4_2.index t = ![t.val, 0, 0, 0] := by decide +kernel
/-- Window 3 of the auxiliary call takes the row of its point, or the whole array. -/
theorem K3 : ∀ t : Fin cfg4.N, win4_3.index t = ![t.val, 0, 0, 0] := by decide +kernel
/-- Window 4 of the auxiliary call takes the row of its point, or the whole array. -/
theorem K4 : ∀ t : Fin cfg4.N, win4_4.index t = ![t.val, 0, 0, 0] := by decide +kernel
/-- Window 5 of the auxiliary call takes the row of its point, or the whole array. -/
theorem K5 : ∀ t : Fin cfg4.N, win4_5.index t = ![t.val, 0, 0, 0] := by decide +kernel
/-- Window 6 of the auxiliary call takes the row of its point, or the whole array. -/
theorem K6 : ∀ t : Fin cfg4.N, win4_6.index t = ![t.val, 0, 0, 0] := by decide +kernel
/-- Window 7 of the auxiliary call takes the row of its point, or the whole array. -/
theorem K7 : ∀ t : Fin cfg4.N, win4_7.index t = ![t.val, 0, 0, 0] := by decide +kernel
/-- Window 12 of the auxiliary call takes the row of its point, or the whole array. -/
theorem K12 : ∀ t : Fin cfg4.N, win4_12.index t = ![t.val, 0, 0, 0] := by decide +kernel
/-- Window 8 of the auxiliary call takes the row of its point, or the whole array. -/
theorem K8 : ∀ t : Fin cfg4.N, win4_8.index t = ![0, 0] := by decide +kernel
/-- Window 9 of the auxiliary call takes the row of its point, or the whole array. -/
theorem K9 : ∀ t : Fin cfg4.N, win4_9.index t = ![0, 0, 0] := by decide +kernel
/-- Window 10 of the auxiliary call takes the row of its point, or the whole array. -/
theorem K10 : ∀ t : Fin cfg4.N, win4_10.index t = ![0, 0] := by decide +kernel
/-- Window 11 of the auxiliary call takes the row of its point, or the whole array. -/
theorem K11 : ∀ t : Fin cfg4.N, win4_11.index t = ![0, 0, 0] := by decide +kernel

/-- Window 0's block of the auxiliary call, in its array. -/
theorem M0 (t : Fin cfg4.N) (i : Fin 32) (s : Fin 23) (n : Fin 256) : Gen.iblk4 V c 0 t (ix4 0 i s n) = V c main_v125 (ix4 t i s n) := by
  blk_ext [Gen.iblk4, K0 t]
/-- Window 1's block of the auxiliary call, in its array. -/
theorem M1 (t : Fin cfg4.N) (i : Fin 32) (s : Fin 23) (n : Fin 256) : Gen.iblk4 V c 1 t (ix4 0 i s n) = V c main_v126 (ix4 t i s n) := by
  blk_ext [Gen.iblk4, K1 t]
/-- Window 2's block of the auxiliary call, in its array. -/
theorem M2 (t : Fin cfg4.N) (i : Fin 32) (s : Fin 23) (n : Fin 256) : Gen.iblk4 V c 2 t (ix4 0 i s n) = V c main_v127 (ix4 t i s n) := by
  blk_ext [Gen.iblk4, K2 t]
/-- Window 3's block of the auxiliary call, in its array. -/
theorem M3 (t : Fin cfg4.N) (i : Fin 32) (s : Fin 23) (n : Fin 256) : Gen.iblk4 V c 3 t (ix4 0 i s n) = V c main_v128 (ix4 t i s n) := by
  blk_ext [Gen.iblk4, K3 t]
/-- Window 4's block of the auxiliary call, in its array. -/
theorem M4 (t : Fin cfg4.N) (i : Fin 32) (s : Fin 23) (n : Fin 256) : Gen.iblk4 V c 4 t (ix4 0 i s n) = V c main_v129 (ix4 t i s n) := by
  blk_ext [Gen.iblk4, K4 t]
/-- Window 5's block of the auxiliary call, in its array. -/
theorem M5 (t : Fin cfg4.N) (i : Fin 32) (s : Fin 23) (n : Fin 256) : Gen.iblk4 V c 5 t (ix4 0 i s n) = V c main_v130 (ix4 t i s n) := by
  blk_ext [Gen.iblk4, K5 t]
/-- Window 6's block of the auxiliary call, in its array. -/
theorem M6 (t : Fin cfg4.N) (i : Fin 32) (s : Fin 23) (n : Fin 256) : Gen.iblk4 V c 6 t (ix4 0 i s n) = V c main_v131 (ix4 t i s n) := by
  blk_ext [Gen.iblk4, K6 t]
/-- Window 7's block of the auxiliary call, in its array. -/
theorem M7 (t : Fin cfg4.N) (i : Fin 32) (s : Fin 23) (n : Fin 256) : Gen.iblk4 V c 7 t (ix4 0 i s n) = V c main_v132 (ix4 t i s n) := by
  blk_ext [Gen.iblk4, K7 t]
/-- Window 8's block of the auxiliary call, in its array. -/
theorem M8 (t : Fin cfg4.N) (p : Fin 768) (q : Fin 256) : Gen.iblk4 V c 8 t (ix2 p q) = V c main_v124 (ix2 p q) := by
  blk_ext [Gen.iblk4, K8 t]
/-- Window 9's block of the auxiliary call, in its array. -/
theorem M9 (t : Fin cfg4.N) (p : Fin 1) (q : Fin 1) (r : Fin 64) : Gen.iblk4 V c 9 t (ix3 p q r) = V c main_v100 (ix3 p q r) := by
  blk_ext [Gen.iblk4, K9 t]
/-- Window 10's block of the auxiliary call, in its array. -/
theorem M10 (t : Fin cfg4.N) (p : Fin 32) (q : Fin 32) : Gen.iblk4 V c 10 t (ix2 p q) = V c main_v103 (ix2 p q) := by
  blk_ext [Gen.iblk4, K10 t]
/-- Window 11's block of the auxiliary call, in its array. -/
theorem M11 (t : Fin cfg4.N) (p : Fin 1) (q : Fin 1) (r : Fin 32) : Gen.iblk4 V c 11 t (ix3 p q r) = V c main_v104 (ix3 p q r) := by
  blk_ext [Gen.iblk4, K11 t]

/-- The layer and the row of the batch of a grid point of the further steps. -/
def layer (t : Fin cfg2.N) : Fin 4 := ⟨t.val / 4, by have h : t.val < 16 := t.isLt; omega⟩
/-- The row of a point of the extrapolation. -/
def rowOf (t : Fin cfg2.N) : Fin 4 := ⟨t.val % 4, by omega⟩

/-- The block of window 0 of the extrapolation at a point. -/
theorem L0 : ∀ t : Fin cfg2.N, win2_0.index t = ![t.val / 4, t.val % 4, 0, 0] := by decide +kernel
/-- The block of window 1 of the extrapolation at a point. -/
theorem L1 : ∀ t : Fin cfg2.N, win2_1.index t = ![t.val / 4, 0, 0] := by decide +kernel
/-- The block of window 2 of the extrapolation at a point. -/
theorem L2 : ∀ t : Fin cfg2.N, win2_2.index t = ![t.val / 4, 0, 0] := by decide +kernel
/-- The block of window 3 of the extrapolation at a point. -/
theorem L3 : ∀ t : Fin cfg2.N, win2_3.index t = ![t.val / 4, t.val % 4, 0, 0] := by decide +kernel

/-- Window 0's block of the extrapolation, in its array. -/
theorem N0 (t : Fin cfg2.N) (n : Fin 256) (j : Fin 160) : Gen.iblk2 V c 0 t (ix4 0 0 n j) = V c main_v66 (ix4 (layer t) (rowOf t) n j) := by
  blk_ext [Gen.iblk2, L0 t, layer, rowOf]
/-- Window 1's block of the extrapolation, in its array. -/
theorem N1 (t : Fin cfg2.N) (j : Fin 160) (d : Fin 384) : Gen.iblk2 V c 1 t (ix3 0 j d) = V c main_v75 (ix3 (layer t) j d) := by
  blk_ext [Gen.iblk2, L1 t, layer]
/-- Window 2's block of the extrapolation, in its array. -/
theorem N2 (t : Fin cfg2.N) (d : Fin 384) : Gen.iblk2 V c 2 t (ix3 0 0 d) = V c main_v81 (ix3 (layer t) 0 d) := by
  blk_ext [Gen.iblk2, L2 t, layer]

variable {V c} {H : Fin 4 → Fin 8 → Fin 32 → Fin 23 → Fin 256 → EReal} {Wa Wb : Fin 32 → Fin 256 → Fin 12 → EReal} {ba bb : Fin 32 → EReal}

/-- What the auxiliary body is entered with at a point. -/
theorem AuxEntry.body (E : AuxEntry V c H Wa Wb ba bb) (t : Fin cfg4.N) :
    Eight (Gen.iblk4 V c 0 t) (Gen.iblk4 V c 1 t) (Gen.iblk4 V c 2 t) (Gen.iblk4 V c 3 t) (Gen.iblk4 V c 4 t) (Gen.iblk4 V c 5 t) (Gen.iblk4 V c 6 t) (Gen.iblk4 V c 7 t) (H t) ∧ AuxWeights (Gen.iblk4 V c 8 t) (Gen.iblk4 V c 9 t) Wa Wb ba bb := by
  constructor
  · intro g i s n
    match g with
    | ⟨0, _⟩ => exact (M0 V c t i s n).trans (E.h0 _ _ _ _)
    | ⟨1, _⟩ => exact (M1 V c t i s n).trans (E.h1 _ _ _ _)
    | ⟨2, _⟩ => exact (M2 V c t i s n).trans (E.h2 _ _ _ _)
    | ⟨3, _⟩ => exact (M3 V c t i s n).trans (E.h3 _ _ _ _)
    | ⟨4, _⟩ => exact (M4 V c t i s n).trans (E.h4 _ _ _ _)
    | ⟨5, _⟩ => exact (M5 V c t i s n).trans (E.h5 _ _ _ _)
    | ⟨6, _⟩ => exact (M6 V c t i s n).trans (E.h6 _ _ _ _)
    | ⟨7, _⟩ => exact (M7 V c t i s n).trans (E.h7 _ _ _ _)
  · exact {
    wa := fun k o r i h => (M8 V c t r i).trans (E.w.wa k o r i h)
    wb := fun k o r i h => (M8 V c t r i).trans (E.w.wb k o r i h)
    ba := fun o r h => (M9 V c t 0 0 r).trans (E.w.ba o r h)
    bb := fun o r h => (M9 V c t 0 0 r).trans (E.w.bb o r h) }

/-- One entry of the auxiliary result. -/
def auxRes (R : S32x32.Idx → EReal) (r : S1x1x32.Idx → EReal) (H : Fin 4 → Fin 8 → Fin 32 → Fin 23 → Fin 256 → EReal) (Wa Wb : Fin 32 → Fin 256 → Fin 12 → EReal) (ba bb : Fin 32 → EReal)
    (b : Fin 4) (o : Fin 32) (n : Fin 256) (t : Fin 12) : EReal :=
  project (fun o' => R (ix2 o o')) (r (ix3 0 0 o)) (fun o' => gateAt (N := 256) (Wa o') (Wb o') (ba o') (bb o') (shift8 (H b) n t))

/-- Where an entry of window 12's block lies in its array. -/
theorem emb12 (t : Fin cfg4.N) (i : Fin 32) (n : Fin 256) (u : Fin 12) : ((View.whole main_v133).slice (win4_12.rect t)).emb (ix4 0 i n u) = ix4 t i n u := by
  blk_ext [K12 t]

/-- What the auxiliary call leaves at a point. -/
theorem AuxEntry.step12 (E : AuxEntry V c H Wa Wb ba bb) (t : Fin cfg4.N) (o : Fin 32) (n : Fin 256) (u : Fin 12) :
    (Gen.dat4 V c).after 12 t (ix4 0 o n u) = auxRes (V c main_v103) (V c main_v104) H Wa Wb ba bb t o n u := by
  rw [Gen.after4_12]
  refine (out12 (E.body t).1 (E.body t).2 o n u).trans ?_
  unfold auxRes
  refine congrArg₂ (fun p q => project p q _) (funext fun o' => ?_) ?_
  · exact M10 V c t _ _
  · exact M11 V c t _ _ _

/-- The auxiliary array as a function of its index. -/
def auxFun (R : S32x32.Idx → EReal) (r : S1x1x32.Idx → EReal) (H : Fin 4 → Fin 8 → Fin 32 → Fin 23 → Fin 256 → EReal) (Wa Wb : Fin 32 → Fin 256 → Fin 12 → EReal) (ba bb : Fin 32 → EReal)
    (i : S4x32x256x12.Idx) : EReal := auxRes R r H Wa Wb ba bb (i 0) (i 1) (i 2) (i 3)

/-- What the auxiliary array holds at the end. -/
theorem AuxEntry.arr12 (E : AuxEntry V c H Wa Wb ba bb) (b : Fin 4) (o : Fin 32) (n : Fin 256) (t : Fin 12) :
    (Gen.dat4 V c).arrAt 12 cfg4.N (ix4 b o n t) = auxRes (V c main_v103) (V c main_v104) H Wa Wb ba bb b o n t := by
  have h := (Gen.dat4 V c).arrAt_eq_of_covers 12 (auxFun (V c main_v103) (V c main_v104) H Wa Wb ba bb) (by decide +kernel) fun t hf y => ?_
  · exact congrFun h _
  blk_simp
  idx_vars y
  obtain rfl : y0 = 0 := Subsingleton.elim _ _
  exact (E.step12 t y1 y2 y3).trans (congrArg (auxFun (V c main_v103) (V c main_v104) H Wa Wb ba bb) (emb12 t y1 y2 y3)).symm

/-- One entry of the further steps. -/
def rexVal (x : S4x4x256x160.Idx → EReal) (w : S4x160x384.Idx → EReal) (β : S4x1x384.Idx → EReal) (l b : Fin 4) (n : Fin 256) (d : Fin 384) : EReal :=
  (∑ j, x (ix4 l b n j) * w (ix3 l j d)) + β (ix3 l 0 d)

/-- What the grid step of the further steps writes. -/
theorem out3 (x0 : Vec Ideal S1x1x256x160 .bf16) (x1 : Vec Ideal S1x160x384 .bf16) (x2 : Vec Ideal S1x1x384 .f32) (n : Fin 256) (d : Fin 384) :
    Gen.out2_3 x0 x1 x2 (ix4 0 0 n d) = (fun p q : EReal => p + q) (∑ j, (fun p q : EReal => p * q) (x0 (ix4 0 0 n j)) (x1 (ix3 0 j d))) (x2 (ix3 0 0 d)) := by
  unfold Gen.out2_3; frame_out
  pointwise [Gen.k2_pay1]

/-- Where an entry of window 3's block lies in its array. -/
theorem emb3 (t : Fin cfg2.N) (n : Fin 256) (d : Fin 384) : ((View.whole main_v82).slice (win2_3.rect t)).emb (ix4 0 0 n d) = ix4 (layer t) (rowOf t) n d := by
  blk_ext [L3 t, layer, rowOf]

/-- What the extrapolation leaves at a point. -/
theorem rex_step (t : Fin cfg2.N) (n : Fin 256) (d : Fin 384) :
    (Gen.dat2 V c).after 3 t (ix4 0 0 n d) = rexVal (V c main_v66) (V c main_v75) (V c main_v81) (layer t) (rowOf t) n d := by
  rw [Gen.after2_3]
  refine (out3 _ _ _ n d).trans ?_
  unfold rexVal
  exact congrArg₂ (fun p q : EReal => p + q) (Finset.sum_congr rfl fun j _ => congrArg₂ (fun p q : EReal => p * q) (N0 V c t _ _) (N1 V c t _ _)) (N2 V c t _)

/-- The array of the further steps as a function of its index. -/
def rexFun (x : S4x4x256x160.Idx → EReal) (w : S4x160x384.Idx → EReal) (β : S4x1x384.Idx → EReal) (i : S4x4x256x384.Idx) : EReal :=
  rexVal x w β (i 0) (i 1) (i 2) (i 3)

/-- What the array of the further steps holds at the end. -/
theorem rex_arr (l b : Fin 4) (n : Fin 256) (d : Fin 384) :
    (Gen.dat2 V c).arrAt 3 cfg2.N (ix4 l b n d) = rexVal (V c main_v66) (V c main_v75) (V c main_v81) l b n d := by
  have h := (Gen.dat2 V c).arrAt_eq_of_covers 3 (rexFun (V c main_v66) (V c main_v75) (V c main_v81)) (by decide +kernel) fun t hf y => ?_
  · exact congrFun h _
  blk_simp
  idx_vars y
  obtain rfl : y0 = 0 := Subsingleton.elim _ _
  obtain rfl : y1 = 0 := Subsingleton.elim _ _
  exact (rex_step t y2 y3).trans (congrArg (rexFun (V c main_v66) (V c main_v75) (V c main_v81)) (emb3 t y2 y3)).symm

end Cert.Chain
-- ==== Proof.KerChain.lean ====
/- The chain's arrays at its exit, and the further steps at theirs. -/
module

public import proofs.«01_k».proof.Proof.KerEntry
public import proofs.«01_k».proof.Proof.HostRex
public import proofs.«01_k».proof.Proof.AuxArr
public import proofs.«01_k».proof.Proof.RefSlab

@[expose] public section

set_option maxRecDepth 16384

noncomputable section

namespace Cert.Chain

open Idealize.ShloMosaic Idealize.ShloMosaic.TcCoe Cert.KernelIdeal

/-- A sum over 160 columns is a sum over channels and steps. -/
theorem sum160 (f : Fin 160 → EReal) : ∑ j, f j = ∑ c : Fin 32, ∑ r : Fin 5, f ⟨r.val + 5 * c.val, by omega⟩ := by
  rw [← Equiv.sum_comp (finProdFinEquiv (m := 32) (n := 5)) f, Fintype.sum_prod_type]
  rfl

/-- The product over 160 entries is the twelve further steps. -/
theorem further_of (x : S4x4x256x160.Idx → EReal) (w : S4x160x384.Idx → EReal) (β : S4x1x384.Idx → EReal)
    (p : Fin 32 → Fin 288 → EReal) (W : Fin 384 → Fin 32 → Fin 5 → EReal) (B : Fin 384 → EReal) (l b : Fin 4) (n : Fin 256)
    (hx : ∀ j : Fin 160, x (ix4 l b n j) = p ⟨j.val / 5, by omega⟩ ⟨283 + j.val % 5, by omega⟩)
    (hw : ∀ (j : Fin 160) (d : Fin 384), w (ix3 l j d) = W d ⟨j.val / 5, by omega⟩ ⟨j.val % 5, by omega⟩)
    (hβ : ∀ d, β (ix3 l 0 d) = B d) (o : Fin 32) (q : Fin 12) :
    rexVal x w β l b n ⟨q.val * 32 + o.val, by omega⟩ = further p W B o q := by
  unfold rexVal further
  rw [hβ, sum160]
  refine congrArg (· + _) (Finset.sum_congr rfl fun c _ => Finset.sum_congr rfl fun r _ => ?_)
  rw [hx, hw, mul_comm]
  have e1 : (⟨(r.val + 5 * c.val) / 5, by omega⟩ : Fin 32) = c := Fin.ext (by show (r.val + 5 * c.val) / 5 = c.val; omega)
  have e2 : (r.val + 5 * c.val) % 5 = r.val := by omega
  simp only [e1, e2]

variable (m : (ℓ : Loc nD τ sig) → Buf (Elt Ideal) ℓ) (ρ : Dev nD → PrngReg) (c : Dev nD)
variable {Q : Fin 4 → Fin 32 → Plane} {e : Fin 256 → Fin 16 → ℝ}

/-- A plane by row and channel. -/
theorem planes_at (b : Fin 4) (i : Fin 32) (h : b.val * 32 + i.val < 128) : planes Q ⟨b.val * 32 + i.val, h⟩ = Q b i := by
  unfold planes
  exact congrArg₂ Q (Fin.ext (by show (b.val * 32 + i.val) / 32 = b.val; omega)) (Fin.ext (by show (b.val * 32 + i.val) % 32 = i.val; omega))

/-- The launch contents of the planes and of the embeddings. -/
structure Launch (m : (ℓ : Loc nD τ sig) → Buf (Elt Ideal) ℓ) (c : Dev nD) (Q : Fin 4 → Fin 32 → Plane) (e : Fin 256 → Fin 16 → ℝ) : Prop where
  hx : ∀ b i n t, m ((c : Thread nD τ).loc main_arg0) (ix4 b i n t) = (Q b i n t : EReal)
  he : ∀ n j, m ((c : Thread nD τ).loc main_arg1) (ix2 n j) = (e n j : EReal)

/-- The chain is entered on real planes, averages and node weights. -/
theorem Launch.entry (L : Launch m c Q e) : Entry (Gen.V7 m ρ) c (planes Q) (win 48) sea (win 12) (adj e) :=
  Cert.Chain.entry m ρ c L.hx L.he

/-- Array 0 that the chain leaves. -/
theorem Launch.chain0 (L : Launch m c Q e) (b : Fin 4) (i : Fin 32) (n : Fin 256) (t : Fin 288) (h : b.val * 32 + i.val < 128) :
    Gen.W8 m ρ c (Proc.devRef .tc main_v57_0) (ix3 ⟨b.val * 32 + i.val, h⟩ n t) = (((p1 (win 48) (Q b i)) : Fin 256 → Fin 288 → ℝ) n t : EReal) := by
  refine (congrFun (Gen.W8_arr m ρ c 5) (ix3 ⟨b.val * 32 + i.val, h⟩ n t)).trans ?_
  refine ((L.entry m ρ c).arr5 ⟨b.val * 32 + i.val, h⟩ n t).trans ?_
  rw [planes_at]

/-- Array 1 that the chain leaves. -/
theorem Launch.chain1 (L : Launch m c Q e) (b : Fin 4) (i : Fin 32) (n : Fin 256) (t : Fin 300) (h : b.val * 32 + i.val < 128) :
    Gen.W8 m ρ c (Proc.devRef .tc main_v57_1) (ix3 ⟨b.val * 32 + i.val, h⟩ n t) = (((extC (meanT (win 48) (Q b i))) : Fin 256 → Fin 300 → ℝ) n t : EReal) := by
  refine (congrFun (Gen.W8_arr m ρ c 6) (ix3 ⟨b.val * 32 + i.val, h⟩ n t)).trans ?_
  refine ((L.entry m ρ c).arr6 ⟨b.val * 32 + i.val, h⟩ n t).trans ?_
  rw [planes_at]

/-- Array 2 that the chain leaves. -/
theorem Launch.chain2 (L : Launch m c Q e) (b : Fin 4) (i : Fin 32) (n : Fin 256) (t : Fin 300) (h : b.val * 32 + i.val < 128) :
    Gen.W8 m ρ c (Proc.devRef .tc main_v57_2) (ix3 ⟨b.val * 32 + i.val, h⟩ n t) = (((extC (dev (meanT (win 48)) (Q b i))) : Fin 256 → Fin 300 → ℝ) n t : EReal) := by
  refine (congrFun (Gen.W8_arr m ρ c 7) (ix3 ⟨b.val * 32 + i.val, h⟩ n t)).trans ?_
  refine ((L.entry m ρ c).arr7 ⟨b.val * 32 + i.val, h⟩ n t).trans ?_
  rw [planes_at]

/-- Array 3 that the chain leaves. -/
theorem Launch.chain3 (L : Launch m c Q e) (b : Fin 4) (i : Fin 32) (n : Fin 256) (t : Fin 288) (h : b.val * 32 + i.val < 128) :
    Gen.W8 m ρ c (Proc.devRef .tc main_v57_3) (ix3 ⟨b.val * 32 + i.val, h⟩ n t) = (((p2 (win 48) sea (Q b i)) : Fin 256 → Fin 288 → ℝ) n t : EReal) := by
  refine (congrFun (Gen.W8_arr m ρ c 8) (ix3 ⟨b.val * 32 + i.val, h⟩ n t)).trans ?_
  refine ((L.entry m ρ c).arr8 ⟨b.val * 32 + i.val, h⟩ n t).trans ?_
  rw [planes_at]

/-- Array 4 that the chain leaves. -/
theorem Launch.chain4 (L : Launch m c Q e) (b : Fin 4) (i : Fin 32) (n : Fin 256) (t : Fin 300) (h : b.val * 32 + i.val < 128) :
    Gen.W8 m ρ c (Proc.devRef .tc main_v57_4) (ix3 ⟨b.val * 32 + i.val, h⟩ n t) = (((extS (meanT sea (p1 (win 48) (Q b i)))) : Fin 256 → Fin 300 → ℝ) n t : EReal) := by
  refine (congrFun (Gen.W8_arr m ρ c 9) (ix3 ⟨b.val * 32 + i.val, h⟩ n t)).trans ?_
  refine ((L.entry m ρ c).arr9 ⟨b.val * 32 + i.val, h⟩ n t).trans ?_
  rw [planes_at]

/-- Array 5 that the chain leaves. -/
theorem Launch.chain5 (L : Launch m c Q e) (b : Fin 4) (i : Fin 32) (n : Fin 256) (t : Fin 300) (h : b.val * 32 + i.val < 128) :
    Gen.W8 m ρ c (Proc.devRef .tc main_v57_5) (ix3 ⟨b.val * 32 + i.val, h⟩ n t) = (((extS (dev (meanT sea) (p1 (win 48) (Q b i)))) : Fin 256 → Fin 300 → ℝ) n t : EReal) := by
  refine (congrFun (Gen.W8_arr m ρ c 10) (ix3 ⟨b.val * 32 + i.val, h⟩ n t)).trans ?_
  refine ((L.entry m ρ c).arr10 ⟨b.val * 32 + i.val, h⟩ n t).trans ?_
  rw [planes_at]

/-- Array 6 that the chain leaves. -/
theorem Launch.chain6 (L : Launch m c Q e) (b : Fin 4) (i : Fin 32) (n : Fin 256) (t : Fin 288) (h : b.val * 32 + i.val < 128) :
    Gen.W8 m ρ c (Proc.devRef .tc main_v57_6) (ix3 ⟨b.val * 32 + i.val, h⟩ n t) = (((p3 (win 48) sea (win 12) (Q b i)) : Fin 256 → Fin 288 → ℝ) n t : EReal) := by
  refine (congrFun (Gen.W8_arr m ρ c 11) (ix3 ⟨b.val * 32 + i.val, h⟩ n t)).trans ?_
  refine ((L.entry m ρ c).arr11 ⟨b.val * 32 + i.val, h⟩ n t).trans ?_
  rw [planes_at]

/-- Array 7 that the chain leaves. -/
theorem Launch.chain7 (L : Launch m c Q e) (b : Fin 4) (i : Fin 32) (n : Fin 256) (t : Fin 300) (h : b.val * 32 + i.val < 128) :
    Gen.W8 m ρ c (Proc.devRef .tc main_v57_7) (ix3 ⟨b.val * 32 + i.val, h⟩ n t) = (((extC (meanT (win 12) (p2 (win 48) sea (Q b i)))) : Fin 256 → Fin 300 → ℝ) n t : EReal) := by
  refine (congrFun (Gen.W8_arr m ρ c 12) (ix3 ⟨b.val * 32 + i.val, h⟩ n t)).trans ?_
  refine ((L.entry m ρ c).arr12 ⟨b.val * 32 + i.val, h⟩ n t).trans ?_
  rw [planes_at]

/-- Array 8 that the chain leaves. -/
theorem Launch.chain8 (L : Launch m c Q e) (b : Fin 4) (i : Fin 32) (n : Fin 256) (t : Fin 300) (h : b.val * 32 + i.val < 128) :
    Gen.W8 m ρ c (Proc.devRef .tc main_v57_8) (ix3 ⟨b.val * 32 + i.val, h⟩ n t) = (((extC (dev (meanT (win 12)) (p2 (win 48) sea (Q b i)))) : Fin 256 → Fin 300 → ℝ) n t : EReal) := by
  refine (congrFun (Gen.W8_arr m ρ c 13) (ix3 ⟨b.val * 32 + i.val, h⟩ n t)).trans ?_
  refine ((L.entry m ρ c).arr13 ⟨b.val * 32 + i.val, h⟩ n t).trans ?_
  rw [planes_at]

/-- Array 9 that the chain leaves. -/
theorem Launch.chain9 (L : Launch m c Q e) (b : Fin 4) (i : Fin 32) (n : Fin 256) (t : Fin 288) (h : b.val * 32 + i.val < 128) :
    Gen.W8 m ρ c (Proc.devRef .tc main_v57_9) (ix3 ⟨b.val * 32 + i.val, h⟩ n t) = (((p4 (win 48) sea (win 12) (adj e) (Q b i)) : Fin 256 → Fin 288 → ℝ) n t : EReal) := by
  refine (congrFun (Gen.W8_arr m ρ c 14) (ix3 ⟨b.val * 32 + i.val, h⟩ n t)).trans ?_
  refine ((L.entry m ρ c).arr14 ⟨b.val * 32 + i.val, h⟩ n t).trans ?_
  rw [planes_at]

/-- Array 10 that the chain leaves. -/
theorem Launch.chain10 (L : Launch m c Q e) (b : Fin 4) (i : Fin 32) (n : Fin 256) (t : Fin 300) (h : b.val * 32 + i.val < 128) :
    Gen.W8 m ρ c (Proc.devRef .tc main_v57_10) (ix3 ⟨b.val * 32 + i.val, h⟩ n t) = (((extC (meanN (adj e) (p3 (win 48) sea (win 12) (Q b i)))) : Fin 256 → Fin 300 → ℝ) n t : EReal) := by
  refine (congrFun (Gen.W8_arr m ρ c 15) (ix3 ⟨b.val * 32 + i.val, h⟩ n t)).trans ?_
  refine ((L.entry m ρ c).arr15 ⟨b.val * 32 + i.val, h⟩ n t).trans ?_
  rw [planes_at]

/-- Array 11 that the chain leaves. -/
theorem Launch.chain11 (L : Launch m c Q e) (b : Fin 4) (i : Fin 32) (n : Fin 256) (t : Fin 300) (h : b.val * 32 + i.val < 128) :
    Gen.W8 m ρ c (Proc.devRef .tc main_v57_11) (ix3 ⟨b.val * 32 + i.val, h⟩ n t) = (((extC (dev (meanN (adj e)) (p3 (win 48) sea (win 12) (Q b i)))) : Fin 256 → Fin 300 → ℝ) n t : EReal) := by
  refine (congrFun (Gen.W8_arr m ρ c 16) (ix3 ⟨b.val * 32 + i.val, h⟩ n t)).trans ?_
  refine ((L.entry m ρ c).arr16 ⟨b.val * 32 + i.val, h⟩ n t).trans ?_
  rw [planes_at]

/-- Array 12 that the chain leaves. -/
theorem Launch.chain12 (L : Launch m c Q e) (b : Fin 4) (i : Fin 32) (j : Fin 23) (n : Fin 256) (h : b.val * 32 + i.val < 128) :
    Gen.W8 m ρ c (Proc.devRef .tc main_v57_12) (ix3 ⟨b.val * 32 + i.val, h⟩ j n) = (((extC (meanT (win 48) (Q b i))) : Fin 256 → Fin 300 → ℝ) n ⟨277 + j.val, by omega⟩ : EReal) := by
  refine (congrFun (Gen.W8_arr m ρ c 17) (ix3 ⟨b.val * 32 + i.val, h⟩ j n)).trans ?_
  refine ((L.entry m ρ c).arr17 ⟨b.val * 32 + i.val, h⟩ j n).trans ?_
  rw [planes_at]
  rfl

/-- Array 13 that the chain leaves. -/
theorem Launch.chain13 (L : Launch m c Q e) (b : Fin 4) (i : Fin 32) (j : Fin 23) (n : Fin 256) (h : b.val * 32 + i.val < 128) :
    Gen.W8 m ρ c (Proc.devRef .tc main_v57_13) (ix3 ⟨b.val * 32 + i.val, h⟩ j n) = (((extC (dev (meanT (win 48)) (Q b i))) : Fin 256 → Fin 300 → ℝ) n ⟨277 + j.val, by omega⟩ : EReal) := by
  refine (congrFun (Gen.W8_arr m ρ c 18) (ix3 ⟨b.val * 32 + i.val, h⟩ j n)).trans ?_
  refine ((L.entry m ρ c).arr18 ⟨b.val * 32 + i.val, h⟩ j n).trans ?_
  rw [planes_at]
  rfl

/-- Array 14 that the chain leaves. -/
theorem Launch.chain14 (L : Launch m c Q e) (b : Fin 4) (i : Fin 32) (j : Fin 23) (n : Fin 256) (h : b.val * 32 + i.val < 128) :
    Gen.W8 m ρ c (Proc.devRef .tc main_v57_14) (ix3 ⟨b.val * 32 + i.val, h⟩ j n) = (((extS (meanT sea (p1 (win 48) (Q b i)))) : Fin 256 → Fin 300 → ℝ) n ⟨277 + j.val, by omega⟩ : EReal) := by
  refine (congrFun (Gen.W8_arr m ρ c 19) (ix3 ⟨b.val * 32 + i.val, h⟩ j n)).trans ?_
  refine ((L.entry m ρ c).arr19 ⟨b.val * 32 + i.val, h⟩ j n).trans ?_
  rw [planes_at]
  rfl

/-- Array 15 that the chain leaves. -/
theorem Launch.chain15 (L : Launch m c Q e) (b : Fin 4) (i : Fin 32) (j : Fin 23) (n : Fin 256) (h : b.val * 32 + i.val < 128) :
    Gen.W8 m ρ c (Proc.devRef .tc main_v57_15) (ix3 ⟨b.val * 32 + i.val, h⟩ j n) = (((extS (dev (meanT sea) (p1 (win 48) (Q b i)))) : Fin 256 → Fin 300 → ℝ) n ⟨277 + j.val, by omega⟩ : EReal) := by
  refine (congrFun (Gen.W8_arr m ρ c 20) (ix3 ⟨b.val * 32 + i.val, h⟩ j n)).trans ?_
  refine ((L.entry m ρ c).arr20 ⟨b.val * 32 + i.val, h⟩ j n).trans ?_
  rw [planes_at]
  rfl

/-- Array 16 that the chain leaves. -/
theorem Launch.chain16 (L : Launch m c Q e) (b : Fin 4) (i : Fin 32) (j : Fin 23) (n : Fin 256) (h : b.val * 32 + i.val < 128) :
    Gen.W8 m ρ c (Proc.devRef .tc main_v57_16) (ix3 ⟨b.val * 32 + i.val, h⟩ j n) = (((extC (meanT (win 12) (p2 (win 48) sea (Q b i)))) : Fin 256 → Fin 300 → ℝ) n ⟨277 + j.val, by omega⟩ : EReal) := by
  refine (congrFun (Gen.W8_arr m ρ c 21) (ix3 ⟨b.val * 32 + i.val, h⟩ j n)).trans ?_
  refine ((L.entry m ρ c).arr21 ⟨b.val * 32 + i.val, h⟩ j n).trans ?_
  rw [planes_at]
  rfl

/-- Array 17 that the chain leaves. -/
theorem Launch.chain17 (L : Launch m c Q e) (b : Fin 4) (i : Fin 32) (j : Fin 23) (n : Fin 256) (h : b.val * 32 + i.val < 128) :
    Gen.W8 m ρ c (Proc.devRef .tc main_v57_17) (ix3 ⟨b.val * 32 + i.val, h⟩ j n) = (((extC (dev (meanT (win 12)) (p2 (win 48) sea (Q b i)))) : Fin 256 → Fin 300 → ℝ) n ⟨277 + j.val, by omega⟩ : EReal) := by
  refine (congrFun (Gen.W8_arr m ρ c 22) (ix3 ⟨b.val * 32 + i.val, h⟩ j n)).trans ?_
  refine ((L.entry m ρ c).arr22 ⟨b.val * 32 + i.val, h⟩ j n).trans ?_
  rw [planes_at]
  rfl

/-- Array 18 that the chain leaves. -/
theorem Launch.chain18 (L : Launch m c Q e) (b : Fin 4) (i : Fin 32) (j : Fin 23) (n : Fin 256) (h : b.val * 32 + i.val < 128) :
    Gen.W8 m ρ c (Proc.devRef .tc main_v57_18) (ix3 ⟨b.val * 32 + i.val, h⟩ j n) = (((extC (meanN (adj e) (p3 (win 48) sea (win 12) (Q b i)))) : Fin 256 → Fin 300 → ℝ) n ⟨277 + j.val, by omega⟩ : EReal) := by
  refine (congrFun (Gen.W8_arr m ρ c 23) (ix3 ⟨b.val * 32 + i.val, h⟩ j n)).trans ?_
  refine ((L.entry m ρ c).arr23 ⟨b.val * 32 + i.val, h⟩ j n).trans ?_
  rw [planes_at]
  rfl

/-- Array 19 that the chain leaves. -/
theorem Launch.chain19 (L : Launch m c Q e) (b : Fin 4) (i : Fin 32) (j : Fin 23) (n : Fin 256) (h : b.val * 32 + i.val < 128) :
    Gen.W8 m ρ c (Proc.devRef .tc main_v57_19) (ix3 ⟨b.val * 32 + i.val, h⟩ j n) = (((extC (dev (meanN (adj e)) (p3 (win 48) sea (win 12) (Q b i)))) : Fin 256 → Fin 300 → ℝ) n ⟨277 + j.val, by omega⟩ : EReal) := by
  refine (congrFun (Gen.W8_arr m ρ c 24) (ix3 ⟨b.val * 32 + i.val, h⟩ j n)).trans ?_
  refine ((L.entry m ρ c).arr24 ⟨b.val * 32 + i.val, h⟩ j n).trans ?_
  rw [planes_at]
  rfl

/-- The weights and biases of the further steps. -/
def kerFurther : Further :=
  furtherOf (m ((c : Thread nD τ).loc main_arg10)) (m ((c : Thread nD τ).loc main_arg12)) (m ((c : Thread nD τ).loc main_arg14)) (m ((c : Thread nD τ).loc main_arg16))
    (m ((c : Thread nD τ).loc main_arg11)) (m ((c : Thread nD τ).loc main_arg13)) (m ((c : Thread nD τ).loc main_arg15)) (m ((c : Thread nD τ).loc main_arg17))

/-- The weights of layer 0. -/
theorem furtherOf_W0 (w0 w1 w2 w3 : S384x32x1x5.Idx → EReal) (b0 b1 b2 b3 : S384.Idx → EReal) (d : Fin 384) (i : Fin 32) (r : Fin 5) : (furtherOf w0 w1 w2 w3 b0 b1 b2 b3).W 0 d i r = w0 (ix4 d i 0 r) := rfl
/-- The bias of layer 0. -/
theorem furtherOf_β0 (w0 w1 w2 w3 : S384x32x1x5.Idx → EReal) (b0 b1 b2 b3 : S384.Idx → EReal) (d : Fin 384) : (furtherOf w0 w1 w2 w3 b0 b1 b2 b3).β 0 d = b0 (ix1 d) := rfl
/-- The stacked weights at layer 0. -/
theorem v75_0 (V : Valuation τ sig (Elt Ideal)) (j : Fin 160) (d : Fin 384) : StableHlo.after Gen.hostOps2 V (Proc.devRef .tc main_v75) (ix3 0 j d)
    = V (Proc.devRef .tc main_arg10) (ix4 d ⟨j.val / 5, by omega⟩ 0 ⟨j.val % 5, by omega⟩) := host_v75 V 0 j d
/-- The stacked bias at layer 0. -/
theorem v81_0 (V : Valuation τ sig (Elt Ideal)) (d : Fin 384) : StableHlo.after Gen.hostOps2 V (Proc.devRef .tc main_v81) (ix3 0 0 d)
    = V (Proc.devRef .tc main_arg11) (ix1 d) := host_v81 V 0 d
/-- The launch's weights of layer 0. -/
theorem kerFurther_W0 (d : Fin 384) (i : Fin 32) (r : Fin 5) : (kerFurther m c).W 0 d i r = m ((c : Thread nD τ).loc main_arg10) (ix4 d i 0 r) := by
  unfold kerFurther
  exact furtherOf_W0 _ _ _ _ _ _ _ _ d i r
/-- The launch's bias of layer 0. -/
theorem kerFurther_β0 (d : Fin 384) : (kerFurther m c).β 0 d = m ((c : Thread nD τ).loc main_arg11) (ix1 d) := by
  unfold kerFurther
  exact furtherOf_β0 _ _ _ _ _ _ _ _ d

/-- The weights of layer 1. -/
theorem furtherOf_W1 (w0 w1 w2 w3 : S384x32x1x5.Idx → EReal) (b0 b1 b2 b3 : S384.Idx → EReal) (d : Fin 384) (i : Fin 32) (r : Fin 5) : (furtherOf w0 w1 w2 w3 b0 b1 b2 b3).W 1 d i r = w1 (ix4 d i 0 r) := rfl
/-- The bias of layer 1. -/
theorem furtherOf_β1 (w0 w1 w2 w3 : S384x32x1x5.Idx → EReal) (b0 b1 b2 b3 : S384.Idx → EReal) (d : Fin 384) : (furtherOf w0 w1 w2 w3 b0 b1 b2 b3).β 1 d = b1 (ix1 d) := rfl
/-- The stacked weights at layer 1. -/
theorem v75_1 (V : Valuation τ sig (Elt Ideal)) (j : Fin 160) (d : Fin 384) : StableHlo.after Gen.hostOps2 V (Proc.devRef .tc main_v75) (ix3 1 j d)
    = V (Proc.devRef .tc main_arg12) (ix4 d ⟨j.val / 5, by omega⟩ 0 ⟨j.val % 5, by omega⟩) := host_v75 V 1 j d
/-- The stacked bias at layer 1. -/
theorem v81_1 (V : Valuation τ sig (Elt Ideal)) (d : Fin 384) : StableHlo.after Gen.hostOps2 V (Proc.devRef .tc main_v81) (ix3 1 0 d)
    = V (Proc.devRef .tc main_arg13) (ix1 d) := host_v81 V 1 d
/-- The launch's weights of layer 1. -/
theorem kerFurther_W1 (d : Fin 384) (i : Fin 32) (r : Fin 5) : (kerFurther m c).W 1 d i r = m ((c : Thread nD τ).loc main_arg12) (ix4 d i 0 r) := by
  unfold kerFurther
  exact furtherOf_W1 _ _ _ _ _ _ _ _ d i r
/-- The launch's bias of layer 1. -/
theorem kerFurther_β1 (d : Fin 384) : (kerFurther m c).β 1 d = m ((c : Thread nD τ).loc main_arg13) (ix1 d) := by
  unfold kerFurther
  exact furtherOf_β1 _ _ _ _ _ _ _ _ d

/-- The weights of layer 2. -/
theorem furtherOf_W2 (w0 w1 w2 w3 : S384x32x1x5.Idx → EReal) (b0 b1 b2 b3 : S384.Idx → EReal) (d : Fin 384) (i : Fin 32) (r : Fin 5) : (furtherOf w0 w1 w2 w3 b0 b1 b2 b3).W 2 d i r = w2 (ix4 d i 0 r) := rfl
/-- The bias of layer 2. -/
theorem furtherOf_β2 (w0 w1 w2 w3 : S384x32x1x5.Idx → EReal) (b0 b1 b2 b3 : S384.Idx → EReal) (d : Fin 384) : (furtherOf w0 w1 w2 w3 b0 b1 b2 b3).β 2 d = b2 (ix1 d) := rfl
/-- The stacked weights at layer 2. -/
theorem v75_2 (V : Valuation τ sig (Elt Ideal)) (j : Fin 160) (d : Fin 384) : StableHlo.after Gen.hostOps2 V (Proc.devRef .tc main_v75) (ix3 2 j d)
    = V (Proc.devRef .tc main_arg14) (ix4 d ⟨j.val / 5, by omega⟩ 0 ⟨j.val % 5, by omega⟩) := host_v75 V 2 j d
/-- The stacked bias at layer 2. -/
theorem v81_2 (V : Valuation τ sig (Elt Ideal)) (d : Fin 384) : StableHlo.after Gen.hostOps2 V (Proc.devRef .tc main_v81) (ix3 2 0 d)
    = V (Proc.devRef .tc main_arg15) (ix1 d) := host_v81 V 2 d
/-- The launch's weights of layer 2. -/
theorem kerFurther_W2 (d : Fin 384) (i : Fin 32) (r : Fin 5) : (kerFurther m c).W 2 d i r = m ((c : Thread nD τ).loc main_arg14) (ix4 d i 0 r) := by
  unfold kerFurther
  exact furtherOf_W2 _ _ _ _ _ _ _ _ d i r
/-- The launch's bias of layer 2. -/
theorem kerFurther_β2 (d : Fin 384) : (kerFurther m c).β 2 d = m ((c : Thread nD τ).loc main_arg15) (ix1 d) := by
  unfold kerFurther
  exact furtherOf_β2 _ _ _ _ _ _ _ _ d

/-- The weights of layer 3. -/
theorem furtherOf_W3 (w0 w1 w2 w3 : S384x32x1x5.Idx → EReal) (b0 b1 b2 b3 : S384.Idx → EReal) (d : Fin 384) (i : Fin 32) (r : Fin 5) : (furtherOf w0 w1 w2 w3 b0 b1 b2 b3).W 3 d i r = w3 (ix4 d i 0 r) := rfl
/-- The bias of layer 3. -/
theorem furtherOf_β3 (w0 w1 w2 w3 : S384x32x1x5.Idx → EReal) (b0 b1 b2 b3 : S384.Idx → EReal) (d : Fin 384) : (furtherOf w0 w1 w2 w3 b0 b1 b2 b3).β 3 d = b3 (ix1 d) := rfl
/-- The stacked weights at layer 3. -/
theorem v75_3 (V : Valuation τ sig (Elt Ideal)) (j : Fin 160) (d : Fin 384) : StableHlo.after Gen.hostOps2 V (Proc.devRef .tc main_v75) (ix3 3 j d)
    = V (Proc.devRef .tc main_arg16) (ix4 d ⟨j.val / 5, by omega⟩ 0 ⟨j.val % 5, by omega⟩) := host_v75 V 3 j d
/-- The stacked bias at layer 3. -/
theorem v81_3 (V : Valuation τ sig (Elt Ideal)) (d : Fin 384) : StableHlo.after Gen.hostOps2 V (Proc.devRef .tc main_v81) (ix3 3 0 d)
    = V (Proc.devRef .tc main_arg17) (ix1 d) := host_v81 V 3 d
/-- The launch's weights of layer 3. -/
theorem kerFurther_W3 (d : Fin 384) (i : Fin 32) (r : Fin 5) : (kerFurther m c).W 3 d i r = m ((c : Thread nD τ).loc main_arg16) (ix4 d i 0 r) := by
  unfold kerFurther
  exact furtherOf_W3 _ _ _ _ _ _ _ _ d i r
/-- The launch's bias of layer 3. -/
theorem kerFurther_β3 (d : Fin 384) : (kerFurther m c).β 3 d = m ((c : Thread nD τ).loc main_arg17) (ix1 d) := by
  unfold kerFurther
  exact furtherOf_β3 _ _ _ _ _ _ _ _ d

/-- The further steps of layer 0. -/
theorem Launch.rex0 (L : Launch m c Q e) (b : Fin 4) (n : Fin 256) (o : Fin 32) (q : Fin 12) :
    Gen.W10 m ρ c (Proc.devRef .tc main_v82) (ix4 0 b n ⟨q.val * 32 + o.val, by omega⟩)
      = further (fun i => row (p1 (win 48) (Q b i)) n) ((kerFurther m c).W 0) ((kerFurther m c).β 0) o q := by
  refine (congrFun (Gen.W10_arr m ρ c 3) (ix4 0 b n ⟨q.val * 32 + o.val, by omega⟩)).trans ?_
  refine (rex_arr (V := Gen.V9 m ρ) (c := c) 0 b n ⟨q.val * 32 + o.val, by omega⟩).trans ?_
  refine further_of _ _ _ _ _ _ 0 b n (fun j => ?_) (fun j d => ?_) (fun d => ?_) o q
  · exact (host_v66 (Gen.W8 m ρ c) 0 b n j).trans (L.chain0 m ρ c b ⟨j.val / 5, by omega⟩ n ⟨283 + j.val % 5, by omega⟩ _)
  · exact (v75_0 (Gen.W8 m ρ c) j d).trans ((congrFun (Gen.W8_args m ρ c main_arg10 (by decide)) _).trans (kerFurther_W0 m c d ⟨j.val / 5, by omega⟩ ⟨j.val % 5, by omega⟩).symm)
  · exact (v81_0 (Gen.W8 m ρ c) d).trans ((congrFun (Gen.W8_args m ρ c main_arg11 (by decide)) _).trans (kerFurther_β0 m c d).symm)

/-- The further steps of layer 1. -/
theorem Launch.rex1 (L : Launch m c Q e) (b : Fin 4) (n : Fin 256) (o : Fin 32) (q : Fin 12) :
    Gen.W10 m ρ c (Proc.devRef .tc main_v82) (ix4 1 b n ⟨q.val * 32 + o.val, by omega⟩)
      = further (fun i => row (p2 (win 48) sea (Q b i)) n) ((kerFurther m c).W 1) ((kerFurther m c).β 1) o q := by
  refine (congrFun (Gen.W10_arr m ρ c 3) (ix4 1 b n ⟨q.val * 32 + o.val, by omega⟩)).trans ?_
  refine (rex_arr (V := Gen.V9 m ρ) (c := c) 1 b n ⟨q.val * 32 + o.val, by omega⟩).trans ?_
  refine further_of _ _ _ _ _ _ 1 b n (fun j => ?_) (fun j d => ?_) (fun d => ?_) o q
  · exact (host_v66 (Gen.W8 m ρ c) 1 b n j).trans (L.chain3 m ρ c b ⟨j.val / 5, by omega⟩ n ⟨283 + j.val % 5, by omega⟩ _)
  · exact (v75_1 (Gen.W8 m ρ c) j d).trans ((congrFun (Gen.W8_args m ρ c main_arg12 (by decide)) _).trans (kerFurther_W1 m c d ⟨j.val / 5, by omega⟩ ⟨j.val % 5, by omega⟩).symm)
  · exact (v81_1 (Gen.W8 m ρ c) d).trans ((congrFun (Gen.W8_args m ρ c main_arg13 (by decide)) _).trans (kerFurther_β1 m c d).symm)

/-- The further steps of layer 2. -/
theorem Launch.rex2 (L : Launch m c Q e) (b : Fin 4) (n : Fin 256) (o : Fin 32) (q : Fin 12) :
    Gen.W10 m ρ c (Proc.devRef .tc main_v82) (ix4 2 b n ⟨q.val * 32 + o.val, by omega⟩)
      = further (fun i => row (p3 (win 48) sea (win 12) (Q b i)) n) ((kerFurther m c).W 2) ((kerFurther m c).β 2) o q := by
  refine (congrFun (Gen.W10_arr m ρ c 3) (ix4 2 b n ⟨q.val * 32 + o.val, by omega⟩)).trans ?_
  refine (rex_arr (V := Gen.V9 m ρ) (c := c) 2 b n ⟨q.val * 32 + o.val, by omega⟩).trans ?_
  refine further_of _ _ _ _ _ _ 2 b n (fun j => ?_) (fun j d => ?_) (fun d => ?_) o q
  · exact (host_v66 (Gen.W8 m ρ c) 2 b n j).trans (L.chain6 m ρ c b ⟨j.val / 5, by omega⟩ n ⟨283 + j.val % 5, by omega⟩ _)
  · exact (v75_2 (Gen.W8 m ρ c) j d).trans ((congrFun (Gen.W8_args m ρ c main_arg14 (by decide)) _).trans (kerFurther_W2 m c d ⟨j.val / 5, by omega⟩ ⟨j.val % 5, by omega⟩).symm)
  · exact (v81_2 (Gen.W8 m ρ c) d).trans ((congrFun (Gen.W8_args m ρ c main_arg15 (by decide)) _).trans (kerFurther_β2 m c d).symm)

/-- The further steps of layer 3. -/
theorem Launch.rex3 (L : Launch m c Q e) (b : Fin 4) (n : Fin 256) (o : Fin 32) (q : Fin 12) :
    Gen.W10 m ρ c (Proc.devRef .tc main_v82) (ix4 3 b n ⟨q.val * 32 + o.val, by omega⟩)
      = further (fun i => row (p4 (win 48) sea (win 12) (adj e) (Q b i)) n) ((kerFurther m c).W 3) ((kerFurther m c).β 3) o q := by
  refine (congrFun (Gen.W10_arr m ρ c 3) (ix4 3 b n ⟨q.val * 32 + o.val, by omega⟩)).trans ?_
  refine (rex_arr (V := Gen.V9 m ρ) (c := c) 3 b n ⟨q.val * 32 + o.val, by omega⟩).trans ?_
  refine further_of _ _ _ _ _ _ 3 b n (fun j => ?_) (fun j d => ?_) (fun d => ?_) o q
  · exact (host_v66 (Gen.W8 m ρ c) 3 b n j).trans (L.chain9 m ρ c b ⟨j.val / 5, by omega⟩ n ⟨283 + j.val % 5, by omega⟩ _)
  · exact (v75_3 (Gen.W8 m ρ c) j d).trans ((congrFun (Gen.W8_args m ρ c main_arg16 (by decide)) _).trans (kerFurther_W3 m c d ⟨j.val / 5, by omega⟩ ⟨j.val % 5, by omega⟩).symm)
  · exact (v81_3 (Gen.W8 m ρ c) d).trans ((congrFun (Gen.W8_args m ρ c main_arg17 (by decide)) _).trans (kerFurther_β3 m c d).symm)

end Cert.Chain
-- ==== Proof.HostConv.lean ====
module
public import proofs.«01_k».proof.Proof.HostMats
@[expose] public section
set_option maxRecDepth 16384
noncomputable section
/-! What the host lays out for the two gated products: weights, biases and the arrays cut by batch. -/
namespace Cert.Chain
open Idealize.ShloMosaic Idealize.ShloMosaic.StableHlo Cert.KernelIdeal
variable (V : Valuation τ sig (Elt Ideal))
/-- The twelve further columns of layer 0, cut out of the product. -/
theorem host_v86 (b : Fin 4) (c : Fin 32) (n : Fin 256) (q : Fin 12)  : after Gen.hostOps3 V (Proc.devRef .tc main_v86) (ix4 b c n q) = V (Proc.devRef .tc main_v82) (ix4 0 b n ⟨q.val * 32 + c.val, by omega⟩) := by
  unfold Gen.hostOps3
  after_results
  pointwise

/-- The twelve further columns of layer 1, cut out of the product. -/
theorem host_v88 (b : Fin 4) (c : Fin 32) (n : Fin 256) (q : Fin 12)  : after Gen.hostOps3 V (Proc.devRef .tc main_v88) (ix4 b c n q) = V (Proc.devRef .tc main_v82) (ix4 1 b n ⟨q.val * 32 + c.val, by omega⟩) := by
  unfold Gen.hostOps3
  after_results
  pointwise

/-- The twelve further columns of layer 2, cut out of the product. -/
theorem host_v90 (b : Fin 4) (c : Fin 32) (n : Fin 256) (q : Fin 12)  : after Gen.hostOps3 V (Proc.devRef .tc main_v90) (ix4 b c n q) = V (Proc.devRef .tc main_v82) (ix4 2 b n ⟨q.val * 32 + c.val, by omega⟩) := by
  unfold Gen.hostOps3
  after_results
  pointwise

/-- The twelve further columns of layer 3, cut out of the product. -/
theorem host_v92 (b : Fin 4) (c : Fin 32) (n : Fin 256) (q : Fin 12)  : after Gen.hostOps3 V (Proc.devRef .tc main_v92) (ix4 b c n q) = V (Proc.devRef .tc main_v82) (ix4 3 b n ⟨q.val * 32 + c.val, by omega⟩) := by
  unfold Gen.hostOps3
  after_results
  pointwise

/-- The two weight arrays, one above the other. -/
theorem host_v95 (o : Fin 64) (c : Fin 416) (k : Fin 12)  : after Gen.hostOps3 V (Proc.devRef .tc main_v95) (ix3 o c k) = if h : o.val < 32 then V (Proc.devRef .tc main_arg2) (ix4 ⟨o.val, h⟩ c 0 k) else V (Proc.devRef .tc main_arg4) (ix4 ⟨o.val - 32, by omega⟩ c 0 k) := by
  unfold Gen.hostOps3
  after_results
  pointwise

/-- The two weight arrays with the taps laid over the rows. -/
theorem host_v98 (o : Fin 768) (c : Fin 416)  : after Gen.hostOps3 V (Proc.devRef .tc main_v98) (ix2 o c) = if h : o.val % 64 < 32 then V (Proc.devRef .tc main_arg2) (ix4 ⟨o.val % 64, h⟩ c 0 ⟨o.val / 64, by omega⟩) else V (Proc.devRef .tc main_arg4) (ix4 ⟨o.val % 64 - 32, by omega⟩ c 0 ⟨o.val / 64, by omega⟩) := by
  unfold Gen.hostOps3
  after_results
  pointwise

/-- The two bias rows, one after the other. -/
theorem host_v100 (o : Fin 64)  : after Gen.hostOps3 V (Proc.devRef .tc main_v100) (ix3 0 0 o) = if h : o.val < 32 then V (Proc.devRef .tc main_arg3) (ix1 ⟨o.val, h⟩) else V (Proc.devRef .tc main_arg5) (ix1 ⟨o.val - 32, by omega⟩) := by
  unfold Gen.hostOps3
  after_results
  pointwise

/-- The last layer's weights as a matrix. -/
theorem host_v101 (o : Fin 32) (p : Fin 32)  : after Gen.hostOps3 V (Proc.devRef .tc main_v101) (ix2 o p) = V (Proc.devRef .tc main_arg8) (ix4 o p 0 0) := by
  unfold Gen.hostOps3
  after_results
  pointwise

/-- The last layer's weights as a matrix. -/
theorem host_v103 (o : Fin 32) (p : Fin 32)  : after Gen.hostOps3 V (Proc.devRef .tc main_v103) (ix2 o p) = V (Proc.devRef .tc main_arg6) (ix4 o p 0 0) := by
  unfold Gen.hostOps3
  after_results
  pointwise

/-- The last layer's bias. -/
theorem host_v102 (o : Fin 32)  : after Gen.hostOps3 V (Proc.devRef .tc main_v102) (ix3 0 0 o) = V (Proc.devRef .tc main_arg9) (ix1 o) := by
  unfold Gen.hostOps3
  after_results
  pointwise

/-- The last layer's bias. -/
theorem host_v104 (o : Fin 32)  : after Gen.hostOps3 V (Proc.devRef .tc main_v104) (ix3 0 0 o) = V (Proc.devRef .tc main_arg7) (ix1 o) := by
  unfold Gen.hostOps3
  after_results
  pointwise

/-- Array 0 of the chain cut by batch. -/
theorem host_v105 (b : Fin 4) (c : Fin 32) (n : Fin 256) (q : Fin 288)  : after Gen.hostOps3 V (Proc.devRef .tc main_v105) (ix4 b c n q) = V (Proc.devRef .tc main_v57_0) (ix3 ⟨b.val * 32 + c.val, by omega⟩ n q) := by
  unfold Gen.hostOps3
  after_results
  pointwise

/-- Array 1 of the chain cut by batch. -/
theorem host_v106 (b : Fin 4) (c : Fin 32) (n : Fin 256) (q : Fin 300)  : after Gen.hostOps3 V (Proc.devRef .tc main_v106) (ix4 b c n q) = V (Proc.devRef .tc main_v57_1) (ix3 ⟨b.val * 32 + c.val, by omega⟩ n q) := by
  unfold Gen.hostOps3
  after_results
  pointwise

/-- Array 2 of the chain cut by batch. -/
theorem host_v107 (b : Fin 4) (c : Fin 32) (n : Fin 256) (q : Fin 300)  : after Gen.hostOps3 V (Proc.devRef .tc main_v107) (ix4 b c n q) = V (Proc.devRef .tc main_v57_2) (ix3 ⟨b.val * 32 + c.val, by omega⟩ n q) := by
  unfold Gen.hostOps3
  after_results
  pointwise

/-- Array 3 of the chain cut by batch. -/
theorem host_v108 (b : Fin 4) (c : Fin 32) (n : Fin 256) (q : Fin 288)  : after Gen.hostOps3 V (Proc.devRef .tc main_v108) (ix4 b c n q) = V (Proc.devRef .tc main_v57_3) (ix3 ⟨b.val * 32 + c.val, by omega⟩ n q) := by
  unfold Gen.hostOps3
  after_results
  pointwise

/-- Array 4 of the chain cut by batch. -/
theorem host_v109 (b : Fin 4) (c : Fin 32) (n : Fin 256) (q : Fin 300)  : after Gen.hostOps3 V (Proc.devRef .tc main_v109) (ix4 b c n q) = V (Proc.devRef .tc main_v57_4) (ix3 ⟨b.val * 32 + c.val, by omega⟩ n q) := by
  unfold Gen.hostOps3
  after_results
  pointwise

/-- Array 5 of the chain cut by batch. -/
theorem host_v110 (b : Fin 4) (c : Fin 32) (n : Fin 256) (q : Fin 300)  : after Gen.hostOps3 V (Proc.devRef .tc main_v110) (ix4 b c n q) = V (Proc.devRef .tc main_v57_5) (ix3 ⟨b.val * 32 + c.val, by omega⟩ n q) := by
  unfold Gen.hostOps3
  after_results
  pointwise

/-- Array 6 of the chain cut by batch. -/
theorem host_v111 (b : Fin 4) (c : Fin 32) (n : Fin 256) (q : Fin 288)  : after Gen.hostOps3 V (Proc.devRef .tc main_v111) (ix4 b c n q) = V (Proc.devRef .tc main_v57_6) (ix3 ⟨b.val * 32 + c.val, by omega⟩ n q) := by
  unfold Gen.hostOps3
  after_results
  pointwise

/-- Array 7 of the chain cut by batch. -/
theorem host_v112 (b : Fin 4) (c : Fin 32) (n : Fin 256) (q : Fin 300)  : after Gen.hostOps3 V (Proc.devRef .tc main_v112) (ix4 b c n q) = V (Proc.devRef .tc main_v57_7) (ix3 ⟨b.val * 32 + c.val, by omega⟩ n q) := by
  unfold Gen.hostOps3
  after_results
  pointwise

/-- Array 8 of the chain cut by batch. -/
theorem host_v113 (b : Fin 4) (c : Fin 32) (n : Fin 256) (q : Fin 300)  : after Gen.hostOps3 V (Proc.devRef .tc main_v113) (ix4 b c n q) = V (Proc.devRef .tc main_v57_8) (ix3 ⟨b.val * 32 + c.val, by omega⟩ n q) := by
  unfold Gen.hostOps3
  after_results
  pointwise

/-- Array 9 of the chain cut by batch. -/
theorem host_v114 (b : Fin 4) (c : Fin 32) (n : Fin 256) (q : Fin 288)  : after Gen.hostOps3 V (Proc.devRef .tc main_v114) (ix4 b c n q) = V (Proc.devRef .tc main_v57_9) (ix3 ⟨b.val * 32 + c.val, by omega⟩ n q) := by
  unfold Gen.hostOps3
  after_results
  pointwise

/-- Array 10 of the chain cut by batch. -/
theorem host_v115 (b : Fin 4) (c : Fin 32) (n : Fin 256) (q : Fin 300)  : after Gen.hostOps3 V (Proc.devRef .tc main_v115) (ix4 b c n q) = V (Proc.devRef .tc main_v57_10) (ix3 ⟨b.val * 32 + c.val, by omega⟩ n q) := by
  unfold Gen.hostOps3
  after_results
  pointwise

/-- Array 11 of the chain cut by batch. -/
theorem host_v116 (b : Fin 4) (c : Fin 32) (n : Fin 256) (q : Fin 300)  : after Gen.hostOps3 V (Proc.devRef .tc main_v116) (ix4 b c n q) = V (Proc.devRef .tc main_v57_11) (ix3 ⟨b.val * 32 + c.val, by omega⟩ n q) := by
  unfold Gen.hostOps3
  after_results
  pointwise

end Cert.Chain
-- ==== Proof.ConvOut.lean ====
/- What the grid step of the gated convolution writes. -/
module

public import proofs.«01_k».proof.Proof.Mix
public import proofs.«01_k».proof.Proof.RunIdeal.Region3

@[expose] public section

set_option maxRecDepth 16384

noncomputable section

namespace Cert.Chain

open Idealize.ShloMosaic Idealize.ShloMosaic.StableHlo Cert.KernelIdeal

/-- A row extended by its last value. -/
def extE (f : Fin 288 → EReal) (t : Fin 300) : EReal := if h : t.val < 288 then f ⟨t.val, h⟩ else f 287

/-- One tap of the product over the stacked channels. -/
theorem term_ker (v45 : S416x16x301.Idx → EReal) (v46 : S768x416.Idx → EReal) (W : Fin 416 → Fin 12 → EReal) (S : Fin 416 → Fin 301 → EReal)
    (r : Fin 768) (n : Fin 16) (i : Fin 301) (k : Fin 12) (t : Fin 290)
    (hW : ∀ c, v46 (ix2 r c) = W c k) (hS : ∀ c i, v45 (ix3 c n i) = S c i) (hi : i.val = k.val + t.val) :
    (∑ x, v46 (ix2 r x) * v45 (ix3 x n i)) = ∑ c, W c k * shifts S t k c := by
  have e : i = ⟨k.val + t.val, by omega⟩ := Fin.ext hi
  rw [e]
  exact Finset.sum_congr rfl fun c _ => congrArg₂ (fun p q : EReal => p * q) (hW c) (hS c _)

/-- The weight block holds two convolutions' weights and biases. -/
structure Weights (x17 : S768x416.Idx → EReal) (x18 : S1x1x64.Idx → EReal) (Wa Wb : Fin 32 → Fin 416 → Fin 12 → EReal) (ba bb : Fin 32 → EReal) : Prop where
  wa : ∀ (k : Fin 12) (o : Fin 32) (r : Fin 768) (c : Fin 416), r.val = 64 * k.val + o.val → x17 (ix2 r c) = Wa o c k
  wb : ∀ (k : Fin 12) (o : Fin 32) (r : Fin 768) (c : Fin 416), r.val = 64 * k.val + 32 + o.val → x17 (ix2 r c) = Wb o c k
  ba : ∀ (o : Fin 32) (r : Fin 64), r.val = o.val → x18 (ix3 0 0 r) = ba o
  bb : ∀ (o : Fin 32) (r : Fin 64), r.val = 32 + o.val → x18 (ix3 0 0 r) = bb o

/-- The gated product of a slab's block. -/
theorem gate_ker (v45 : FVec Ideal S416x16x301 .bf16) (v46 : Vec Ideal S768x416 .bf16) (v74 : Vec Ideal S1x1x64 .f32)
    {Wa Wb : Fin 32 → Fin 416 → Fin 12 → EReal} {ba bb : Fin 32 → EReal} {S : Fin 16 → Fin 416 → Fin 301 → EReal}
    (w : Weights v46 v74 Wa Wb ba bb) (hS : ∀ n c i, v45 (ix3 c n i) = S n c i) (o : Fin 32) (n : Fin 16) (t : Fin 290) :
    Gen.k3_pay10 (F := Ideal) v45 v46 v74 (ix3 o n t) = gateAt (Wa o) (Wb o) (ba o) (bb o) (shifts (S n) t) := by
  pointwise [Gen.k3_pay10]
  exact congrArg₂ (fun p q : EReal => p * q)
    (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (term_ker v45 v46 _ _ _ n _ 0 t (fun c => w.wa 0 o _ c (by show _ = _; simp <;> omega)) (hS n) (by simp)) (term_ker v45 v46 _ _ _ n _ 1 t (fun c => w.wa 1 o _ c (by show _ = _; simp <;> omega)) (hS n) (by simp))) (term_ker v45 v46 _ _ _ n _ 2 t (fun c => w.wa 2 o _ c (by show _ = _; simp <;> omega)) (hS n) (by simp))) (term_ker v45 v46 _ _ _ n _ 3 t (fun c => w.wa 3 o _ c (by show _ = _; simp <;> omega)) (hS n) (by simp))) (term_ker v45 v46 _ _ _ n _ 4 t (fun c => w.wa 4 o _ c (by show _ = _; simp <;> omega)) (hS n) (by simp))) (term_ker v45 v46 _ _ _ n _ 5 t (fun c => w.wa 5 o _ c (by show _ = _; simp <;> omega)) (hS n) (by simp))) (term_ker v45 v46 _ _ _ n _ 6 t (fun c => w.wa 6 o _ c (by show _ = _; simp <;> omega)) (hS n) (by simp))) (term_ker v45 v46 _ _ _ n _ 7 t (fun c => w.wa 7 o _ c (by show _ = _; simp <;> omega)) (hS n) (by simp))) (term_ker v45 v46 _ _ _ n _ 8 t (fun c => w.wa 8 o _ c (by show _ = _; simp <;> omega)) (hS n) (by simp))) (term_ker v45 v46 _ _ _ n _ 9 t (fun c => w.wa 9 o _ c (by show _ = _; simp <;> omega)) (hS n) (by simp))) (term_ker v45 v46 _ _ _ n _ 10 t (fun c => w.wa 10 o _ c (by show _ = _; simp <;> omega)) (hS n) (by simp))) (term_ker v45 v46 _ _ _ n _ 11 t (fun c => w.wa 11 o _ c (by show _ = _; simp <;> omega)) (hS n) (by simp))) (w.ba o _ (by simp)))
    (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (congrArg₂ (fun p q : EReal => p + q) (term_ker v45 v46 _ _ _ n _ 0 t (fun c => w.wb 0 o _ c (by show _ = _; simp <;> omega)) (hS n) (by simp)) (term_ker v45 v46 _ _ _ n _ 1 t (fun c => w.wb 1 o _ c (by show _ = _; simp <;> omega)) (hS n) (by simp))) (term_ker v45 v46 _ _ _ n _ 2 t (fun c => w.wb 2 o _ c (by show _ = _; simp <;> omega)) (hS n) (by simp))) (term_ker v45 v46 _ _ _ n _ 3 t (fun c => w.wb 3 o _ c (by show _ = _; simp <;> omega)) (hS n) (by simp))) (term_ker v45 v46 _ _ _ n _ 4 t (fun c => w.wb 4 o _ c (by show _ = _; simp <;> omega)) (hS n) (by simp))) (term_ker v45 v46 _ _ _ n _ 5 t (fun c => w.wb 5 o _ c (by show _ = _; simp <;> omega)) (hS n) (by simp))) (term_ker v45 v46 _ _ _ n _ 6 t (fun c => w.wb 6 o _ c (by show _ = _; simp <;> omega)) (hS n) (by simp))) (term_ker v45 v46 _ _ _ n _ 7 t (fun c => w.wb 7 o _ c (by show _ = _; simp <;> omega)) (hS n) (by simp))) (term_ker v45 v46 _ _ _ n _ 8 t (fun c => w.wb 8 o _ c (by show _ = _; simp <;> omega)) (hS n) (by simp))) (term_ker v45 v46 _ _ _ n _ 9 t (fun c => w.wb 9 o _ c (by show _ = _; simp <;> omega)) (hS n) (by simp))) (term_ker v45 v46 _ _ _ n _ 10 t (fun c => w.wb 10 o _ c (by show _ = _; simp <;> omega)) (hS n) (by simp))) (term_ker v45 v46 _ _ _ n _ 11 t (fun c => w.wb 11 o _ c (by show _ = _; simp <;> omega)) (hS n) (by simp))) (w.bb o _ (by simp)))

/-- The blocks hold the thirteen groups. -/
structure Blocks (x0 : Vec Ideal S1x32x16x288 .f32) (x1 : Vec Ideal S1x32x16x288 .bf16) (x2 : Vec Ideal S1x32x16x300 .bf16) (x3 : Vec Ideal S1x32x16x300 .bf16) (x4 : Vec Ideal S1x32x16x288 .bf16) (x5 : Vec Ideal S1x32x16x300 .bf16) (x6 : Vec Ideal S1x32x16x300 .bf16) (x7 : Vec Ideal S1x32x16x288 .bf16) (x8 : Vec Ideal S1x32x16x300 .bf16) (x9 : Vec Ideal S1x32x16x300 .bf16) (x10 : Vec Ideal S1x32x16x288 .bf16) (x11 : Vec Ideal S1x32x16x300 .bf16) (x12 : Vec Ideal S1x32x16x300 .bf16) (x13 : Vec Ideal S1x32x16x12 .bf16) (x14 : Vec Ideal S1x32x16x12 .bf16) (x15 : Vec Ideal S1x32x16x12 .bf16) (x16 : Vec Ideal S1x32x16x12 .bf16) (G : Fin 16 → Fin 13 → Fin 32 → Fin 300 → EReal) : Prop where
  h0 : ∀ c n t, extE (fun t => x0 (ix4 0 c n t)) t = G n 0 c t
  h1 : ∀ c n t, glue (fun t => x1 (ix4 0 c n t)) (fun q => x13 (ix4 0 c n q)) t = G n 1 c t
  h2 : ∀ c n t, (x2 (ix4 0 c n t) : EReal) = G n 2 c t
  h3 : ∀ c n t, (x3 (ix4 0 c n t) : EReal) = G n 3 c t
  h4 : ∀ c n t, glue (fun t => x4 (ix4 0 c n t)) (fun q => x14 (ix4 0 c n q)) t = G n 4 c t
  h5 : ∀ c n t, (x5 (ix4 0 c n t) : EReal) = G n 5 c t
  h6 : ∀ c n t, (x6 (ix4 0 c n t) : EReal) = G n 6 c t
  h7 : ∀ c n t, glue (fun t => x7 (ix4 0 c n t)) (fun q => x15 (ix4 0 c n q)) t = G n 7 c t
  h8 : ∀ c n t, (x8 (ix4 0 c n t) : EReal) = G n 8 c t
  h9 : ∀ c n t, (x9 (ix4 0 c n t) : EReal) = G n 9 c t
  h10 : ∀ c n t, glue (fun t => x10 (ix4 0 c n t)) (fun q => x16 (ix4 0 c n q)) t = G n 10 c t
  h11 : ∀ c n t, (x11 (ix4 0 c n t) : EReal) = G n 11 c t
  h12 : ∀ c n t, (x12 (ix4 0 c n t) : EReal) = G n 12 c t

/-- The step before the first is zero. -/
theorem zero_before (v : S416x16x300.Idx → EReal) (h) (c : Fin 416) (n : Fin 16) (t : Fin 301) :
    (concatenate S416x16x301 2 [⟨S416x16x1, broadcast S416x16x1 (Scalar.ofBits (F := Ideal) .bf16 0x0000#16)⟩, ⟨S416x16x300, v⟩] h : S416x16x301.Idx → EReal) (ix3 c n t)
      = if h : t.val < 1 then 0 else v (ix3 c n ⟨t.val - 1, by omega⟩) := by
  pointwise

variable (x0 : Vec Ideal S1x32x16x288 .f32) (x1 : Vec Ideal S1x32x16x288 .bf16) (x2 : Vec Ideal S1x32x16x300 .bf16) (x3 : Vec Ideal S1x32x16x300 .bf16) (x4 : Vec Ideal S1x32x16x288 .bf16) (x5 : Vec Ideal S1x32x16x300 .bf16) (x6 : Vec Ideal S1x32x16x300 .bf16) (x7 : Vec Ideal S1x32x16x288 .bf16) (x8 : Vec Ideal S1x32x16x300 .bf16) (x9 : Vec Ideal S1x32x16x300 .bf16) (x10 : Vec Ideal S1x32x16x288 .bf16) (x11 : Vec Ideal S1x32x16x300 .bf16) (x12 : Vec Ideal S1x32x16x300 .bf16) (x13 : Vec Ideal S1x32x16x12 .bf16) (x14 : Vec Ideal S1x32x16x12 .bf16) (x15 : Vec Ideal S1x32x16x12 .bf16) (x16 : Vec Ideal S1x32x16x12 .bf16) (x17 : Vec Ideal S768x416 .bf16) (x18 : Vec Ideal S1x1x64 .f32) (x19 : Vec Ideal S32x32 .f32) (x20 : Vec Ideal S1x1x32 .f32) (x21 : Vec Ideal S32x32 .f32) (x22 : Vec Ideal S1x1x32 .f32) {G : Fin 16 → Fin 13 → Fin 32 → Fin 300 → EReal}
  {Wa Wb : Fin 32 → Fin 416 → Fin 12 → EReal} {ba bb : Fin 32 → EReal}

/-- The slab that the grid step joins together. -/
theorem slab_ker (B : Blocks x0 x1 x2 x3 x4 x5 x6 x7 x8 x9 x10 x11 x12 x13 x14 x15 x16 G) (n : Fin 16) (c : Fin 416) (t : Fin 301) :
    Gen.k3_pay14 x0 x1 x2 x3 x4 x5 x6 x7 x8 x9 x10 x11 x12 x13 x14 x15 x16 x17 x18 x19 x20 x21 x22 (ix3 c n t) = slab (G n) c t := by
  rw [Gen.k3_pay14, View.ld_unit_lit' _ x0 (by decide), View.ld_unit_lit' _ x1 (by decide), View.ld_unit_lit' _ x2 (by decide), View.ld_unit_lit' _ x3 (by decide), View.ld_unit_lit' _ x4 (by decide), View.ld_unit_lit' _ x5 (by decide), View.ld_unit_lit' _ x6 (by decide), View.ld_unit_lit' _ x7 (by decide), View.ld_unit_lit' _ x8 (by decide), View.ld_unit_lit' _ x9 (by decide), View.ld_unit_lit' _ x10 (by decide), View.ld_unit_lit' _ x11 (by decide), View.ld_unit_lit' _ x12 (by decide), View.ld_unit_lit' _ x13 (by decide), View.ld_unit_lit' _ x14 (by decide), View.ld_unit_lit' _ x15 (by decide), View.ld_unit_lit' _ x16 (by decide)]
  unfold Gen.k3_pay9
  refine (zero_before _ _ c n t).trans ?_
  unfold slab
  split
  · rfl
  refine (cat3 _ _ _ _ _ _ _ _ _ _ _ _ _ _ c n _).trans (pick_congr (N := 13) (fun g c => ?_) c)
  generalize (⟨t.val - 1, _⟩ : Fin 300) = s
  match g with
  | ⟨0, _⟩ => exact (by pointwise [Gen.k3_pay3]; exact B.h0 c n s)
  | ⟨1, _⟩ => exact (by pointwise [Gen.k3_pay4]; exact B.h1 c n s)
  | ⟨2, _⟩ => exact (by pointwise [Gen.k3_pay5]; exact B.h2 c n s)
  | ⟨3, _⟩ => exact (by pointwise [Gen.k3_pay6]; exact B.h3 c n s)
  | ⟨4, _⟩ => exact (by pointwise [Gen.k3_pay7]; exact B.h4 c n s)
  | ⟨5, _⟩ => exact (by pointwise [Gen.k3_pay8]; exact B.h5 c n s)
  | ⟨6, _⟩ => exact (by pointwise; exact B.h6 c n s)
  | ⟨7, _⟩ => exact (by pointwise; exact B.h7 c n s)
  | ⟨8, _⟩ => exact (by pointwise; exact B.h8 c n s)
  | ⟨9, _⟩ => exact (by pointwise; exact B.h9 c n s)
  | ⟨10, _⟩ => exact (by pointwise; exact B.h10 c n s)
  | ⟨11, _⟩ => exact (by pointwise; exact B.h11 c n s)
  | ⟨12, _⟩ => exact (by pointwise; exact B.h12 c n s)

/-- What the body stores in window 23. -/
theorem out23 (B : Blocks x0 x1 x2 x3 x4 x5 x6 x7 x8 x9 x10 x11 x12 x13 x14 x15 x16 G) (w : Weights x17 x18 Wa Wb ba bb) (o : Fin 32) (n : Fin 16) (u : Fin 278) :
    Gen.out3_23 x0 x1 x2 x3 x4 x5 x6 x7 x8 x9 x10 x11 x12 x13 x14 x15 x16 x17 x18 x19 x20 x21 x22 (ix4 0 o n u)
      = project (fun o' => x19 (ix2 o o')) (x20 (ix3 0 0 o)) (fun o' => gateAt (Wa o') (Wb o') (ba o') (bb o') (shifts (slab (G n)) ⟨u.val, by omega⟩)) := by
  unfold Gen.out3_23; frame_out
  pointwise [Gen.k3_pay1, Gen.k3_pay11]
  exact congrArg₂ (fun p q : EReal => p + q) (Finset.sum_congr rfl fun o' _ => congrArg₂ (fun p q : EReal => p * q) rfl (gate_ker _ _ _ w (fun n c i => slab_ker _ _ _ _ _ _ _ _ _ _ _ _ _ _ _ _ _ _ _ _ _ _ _ B n c i) o' n _)) rfl

/-- What the body stores in window 24. -/
theorem out24 (B : Blocks x0 x1 x2 x3 x4 x5 x6 x7 x8 x9 x10 x11 x12 x13 x14 x15 x16 G) (w : Weights x17 x18 Wa Wb ba bb) (o : Fin 32) (n : Fin 16) (u : Fin 12) :
    Gen.out3_24 x0 x1 x2 x3 x4 x5 x6 x7 x8 x9 x10 x11 x12 x13 x14 x15 x16 x17 x18 x19 x20 x21 x22 (ix4 0 o n u)
      = project (fun o' => x21 (ix2 o o')) (x22 (ix3 0 0 o)) (fun o' => gateAt (Wa o') (Wb o') (ba o') (bb o') (shifts (slab (G n)) ⟨278 + u.val, by omega⟩)) := by
  unfold Gen.out3_24; frame_out
  pointwise [Gen.k3_pay2, Gen.k3_pay12, Gen.k3_pay13]
  exact congrArg₂ (fun p q : EReal => p + q) (Finset.sum_congr rfl fun o' _ => congrArg₂ (fun p q : EReal => p * q) rfl (gate_ker _ _ _ w (fun n c i => slab_ker _ _ _ _ _ _ _ _ _ _ _ _ _ _ _ _ _ _ _ _ _ _ _ B n c i) o' n _)) rfl

end Cert.Chain
-- ==== Proof.ConvBlk.lean ====
/- The arrays that the gated convolution leaves. -/
module

public import proofs.«01_k».proof.Proof.ConvOut
public import Idealize.ShloMosaic.Lib.Pipeline.Covers

@[expose] public section

set_option maxRecDepth 16384

noncomputable section

namespace Cert.Chain

open Idealize.ShloMosaic Idealize.ShloMosaic.TcCoe Cert.KernelIdeal

variable (V : (c : Dev nD) → (b : Ref sig .tc) → Buf (Elt Ideal) ((c : Thread nD τ).loc b)) (c : Dev nD)

/-- The row of the batch that a grid point handles. -/
def batch (t : Fin cfg3.N) : Fin 4 := ⟨t.val / 16, by have h : t.val < 64 := t.isLt; omega⟩

/-- The node that a grid point's local node stands for. -/
def node (t : Fin cfg3.N) (n : Fin 16) : Fin 256 := ⟨t.val % 16 * 16 + n.val, by omega⟩

/-- What the convolution is entered with. -/
structure ConvEntry (G : Fin 4 → Fin 256 → Fin 13 → Fin 32 → Fin 300 → EReal) (Wa Wb : Fin 32 → Fin 416 → Fin 12 → EReal) (ba bb : Fin 32 → EReal) : Prop where
  h0 : ∀ b n i t, extE (fun t => V c main_arg0 (ix4 b i n t)) t = G b n 0 i t
  h1 : ∀ b n i t, glue (fun t => V c main_v105 (ix4 b i n t)) (fun q => V c main_v86 (ix4 b i n q)) t = G b n 1 i t
  h2 : ∀ b n i t, (V c main_v106 (ix4 b i n t) : EReal) = G b n 2 i t
  h3 : ∀ b n i t, (V c main_v107 (ix4 b i n t) : EReal) = G b n 3 i t
  h4 : ∀ b n i t, glue (fun t => V c main_v108 (ix4 b i n t)) (fun q => V c main_v88 (ix4 b i n q)) t = G b n 4 i t
  h5 : ∀ b n i t, (V c main_v109 (ix4 b i n t) : EReal) = G b n 5 i t
  h6 : ∀ b n i t, (V c main_v110 (ix4 b i n t) : EReal) = G b n 6 i t
  h7 : ∀ b n i t, glue (fun t => V c main_v111 (ix4 b i n t)) (fun q => V c main_v90 (ix4 b i n q)) t = G b n 7 i t
  h8 : ∀ b n i t, (V c main_v112 (ix4 b i n t) : EReal) = G b n 8 i t
  h9 : ∀ b n i t, (V c main_v113 (ix4 b i n t) : EReal) = G b n 9 i t
  h10 : ∀ b n i t, glue (fun t => V c main_v114 (ix4 b i n t)) (fun q => V c main_v92 (ix4 b i n q)) t = G b n 10 i t
  h11 : ∀ b n i t, (V c main_v115 (ix4 b i n t) : EReal) = G b n 11 i t
  h12 : ∀ b n i t, (V c main_v116 (ix4 b i n t) : EReal) = G b n 12 i t
  w : Weights (V c main_v98) (V c main_v100) Wa Wb ba bb

/-- The block of window 0 at a point. -/
theorem J0 : ∀ t : Fin cfg3.N, win3_0.index t = ![t.val / 16, 0, t.val % 16, 0] := by decide +kernel
/-- The block of window 1 at a point. -/
theorem J1 : ∀ t : Fin cfg3.N, win3_1.index t = ![t.val / 16, 0, t.val % 16, 0] := by decide +kernel
/-- The block of window 2 at a point. -/
theorem J2 : ∀ t : Fin cfg3.N, win3_2.index t = ![t.val / 16, 0, t.val % 16, 0] := by decide +kernel
/-- The block of window 3 at a point. -/
theorem J3 : ∀ t : Fin cfg3.N, win3_3.index t = ![t.val / 16, 0, t.val % 16, 0] := by decide +kernel
/-- The block of window 4 at a point. -/
theorem J4 : ∀ t : Fin cfg3.N, win3_4.index t = ![t.val / 16, 0, t.val % 16, 0] := by decide +kernel
/-- The block of window 5 at a point. -/
theorem J5 : ∀ t : Fin cfg3.N, win3_5.index t = ![t.val / 16, 0, t.val % 16, 0] := by decide +kernel
/-- The block of window 6 at a point. -/
theorem J6 : ∀ t : Fin cfg3.N, win3_6.index t = ![t.val / 16, 0, t.val % 16, 0] := by decide +kernel
/-- The block of window 7 at a point. -/
theorem J7 : ∀ t : Fin cfg3.N, win3_7.index t = ![t.val / 16, 0, t.val % 16, 0] := by decide +kernel
/-- The block of window 8 at a point. -/
theorem J8 : ∀ t : Fin cfg3.N, win3_8.index t = ![t.val / 16, 0, t.val % 16, 0] := by decide +kernel
/-- The block of window 9 at a point. -/
theorem J9 : ∀ t : Fin cfg3.N, win3_9.index t = ![t.val / 16, 0, t.val % 16, 0] := by decide +kernel
/-- The block of window 10 at a point. -/
theorem J10 : ∀ t : Fin cfg3.N, win3_10.index t = ![t.val / 16, 0, t.val % 16, 0] := by decide +kernel
/-- The block of window 11 at a point. -/
theorem J11 : ∀ t : Fin cfg3.N, win3_11.index t = ![t.val / 16, 0, t.val % 16, 0] := by decide +kernel
/-- The block of window 12 at a point. -/
theorem J12 : ∀ t : Fin cfg3.N, win3_12.index t = ![t.val / 16, 0, t.val % 16, 0] := by decide +kernel
/-- The block of window 13 at a point. -/
theorem J13 : ∀ t : Fin cfg3.N, win3_13.index t = ![t.val / 16, 0, t.val % 16, 0] := by decide +kernel
/-- The block of window 14 at a point. -/
theorem J14 : ∀ t : Fin cfg3.N, win3_14.index t = ![t.val / 16, 0, t.val % 16, 0] := by decide +kernel
/-- The block of window 15 at a point. -/
theorem J15 : ∀ t : Fin cfg3.N, win3_15.index t = ![t.val / 16, 0, t.val % 16, 0] := by decide +kernel
/-- The block of window 16 at a point. -/
theorem J16 : ∀ t : Fin cfg3.N, win3_16.index t = ![t.val / 16, 0, t.val % 16, 0] := by decide +kernel
/-- The block of window 23 at a point. -/
theorem J23 : ∀ t : Fin cfg3.N, win3_23.index t = ![t.val / 16, 0, t.val % 16, 0] := by decide +kernel
/-- The block of window 24 at a point. -/
theorem J24 : ∀ t : Fin cfg3.N, win3_24.index t = ![t.val / 16, 0, t.val % 16, 0] := by decide +kernel
/-- The block of window 17 at a point. -/
theorem J17 : ∀ t : Fin cfg3.N, win3_17.index t = ![0, 0] := by decide +kernel
/-- The block of window 18 at a point. -/
theorem J18 : ∀ t : Fin cfg3.N, win3_18.index t = ![0, 0, 0] := by decide +kernel
/-- The block of window 19 at a point. -/
theorem J19 : ∀ t : Fin cfg3.N, win3_19.index t = ![0, 0] := by decide +kernel
/-- The block of window 20 at a point. -/
theorem J20 : ∀ t : Fin cfg3.N, win3_20.index t = ![0, 0, 0] := by decide +kernel
/-- The block of window 21 at a point. -/
theorem J21 : ∀ t : Fin cfg3.N, win3_21.index t = ![0, 0] := by decide +kernel
/-- The block of window 22 at a point. -/
theorem J22 : ∀ t : Fin cfg3.N, win3_22.index t = ![0, 0, 0] := by decide +kernel

/-- Window 0's block, in its array. -/
theorem D0 (t : Fin cfg3.N) (i : Fin 32) (n : Fin 16) (s : Fin 288) : Gen.iblk3 V c 0 t (ix4 0 i n s) = V c main_arg0 (ix4 (batch t) i (node t n) s) := by
  blk_ext [Gen.iblk3, J0 t, batch, node]
/-- Window 1's block, in its array. -/
theorem D1 (t : Fin cfg3.N) (i : Fin 32) (n : Fin 16) (s : Fin 288) : Gen.iblk3 V c 1 t (ix4 0 i n s) = V c main_v105 (ix4 (batch t) i (node t n) s) := by
  blk_ext [Gen.iblk3, J1 t, batch, node]
/-- Window 2's block, in its array. -/
theorem D2 (t : Fin cfg3.N) (i : Fin 32) (n : Fin 16) (s : Fin 300) : Gen.iblk3 V c 2 t (ix4 0 i n s) = V c main_v106 (ix4 (batch t) i (node t n) s) := by
  blk_ext [Gen.iblk3, J2 t, batch, node]
/-- Window 3's block, in its array. -/
theorem D3 (t : Fin cfg3.N) (i : Fin 32) (n : Fin 16) (s : Fin 300) : Gen.iblk3 V c 3 t (ix4 0 i n s) = V c main_v107 (ix4 (batch t) i (node t n) s) := by
  blk_ext [Gen.iblk3, J3 t, batch, node]
/-- Window 4's block, in its array. -/
theorem D4 (t : Fin cfg3.N) (i : Fin 32) (n : Fin 16) (s : Fin 288) : Gen.iblk3 V c 4 t (ix4 0 i n s) = V c main_v108 (ix4 (batch t) i (node t n) s) := by
  blk_ext [Gen.iblk3, J4 t, batch, node]
/-- Window 5's block, in its array. -/
theorem D5 (t : Fin cfg3.N) (i : Fin 32) (n : Fin 16) (s : Fin 300) : Gen.iblk3 V c 5 t (ix4 0 i n s) = V c main_v109 (ix4 (batch t) i (node t n) s) := by
  blk_ext [Gen.iblk3, J5 t, batch, node]
/-- Window 6's block, in its array. -/
theorem D6 (t : Fin cfg3.N) (i : Fin 32) (n : Fin 16) (s : Fin 300) : Gen.iblk3 V c 6 t (ix4 0 i n s) = V c main_v110 (ix4 (batch t) i (node t n) s) := by
  blk_ext [Gen.iblk3, J6 t, batch, node]
/-- Window 7's block, in its array. -/
theorem D7 (t : Fin cfg3.N) (i : Fin 32) (n : Fin 16) (s : Fin 288) : Gen.iblk3 V c 7 t (ix4 0 i n s) = V c main_v111 (ix4 (batch t) i (node t n) s) := by
  blk_ext [Gen.iblk3, J7 t, batch, node]
/-- Window 8's block, in its array. -/
theorem D8 (t : Fin cfg3.N) (i : Fin 32) (n : Fin 16) (s : Fin 300) : Gen.iblk3 V c 8 t (ix4 0 i n s) = V c main_v112 (ix4 (batch t) i (node t n) s) := by
  blk_ext [Gen.iblk3, J8 t, batch, node]
/-- Window 9's block, in its array. -/
theorem D9 (t : Fin cfg3.N) (i : Fin 32) (n : Fin 16) (s : Fin 300) : Gen.iblk3 V c 9 t (ix4 0 i n s) = V c main_v113 (ix4 (batch t) i (node t n) s) := by
  blk_ext [Gen.iblk3, J9 t, batch, node]
/-- Window 10's block, in its array. -/
theorem D10 (t : Fin cfg3.N) (i : Fin 32) (n : Fin 16) (s : Fin 288) : Gen.iblk3 V c 10 t (ix4 0 i n s) = V c main_v114 (ix4 (batch t) i (node t n) s) := by
  blk_ext [Gen.iblk3, J10 t, batch, node]
/-- Window 11's block, in its array. -/
theorem D11 (t : Fin cfg3.N) (i : Fin 32) (n : Fin 16) (s : Fin 300) : Gen.iblk3 V c 11 t (ix4 0 i n s) = V c main_v115 (ix4 (batch t) i (node t n) s) := by
  blk_ext [Gen.iblk3, J11 t, batch, node]
/-- Window 12's block, in its array. -/
theorem D12 (t : Fin cfg3.N) (i : Fin 32) (n : Fin 16) (s : Fin 300) : Gen.iblk3 V c 12 t (ix4 0 i n s) = V c main_v116 (ix4 (batch t) i (node t n) s) := by
  blk_ext [Gen.iblk3, J12 t, batch, node]
/-- Window 13's block, in its array. -/
theorem D13 (t : Fin cfg3.N) (i : Fin 32) (n : Fin 16) (s : Fin 12) : Gen.iblk3 V c 13 t (ix4 0 i n s) = V c main_v86 (ix4 (batch t) i (node t n) s) := by
  blk_ext [Gen.iblk3, J13 t, batch, node]
/-- Window 14's block, in its array. -/
theorem D14 (t : Fin cfg3.N) (i : Fin 32) (n : Fin 16) (s : Fin 12) : Gen.iblk3 V c 14 t (ix4 0 i n s) = V c main_v88 (ix4 (batch t) i (node t n) s) := by
  blk_ext [Gen.iblk3, J14 t, batch, node]
/-- Window 15's block, in its array. -/
theorem D15 (t : Fin cfg3.N) (i : Fin 32) (n : Fin 16) (s : Fin 12) : Gen.iblk3 V c 15 t (ix4 0 i n s) = V c main_v90 (ix4 (batch t) i (node t n) s) := by
  blk_ext [Gen.iblk3, J15 t, batch, node]
/-- Window 16's block, in its array. -/
theorem D16 (t : Fin cfg3.N) (i : Fin 32) (n : Fin 16) (s : Fin 12) : Gen.iblk3 V c 16 t (ix4 0 i n s) = V c main_v92 (ix4 (batch t) i (node t n) s) := by
  blk_ext [Gen.iblk3, J16 t, batch, node]
/-- Window 17's block, in its array. -/
theorem D17 (t : Fin cfg3.N) (p : Fin 768) (q : Fin 416) : Gen.iblk3 V c 17 t (ix2 p q) = V c main_v98 (ix2 p q) := by
  blk_ext [Gen.iblk3, J17 t]
/-- Window 18's block, in its array. -/
theorem D18 (t : Fin cfg3.N) (p : Fin 1) (q : Fin 1) (r : Fin 64) : Gen.iblk3 V c 18 t (ix3 p q r) = V c main_v100 (ix3 p q r) := by
  blk_ext [Gen.iblk3, J18 t]
/-- Window 19's block, in its array. -/
theorem D19 (t : Fin cfg3.N) (p : Fin 32) (q : Fin 32) : Gen.iblk3 V c 19 t (ix2 p q) = V c main_v101 (ix2 p q) := by
  blk_ext [Gen.iblk3, J19 t]
/-- Window 20's block, in its array. -/
theorem D20 (t : Fin cfg3.N) (p : Fin 1) (q : Fin 1) (r : Fin 32) : Gen.iblk3 V c 20 t (ix3 p q r) = V c main_v102 (ix3 p q r) := by
  blk_ext [Gen.iblk3, J20 t]
/-- Window 21's block, in its array. -/
theorem D21 (t : Fin cfg3.N) (p : Fin 32) (q : Fin 32) : Gen.iblk3 V c 21 t (ix2 p q) = V c main_v103 (ix2 p q) := by
  blk_ext [Gen.iblk3, J21 t]
/-- Window 22's block, in its array. -/
theorem D22 (t : Fin cfg3.N) (p : Fin 1) (q : Fin 1) (r : Fin 32) : Gen.iblk3 V c 22 t (ix3 p q r) = V c main_v104 (ix3 p q r) := by
  blk_ext [Gen.iblk3, J22 t]

variable {V c} {G : Fin 4 → Fin 256 → Fin 13 → Fin 32 → Fin 300 → EReal} {Wa Wb : Fin 32 → Fin 416 → Fin 12 → EReal} {ba bb : Fin 32 → EReal}

/-- The blocks at a grid point hold the groups and the weights. -/
theorem ConvEntry.body (E : ConvEntry V c G Wa Wb ba bb) (t : Fin cfg3.N) :
    Blocks (Gen.iblk3 V c 0 t) (Gen.iblk3 V c 1 t) (Gen.iblk3 V c 2 t) (Gen.iblk3 V c 3 t) (Gen.iblk3 V c 4 t) (Gen.iblk3 V c 5 t) (Gen.iblk3 V c 6 t) (Gen.iblk3 V c 7 t) (Gen.iblk3 V c 8 t) (Gen.iblk3 V c 9 t) (Gen.iblk3 V c 10 t) (Gen.iblk3 V c 11 t) (Gen.iblk3 V c 12 t) (Gen.iblk3 V c 13 t) (Gen.iblk3 V c 14 t) (Gen.iblk3 V c 15 t) (Gen.iblk3 V c 16 t) (fun n => G (batch t) (node t n)) ∧ Weights (Gen.iblk3 V c 17 t) (Gen.iblk3 V c 18 t) Wa Wb ba bb := by
  constructor
  · exact {
    h0 := fun i n s => (congrArg (fun p => extE p s) (funext fun _ => D0 V c t _ _ _)).trans (E.h0 _ _ i s)
    h1 := fun i n s => (congrArg₂ (fun p r => glue p r s) (funext fun _ => D1 V c t _ _ _) (funext fun _ => D13 V c t _ _ _)).trans (E.h1 _ _ i s)
    h2 := fun i n s => (D2 V c t i n s).trans (E.h2 _ _ i s)
    h3 := fun i n s => (D3 V c t i n s).trans (E.h3 _ _ i s)
    h4 := fun i n s => (congrArg₂ (fun p r => glue p r s) (funext fun _ => D4 V c t _ _ _) (funext fun _ => D14 V c t _ _ _)).trans (E.h4 _ _ i s)
    h5 := fun i n s => (D5 V c t i n s).trans (E.h5 _ _ i s)
    h6 := fun i n s => (D6 V c t i n s).trans (E.h6 _ _ i s)
    h7 := fun i n s => (congrArg₂ (fun p r => glue p r s) (funext fun _ => D7 V c t _ _ _) (funext fun _ => D15 V c t _ _ _)).trans (E.h7 _ _ i s)
    h8 := fun i n s => (D8 V c t i n s).trans (E.h8 _ _ i s)
    h9 := fun i n s => (D9 V c t i n s).trans (E.h9 _ _ i s)
    h10 := fun i n s => (congrArg₂ (fun p r => glue p r s) (funext fun _ => D10 V c t _ _ _) (funext fun _ => D16 V c t _ _ _)).trans (E.h10 _ _ i s)
    h11 := fun i n s => (D11 V c t i n s).trans (E.h11 _ _ i s)
    h12 := fun i n s => (D12 V c t i n s).trans (E.h12 _ _ i s) }
  · exact {
    wa := fun k o r i h => (D17 V c t r i).trans (E.w.wa k o r i h)
    wb := fun k o r i h => (D17 V c t r i).trans (E.w.wb k o r i h)
    ba := fun o r h => (D18 V c t 0 0 r).trans (E.w.ba o r h)
    bb := fun o r h => (D18 V c t 0 0 r).trans (E.w.bb o r h) }

end Cert.Chain
-- ==== Proof.ConvArr.lean ====
/- The arrays that the gated convolution leaves. -/
module

public import proofs.«01_k».proof.Proof.ConvBlk
public import Idealize.ShloMosaic.Lib.Pipeline.Covers

@[expose] public section

set_option maxRecDepth 16384

noncomputable section

namespace Cert.Chain

open Idealize.ShloMosaic Idealize.ShloMosaic.TcCoe Cert.KernelIdeal

variable {V : (c : Dev nD) → (b : Ref sig .tc) → Buf (Elt Ideal) ((c : Thread nD τ).loc b)} {c : Dev nD} {G : Fin 4 → Fin 256 → Fin 13 → Fin 32 → Fin 300 → EReal} {Wa Wb : Fin 32 → Fin 416 → Fin 12 → EReal} {ba bb : Fin 32 → EReal}

/-- One entry of window 23's array. -/
def res23 (R : S32x32.Idx → EReal) (r : S1x1x32.Idx → EReal) (G : Fin 4 → Fin 256 → Fin 13 → Fin 32 → Fin 300 → EReal) (Wa Wb : Fin 32 → Fin 416 → Fin 12 → EReal) (ba bb : Fin 32 → EReal)
    (b : Fin 4) (o : Fin 32) (n : Fin 256) (u : Fin 278) : EReal :=
  project (fun o' => R (ix2 o o')) (r (ix3 0 0 o)) (fun o' => gateAt (Wa o') (Wb o') (ba o') (bb o') (shifts (slab (G b n)) ⟨u.val, by omega⟩))

/-- Where an entry of window 23's block lies in its array. -/
theorem emb23 (t : Fin cfg3.N) (i : Fin 32) (n : Fin 16) (u : Fin 278) : ((View.whole main_v117_0).slice (win3_23.rect t)).emb (ix4 0 i n u) = ix4 (batch t) i (node t n) u := by
  blk_ext [J23 t, batch, node]

/-- What the gated products leave in window 23 at a point. -/
theorem ConvEntry.step23 (E : ConvEntry V c G Wa Wb ba bb) (t : Fin cfg3.N) (o : Fin 32) (n : Fin 16) (u : Fin 278) :
    (Gen.dat3 V c).after 23 t (ix4 0 o n u) = res23 (V c main_v101) (V c main_v102) G Wa Wb ba bb (batch t) o (node t n) u := by
  rw [Gen.after3_23]
  refine (out23 _ _ _ _ _ _ _ _ _ _ _ _ _ _ _ _ _ _ _ _ _ _ _ (E.body t).1 (E.body t).2 o n u).trans ?_
  unfold res23
  refine congrArg₂ (fun p q => project p q _) (funext fun o' => ?_) ?_
  · exact D19 V c t _ _
  · exact D20 V c t _ _ _

/-- Window 23's array as a function of its index. -/
def fun23 (R : S32x32.Idx → EReal) (r : S1x1x32.Idx → EReal) (G : Fin 4 → Fin 256 → Fin 13 → Fin 32 → Fin 300 → EReal) (Wa Wb : Fin 32 → Fin 416 → Fin 12 → EReal) (ba bb : Fin 32 → EReal)
    (i : S4x32x256x278.Idx) : EReal := res23 R r G Wa Wb ba bb (i 0) (i 1) (i 2) (i 3)

/-- What the array of window 23 holds at the end. -/
theorem ConvEntry.arr23 (E : ConvEntry V c G Wa Wb ba bb) (b : Fin 4) (o : Fin 32) (n : Fin 256) (u : Fin 278) :
    (Gen.dat3 V c).arrAt 23 cfg3.N (ix4 b o n u) = res23 (V c main_v101) (V c main_v102) G Wa Wb ba bb b o n u := by
  have h := (Gen.dat3 V c).arrAt_eq_of_covers 23 (fun23 (V c main_v101) (V c main_v102) G Wa Wb ba bb) (by decide +kernel) fun t hf y => ?_
  · exact congrFun h _
  blk_simp
  idx_vars y
  obtain rfl : y0 = 0 := Subsingleton.elim _ _
  exact (E.step23 t y1 y2 y3).trans (congrArg (fun23 (V c main_v101) (V c main_v102) G Wa Wb ba bb) (emb23 t y1 y2 y3)).symm

/-- One entry of window 24's array. -/
def res24 (R : S32x32.Idx → EReal) (r : S1x1x32.Idx → EReal) (G : Fin 4 → Fin 256 → Fin 13 → Fin 32 → Fin 300 → EReal) (Wa Wb : Fin 32 → Fin 416 → Fin 12 → EReal) (ba bb : Fin 32 → EReal)
    (b : Fin 4) (o : Fin 32) (n : Fin 256) (u : Fin 12) : EReal :=
  project (fun o' => R (ix2 o o')) (r (ix3 0 0 o)) (fun o' => gateAt (Wa o') (Wb o') (ba o') (bb o') (shifts (slab (G b n)) ⟨278 + u.val, by omega⟩))

/-- Where an entry of window 24's block lies in its array. -/
theorem emb24 (t : Fin cfg3.N) (i : Fin 32) (n : Fin 16) (u : Fin 12) : ((View.whole main_v117_1).slice (win3_24.rect t)).emb (ix4 0 i n u) = ix4 (batch t) i (node t n) u := by
  blk_ext [J24 t, batch, node]

/-- What the gated products leave in window 24 at a point. -/
theorem ConvEntry.step24 (E : ConvEntry V c G Wa Wb ba bb) (t : Fin cfg3.N) (o : Fin 32) (n : Fin 16) (u : Fin 12) :
    (Gen.dat3 V c).after 24 t (ix4 0 o n u) = res24 (V c main_v103) (V c main_v104) G Wa Wb ba bb (batch t) o (node t n) u := by
  rw [Gen.after3_24]
  refine (out24 _ _ _ _ _ _ _ _ _ _ _ _ _ _ _ _ _ _ _ _ _ _ _ (E.body t).1 (E.body t).2 o n u).trans ?_
  unfold res24
  refine congrArg₂ (fun p q => project p q _) (funext fun o' => ?_) ?_
  · exact D21 V c t _ _
  · exact D22 V c t _ _ _

/-- Window 24's array as a function of its index. -/
def fun24 (R : S32x32.Idx → EReal) (r : S1x1x32.Idx → EReal) (G : Fin 4 → Fin 256 → Fin 13 → Fin 32 → Fin 300 → EReal) (Wa Wb : Fin 32 → Fin 416 → Fin 12 → EReal) (ba bb : Fin 32 → EReal)
    (i : S4x32x256x12.Idx) : EReal := res24 R r G Wa Wb ba bb (i 0) (i 1) (i 2) (i 3)

/-- What the array of window 24 holds at the end. -/
theorem ConvEntry.arr24 (E : ConvEntry V c G Wa Wb ba bb) (b : Fin 4) (o : Fin 32) (n : Fin 256) (u : Fin 12) :
    (Gen.dat3 V c).arrAt 24 cfg3.N (ix4 b o n u) = res24 (V c main_v103) (V c main_v104) G Wa Wb ba bb b o n u := by
  have h := (Gen.dat3 V c).arrAt_eq_of_covers 24 (fun24 (V c main_v103) (V c main_v104) G Wa Wb ba bb) (by decide +kernel) fun t hf y => ?_
  · exact congrFun h _
  blk_simp
  idx_vars y
  obtain rfl : y0 = 0 := Subsingleton.elim _ _
  exact (E.step24 t y1 y2 y3).trans (congrArg (fun24 (V c main_v103) (V c main_v104) G Wa Wb ba bb) (emb24 t y1 y2 y3)).symm

end Cert.Chain
-- ==== Proof.KerConv.lean ====
/- What the gated products are entered with. -/
module

public import proofs.«01_k».proof.Proof.KerChain
public import proofs.«01_k».proof.Proof.HostConv
public import proofs.«01_k».proof.Proof.ConvArr

@[expose] public section

set_option maxRecDepth 16384

noncomputable section

namespace Cert.Chain

open Idealize.ShloMosaic Idealize.ShloMosaic.TcCoe Cert.KernelIdeal

variable (m : (ℓ : Loc nD τ sig) → Buf (Elt Ideal) ℓ) (ρ : Dev nD → PrngReg) (c : Dev nD)
variable {Q : Fin 4 → Fin 32 → Plane} {e : Fin 256 → Fin 16 → ℝ}

/-- Contents that the extrapolation leaves alone. -/
theorem W10_W8 (r : Ref sig .tc) (h1 : r ∉ Gen.hostOps2_W) (h2 : ∀ w : Fin cfg2.W, Pipeline.arrRef spec2 w = r → (cfg2.win w).isOut = false) :
    Gen.W10 m ρ c (Proc.devRef .tc r) = Gen.W8 m ρ c (Proc.devRef .tc r) :=
  (Gen.W10_of m ρ c r h2).trans (Gen.W9_of m ρ c r h1)

/-- A real plane with further steps. -/
theorem extE_coe (f : Fin 288 → EReal) (x : Plane) (n : Fin 256) (h : ∀ t, f t = (x n t : EReal)) (t : Fin 300) : extE f t = (extC x n t : EReal) := by
  unfold extE extC
  split
  · exact h _
  · exact h _

/-- The packed weights, from the launch contents. -/
theorem ker_weights : Weights (Gen.V11 m ρ c main_v98) (Gen.V11 m ρ c main_v100)
    (fun o ch k => m ((c : Thread nD τ).loc main_arg2) (ix4 o ch 0 k)) (fun o ch k => m ((c : Thread nD τ).loc main_arg4) (ix4 o ch 0 k))
    (fun o => m ((c : Thread nD τ).loc main_arg3) (ix1 o)) (fun o => m ((c : Thread nD τ).loc main_arg5) (ix1 o)) where
  wa k o r ch h := by
    refine (host_v98 (Gen.W10 m ρ c) r ch).trans ?_
    rw [dif_pos (show r.val % 64 < 32 by omega), Gen.W10_args m ρ c main_arg2 (by decide)]
    refine congrArg (m ((c : Thread nD τ).loc main_arg2)) (congrArg₂ (fun p q => (ix4 p ch 0 q : S32x416x1x12.Idx)) (Fin.ext ?_) (Fin.ext ?_))
    · show r.val % 64 = o.val; omega
    · show r.val / 64 = k.val; omega
  wb k o r ch h := by
    refine (host_v98 (Gen.W10 m ρ c) r ch).trans ?_
    rw [dif_neg (show ¬ r.val % 64 < 32 by omega), Gen.W10_args m ρ c main_arg4 (by decide)]
    refine congrArg (m ((c : Thread nD τ).loc main_arg4)) (congrArg₂ (fun p q => (ix4 p ch 0 q : S32x416x1x12.Idx)) (Fin.ext ?_) (Fin.ext ?_))
    · show r.val % 64 - 32 = o.val; omega
    · show r.val / 64 = k.val; omega
  ba o r h := by
    refine (host_v100 (Gen.W10 m ρ c) r).trans ?_
    rw [dif_pos (show r.val < 32 by omega), Gen.W10_args m ρ c main_arg3 (by decide)]
    exact congrArg (fun p => m ((c : Thread nD τ).loc main_arg3) (ix1 p)) (Fin.ext h)
  bb o r h := by
    refine (host_v100 (Gen.W10 m ρ c) r).trans ?_
    rw [dif_neg (show ¬ r.val < 32 by omega), Gen.W10_args m ρ c main_arg5 (by decide)]
    exact congrArg (fun p => m ((c : Thread nD τ).loc main_arg5) (ix1 p)) (Fin.ext (by show r.val - 32 = o.val; omega))

/-- Input 1 of the gated products. -/
theorem Launch.conv1 (L : Launch m c Q e) (b : Fin 4) (n : Fin 256) (i : Fin 32) (t : Fin 300) :
    glue (fun t => Gen.V11 m ρ c main_v105 (ix4 b i n t)) (fun q => Gen.V11 m ρ c main_v86 (ix4 b i n q)) t
      = groups (Q b) (win 48) sea (win 12) (adj e) (kerFurther m c) n 1 i t := by
  refine congrArg₂ (fun p r => glue p r t) (funext fun t => ?_) (funext fun q => ?_)
  · refine (host_v105 (Gen.W10 m ρ c) b i n t).trans ?_
    rw [W10_W8 m ρ c main_v57_0 (by decide) (by decide)]
    exact L.chain0 m ρ c b i n t _
  · exact (host_v86 (Gen.W10 m ρ c) b i n q).trans (L.rex0 m ρ c b n i q)

/-- Input 2 of the gated products. -/
theorem Launch.conv2 (L : Launch m c Q e) (b : Fin 4) (n : Fin 256) (i : Fin 32) (t : Fin 300) :
    (Gen.V11 m ρ c main_v106 (ix4 b i n t) : EReal) = groups (Q b) (win 48) sea (win 12) (adj e) (kerFurther m c) n 2 i t := by
  refine (host_v106 (Gen.W10 m ρ c) b i n t).trans ?_
  rw [W10_W8 m ρ c main_v57_1 (by decide) (by decide)]
  exact L.chain1 m ρ c b i n t _

/-- Input 3 of the gated products. -/
theorem Launch.conv3 (L : Launch m c Q e) (b : Fin 4) (n : Fin 256) (i : Fin 32) (t : Fin 300) :
    (Gen.V11 m ρ c main_v107 (ix4 b i n t) : EReal) = groups (Q b) (win 48) sea (win 12) (adj e) (kerFurther m c) n 3 i t := by
  refine (host_v107 (Gen.W10 m ρ c) b i n t).trans ?_
  rw [W10_W8 m ρ c main_v57_2 (by decide) (by decide)]
  exact L.chain2 m ρ c b i n t _

/-- Input 4 of the gated products. -/
theorem Launch.conv4 (L : Launch m c Q e) (b : Fin 4) (n : Fin 256) (i : Fin 32) (t : Fin 300) :
    glue (fun t => Gen.V11 m ρ c main_v108 (ix4 b i n t)) (fun q => Gen.V11 m ρ c main_v88 (ix4 b i n q)) t
      = groups (Q b) (win 48) sea (win 12) (adj e) (kerFurther m c) n 4 i t := by
  refine congrArg₂ (fun p r => glue p r t) (funext fun t => ?_) (funext fun q => ?_)
  · refine (host_v108 (Gen.W10 m ρ c) b i n t).trans ?_
    rw [W10_W8 m ρ c main_v57_3 (by decide) (by decide)]
    exact L.chain3 m ρ c b i n t _
  · exact (host_v88 (Gen.W10 m ρ c) b i n q).trans (L.rex1 m ρ c b n i q)

/-- Input 5 of the gated products. -/
theorem Launch.conv5 (L : Launch m c Q e) (b : Fin 4) (n : Fin 256) (i : Fin 32) (t : Fin 300) :
    (Gen.V11 m ρ c main_v109 (ix4 b i n t) : EReal) = groups (Q b) (win 48) sea (win 12) (adj e) (kerFurther m c) n 5 i t := by
  refine (host_v109 (Gen.W10 m ρ c) b i n t).trans ?_
  rw [W10_W8 m ρ c main_v57_4 (by decide) (by decide)]
  exact L.chain4 m ρ c b i n t _

/-- Input 6 of the gated products. -/
theorem Launch.conv6 (L : Launch m c Q e) (b : Fin 4) (n : Fin 256) (i : Fin 32) (t : Fin 300) :
    (Gen.V11 m ρ c main_v110 (ix4 b i n t) : EReal) = groups (Q b) (win 48) sea (win 12) (adj e) (kerFurther m c) n 6 i t := by
  refine (host_v110 (Gen.W10 m ρ c) b i n t).trans ?_
  rw [W10_W8 m ρ c main_v57_5 (by decide) (by decide)]
  exact L.chain5 m ρ c b i n t _

/-- Input 7 of the gated products. -/
theorem Launch.conv7 (L : Launch m c Q e) (b : Fin 4) (n : Fin 256) (i : Fin 32) (t : Fin 300) :
    glue (fun t => Gen.V11 m ρ c main_v111 (ix4 b i n t)) (fun q => Gen.V11 m ρ c main_v90 (ix4 b i n q)) t
      = groups (Q b) (win 48) sea (win 12) (adj e) (kerFurther m c) n 7 i t := by
  refine congrArg₂ (fun p r => glue p r t) (funext fun t => ?_) (funext fun q => ?_)
  · refine (host_v111 (Gen.W10 m ρ c) b i n t).trans ?_
    rw [W10_W8 m ρ c main_v57_6 (by decide) (by decide)]
    exact L.chain6 m ρ c b i n t _
  · exact (host_v90 (Gen.W10 m ρ c) b i n q).trans (L.rex2 m ρ c b n i q)

/-- Input 8 of the gated products. -/
theorem Launch.conv8 (L : Launch m c Q e) (b : Fin 4) (n : Fin 256) (i : Fin 32) (t : Fin 300) :
    (Gen.V11 m ρ c main_v112 (ix4 b i n t) : EReal) = groups (Q b) (win 48) sea (win 12) (adj e) (kerFurther m c) n 8 i t := by
  refine (host_v112 (Gen.W10 m ρ c) b i n t).trans ?_
  rw [W10_W8 m ρ c main_v57_7 (by decide) (by decide)]
  exact L.chain7 m ρ c b i n t _

/-- Input 9 of the gated products. -/
theorem Launch.conv9 (L : Launch m c Q e) (b : Fin 4) (n : Fin 256) (i : Fin 32) (t : Fin 300) :
    (Gen.V11 m ρ c main_v113 (ix4 b i n t) : EReal) = groups (Q b) (win 48) sea (win 12) (adj e) (kerFurther m c) n 9 i t := by
  refine (host_v113 (Gen.W10 m ρ c) b i n t).trans ?_
  rw [W10_W8 m ρ c main_v57_8 (by decide) (by decide)]
  exact L.chain8 m ρ c b i n t _

/-- Input 10 of the gated products. -/
theorem Launch.conv10 (L : Launch m c Q e) (b : Fin 4) (n : Fin 256) (i : Fin 32) (t : Fin 300) :
    glue (fun t => Gen.V11 m ρ c main_v114 (ix4 b i n t)) (fun q => Gen.V11 m ρ c main_v92 (ix4 b i n q)) t
      = groups (Q b) (win 48) sea (win 12) (adj e) (kerFurther m c) n 10 i t := by
  refine congrArg₂ (fun p r => glue p r t) (funext fun t => ?_) (funext fun q => ?_)
  · refine (host_v114 (Gen.W10 m ρ c) b i n t).trans ?_
    rw [W10_W8 m ρ c main_v57_9 (by decide) (by decide)]
    exact L.chain9 m ρ c b i n t _
  · exact (host_v92 (Gen.W10 m ρ c) b i n q).trans (L.rex3 m ρ c b n i q)

/-- Input 11 of the gated products. -/
theorem Launch.conv11 (L : Launch m c Q e) (b : Fin 4) (n : Fin 256) (i : Fin 32) (t : Fin 300) :
    (Gen.V11 m ρ c main_v115 (ix4 b i n t) : EReal) = groups (Q b) (win 48) sea (win 12) (adj e) (kerFurther m c) n 11 i t := by
  refine (host_v115 (Gen.W10 m ρ c) b i n t).trans ?_
  rw [W10_W8 m ρ c main_v57_10 (by decide) (by decide)]
  exact L.chain10 m ρ c b i n t _

/-- Input 12 of the gated products. -/
theorem Launch.conv12 (L : Launch m c Q e) (b : Fin 4) (n : Fin 256) (i : Fin 32) (t : Fin 300) :
    (Gen.V11 m ρ c main_v116 (ix4 b i n t) : EReal) = groups (Q b) (win 48) sea (win 12) (adj e) (kerFurther m c) n 12 i t := by
  refine (host_v116 (Gen.W10 m ρ c) b i n t).trans ?_
  rw [W10_W8 m ρ c main_v57_11 (by decide) (by decide)]
  exact L.chain11 m ρ c b i n t _

/-- Input 0 of the gated products. -/
theorem Launch.conv0 (L : Launch m c Q e) (b : Fin 4) (n : Fin 256) (i : Fin 32) (t : Fin 300) :
    extE (fun t => Gen.V11 m ρ c main_arg0 (ix4 b i n t)) t = groups (Q b) (win 48) sea (win 12) (adj e) (kerFurther m c) n 0 i t :=
  extE_coe _ (Q b i) n (fun t => (congrFun (Gen.W11_args m ρ c main_arg0 (by decide)) (ix4 b i n t)).trans (L.hx b i n t)) t

/-- What the long gated product is entered with. -/
theorem Launch.convEntry (L : Launch m c Q e) : ConvEntry (Gen.V11 m ρ) c (fun b n => groups (Q b) (win 48) sea (win 12) (adj e) (kerFurther m c) n)
    (fun o ch k => m ((c : Thread nD τ).loc main_arg2) (ix4 o ch 0 k)) (fun o ch k => m ((c : Thread nD τ).loc main_arg4) (ix4 o ch 0 k))
    (fun o => m ((c : Thread nD τ).loc main_arg3) (ix1 o)) (fun o => m ((c : Thread nD τ).loc main_arg5) (ix1 o)) where
  h0 := L.conv0 m ρ c
  h1 := L.conv1 m ρ c
  h2 := L.conv2 m ρ c
  h3 := L.conv3 m ρ c
  h4 := L.conv4 m ρ c
  h5 := L.conv5 m ρ c
  h6 := L.conv6 m ρ c
  h7 := L.conv7 m ρ c
  h8 := L.conv8 m ρ c
  h9 := L.conv9 m ρ c
  h10 := L.conv10 m ρ c
  h11 := L.conv11 m ρ c
  h12 := L.conv12 m ρ c
  w := ker_weights m ρ c

end Cert.Chain
-- ==== Proof.KerAux.lean ====
/- What the gated product over the last steps is entered with. -/
module

public import proofs.«01_k».proof.Proof.KerConv
public import proofs.«01_k».proof.Proof.HostAux

@[expose] public section

set_option maxRecDepth 16384

noncomputable section

namespace Cert.Chain

open Idealize.ShloMosaic Idealize.ShloMosaic.TcCoe Cert.KernelIdeal

variable (m : (ℓ : Loc nD τ sig) → Buf (Elt Ideal) ℓ) (ρ : Dev nD → PrngReg) (c : Dev nD)
variable {Q : Fin 4 → Fin 32 → Plane} {e : Fin 256 → Fin 16 → ℝ}

/-- Contents that the calls between leave alone. -/
theorem W12_W10 (r : Ref sig .tc) (h1 : r ∉ Gen.hostOps3_W) (h2 : ∀ w : Fin cfg3.W, Pipeline.arrRef spec3 w = r → (cfg3.win w).isOut = false) :
    Gen.W12 m ρ c (Proc.devRef .tc r) = Gen.W10 m ρ c (Proc.devRef .tc r) :=
  (Gen.W12_of m ρ c r h2).trans (Gen.W11_of m ρ c r h1)

/-- Contents that the calls between leave alone. -/
theorem W8_W1 (r : Ref sig .tc) (h0 : ∀ w : Fin cfg0.W, Pipeline.arrRef spec0 w = r → (cfg0.win w).isOut = false) (h : r ∉ Gen.hostOps1_W)
    (h1 : r ∉ Gen.hostOps1_1_W) (h2 : r ∉ Gen.hostOps1_2_W) (h3 : r ∉ Gen.hostOps1_3_W) (h4 : r ∉ Gen.hostOps1_4_W)
    (h5 : ∀ w : Fin cfg1.W, Pipeline.arrRef spec1 w = r → (cfg1.win w).isOut = false) :
    Gen.W8 m ρ c (Proc.devRef .tc r) = Gen.W1 m ρ c (Proc.devRef .tc r) :=
  (Gen.W8_of m ρ c r h5).trans ((W7_W3 m ρ c r h1 h2 h3 h4).trans ((Gen.W3_of m ρ c r h).trans (Gen.W2_of m ρ c r h0)))

/-- The table of gathered channels is still there. -/
theorem ker_c : Gen.W12 m ρ c (Proc.devRef .tc main_c) = fun i => lit0 (S256.rowMajor i) := by
  rw [W12_W10 m ρ c main_c (by decide) (by decide), W10_W8 m ρ c main_c (by decide) (by decide),
    W8_W1 m ρ c main_c (by decide) (by decide) (by decide) (by decide) (by decide) (by decide) (by decide)]
  exact host_c (Gen.W0 m ρ c)

/-- The table of gathered channels is still there. -/
theorem ker_c0 : Gen.W12 m ρ c (Proc.devRef .tc main_c_0) = constantI S256 1 0#1 := by
  rw [W12_W10 m ρ c main_c_0 (by decide) (by decide), W10_W8 m ρ c main_c_0 (by decide) (by decide),
    W8_W1 m ρ c main_c_0 (by decide) (by decide) (by decide) (by decide) (by decide) (by decide) (by decide)]
  exact host_c0 (Gen.W0 m ρ c)

/-- Array 124 as the auxiliary call finds it. -/
theorem ker_v124 (r : Fin 768) (ch : Fin 256) :
    Gen.V13 m ρ c main_v124 (ix2 r ch) = if h : r.val % 64 < 32 then m ((c : Thread nD τ).loc main_arg2) (ix4 ⟨r.val % 64, h⟩ (chan ch) 0 ⟨r.val / 64, by omega⟩)
      else m ((c : Thread nD τ).loc main_arg4) (ix4 ⟨r.val % 64 - 32, by omega⟩ (chan ch) 0 ⟨r.val / 64, by omega⟩) := by
  refine (host_v124 (Gen.W12 m ρ c) (ker_c0 m ρ c) (ker_c m ρ c) r ch).trans ?_
  rw [Gen.W12_of m ρ c main_v95 (by decide)]
  refine (host_v95 (Gen.W10 m ρ c) _ _ _).trans ?_
  rw [Gen.W10_args m ρ c main_arg2 (by decide), Gen.W10_args m ρ c main_arg4 (by decide)]

/-- Array 100 as the auxiliary call finds it. -/
theorem ker_v100 (r : Fin 64) : Gen.V13 m ρ c main_v100 (ix3 0 0 r) = Gen.V11 m ρ c main_v100 (ix3 0 0 r) :=
  congrFun ((Gen.W13_of m ρ c main_v100 (by decide)).trans (Gen.W12_of m ρ c main_v100 (by decide))) (ix3 0 0 r)

/-- The gathered weights, from the launch contents. -/
theorem aux_weights : AuxWeights (Gen.V13 m ρ c main_v124) (Gen.V13 m ρ c main_v100)
    (fun o ch k => m ((c : Thread nD τ).loc main_arg2) (ix4 o (chan ch) 0 k)) (fun o ch k => m ((c : Thread nD τ).loc main_arg4) (ix4 o (chan ch) 0 k))
    (fun o => m ((c : Thread nD τ).loc main_arg3) (ix1 o)) (fun o => m ((c : Thread nD τ).loc main_arg5) (ix1 o)) where
  wa k o r ch h := by
    refine (ker_v124 m ρ c r ch).trans ?_
    rw [dif_pos (show r.val % 64 < 32 by omega)]
    refine congrArg (m ((c : Thread nD τ).loc main_arg2)) (congrArg₂ (fun p q => (ix4 p (chan ch) 0 q : S32x416x1x12.Idx)) (Fin.ext ?_) (Fin.ext ?_))
    · show r.val % 64 = o.val; omega
    · show r.val / 64 = k.val; omega
  wb k o r ch h := by
    refine (ker_v124 m ρ c r ch).trans ?_
    rw [dif_neg (show ¬ r.val % 64 < 32 by omega)]
    refine congrArg (m ((c : Thread nD τ).loc main_arg4)) (congrArg₂ (fun p q => (ix4 p (chan ch) 0 q : S32x416x1x12.Idx)) (Fin.ext ?_) (Fin.ext ?_))
    · show r.val % 64 - 32 = o.val; omega
    · show r.val / 64 = k.val; omega
  ba o r h := (ker_v100 m ρ c r).trans ((ker_weights m ρ c).ba o r h)
  bb o r h := (ker_v100 m ρ c r).trans ((ker_weights m ρ c).bb o r h)

/-- Input 0 of the auxiliary call. -/
theorem Launch.aux0 (L : Launch m c Q e) (b : Fin 4) (i : Fin 32) (s : Fin 23) (n : Fin 256) :
    Gen.V13 m ρ c main_v125 (ix4 b i s n) = statGroups (Q b) (win 48) sea (win 12) (adj e) n (grp 0) i ⟨277 + s.val, by omega⟩ := by
  refine (host_v125 (Gen.W12 m ρ c) b i s n).trans ?_
  rw [W12_W10 m ρ c main_v57_12 (by decide) (by decide), W10_W8 m ρ c main_v57_12 (by decide) (by decide)]
  exact L.chain12 m ρ c b i s n _

/-- Input 1 of the auxiliary call. -/
theorem Launch.aux1 (L : Launch m c Q e) (b : Fin 4) (i : Fin 32) (s : Fin 23) (n : Fin 256) :
    Gen.V13 m ρ c main_v126 (ix4 b i s n) = statGroups (Q b) (win 48) sea (win 12) (adj e) n (grp 1) i ⟨277 + s.val, by omega⟩ := by
  refine (host_v126 (Gen.W12 m ρ c) b i s n).trans ?_
  rw [W12_W10 m ρ c main_v57_13 (by decide) (by decide), W10_W8 m ρ c main_v57_13 (by decide) (by decide)]
  exact L.chain13 m ρ c b i s n _

/-- Input 2 of the auxiliary call. -/
theorem Launch.aux2 (L : Launch m c Q e) (b : Fin 4) (i : Fin 32) (s : Fin 23) (n : Fin 256) :
    Gen.V13 m ρ c main_v127 (ix4 b i s n) = statGroups (Q b) (win 48) sea (win 12) (adj e) n (grp 2) i ⟨277 + s.val, by omega⟩ := by
  refine (host_v127 (Gen.W12 m ρ c) b i s n).trans ?_
  rw [W12_W10 m ρ c main_v57_14 (by decide) (by decide), W10_W8 m ρ c main_v57_14 (by decide) (by decide)]
  exact L.chain14 m ρ c b i s n _

/-- Input 3 of the auxiliary call. -/
theorem Launch.aux3 (L : Launch m c Q e) (b : Fin 4) (i : Fin 32) (s : Fin 23) (n : Fin 256) :
    Gen.V13 m ρ c main_v128 (ix4 b i s n) = statGroups (Q b) (win 48) sea (win 12) (adj e) n (grp 3) i ⟨277 + s.val, by omega⟩ := by
  refine (host_v128 (Gen.W12 m ρ c) b i s n).trans ?_
  rw [W12_W10 m ρ c main_v57_15 (by decide) (by decide), W10_W8 m ρ c main_v57_15 (by decide) (by decide)]
  exact L.chain15 m ρ c b i s n _

/-- Input 4 of the auxiliary call. -/
theorem Launch.aux4 (L : Launch m c Q e) (b : Fin 4) (i : Fin 32) (s : Fin 23) (n : Fin 256) :
    Gen.V13 m ρ c main_v129 (ix4 b i s n) = statGroups (Q b) (win 48) sea (win 12) (adj e) n (grp 4) i ⟨277 + s.val, by omega⟩ := by
  refine (host_v129 (Gen.W12 m ρ c) b i s n).trans ?_
  rw [W12_W10 m ρ c main_v57_16 (by decide) (by decide), W10_W8 m ρ c main_v57_16 (by decide) (by decide)]
  exact L.chain16 m ρ c b i s n _

/-- Input 5 of the auxiliary call. -/
theorem Launch.aux5 (L : Launch m c Q e) (b : Fin 4) (i : Fin 32) (s : Fin 23) (n : Fin 256) :
    Gen.V13 m ρ c main_v130 (ix4 b i s n) = statGroups (Q b) (win 48) sea (win 12) (adj e) n (grp 5) i ⟨277 + s.val, by omega⟩ := by
  refine (host_v130 (Gen.W12 m ρ c) b i s n).trans ?_
  rw [W12_W10 m ρ c main_v57_17 (by decide) (by decide), W10_W8 m ρ c main_v57_17 (by decide) (by decide)]
  exact L.chain17 m ρ c b i s n _

/-- Input 6 of the auxiliary call. -/
theorem Launch.aux6 (L : Launch m c Q e) (b : Fin 4) (i : Fin 32) (s : Fin 23) (n : Fin 256) :
    Gen.V13 m ρ c main_v131 (ix4 b i s n) = statGroups (Q b) (win 48) sea (win 12) (adj e) n (grp 6) i ⟨277 + s.val, by omega⟩ := by
  refine (host_v131 (Gen.W12 m ρ c) b i s n).trans ?_
  rw [W12_W10 m ρ c main_v57_18 (by decide) (by decide), W10_W8 m ρ c main_v57_18 (by decide) (by decide)]
  exact L.chain18 m ρ c b i s n _

/-- Input 7 of the auxiliary call. -/
theorem Launch.aux7 (L : Launch m c Q e) (b : Fin 4) (i : Fin 32) (s : Fin 23) (n : Fin 256) :
    Gen.V13 m ρ c main_v132 (ix4 b i s n) = statGroups (Q b) (win 48) sea (win 12) (adj e) n (grp 7) i ⟨277 + s.val, by omega⟩ := by
  refine (host_v132 (Gen.W12 m ρ c) b i s n).trans ?_
  rw [W12_W10 m ρ c main_v57_19 (by decide) (by decide), W10_W8 m ρ c main_v57_19 (by decide) (by decide)]
  exact L.chain19 m ρ c b i s n _

/-- What the gated product over the last steps is entered with. -/
theorem Launch.auxEntry (L : Launch m c Q e) : AuxEntry (Gen.V13 m ρ) c (fun b g i s n => statGroups (Q b) (win 48) sea (win 12) (adj e) n (grp g) i ⟨277 + s.val, by omega⟩)
    (fun o ch k => m ((c : Thread nD τ).loc main_arg2) (ix4 o (chan ch) 0 k)) (fun o ch k => m ((c : Thread nD τ).loc main_arg4) (ix4 o (chan ch) 0 k))
    (fun o => m ((c : Thread nD τ).loc main_arg3) (ix1 o)) (fun o => m ((c : Thread nD τ).loc main_arg5) (ix1 o)) where
  h0 := L.aux0 m ρ c
  h1 := L.aux1 m ρ c
  h2 := L.aux2 m ρ c
  h3 := L.aux3 m ρ c
  h4 := L.aux4 m ρ c
  h5 := L.aux5 m ρ c
  h6 := L.aux6 m ρ c
  h7 := L.aux7 m ρ c
  w := aux_weights m ρ c

end Cert.Chain
-- ==== Proof.KerOut.lean ====
/- The kernel's results. -/
module

public import proofs.«01_k».proof.Proof.KerAux
public import proofs.«01_k».proof.Proof.AuxSum

@[expose] public section

set_option maxRecDepth 16384

noncomputable section

namespace Cert.Chain

open Idealize.ShloMosaic Idealize.ShloMosaic.TcCoe Cert.KernelIdeal

/-- The entry in window 23 as an entry of a result. -/
theorem res23_out (R : S32x32.Idx → EReal) (r : S1x1x32.Idx → EReal) (G : Fin 4 → Fin 256 → Fin 13 → Fin 32 → Fin 300 → EReal) (a2 a4 : S32x416x1x12.Idx → EReal) (a3 a5 : S32.Idx → EReal) (R' : S32x32x1x1.Idx → EReal) (r' : S32.Idx → EReal)
    (hR : ∀ o p, R (ix2 o p) = R' (ix4 o p 0 0)) (hr : ∀ o, r (ix3 0 0 o) = r' (ix1 o)) (b : Fin 4) (o : Fin 32) (n : Fin 256) (u : Fin 278) :
    res23 R r G (fun o ch k => a2 (ix4 o ch 0 k)) (fun o ch k => a4 (ix4 o ch 0 k)) (fun o => a3 (ix1 o)) (fun o => a5 (ix1 o)) b o n u
      = outAt a2 a4 a3 a5 R' r' (slab (G b n)) ⟨u.val, by omega⟩ o := by
  unfold res23 outAt
  exact project_congr (fun o' => hR o o') (hr o) fun o' => rfl

/-- The entry in window 24 as an entry of a result. -/
theorem res24_out (R : S32x32.Idx → EReal) (r : S1x1x32.Idx → EReal) (G : Fin 4 → Fin 256 → Fin 13 → Fin 32 → Fin 300 → EReal) (a2 a4 : S32x416x1x12.Idx → EReal) (a3 a5 : S32.Idx → EReal) (R' : S32x32x1x1.Idx → EReal) (r' : S32.Idx → EReal)
    (hR : ∀ o p, R (ix2 o p) = R' (ix4 o p 0 0)) (hr : ∀ o, r (ix3 0 0 o) = r' (ix1 o)) (b : Fin 4) (o : Fin 32) (n : Fin 256) (u : Fin 12) :
    res24 R r G (fun o ch k => a2 (ix4 o ch 0 k)) (fun o ch k => a4 (ix4 o ch 0 k)) (fun o => a3 (ix1 o)) (fun o => a5 (ix1 o)) b o n u
      = outAt a2 a4 a3 a5 R' r' (slab (G b n)) ⟨278 + u.val, by omega⟩ o := by
  unfold res24 outAt
  exact project_congr (fun o' => hR o o') (hr o) fun o' => rfl

/-- The auxiliary entry as an entry of a result. -/
theorem aux_out (R : S32x32.Idx → EReal) (r : S1x1x32.Idx → EReal) (H : Fin 4 → Fin 8 → Fin 32 → Fin 23 → Fin 256 → EReal) (K : Fin 13 → Fin 32 → Fin 300 → EReal) (a2 a4 : S32x416x1x12.Idx → EReal) (a3 a5 : S32.Idx → EReal) (R' : S32x32x1x1.Idx → EReal) (r' : S32.Idx → EReal)
    (hR : ∀ o p, R (ix2 o p) = R' (ix4 o p 0 0)) (hr : ∀ o, r (ix3 0 0 o) = r' (ix1 o)) (b : Fin 4) (o : Fin 32) (n : Fin 256) (u : Fin 12)
    (hK : ∀ g, (∀ g', grp g' ≠ g) → ∀ c t, K g c t = 0) (hH : ∀ g i s, H b g i s n = K (grp g) i ⟨277 + s.val, by omega⟩) :
    auxRes R r H (fun o ch k => a2 (ix4 o (chan ch) 0 k)) (fun o ch k => a4 (ix4 o (chan ch) 0 k)) (fun o => a3 (ix1 o)) (fun o => a5 (ix1 o)) b o n u
      = outAt a2 a4 a3 a5 R' r' (slab K) ⟨278 + u.val, by omega⟩ o := by
  unfold auxRes outAt
  exact project_congr (fun o' => hR o o') (hr o) fun o' =>
    gate_aux K hK (H b) n hH (fun ch k => a2 (ix4 o' ch 0 k)) (fun ch k => a4 (ix4 o' ch 0 k)) (a3 (ix1 o')) (a5 (ix1 o')) u

variable (m : (ℓ : Loc nD τ sig) → Buf (Elt Ideal) ℓ) (ρ : Dev nD → PrngReg) (c : Dev nD)
variable {Q : Fin 4 → Fin 32 → Plane} {e : Fin 256 → Fin 16 → ℝ}

/-- Contents that the auxiliary call leaves alone. -/
theorem W14_W12 (r : Ref sig .tc) (h1 : r ∉ Gen.hostOps4_W) (h2 : ∀ w : Fin cfg4.W, Pipeline.arrRef spec4 w = r → (cfg4.win w).isOut = false) :
    Gen.W14 m ρ c (Proc.devRef .tc r) = Gen.W12 m ρ c (Proc.devRef .tc r) :=
  (Gen.W14_of m ρ c r h2).trans (Gen.W13_of m ρ c r h1)

/-- Array 101 as the gated products find it. -/
theorem ker_v101 (o p : Fin 32) : Gen.V11 m ρ c main_v101 (ix2 o p) = m ((c : Thread nD τ).loc main_arg8) (ix4 o p 0 0) := by
  refine (host_v101 (Gen.W10 m ρ c) o p).trans ?_
  rw [Gen.W10_args m ρ c main_arg8 (by decide)]

/-- Array 103 as the gated products find it. -/
theorem ker_v103 (o p : Fin 32) : Gen.V11 m ρ c main_v103 (ix2 o p) = m ((c : Thread nD τ).loc main_arg6) (ix4 o p 0 0) := by
  refine (host_v103 (Gen.W10 m ρ c) o p).trans ?_
  rw [Gen.W10_args m ρ c main_arg6 (by decide)]

/-- Array 102 as the gated products find it. -/
theorem ker_v102 (o : Fin 32) : Gen.V11 m ρ c main_v102 (ix3 0 0 o) = m ((c : Thread nD τ).loc main_arg9) (ix1 o) := by
  refine (host_v102 (Gen.W10 m ρ c) o).trans ?_
  rw [Gen.W10_args m ρ c main_arg9 (by decide)]

/-- Array 104 as the gated products find it. -/
theorem ker_v104 (o : Fin 32) : Gen.V11 m ρ c main_v104 (ix3 0 0 o) = m ((c : Thread nD τ).loc main_arg7) (ix1 o) := by
  refine (host_v104 (Gen.W10 m ρ c) o).trans ?_
  rw [Gen.W10_args m ρ c main_arg7 (by decide)]

/-- Array 103 as the auxiliary call finds it. -/
theorem ker_v103' (o p : Fin 32) : Gen.V13 m ρ c main_v103 (ix2 o p) = m ((c : Thread nD τ).loc main_arg6) (ix4 o p 0 0) :=
  (congrFun ((Gen.W13_of m ρ c main_v103 (by decide)).trans (Gen.W12_of m ρ c main_v103 (by decide))) (ix2 o p)).trans (ker_v103 m ρ c o p)
/-- Array 104 as the auxiliary call finds it. -/
theorem ker_v104' (o : Fin 32) : Gen.V13 m ρ c main_v104 (ix3 0 0 o) = m ((c : Thread nD τ).loc main_arg7) (ix1 o) :=
  (congrFun ((Gen.W13_of m ρ c main_v104 (by decide)).trans (Gen.W12_of m ρ c main_v104 (by decide))) (ix3 0 0 o)).trans (ker_v104 m ρ c o)

/-- An entry of a result from the launch contents. -/
def kerOut (R : S32x32x1x1.Idx → EReal) (r : S32.Idx → EReal) (S : Fin 416 → Fin 301 → EReal) (t : Fin 290) (o : Fin 32) : EReal :=
  outAt (m ((c : Thread nD τ).loc main_arg2)) (m ((c : Thread nD τ).loc main_arg4)) (m ((c : Thread nD τ).loc main_arg3)) (m ((c : Thread nD τ).loc main_arg5)) R r S t o

/-- Result 0. -/
theorem Launch.out0 (L : Launch m c Q e) (b : Fin 4) (o : Fin 32) (n : Fin 256) (u : Fin 278) :
    Gen.W14 m ρ c (Proc.devRef .tc main_v117_0) (ix4 b o n u)
      = kerOut m c (m ((c : Thread nD τ).loc main_arg8)) (m ((c : Thread nD τ).loc main_arg9)) (slab (groups (Q b) (win 48) sea (win 12) (adj e) (kerFurther m c) n)) ⟨u.val, by omega⟩ o := by
  rw [W14_W12 m ρ c main_v117_0 (by decide) (by decide)]
  refine (congrFun (Gen.W12_arr m ρ c 23) (ix4 b o n u)).trans ?_
  refine ((L.convEntry m ρ c).arr23 b o n u).trans ?_
  exact res23_out (Gen.V11 m ρ c main_v101) (Gen.V11 m ρ c main_v102) (fun b n => groups (Q b) (win 48) sea (win 12) (adj e) (kerFurther m c) n)
    (m ((c : Thread nD τ).loc main_arg2)) (m ((c : Thread nD τ).loc main_arg4)) (m ((c : Thread nD τ).loc main_arg3)) (m ((c : Thread nD τ).loc main_arg5)) (m ((c : Thread nD τ).loc main_arg8)) (m ((c : Thread nD τ).loc main_arg9))
    (ker_v101 m ρ c) (ker_v102 m ρ c) b o n u

/-- Result 2. -/
theorem Launch.out2 (L : Launch m c Q e) (b : Fin 4) (o : Fin 32) (n : Fin 256) (u : Fin 12) :
    Gen.W14 m ρ c (Proc.devRef .tc main_v117_1) (ix4 b o n u)
      = kerOut m c (m ((c : Thread nD τ).loc main_arg6)) (m ((c : Thread nD τ).loc main_arg7)) (slab (groups (Q b) (win 48) sea (win 12) (adj e) (kerFurther m c) n)) ⟨278 + u.val, by omega⟩ o := by
  rw [W14_W12 m ρ c main_v117_1 (by decide) (by decide)]
  refine (congrFun (Gen.W12_arr m ρ c 24) (ix4 b o n u)).trans ?_
  refine ((L.convEntry m ρ c).arr24 b o n u).trans ?_
  exact res24_out (Gen.V11 m ρ c main_v103) (Gen.V11 m ρ c main_v104) (fun b n => groups (Q b) (win 48) sea (win 12) (adj e) (kerFurther m c) n)
    (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
    (ker_v103 m ρ c) (ker_v104 m ρ c) b o n u

/-- Result 1. -/
theorem Launch.out1 (L : Launch m c Q e) (b : Fin 4) (o : Fin 32) (n : Fin 256) (u : Fin 12) :
    Gen.W14 m ρ c (Proc.devRef .tc main_v133) (ix4 b o n u)
      = kerOut m c (m ((c : Thread nD τ).loc main_arg6)) (m ((c : Thread nD τ).loc main_arg7)) (slab (statGroups (Q b) (win 48) sea (win 12) (adj e) n)) ⟨278 + u.val, by omega⟩ o := by
  refine (congrFun (Gen.W14_arr m ρ c 12) (ix4 b o n u)).trans ?_
  refine ((L.auxEntry m ρ c).arr12 b o n u).trans ?_
  exact aux_out (Gen.V13 m ρ c main_v103) (Gen.V13 m ρ c main_v104) (fun b g i s n => statGroups (Q b) (win 48) sea (win 12) (adj e) n (grp g) i ⟨277 + s.val, by omega⟩)
    (statGroups (Q b) (win 48) sea (win 12) (adj e) n)
    (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
    (ker_v103' m ρ c) (ker_v104' m ρ c) b o n u (stat_zero (Q b) (win 48) sea (win 12) (adj e) n) (fun g i s => rfl)

end Cert.Chain
-- ==== Proof.Finite.lean ====
/- The precondition gives real data. -/
module

public import proofs.«01_k».proof.Defs
public import proofs.«01_k».proof.Proof.KerChain
public import Idealize.ShloMosaic.Lib.ReduceAll

@[expose] public section

set_option maxRecDepth 16384

noncomputable section

namespace Cert.Chain

open Idealize.ShloMosaic Idealize.ShloMosaic.TcCoe Cert.KernelIdeal

/-- The pattern of the bound is the top. -/
theorem bound_top : Ideal.ofBits .f32 0x7F800000#32 = (⊤ : EReal) := by
  simp [Ideal.ofBits, Ideal.ieee]

/-- A comparison of an absolute value with the top that came out 1 leaves a real. -/
theorem real_of_bound (x : EReal) (h : Ideal.cmp .olt (max x (-x)) (⊤ : EReal) = 1#1) : x = ((x.toReal : ℝ) : EReal) := by
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact (EReal.coe_toReal h1 h2).symm

/-- There is one index of rank zero. -/
instance : Subsingleton Cert.Pre_finite_data.S_.Idx := ⟨fun a b => funext fun i => i.elim0⟩

/-- All ones gives real inputs and real node features. -/
theorem reals_of_pre [Cert.Pre_finite_data.Facts] (a0 : FVec Ideal Cert.Pre_finite_data.S4x32x256x288 .f32) (a1 : FVec Ideal Cert.Pre_finite_data.S256x16 .f32) (a2 : FVec Ideal Cert.Pre_finite_data.S32x416x1x12 .f32) (a3 : FVec Ideal Cert.Pre_finite_data.S32 .f32) (a4 : FVec Ideal Cert.Pre_finite_data.S32x416x1x12 .f32) (a5 : FVec Ideal Cert.Pre_finite_data.S32 .f32) (a6 : FVec Ideal Cert.Pre_finite_data.S32x32x1x1 .f32) (a7 : FVec Ideal Cert.Pre_finite_data.S32 .f32) (a8 : FVec Ideal Cert.Pre_finite_data.S32x32x1x1 .f32) (a9 : FVec Ideal Cert.Pre_finite_data.S32 .f32) (a10 : FVec Ideal Cert.Pre_finite_data.S384x32x1x5 .f32) (a11 : FVec Ideal Cert.Pre_finite_data.S384 .f32) (a12 : FVec Ideal Cert.Pre_finite_data.S384x32x1x5 .f32) (a13 : FVec Ideal Cert.Pre_finite_data.S384 .f32) (a14 : FVec Ideal Cert.Pre_finite_data.S384x32x1x5 .f32) (a15 : FVec Ideal Cert.Pre_finite_data.S384 .f32) (a16 : FVec Ideal Cert.Pre_finite_data.S384x32x1x5 .f32) (a17 : FVec Ideal Cert.Pre_finite_data.S384 .f32)
    (h : Cert.Pre_finite_data.fn (F := Ideal) a0 a1 a2 a3 a4 a5 a6 a7 a8 a9 a10 a11 a12 a13 a14 a15 a16 a17 = fun _ => 1#1) :
    (∀ i, a0 i = ((EReal.toReal (a0 i) : ℝ) : EReal)) ∧ ∀ i, a1 i = ((EReal.toReal (a1 i) : ℝ) : EReal) := by
  have h0 := congrFun h ix0
  unfold Cert.Pre_finite_data.fn at h0
  obtain ⟨p, q⟩ := IntOp.andi_eq_one.1 h0
  constructor
  · intro i
    have w := Host.reduce_andi_all _ _ _ _ ix0 p i
    refine real_of_bound (a0 i) ?_
    rw [← bound_top]; exact w
  · intro i
    have w := Host.reduce_andi_all _ _ _ _ ix0 q i
    refine real_of_bound (a1 i) ?_
    rw [← bound_top]; exact w

variable (m : (ℓ : Loc nD τ sig) → Buf (Elt Ideal) ℓ) (c : Dev nD)

/-- The input as reals. -/
def realIn (b : Fin 4) (i : Fin 32) : Plane := fun n t => EReal.toReal (m ((c : Thread nD τ).loc main_arg0) (ix4 b i n t))

/-- The node features as reals. -/
def realEmb (n : Fin 256) (j : Fin 16) : ℝ := EReal.toReal (m ((c : Thread nD τ).loc main_arg1) (ix2 n j))

/-- Under the precondition the kernel is launched on reals. -/
theorem launch_of_pre [Cert.Pre_finite_data.Facts] (h : Cert.Pre_KernelIdeal_finite_data m) : Launch m c (realIn m c) (realEmb m c) where
  hx b i n t := (reals_of_pre _ _ _ _ _ _ _ _ _ _ _ _ _ _ _ _ _ _ (h c)).1 (ix4 b i n t)
  he n j := (reals_of_pre _ _ _ _ _ _ _ _ _ _ _ _ _ _ _ _ _ _ (h c)).2 (ix2 n j)

end Cert.Chain
-- ==== Proof.Same.lean ====
/- The reference's results are the kernel's. -/
module

public import proofs.«01_k».proof.Proof.RefOut
public import proofs.«01_k».proof.Proof.KerOut
public import proofs.«01_k».proof.Proof.Finite

@[expose] public section

set_option maxRecDepth 16384

noncomputable section

namespace Cert.Chain

open Idealize.ShloMosaic Idealize.ShloMosaic.StableHlo Idealize.ShloMosaic.TcCoe Cert.KernelIdeal

/-- Argument 0 in the reference's contents. -/
def refArg0 (V0 : Valuation Cert.ReferenceIdeal.τ Cert.ReferenceIdeal.sig (Elt Ideal)) : S4x32x256x288.Idx → EReal := V0 (Proc.devRef .tc Cert.ReferenceIdeal.main_arg0)
/-- Argument 0 at the kernel's launch. -/
def kerArg0 (m : (ℓ : Loc nD τ sig) → Buf (Elt Ideal) ℓ) (c : Dev nD) : S4x32x256x288.Idx → EReal := m ((c : Thread nD τ).loc main_arg0)
/-- Argument 1 in the reference's contents. -/
def refArg1 (V0 : Valuation Cert.ReferenceIdeal.τ Cert.ReferenceIdeal.sig (Elt Ideal)) : S256x16.Idx → EReal := V0 (Proc.devRef .tc Cert.ReferenceIdeal.main_arg1)
/-- Argument 1 at the kernel's launch. -/
def kerArg1 (m : (ℓ : Loc nD τ sig) → Buf (Elt Ideal) ℓ) (c : Dev nD) : S256x16.Idx → EReal := m ((c : Thread nD τ).loc main_arg1)
/-- Argument 2 in the reference's contents. -/
def refArg2 (V0 : Valuation Cert.ReferenceIdeal.τ Cert.ReferenceIdeal.sig (Elt Ideal)) : S32x416x1x12.Idx → EReal := V0 (Proc.devRef .tc Cert.ReferenceIdeal.main_arg2)
/-- Argument 2 at the kernel's launch. -/
def kerArg2 (m : (ℓ : Loc nD τ sig) → Buf (Elt Ideal) ℓ) (c : Dev nD) : S32x416x1x12.Idx → EReal := m ((c : Thread nD τ).loc main_arg2)
/-- Argument 3 in the reference's contents. -/
def refArg3 (V0 : Valuation Cert.ReferenceIdeal.τ Cert.ReferenceIdeal.sig (Elt Ideal)) : S32.Idx → EReal := V0 (Proc.devRef .tc Cert.ReferenceIdeal.main_arg3)
/-- Argument 3 at the kernel's launch. -/
def kerArg3 (m : (ℓ : Loc nD τ sig) → Buf (Elt Ideal) ℓ) (c : Dev nD) : S32.Idx → EReal := m ((c : Thread nD τ).loc main_arg3)
/-- Argument 4 in the reference's contents. -/
def refArg4 (V0 : Valuation Cert.ReferenceIdeal.τ Cert.ReferenceIdeal.sig (Elt Ideal)) : S32x416x1x12.Idx → EReal := V0 (Proc.devRef .tc Cert.ReferenceIdeal.main_arg4)
/-- Argument 4 at the kernel's launch. -/
def kerArg4 (m : (ℓ : Loc nD τ sig) → Buf (Elt Ideal) ℓ) (c : Dev nD) : S32x416x1x12.Idx → EReal := m ((c : Thread nD τ).loc main_arg4)
/-- Argument 5 in the reference's contents. -/
def refArg5 (V0 : Valuation Cert.ReferenceIdeal.τ Cert.ReferenceIdeal.sig (Elt Ideal)) : S32.Idx → EReal := V0 (Proc.devRef .tc Cert.ReferenceIdeal.main_arg5)
/-- Argument 5 at the kernel's launch. -/
def kerArg5 (m : (ℓ : Loc nD τ sig) → Buf (Elt Ideal) ℓ) (c : Dev nD) : S32.Idx → EReal := m ((c : Thread nD τ).loc main_arg5)
/-- Argument 6 in the reference's contents. -/
def refArg6 (V0 : Valuation Cert.ReferenceIdeal.τ Cert.ReferenceIdeal.sig (Elt Ideal)) : S32x32x1x1.Idx → EReal := V0 (Proc.devRef .tc Cert.ReferenceIdeal.main_arg6)
/-- Argument 6 at the kernel's launch. -/
def kerArg6 (m : (ℓ : Loc nD τ sig) → Buf (Elt Ideal) ℓ) (c : Dev nD) : S32x32x1x1.Idx → EReal := m ((c : Thread nD τ).loc main_arg6)
/-- Argument 7 in the reference's contents. -/
def refArg7 (V0 : Valuation Cert.ReferenceIdeal.τ Cert.ReferenceIdeal.sig (Elt Ideal)) : S32.Idx → EReal := V0 (Proc.devRef .tc Cert.ReferenceIdeal.main_arg7)
/-- Argument 7 at the kernel's launch. -/
def kerArg7 (m : (ℓ : Loc nD τ sig) → Buf (Elt Ideal) ℓ) (c : Dev nD) : S32.Idx → EReal := m ((c : Thread nD τ).loc main_arg7)
/-- Argument 8 in the reference's contents. -/
def refArg8 (V0 : Valuation Cert.ReferenceIdeal.τ Cert.ReferenceIdeal.sig (Elt Ideal)) : S32x32x1x1.Idx → EReal := V0 (Proc.devRef .tc Cert.ReferenceIdeal.main_arg8)
/-- Argument 8 at the kernel's launch. -/
def kerArg8 (m : (ℓ : Loc nD τ sig) → Buf (Elt Ideal) ℓ) (c : Dev nD) : S32x32x1x1.Idx → EReal := m ((c : Thread nD τ).loc main_arg8)
/-- Argument 9 in the reference's contents. -/
def refArg9 (V0 : Valuation Cert.ReferenceIdeal.τ Cert.ReferenceIdeal.sig (Elt Ideal)) : S32.Idx → EReal := V0 (Proc.devRef .tc Cert.ReferenceIdeal.main_arg9)
/-- Argument 9 at the kernel's launch. -/
def kerArg9 (m : (ℓ : Loc nD τ sig) → Buf (Elt Ideal) ℓ) (c : Dev nD) : S32.Idx → EReal := m ((c : Thread nD τ).loc main_arg9)
/-- Argument 10 in the reference's contents. -/
def refArg10 (V0 : Valuation Cert.ReferenceIdeal.τ Cert.ReferenceIdeal.sig (Elt Ideal)) : S384x32x1x5.Idx → EReal := V0 (Proc.devRef .tc Cert.ReferenceIdeal.main_arg10)
/-- Argument 10 at the kernel's launch. -/
def kerArg10 (m : (ℓ : Loc nD τ sig) → Buf (Elt Ideal) ℓ) (c : Dev nD) : S384x32x1x5.Idx → EReal := m ((c : Thread nD τ).loc main_arg10)
/-- Argument 11 in the reference's contents. -/
def refArg11 (V0 : Valuation Cert.ReferenceIdeal.τ Cert.ReferenceIdeal.sig (Elt Ideal)) : S384.Idx → EReal := V0 (Proc.devRef .tc Cert.ReferenceIdeal.main_arg11)
/-- Argument 11 at the kernel's launch. -/
def kerArg11 (m : (ℓ : Loc nD τ sig) → Buf (Elt Ideal) ℓ) (c : Dev nD) : S384.Idx → EReal := m ((c : Thread nD τ).loc main_arg11)
/-- Argument 12 in the reference's contents. -/
def refArg12 (V0 : Valuation Cert.ReferenceIdeal.τ Cert.ReferenceIdeal.sig (Elt Ideal)) : S384x32x1x5.Idx → EReal := V0 (Proc.devRef .tc Cert.ReferenceIdeal.main_arg12)
/-- Argument 12 at the kernel's launch. -/
def kerArg12 (m : (ℓ : Loc nD τ sig) → Buf (Elt Ideal) ℓ) (c : Dev nD) : S384x32x1x5.Idx → EReal := m ((c : Thread nD τ).loc main_arg12)
/-- Argument 13 in the reference's contents. -/
def refArg13 (V0 : Valuation Cert.ReferenceIdeal.τ Cert.ReferenceIdeal.sig (Elt Ideal)) : S384.Idx → EReal := V0 (Proc.devRef .tc Cert.ReferenceIdeal.main_arg13)
/-- Argument 13 at the kernel's launch. -/
def kerArg13 (m : (ℓ : Loc nD τ sig) → Buf (Elt Ideal) ℓ) (c : Dev nD) : S384.Idx → EReal := m ((c : Thread nD τ).loc main_arg13)
/-- Argument 14 in the reference's contents. -/
def refArg14 (V0 : Valuation Cert.ReferenceIdeal.τ Cert.ReferenceIdeal.sig (Elt Ideal)) : S384x32x1x5.Idx → EReal := V0 (Proc.devRef .tc Cert.ReferenceIdeal.main_arg14)
/-- Argument 14 at the kernel's launch. -/
def kerArg14 (m : (ℓ : Loc nD τ sig) → Buf (Elt Ideal) ℓ) (c : Dev nD) : S384x32x1x5.Idx → EReal := m ((c : Thread nD τ).loc main_arg14)
/-- Argument 15 in the reference's contents. -/
def refArg15 (V0 : Valuation Cert.ReferenceIdeal.τ Cert.ReferenceIdeal.sig (Elt Ideal)) : S384.Idx → EReal := V0 (Proc.devRef .tc Cert.ReferenceIdeal.main_arg15)
/-- Argument 15 at the kernel's launch. -/
def kerArg15 (m : (ℓ : Loc nD τ sig) → Buf (Elt Ideal) ℓ) (c : Dev nD) : S384.Idx → EReal := m ((c : Thread nD τ).loc main_arg15)
/-- Argument 16 in the reference's contents. -/
def refArg16 (V0 : Valuation Cert.ReferenceIdeal.τ Cert.ReferenceIdeal.sig (Elt Ideal)) : S384x32x1x5.Idx → EReal := V0 (Proc.devRef .tc Cert.ReferenceIdeal.main_arg16)
/-- Argument 16 at the kernel's launch. -/
def kerArg16 (m : (ℓ : Loc nD τ sig) → Buf (Elt Ideal) ℓ) (c : Dev nD) : S384x32x1x5.Idx → EReal := m ((c : Thread nD τ).loc main_arg16)
/-- Argument 17 in the reference's contents. -/
def refArg17 (V0 : Valuation Cert.ReferenceIdeal.τ Cert.ReferenceIdeal.sig (Elt Ideal)) : S384.Idx → EReal := V0 (Proc.devRef .tc Cert.ReferenceIdeal.main_arg17)
/-- Argument 17 at the kernel's launch. -/
def kerArg17 (m : (ℓ : Loc nD τ sig) → Buf (Elt Ideal) ℓ) (c : Dev nD) : S384.Idx → EReal := m ((c : Thread nD τ).loc main_arg17)

/-- The reference's contents agree with the launch's on the arguments. -/
structure Agree (m : (ℓ : Loc nD τ sig) → Buf (Elt Ideal) ℓ) (c : Dev nD) (V0 : Valuation Cert.ReferenceIdeal.τ Cert.ReferenceIdeal.sig (Elt Ideal)) : Prop where
  a0 : refArg0 V0 = kerArg0 m c
  a1 : refArg1 V0 = kerArg1 m c
  a2 : refArg2 V0 = kerArg2 m c
  a3 : refArg3 V0 = kerArg3 m c
  a4 : refArg4 V0 = kerArg4 m c
  a5 : refArg5 V0 = kerArg5 m c
  a6 : refArg6 V0 = kerArg6 m c
  a7 : refArg7 V0 = kerArg7 m c
  a8 : refArg8 V0 = kerArg8 m c
  a9 : refArg9 V0 = kerArg9 m c
  a10 : refArg10 V0 = kerArg10 m c
  a11 : refArg11 V0 = kerArg11 m c
  a12 : refArg12 V0 = kerArg12 m c
  a13 : refArg13 V0 = kerArg13 m c
  a14 : refArg14 V0 = kerArg14 m c
  a15 : refArg15 V0 = kerArg15 m c
  a16 : refArg16 V0 = kerArg16 m c
  a17 : refArg17 V0 = kerArg17 m c

/-- The further steps' weights depend only on the arguments' values. -/
theorem furtherOf_congr {w0 w1 w2 w3 v0 v1 v2 v3 : S384x32x1x5.Idx → EReal} {b0 b1 b2 b3 d0 d1 d2 d3 : S384.Idx → EReal}
    (h0 : w0 = v0) (h1 : w1 = v1) (h2 : w2 = v2) (h3 : w3 = v3) (k0 : b0 = d0) (k1 : b1 = d1) (k2 : b2 = d2) (k3 : b3 = d3) :
    furtherOf w0 w1 w2 w3 b0 b1 b2 b3 = furtherOf v0 v1 v2 v3 d0 d1 d2 d3 := by
  rw [h0, h1, h2, h3, k0, k1, k2, k3]

variable {m : (ℓ : Loc nD τ sig) → Buf (Elt Ideal) ℓ} (ρ : Dev nD → PrngReg) {c : Dev nD}
  {V0 : Valuation Cert.ReferenceIdeal.τ Cert.ReferenceIdeal.sig (Elt Ideal)} {Q : Fin 4 → Fin 32 → Plane} {e : Fin 256 → Fin 16 → ℝ}

/-- The two programs have the same weights for the further steps. -/
theorem Agree.further (A : Agree m c V0) : refFurther V0 = kerFurther m c :=
  furtherOf_congr A.a10 A.a12 A.a14 A.a16 A.a11 A.a13 A.a15 A.a17

/-- The reference's series is real too. -/
theorem Agree.hx (A : Agree m c V0) (L : Launch m c Q e) (b : Fin 4) (i : Fin 32) (n : Fin 256) (t : Fin 288) :
    V0 (Proc.devRef .tc Cert.ReferenceIdeal.main_arg0) (ix4 b i n t) = (Q b i n t : EReal) :=
  (congrFun A.a0 (ix4 b i n t)).trans (L.hx b i n t)

/-- The reference's node features are real too. -/
theorem Agree.he (A : Agree m c V0) (L : Launch m c Q e) (n : Fin 256) (j : Fin 16) :
    V0 (Proc.devRef .tc Cert.ReferenceIdeal.main_arg1) (ix2 n j) = (e n j : EReal) :=
  (congrFun A.a1 (ix2 n j)).trans (L.he n j)

/-- Array 521 of the reference has the kernel's entries. -/
theorem same521 (A : Agree m c V0) (L : Launch m c Q e) (b : Fin 4) (o : Fin 32) (n : Fin 256) (u : Fin 278) :
    project (fun o' => V0 (Proc.devRef .tc Cert.ReferenceIdeal.main_arg8) (ix4 o o' 0 0)) (V0 (Proc.devRef .tc Cert.ReferenceIdeal.main_arg9) (ix1 o)) (fun o' => gateAt (wtE (V0 (Proc.devRef .tc Cert.ReferenceIdeal.main_arg2)) o') (wtE (V0 (Proc.devRef .tc Cert.ReferenceIdeal.main_arg4)) o') (V0 (Proc.devRef .tc Cert.ReferenceIdeal.main_arg3) (ix1 o')) (V0 (Proc.devRef .tc Cert.ReferenceIdeal.main_arg5) (ix1 o')) (shifts (slabE (Cert.ReferenceIdeal.Value.res_main_v206 V0) b n) ⟨u.val, by omega⟩))
      = Gen.W14 m ρ c (Proc.devRef .tc main_v117_0) (ix4 b o n u) := by
  have hS : ∀ i s, slab (groups (Q b) (win 48) sea (win 12) (adj e) (refFurther V0) n) i s = slab (groups (Q b) (win 48) sea (win 12) (adj e) (kerFurther m c) n) i s := fun i s => by
    rw [A.further]
  exact (ref521 (A.hx L) (A.he L) b o n u).trans
    ((outAt_congr A.a2 A.a3 A.a4 A.a5 A.a8 A.a9 hS ⟨u.val, by omega⟩ o).trans (L.out0 m ρ c b o n u).symm)

/-- Array 528 of the reference has the kernel's entries. -/
theorem same528 (A : Agree m c V0) (L : Launch m c Q e) (b : Fin 4) (o : Fin 32) (n : Fin 256) (u : Fin 12) :
    project (fun o' => V0 (Proc.devRef .tc Cert.ReferenceIdeal.main_arg6) (ix4 o o' 0 0)) (V0 (Proc.devRef .tc Cert.ReferenceIdeal.main_arg7) (ix1 o)) (fun o' => gateAt (wtE (V0 (Proc.devRef .tc Cert.ReferenceIdeal.main_arg2)) o') (wtE (V0 (Proc.devRef .tc Cert.ReferenceIdeal.main_arg4)) o') (V0 (Proc.devRef .tc Cert.ReferenceIdeal.main_arg3) (ix1 o')) (V0 (Proc.devRef .tc Cert.ReferenceIdeal.main_arg5) (ix1 o')) (shifts (slabE (Cert.ReferenceIdeal.Value.res_main_v206 V0) b n) ⟨278 + u.val, by omega⟩))
      = Gen.W14 m ρ c (Proc.devRef .tc main_v117_1) (ix4 b o n u) := by
  have hS : ∀ i s, slab (groups (Q b) (win 48) sea (win 12) (adj e) (refFurther V0) n) i s = slab (groups (Q b) (win 48) sea (win 12) (adj e) (kerFurther m c) n) i s := fun i s => by
    rw [A.further]
  exact (ref528 (A.hx L) (A.he L) b o n u).trans
    ((outAt_congr A.a2 A.a3 A.a4 A.a5 A.a6 A.a7 hS ⟨278 + u.val, by omega⟩ o).trans (L.out2 m ρ c b o n u).symm)

/-- Array 536 of the reference has the kernel's entries. -/
theorem same536 (A : Agree m c V0) (L : Launch m c Q e) (b : Fin 4) (o : Fin 32) (n : Fin 256) (u : Fin 12) :
    project (fun o' => V0 (Proc.devRef .tc Cert.ReferenceIdeal.main_arg6) (ix4 o o' 0 0)) (V0 (Proc.devRef .tc Cert.ReferenceIdeal.main_arg7) (ix1 o)) (fun o' => gateAt (wtE (V0 (Proc.devRef .tc Cert.ReferenceIdeal.main_arg2)) o') (wtE (V0 (Proc.devRef .tc Cert.ReferenceIdeal.main_arg4)) o') (V0 (Proc.devRef .tc Cert.ReferenceIdeal.main_arg3) (ix1 o')) (V0 (Proc.devRef .tc Cert.ReferenceIdeal.main_arg5) (ix1 o')) (shifts (slabE (Cert.ReferenceIdeal.Value.res_main_v209 V0) b n) ⟨278 + u.val, by omega⟩))
      = Gen.W14 m ρ c (Proc.devRef .tc main_v133) (ix4 b o n u) := by
  have hS : ∀ i s, slab (statGroups (Q b) (win 48) sea (win 12) (adj e) n) i s = slab (statGroups (Q b) (win 48) sea (win 12) (adj e) n) i s := fun i s => by
    rfl
  exact (ref536 (A.hx L) (A.he L) b o n u).trans
    ((outAt_congr A.a2 A.a3 A.a4 A.a5 A.a6 A.a7 hS ⟨278 + u.val, by omega⟩ o).trans (L.out1 m ρ c b o n u).symm)

end Cert.Chain
-- ==== Proof.Algebra.lean ====
/- The two runs and their results over the extended reals. -/
module

public import proofs.«01_k».proof.Defs
public import proofs.«01_k».proof.Proof.RunIdeal.Frame
public import proofs.«01_k».proof.Proof.Gen.ReferenceIdeal
public import proofs.«01_k».proof.Proof.Gen.ReferenceIdeal.Run
public import proofs.«01_k».proof.Proof.Same
public import Idealize.ShloMosaic.Adequacy
public import Idealize.ShloMosaic.Init

@[expose] public section

noncomputable section

namespace Cert.Chain

open Idealize.ShloMosaic Idealize.SL.Sem Idealize.ShloMosaic.TcCoe Cert.KernelIdeal

/-- The kernel ends with its three results in the last contents and its arguments unchanged. -/
theorem kernel_side (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v117_0) = Gen.W14 m ρ c (Proc.devRef .tc main_v117_0)
      ∧ r.2.mem ((c.tc : Thread nD τ).loc main_v133) = Gen.W14 m ρ c (Proc.devRef .tc main_v133)
      ∧ r.2.mem ((c.tc : Thread nD τ).loc main_v117_1) = Gen.W14 m ρ c (Proc.devRef .tc main_v117_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨h.1 c _ (Gen.mem_uc main_v117_0 (by decide)), h.1 c _ (Gen.mem_uc main_v133 (by decide)), h.1 c _ (Gen.mem_uc main_v117_1 (by decide)),
      (h.1 c _ (Gen.mem_uc main_arg0 (by decide))).trans (Gen.W14_args m ρ c main_arg0 (by decide)),
      (h.1 c _ (Gen.mem_uc main_arg1 (by decide))).trans (Gen.W14_args m ρ c main_arg1 (by decide)),
      (h.1 c _ (Gen.mem_uc main_arg2 (by decide))).trans (Gen.W14_args m ρ c main_arg2 (by decide)),
      (h.1 c _ (Gen.mem_uc main_arg3 (by decide))).trans (Gen.W14_args m ρ c main_arg3 (by decide)),
      (h.1 c _ (Gen.mem_uc main_arg4 (by decide))).trans (Gen.W14_args m ρ c main_arg4 (by decide)),
      (h.1 c _ (Gen.mem_uc main_arg5 (by decide))).trans (Gen.W14_args m ρ c main_arg5 (by decide)),
      (h.1 c _ (Gen.mem_uc main_arg6 (by decide))).trans (Gen.W14_args m ρ c main_arg6 (by decide)),
      (h.1 c _ (Gen.mem_uc main_arg7 (by decide))).trans (Gen.W14_args m ρ c main_arg7 (by decide)),
      (h.1 c _ (Gen.mem_uc main_arg8 (by decide))).trans (Gen.W14_args m ρ c main_arg8 (by decide)),
      (h.1 c _ (Gen.mem_uc main_arg9 (by decide))).trans (Gen.W14_args m ρ c main_arg9 (by decide)),
      (h.1 c _ (Gen.mem_uc main_arg10 (by decide))).trans (Gen.W14_args m ρ c main_arg10 (by decide)),
      (h.1 c _ (Gen.mem_uc main_arg11 (by decide))).trans (Gen.W14_args m ρ c main_arg11 (by decide)),
      (h.1 c _ (Gen.mem_uc main_arg12 (by decide))).trans (Gen.W14_args m ρ c main_arg12 (by decide)),
      (h.1 c _ (Gen.mem_uc main_arg13 (by decide))).trans (Gen.W14_args m ρ c main_arg13 (by decide)),
      (h.1 c _ (Gen.mem_uc main_arg14 (by decide))).trans (Gen.W14_args m ρ c main_arg14 (by decide)),
      (h.1 c _ (Gen.mem_uc main_arg15 (by decide))).trans (Gen.W14_args m ρ c main_arg15 (by decide)),
      (h.1 c _ (Gen.mem_uc main_arg16 (by decide))).trans (Gen.W14_args m ρ c main_arg16 (by decide)),
      (h.1 c _ (Gen.mem_uc main_arg17 (by decide))).trans (Gen.W14_args m ρ c main_arg17 (by decide))⟩) (Gen.run m ρ)

variable {m : (ℓ : Loc nD τ sig) → Buf (Elt Ideal) ℓ} (ρ : Dev nD → PrngReg) {c : Dev nD}
  {m' : (ℓ : Loc Cert.ReferenceIdeal.nD Cert.ReferenceIdeal.τ Cert.ReferenceIdeal.sig) → Buf (Elt Ideal) ℓ}
  {Q : Fin 4 → Fin 32 → Plane} {e : Fin 256 → Fin 16 → ℝ}

/-- Agreement on argument 0, read from the two memories. -/
theorem agree0 (h : (m' ((c.tc : Thread Cert.ReferenceIdeal.nD Cert.ReferenceIdeal.τ).loc Cert.ReferenceIdeal.main_arg0)) = (kerArg0 m c)) :
    refArg0 (StableHlo.launchContents m' c) = kerArg0 m c := h
/-- Agreement on argument 1, read from the two memories. -/
theorem agree1 (h : (m' ((c.tc : Thread Cert.ReferenceIdeal.nD Cert.ReferenceIdeal.τ).loc Cert.ReferenceIdeal.main_arg1)) = (kerArg1 m c)) :
    refArg1 (StableHlo.launchContents m' c) = kerArg1 m c := h
/-- Agreement on argument 2, read from the two memories. -/
theorem agree2 (h : (m' ((c.tc : Thread Cert.ReferenceIdeal.nD Cert.ReferenceIdeal.τ).loc Cert.ReferenceIdeal.main_arg2)) = (kerArg2 m c)) :
    refArg2 (StableHlo.launchContents m' c) = kerArg2 m c := h
/-- Agreement on argument 3, read from the two memories. -/
theorem agree3 (h : (m' ((c.tc : Thread Cert.ReferenceIdeal.nD Cert.ReferenceIdeal.τ).loc Cert.ReferenceIdeal.main_arg3)) = (kerArg3 m c)) :
    refArg3 (StableHlo.launchContents m' c) = kerArg3 m c := h
/-- Agreement on argument 4, read from the two memories. -/
theorem agree4 (h : (m' ((c.tc : Thread Cert.ReferenceIdeal.nD Cert.ReferenceIdeal.τ).loc Cert.ReferenceIdeal.main_arg4)) = (kerArg4 m c)) :
    refArg4 (StableHlo.launchContents m' c) = kerArg4 m c := h
/-- Agreement on argument 5, read from the two memories. -/
theorem agree5 (h : (m' ((c.tc : Thread Cert.ReferenceIdeal.nD Cert.ReferenceIdeal.τ).loc Cert.ReferenceIdeal.main_arg5)) = (kerArg5 m c)) :
    refArg5 (StableHlo.launchContents m' c) = kerArg5 m c := h
/-- Agreement on argument 6, read from the two memories. -/
theorem agree6 (h : (m' ((c.tc : Thread Cert.ReferenceIdeal.nD Cert.ReferenceIdeal.τ).loc Cert.ReferenceIdeal.main_arg6)) = (kerArg6 m c)) :
    refArg6 (StableHlo.launchContents m' c) = kerArg6 m c := h
/-- Agreement on argument 7, read from the two memories. -/
theorem agree7 (h : (m' ((c.tc : Thread Cert.ReferenceIdeal.nD Cert.ReferenceIdeal.τ).loc Cert.ReferenceIdeal.main_arg7)) = (kerArg7 m c)) :
    refArg7 (StableHlo.launchContents m' c) = kerArg7 m c := h
/-- Agreement on argument 8, read from the two memories. -/
theorem agree8 (h : (m' ((c.tc : Thread Cert.ReferenceIdeal.nD Cert.ReferenceIdeal.τ).loc Cert.ReferenceIdeal.main_arg8)) = (kerArg8 m c)) :
    refArg8 (StableHlo.launchContents m' c) = kerArg8 m c := h
/-- Agreement on argument 9, read from the two memories. -/
theorem agree9 (h : (m' ((c.tc : Thread Cert.ReferenceIdeal.nD Cert.ReferenceIdeal.τ).loc Cert.ReferenceIdeal.main_arg9)) = (kerArg9 m c)) :
    refArg9 (StableHlo.launchContents m' c) = kerArg9 m c := h
/-- Agreement on argument 10, read from the two memories. -/
theorem agree10 (h : (m' ((c.tc : Thread Cert.ReferenceIdeal.nD Cert.ReferenceIdeal.τ).loc Cert.ReferenceIdeal.main_arg10)) = (kerArg10 m c)) :
    refArg10 (StableHlo.launchContents m' c) = kerArg10 m c := h
/-- Agreement on argument 11, read from the two memories. -/
theorem agree11 (h : (m' ((c.tc : Thread Cert.ReferenceIdeal.nD Cert.ReferenceIdeal.τ).loc Cert.ReferenceIdeal.main_arg11)) = (kerArg11 m c)) :
    refArg11 (StableHlo.launchContents m' c) = kerArg11 m c := h
/-- Agreement on argument 12, read from the two memories. -/
theorem agree12 (h : (m' ((c.tc : Thread Cert.ReferenceIdeal.nD Cert.ReferenceIdeal.τ).loc Cert.ReferenceIdeal.main_arg12)) = (kerArg12 m c)) :
    refArg12 (StableHlo.launchContents m' c) = kerArg12 m c := h
/-- Agreement on argument 13, read from the two memories. -/
theorem agree13 (h : (m' ((c.tc : Thread Cert.ReferenceIdeal.nD Cert.ReferenceIdeal.τ).loc Cert.ReferenceIdeal.main_arg13)) = (kerArg13 m c)) :
    refArg13 (StableHlo.launchContents m' c) = kerArg13 m c := h
/-- Agreement on argument 14, read from the two memories. -/
theorem agree14 (h : (m' ((c.tc : Thread Cert.ReferenceIdeal.nD Cert.ReferenceIdeal.τ).loc Cert.ReferenceIdeal.main_arg14)) = (kerArg14 m c)) :
    refArg14 (StableHlo.launchContents m' c) = kerArg14 m c := h
/-- Agreement on argument 15, read from the two memories. -/
theorem agree15 (h : (m' ((c.tc : Thread Cert.ReferenceIdeal.nD Cert.ReferenceIdeal.τ).loc Cert.ReferenceIdeal.main_arg15)) = (kerArg15 m c)) :
    refArg15 (StableHlo.launchContents m' c) = kerArg15 m c := h
/-- Agreement on argument 16, read from the two memories. -/
theorem agree16 (h : (m' ((c.tc : Thread Cert.ReferenceIdeal.nD Cert.ReferenceIdeal.τ).loc Cert.ReferenceIdeal.main_arg16)) = (kerArg16 m c)) :
    refArg16 (StableHlo.launchContents m' c) = kerArg16 m c := h
/-- Agreement on argument 17, read from the two memories. -/
theorem agree17 (h : (m' ((c.tc : Thread Cert.ReferenceIdeal.nD Cert.ReferenceIdeal.τ).loc Cert.ReferenceIdeal.main_arg17)) = (kerArg17 m c)) :
    refArg17 (StableHlo.launchContents m' c) = kerArg17 m c := h

/-- Array 521 at the kernel's result. -/
theorem whole521 (A : Agree m c (StableHlo.launchContents m' c)) (L : Launch m c Q e) (X : S4x32x256x278.Idx → EReal)
    (hX : ∀ b o n u, X (ix4 b o n u) = project (fun o' => StableHlo.launchContents m' c (Proc.devRef .tc Cert.ReferenceIdeal.main_arg8) (ix4 o o' 0 0)) (StableHlo.launchContents m' c (Proc.devRef .tc Cert.ReferenceIdeal.main_arg9) (ix1 o)) (fun o' => gateAt (wtE (StableHlo.launchContents m' c (Proc.devRef .tc Cert.ReferenceIdeal.main_arg2)) o') (wtE (StableHlo.launchContents m' c (Proc.devRef .tc Cert.ReferenceIdeal.main_arg4)) o') (StableHlo.launchContents m' c (Proc.devRef .tc Cert.ReferenceIdeal.main_arg3) (ix1 o')) (StableHlo.launchContents m' c (Proc.devRef .tc Cert.ReferenceIdeal.main_arg5) (ix1 o')) (shifts (slabE (Cert.ReferenceIdeal.Value.res_main_v206 (StableHlo.launchContents m' c)) b n) ⟨u.val, by omega⟩))) :
    X = Gen.W14 m ρ c (Proc.devRef .tc main_v117_0) := by
  funext i
  idx_vars i
  exact (hX _ _ _ _).trans (same521 ρ A L _ _ _ _)

/-- Array 536 at the kernel's result. -/
theorem whole536 (A : Agree m c (StableHlo.launchContents m' c)) (L : Launch m c Q e) (X : S4x32x256x12.Idx → EReal)
    (hX : ∀ b o n u, X (ix4 b o n u) = project (fun o' => StableHlo.launchContents m' c (Proc.devRef .tc Cert.ReferenceIdeal.main_arg6) (ix4 o o' 0 0)) (StableHlo.launchContents m' c (Proc.devRef .tc Cert.ReferenceIdeal.main_arg7) (ix1 o)) (fun o' => gateAt (wtE (StableHlo.launchContents m' c (Proc.devRef .tc Cert.ReferenceIdeal.main_arg2)) o') (wtE (StableHlo.launchContents m' c (Proc.devRef .tc Cert.ReferenceIdeal.main_arg4)) o') (StableHlo.launchContents m' c (Proc.devRef .tc Cert.ReferenceIdeal.main_arg3) (ix1 o')) (StableHlo.launchContents m' c (Proc.devRef .tc Cert.ReferenceIdeal.main_arg5) (ix1 o')) (shifts (slabE (Cert.ReferenceIdeal.Value.res_main_v209 (StableHlo.launchContents m' c)) b n) ⟨278 + u.val, by omega⟩))) :
    X = Gen.W14 m ρ c (Proc.devRef .tc main_v133) := by
  funext i
  idx_vars i
  exact (hX _ _ _ _).trans (same536 ρ A L _ _ _ _)

/-- Array 528 at the kernel's result. -/
theorem whole528 (A : Agree m c (StableHlo.launchContents m' c)) (L : Launch m c Q e) (X : S4x32x256x12.Idx → EReal)
    (hX : ∀ b o n u, X (ix4 b o n u) = project (fun o' => StableHlo.launchContents m' c (Proc.devRef .tc Cert.ReferenceIdeal.main_arg6) (ix4 o o' 0 0)) (StableHlo.launchContents m' c (Proc.devRef .tc Cert.ReferenceIdeal.main_arg7) (ix1 o)) (fun o' => gateAt (wtE (StableHlo.launchContents m' c (Proc.devRef .tc Cert.ReferenceIdeal.main_arg2)) o') (wtE (StableHlo.launchContents m' c (Proc.devRef .tc Cert.ReferenceIdeal.main_arg4)) o') (StableHlo.launchContents m' c (Proc.devRef .tc Cert.ReferenceIdeal.main_arg3) (ix1 o')) (StableHlo.launchContents m' c (Proc.devRef .tc Cert.ReferenceIdeal.main_arg5) (ix1 o')) (shifts (slabE (Cert.ReferenceIdeal.Value.res_main_v206 (StableHlo.launchContents m' c)) b n) ⟨278 + u.val, by omega⟩))) :
    X = Gen.W14 m ρ c (Proc.devRef .tc main_v117_1) := by
  funext i
  idx_vars i
  exact (hX _ _ _ _).trans (same528 ρ A L _ _ _ _)

end Cert.Chain
-- ==== Proof.lean ====
/- The kernel keeps its arguments, runs the same over the extended reals, and computes the reference's results there. -/
module

public import proofs.«01_k».proof.Defs
public import proofs.«01_k».proof.Proof.Gen.Kernel
public import proofs.«01_k».proof.Proof.RunFloat.Frame
public import proofs.«01_k».proof.Proof.Gen.KernelIdeal
public import proofs.«01_k».proof.Proof.RunIdeal.Frame
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The shapes of the precondition's function fit together. -/
theorem facts_pre : Cert.Pre_finite_data.Facts where
  bcast_S_S4x32x256x288 := by decide
  reducesTo_S4x32x256x288_S_d0_1_2_3 := by decide
  h_S_ := by decide
  bcast_S_S256x16 := by decide
  reducesTo_S256x16_S_d0_1 := by decide

/-- The kernel ends with its arguments unchanged. -/
theorem frame_kernel : Cert.quiescent_Kernel (hKernel := Cert.Kernel.Gen.facts) := fun m ρ _ => Cert.Kernel.Gen.frame m ρ

/-- The kernel over the extended reals ends with its arguments unchanged. -/
theorem frame_ideal : Cert.quiescent_KernelIdeal (hKernelIdeal := Cert.KernelIdeal.Gen.facts) :=
  fun m ρ _ => Cert.KernelIdeal.Gen.frame m ρ

/-- The reference ends with its arguments unchanged. -/
theorem frame_reference : Cert.quiescent_ReferenceIdeal (hReferenceIdeal := Cert.ReferenceIdeal.Gen.facts) :=
  fun m ρ _ => (θ_run Cert.ReferenceIdeal.defs _ _).mono (fun r h => ⟨fun c => (h c).2.2.2,
    Idealize.ShloMosaic.sem_eq_zero_of_no_sems (by decide) r.2⟩) (Cert.ReferenceIdeal.Value.run m ρ)

/-- The kernel over the extended reals is the kernel. -/
theorem keeps : Cert.preserves_Kernel_KernelIdeal := trivial

set_option maxHeartbeats 20000000 in
/-- Over the extended reals, on finite data, the kernel's three results are the reference's. -/
theorem algebra : Cert.algebraic_KernelIdeal_ReferenceIdeal_pre_finite_data (hKernelIdeal := Cert.KernelIdeal.Gen.facts)
    (hReferenceIdeal := Cert.ReferenceIdeal.Gen.facts) (hPre_finite_data := facts_pre) := by
  intro m ρ m' ρ' hpre hargs
  have A : ∀ c : Dev Cert.KernelIdeal.nD, Cert.Chain.Agree m c (StableHlo.launchContents m' c) := fun c =>
    ⟨Cert.Chain.agree0 (hargs c).1, Cert.Chain.agree1 (hargs c).2.1, Cert.Chain.agree2 (hargs c).2.2.1, Cert.Chain.agree3 (hargs c).2.2.2.1, Cert.Chain.agree4 (hargs c).2.2.2.2.1, Cert.Chain.agree5 (hargs c).2.2.2.2.2.1, Cert.Chain.agree6 (hargs c).2.2.2.2.2.2.1, Cert.Chain.agree7 (hargs c).2.2.2.2.2.2.2.1, Cert.Chain.agree8 (hargs c).2.2.2.2.2.2.2.2.1, Cert.Chain.agree9 (hargs c).2.2.2.2.2.2.2.2.2.1, Cert.Chain.agree10 (hargs c).2.2.2.2.2.2.2.2.2.2.1, Cert.Chain.agree11 (hargs c).2.2.2.2.2.2.2.2.2.2.2.1, Cert.Chain.agree12 (hargs c).2.2.2.2.2.2.2.2.2.2.2.2.1, Cert.Chain.agree13 (hargs c).2.2.2.2.2.2.2.2.2.2.2.2.2.1, Cert.Chain.agree14 (hargs c).2.2.2.2.2.2.2.2.2.2.2.2.2.2.1, Cert.Chain.agree15 (hargs c).2.2.2.2.2.2.2.2.2.2.2.2.2.2.2.1, Cert.Chain.agree16 (hargs c).2.2.2.2.2.2.2.2.2.2.2.2.2.2.2.2.1, Cert.Chain.agree17 (hargs c).2.2.2.2.2.2.2.2.2.2.2.2.2.2.2.2.2⟩
  have L := fun c : Dev Cert.KernelIdeal.nD => @Cert.Chain.launch_of_pre m c facts_pre hpre
  exact ⟨_, _, _, Cert.Chain.kernel_side m ρ, (θ_run Cert.ReferenceIdeal.defs _ _).mono (fun r h c =>
    ⟨(h c).1.trans (Cert.Chain.whole521 ρ (A c) (L c) _ fun b o n u => Cert.Chain.q521 b o n u),
      (h c).2.1.trans (Cert.Chain.whole536 ρ (A c) (L c) _ fun b o n u => Cert.Chain.q536 b o n u),
      (h c).2.2.1.trans (Cert.Chain.whole528 ρ (A c) (L c) _ fun b o n u => Cert.Chain.q528 b o n u), (h c).2.2.2⟩) (Cert.ReferenceIdeal.Value.run m' ρ')⟩

/-- All the claims. -/
theorem claim : Cert.Claim :=
  ⟨Cert.Kernel.Gen.facts, Cert.KernelIdeal.Gen.facts, Cert.ReferenceIdeal.Gen.facts, facts_pre,
    frame_kernel, frame_ideal, fun m ρ _ => frame_ideal m ρ trivial, frame_reference, fun m ρ _ => frame_reference m ρ trivial, keeps, algebra⟩

end Cert.Proof

end
